-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGU (m : (ℓ : Loc Cert.KernelGU.nD Cert.KernelGU.τ Cert.KernelGU.sig) → Buf (Elt Bits) ℓ) : Prop :=
  True

def Pre_KernelGUIdeal (m : (ℓ : Loc Cert.KernelGUIdeal.nD Cert.KernelGUIdeal.τ Cert.KernelGUIdeal.sig) → Buf (Elt Ideal) ℓ) : Prop :=
  True

def Pre_ReferenceGUIdeal (m : (ℓ : Loc Cert.ReferenceGUIdeal.nD Cert.ReferenceGUIdeal.τ Cert.ReferenceGUIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_KernelGateIdeal_finite_gate [hPre_finite_gate : Cert.Pre_finite_gate.Facts] (m : (ℓ : Loc Cert.KernelGateIdeal.nD Cert.KernelGateIdeal.τ Cert.KernelGateIdeal.sig) → Buf (Elt Ideal) ℓ) : Prop :=
  ∀ c : Dev Cert.KernelGateIdeal.nD,
    (Cert.Pre_finite_gate.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1)) (m ((c.tc : Thread Cert.KernelGateIdeal.nD Cert.KernelGateIdeal.τ).loc Cert.KernelGateIdeal.main_arg2)) (m ((c.tc : Thread Cert.KernelGateIdeal.nD Cert.KernelGateIdeal.τ).loc Cert.KernelGateIdeal.main_arg3))) = (fun _ => 1#1)

def Pre_ReferenceGateIdeal (m : (ℓ : Loc Cert.ReferenceGateIdeal.nD Cert.ReferenceGateIdeal.τ Cert.ReferenceGateIdeal.sig) → Buf (Elt Ideal) ℓ) : Prop :=
  True

def Pre_ReferenceGateIdeal_finite_gate [hPre_finite_gate : Cert.Pre_finite_gate.Facts] (m : (ℓ : Loc Cert.ReferenceGateIdeal.nD Cert.ReferenceGateIdeal.τ Cert.ReferenceGateIdeal.sig) → Buf (Elt Ideal) ℓ) : Prop :=
  ∀ c : Dev Cert.ReferenceGateIdeal.nD,
    (Cert.Pre_finite_gate.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1)) (m ((c.tc : Thread Cert.ReferenceGateIdeal.nD Cert.ReferenceGateIdeal.τ).loc Cert.ReferenceGateIdeal.main_arg2)) (m ((c.tc : Thread Cert.ReferenceGateIdeal.nD Cert.ReferenceGateIdeal.τ).loc Cert.ReferenceGateIdeal.main_arg3))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelMerged (m : (ℓ : Loc Cert.KernelMerged.nD Cert.KernelMerged.τ Cert.KernelMerged.sig) → Buf (Elt Bits) ℓ) : Prop :=
  True

def Pre_KernelMergedIdeal (m : (ℓ : Loc Cert.KernelMergedIdeal.nD Cert.KernelMergedIdeal.τ Cert.KernelMergedIdeal.sig) → Buf (Elt Ideal) ℓ) : Prop :=
  True

def Pre_ReferenceMergedIdeal (m : (ℓ : Loc Cert.ReferenceMergedIdeal.nD Cert.ReferenceMergedIdeal.τ Cert.ReferenceMergedIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelAO (m : (ℓ : Loc Cert.KernelAO.nD Cert.KernelAO.τ Cert.KernelAO.sig) → Buf (Elt Bits) ℓ) : Prop :=
  True

def Pre_KernelAOIdeal (m : (ℓ : Loc Cert.KernelAOIdeal.nD Cert.KernelAOIdeal.τ Cert.KernelAOIdeal.sig) → Buf (Elt Ideal) ℓ) : Prop :=
  True

def Pre_ReferenceAOIdeal (m : (ℓ : Loc Cert.ReferenceAOIdeal.nD Cert.ReferenceAOIdeal.τ Cert.ReferenceAOIdeal.sig) → Buf (Elt Ideal) ℓ) : Prop :=
  True

def Pre_KernelCO (m : (ℓ : Loc Cert.KernelCO.nD Cert.KernelCO.τ Cert.KernelCO.sig) → Buf (Elt Bits) ℓ) : Prop :=
  True

def Pre_KernelCOIdeal (m : (ℓ : Loc Cert.KernelCOIdeal.nD Cert.KernelCOIdeal.τ Cert.KernelCOIdeal.sig) → Buf (Elt Ideal) ℓ) : Prop :=
  True

def Pre_ReferenceCOIdeal (m : (ℓ : Loc Cert.ReferenceCOIdeal.nD Cert.ReferenceCOIdeal.τ Cert.ReferenceCOIdeal.sig) → Buf (Elt Ideal) ℓ) : Prop :=
  True

def Pre_KernelYA (m : (ℓ : Loc Cert.KernelYA.nD Cert.KernelYA.τ Cert.KernelYA.sig) → Buf (Elt Bits) ℓ) : Prop :=
  True

def Pre_KernelYAIdeal (m : (ℓ : Loc Cert.KernelYAIdeal.nD Cert.KernelYAIdeal.τ Cert.KernelYAIdeal.sig) → Buf (Elt Ideal) ℓ) : Prop :=
  True

def Pre_ReferenceYAIdeal (m : (ℓ : Loc Cert.ReferenceYAIdeal.nD Cert.ReferenceYAIdeal.τ Cert.ReferenceYAIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelMB (m : (ℓ : Loc Cert.KernelMB.nD Cert.KernelMB.τ Cert.KernelMB.sig) → Buf (Elt Bits) ℓ) : Prop :=
  True

def Pre_KernelMBIdeal (m : (ℓ : Loc Cert.KernelMBIdeal.nD Cert.KernelMBIdeal.τ Cert.KernelMBIdeal.sig) → Buf (Elt Ideal) ℓ) : Prop :=
  True

def Pre_ReferenceMBIdeal (m : (ℓ : Loc Cert.ReferenceMBIdeal.nD Cert.ReferenceMBIdeal.τ Cert.ReferenceMBIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelGU [hKernelGU : Cert.KernelGU.Facts] : Prop :=
  ∀ (m : (ℓ : Loc Cert.KernelGU.nD Cert.KernelGU.τ Cert.KernelGU.sig) → Buf (Elt Bits) ℓ) (g : Dev Cert.KernelGU.nD → PrngReg), Pre_KernelGU m →
    θ_run (Cert.KernelGU.defs (F := Bits)) (onTc (τ := Cert.KernelGU.τ) (Cert.KernelGU.main (F := Bits))) ⟨m, fun _ => 0, g⟩ (fun r => (∀ c : Dev Cert.KernelGU.nD,
      r.2.mem ((c.tc : Thread Cert.KernelGU.nD Cert.KernelGU.τ).loc Cert.KernelGU.main_arg0) = m ((c.tc : Thread Cert.KernelGU.nD Cert.KernelGU.τ).loc Cert.KernelGU.main_arg0)
      ∧ r.2.mem ((c.tc : Thread Cert.KernelGU.nD Cert.KernelGU.τ).loc Cert.KernelGU.main_arg1) = m ((c.tc : Thread Cert.KernelGU.nD Cert.KernelGU.τ).loc Cert.KernelGU.main_arg1)
      ∧ r.2.mem ((c.tc : Thread Cert.KernelGU.nD Cert.KernelGU.τ).loc Cert.KernelGU.main_arg2) = m ((c.tc : Thread Cert.KernelGU.nD Cert.KernelGU.τ).loc Cert.KernelGU.main_arg2))
      ∧ r.2.sem = fun _ => 0)

def quiescent_KernelGUIdeal [hKernelGUIdeal : Cert.KernelGUIdeal.Facts] : Prop :=
  ∀ (m : (ℓ : Loc Cert.KernelGUIdeal.nD Cert.KernelGUIdeal.τ Cert.KernelGUIdeal.sig) → Buf (Elt Ideal) ℓ) (g : Dev Cert.KernelGUIdeal.nD → PrngReg), Pre_KernelGUIdeal m →
    θ_run (Cert.KernelGUIdeal.defs (F := Ideal)) (onTc (τ := Cert.KernelGUIdeal.τ) (Cert.KernelGUIdeal.main (F := Ideal))) ⟨m, fun _ => 0, g⟩ (fun r => (∀ c : Dev Cert.KernelGUIdeal.nD,
      r.2.mem ((c.tc : Thread Cert.KernelGUIdeal.nD Cert.KernelGUIdeal.τ).loc Cert.KernelGUIdeal.main_arg0) = m ((c.tc : Thread Cert.KernelGUIdeal.nD Cert.KernelGUIdeal.τ).loc Cert.KernelGUIdeal.main_arg0)
      ∧ r.2.mem ((c.tc : Thread Cert.KernelGUIdeal.nD Cert.KernelGUIdeal.τ).loc Cert.KernelGUIdeal.main_arg1) = m ((c.tc : Thread Cert.KernelGUIdeal.nD Cert.KernelGUIdeal.τ).loc Cert.KernelGUIdeal.main_arg1)
      ∧ r.2.mem ((c.tc : Thread Cert.KernelGUIdeal.nD Cert.KernelGUIdeal.τ).loc Cert.KernelGUIdeal.main_arg2) = m ((c.tc : Thread Cert.KernelGUIdeal.nD Cert.KernelGUIdeal.τ).loc Cert.KernelGUIdeal.main_arg2))
      ∧ r.2.sem = fun _ => 0)

def quiescent_ReferenceGUIdeal [hReferenceGUIdeal : Cert.ReferenceGUIdeal.Facts] : Prop :=
  ∀ (m : (ℓ : Loc Cert.ReferenceGUIdeal.nD Cert.ReferenceGUIdeal.τ Cert.ReferenceGUIdeal.sig) → Buf (Elt Ideal) ℓ) (g : Dev Cert.ReferenceGUIdeal.nD → PrngReg), Pre_ReferenceGUIdeal m →
    θ_run (Cert.ReferenceGUIdeal.defs (F := Ideal)) (onTc (τ := Cert.ReferenceGUIdeal.τ) (Cert.ReferenceGUIdeal.main (F := Ideal))) ⟨m, fun _ => 0, g⟩ (fun r => (∀ c : Dev Cert.ReferenceGUIdeal.nD,
      r.2.mem ((c.tc : Thread Cert.ReferenceGUIdeal.nD Cert.ReferenceGUIdeal.τ).loc Cert.ReferenceGUIdeal.main_arg0) = m ((c.tc : Thread Cert.ReferenceGUIdeal.nD Cert.ReferenceGUIdeal.τ).loc Cert.ReferenceGUIdeal.main_arg0)
      ∧ r.2.mem ((c.tc : Thread Cert.ReferenceGUIdeal.nD Cert.ReferenceGUIdeal.τ).loc Cert.ReferenceGUIdeal.main_arg1) = m ((c.tc : Thread Cert.ReferenceGUIdeal.nD Cert.ReferenceGUIdeal.τ).loc Cert.ReferenceGUIdeal.main_arg1)
      ∧ r.2.mem ((c.tc : Thread Cert.ReferenceGUIdeal.nD Cert.ReferenceGUIdeal.τ).loc Cert.ReferenceGUIdeal.main_arg2) = m ((c.tc : Thread Cert.ReferenceGUIdeal.nD Cert.ReferenceGUIdeal.τ).loc Cert.ReferenceGUIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_KernelGateIdeal_pre_finite_gate [hKernelGateIdeal : Cert.KernelGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal_finite_gate m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_ReferenceGateIdeal_pre_finite_gate [hReferenceGateIdeal : Cert.ReferenceGateIdeal.Facts] [hPre_finite_gate : Cert.Pre_finite_gate.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal_finite_gate m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelMerged [hKernelMerged : Cert.KernelMerged.Facts] : Prop :=
  ∀ (m : (ℓ : Loc Cert.KernelMerged.nD Cert.KernelMerged.τ Cert.KernelMerged.sig) → Buf (Elt Bits) ℓ) (g : Dev Cert.KernelMerged.nD → PrngReg), Pre_KernelMerged m →
    θ_run (Cert.KernelMerged.defs (F := Bits)) (onTc (τ := Cert.KernelMerged.τ) (Cert.KernelMerged.main (F := Bits))) ⟨m, fun _ => 0, g⟩ (fun r => (∀ c : Dev Cert.KernelMerged.nD,
      r.2.mem ((c.tc : Thread Cert.KernelMerged.nD Cert.KernelMerged.τ).loc Cert.KernelMerged.main_arg0) = m ((c.tc : Thread Cert.KernelMerged.nD Cert.KernelMerged.τ).loc Cert.KernelMerged.main_arg0)
      ∧ r.2.mem ((c.tc : Thread Cert.KernelMerged.nD Cert.KernelMerged.τ).loc Cert.KernelMerged.main_arg1) = m ((c.tc : Thread Cert.KernelMerged.nD Cert.KernelMerged.τ).loc Cert.KernelMerged.main_arg1))
      ∧ r.2.sem = fun _ => 0)

def quiescent_KernelMergedIdeal [hKernelMergedIdeal : Cert.KernelMergedIdeal.Facts] : Prop :=
  ∀ (m : (ℓ : Loc Cert.KernelMergedIdeal.nD Cert.KernelMergedIdeal.τ Cert.KernelMergedIdeal.sig) → Buf (Elt Ideal) ℓ) (g : Dev Cert.KernelMergedIdeal.nD → PrngReg), Pre_KernelMergedIdeal m →
    θ_run (Cert.KernelMergedIdeal.defs (F := Ideal)) (onTc (τ := Cert.KernelMergedIdeal.τ) (Cert.KernelMergedIdeal.main (F := Ideal))) ⟨m, fun _ => 0, g⟩ (fun r => (∀ c : Dev Cert.KernelMergedIdeal.nD,
      r.2.mem ((c.tc : Thread Cert.KernelMergedIdeal.nD Cert.KernelMergedIdeal.τ).loc Cert.KernelMergedIdeal.main_arg0) = m ((c.tc : Thread Cert.KernelMergedIdeal.nD Cert.KernelMergedIdeal.τ).loc Cert.KernelMergedIdeal.main_arg0)
      ∧ r.2.mem ((c.tc : Thread Cert.KernelMergedIdeal.nD Cert.KernelMergedIdeal.τ).loc Cert.KernelMergedIdeal.main_arg1) = m ((c.tc : Thread Cert.KernelMergedIdeal.nD Cert.KernelMergedIdeal.τ).loc Cert.KernelMergedIdeal.main_arg1))
      ∧ r.2.sem = fun _ => 0)

def quiescent_ReferenceMergedIdeal [hReferenceMergedIdeal : Cert.ReferenceMergedIdeal.Facts] : Prop :=
  ∀ (m : (ℓ : Loc Cert.ReferenceMergedIdeal.nD Cert.ReferenceMergedIdeal.τ Cert.ReferenceMergedIdeal.sig) → Buf (Elt Ideal) ℓ) (g : Dev Cert.ReferenceMergedIdeal.nD → PrngReg), Pre_ReferenceMergedIdeal m →
    θ_run (Cert.ReferenceMergedIdeal.defs (F := Ideal)) (onTc (τ := Cert.ReferenceMergedIdeal.τ) (Cert.ReferenceMergedIdeal.main (F := Ideal))) ⟨m, fun _ => 0, g⟩ (fun r => (∀ c : Dev Cert.ReferenceMergedIdeal.nD,
      r.2.mem ((c.tc : Thread Cert.ReferenceMergedIdeal.nD Cert.ReferenceMergedIdeal.τ).loc Cert.ReferenceMergedIdeal.main_arg0) = m ((c.tc : Thread Cert.ReferenceMergedIdeal.nD Cert.ReferenceMergedIdeal.τ).loc Cert.ReferenceMergedIdeal.main_arg0)
      ∧ r.2.mem ((c.tc : Thread Cert.ReferenceMergedIdeal.nD Cert.ReferenceMergedIdeal.τ).loc Cert.ReferenceMergedIdeal.main_arg1) = m ((c.tc : Thread Cert.ReferenceMergedIdeal.nD Cert.ReferenceMergedIdeal.τ).loc Cert.ReferenceMergedIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelAO [hKernelAO : Cert.KernelAO.Facts] : Prop :=
  ∀ (m : (ℓ : Loc Cert.KernelAO.nD Cert.KernelAO.τ Cert.KernelAO.sig) → Buf (Elt Bits) ℓ) (g : Dev Cert.KernelAO.nD → PrngReg), Pre_KernelAO m →
    θ_run (Cert.KernelAO.defs (F := Bits)) (onTc (τ := Cert.KernelAO.τ) (Cert.KernelAO.main (F := Bits))) ⟨m, fun _ => 0, g⟩ (fun r => (∀ c : Dev Cert.KernelAO.nD,
      r.2.mem ((c.tc : Thread Cert.KernelAO.nD Cert.KernelAO.τ).loc Cert.KernelAO.main_arg0) = m ((c.tc : Thread Cert.KernelAO.nD Cert.KernelAO.τ).loc Cert.KernelAO.main_arg0)
      ∧ r.2.mem ((c.tc : Thread Cert.KernelAO.nD Cert.KernelAO.τ).loc Cert.KernelAO.main_arg1) = m ((c.tc : Thread Cert.KernelAO.nD Cert.KernelAO.τ).loc Cert.KernelAO.main_arg1))
      ∧ r.2.sem = fun _ => 0)

def quiescent_KernelAOIdeal [hKernelAOIdeal : Cert.KernelAOIdeal.Facts] : Prop :=
  ∀ (m : (ℓ : Loc Cert.KernelAOIdeal.nD Cert.KernelAOIdeal.τ Cert.KernelAOIdeal.sig) → Buf (Elt Ideal) ℓ) (g : Dev Cert.KernelAOIdeal.nD → PrngReg), Pre_KernelAOIdeal m →
    θ_run (Cert.KernelAOIdeal.defs (F := Ideal)) (onTc (τ := Cert.KernelAOIdeal.τ) (Cert.KernelAOIdeal.main (F := Ideal))) ⟨m, fun _ => 0, g⟩ (fun r => (∀ c : Dev Cert.KernelAOIdeal.nD,
      r.2.mem ((c.tc : Thread Cert.KernelAOIdeal.nD Cert.KernelAOIdeal.τ).loc Cert.KernelAOIdeal.main_arg0) = m ((c.tc : Thread Cert.KernelAOIdeal.nD Cert.KernelAOIdeal.τ).loc Cert.KernelAOIdeal.main_arg0)
      ∧ r.2.mem ((c.tc : Thread Cert.KernelAOIdeal.nD Cert.KernelAOIdeal.τ).loc Cert.KernelAOIdeal.main_arg1) = m ((c.tc : Thread Cert.KernelAOIdeal.nD Cert.KernelAOIdeal.τ).loc Cert.KernelAOIdeal.main_arg1))
      ∧ r.2.sem = fun _ => 0)

def quiescent_ReferenceAOIdeal [hReferenceAOIdeal : Cert.ReferenceAOIdeal.Facts] : Prop :=
  ∀ (m : (ℓ : Loc Cert.ReferenceAOIdeal.nD Cert.ReferenceAOIdeal.τ Cert.ReferenceAOIdeal.sig) → Buf (Elt Ideal) ℓ) (g : Dev Cert.ReferenceAOIdeal.nD → PrngReg), Pre_ReferenceAOIdeal m →
    θ_run (Cert.ReferenceAOIdeal.defs (F := Ideal)) (onTc (τ := Cert.ReferenceAOIdeal.τ) (Cert.ReferenceAOIdeal.main (F := Ideal))) ⟨m, fun _ => 0, g⟩ (fun r => (∀ c : Dev Cert.ReferenceAOIdeal.nD,
      r.2.mem ((c.tc : Thread Cert.ReferenceAOIdeal.nD Cert.ReferenceAOIdeal.τ).loc Cert.ReferenceAOIdeal.main_arg0) = m ((c.tc : Thread Cert.ReferenceAOIdeal.nD Cert.ReferenceAOIdeal.τ).loc Cert.ReferenceAOIdeal.main_arg0)
      ∧ r.2.mem ((c.tc : Thread Cert.ReferenceAOIdeal.nD Cert.ReferenceAOIdeal.τ).loc Cert.ReferenceAOIdeal.main_arg1) = m ((c.tc : Thread Cert.ReferenceAOIdeal.nD Cert.ReferenceAOIdeal.τ).loc Cert.ReferenceAOIdeal.main_arg1))
      ∧ r.2.sem = fun _ => 0)

def quiescent_KernelCO [hKernelCO : Cert.KernelCO.Facts] : Prop :=
  ∀ (m : (ℓ : Loc Cert.KernelCO.nD Cert.KernelCO.τ Cert.KernelCO.sig) → Buf (Elt Bits) ℓ) (g : Dev Cert.KernelCO.nD → PrngReg), Pre_KernelCO m →
    θ_run (Cert.KernelCO.defs (F := Bits)) (onTc (τ := Cert.KernelCO.τ) (Cert.KernelCO.main (F := Bits))) ⟨m, fun _ => 0, g⟩ (fun r => (∀ c : Dev Cert.KernelCO.nD,
      r.2.mem ((c.tc : Thread Cert.KernelCO.nD Cert.KernelCO.τ).loc Cert.KernelCO.main_arg0) = m ((c.tc : Thread Cert.KernelCO.nD Cert.KernelCO.τ).loc Cert.KernelCO.main_arg0)
      ∧ r.2.mem ((c.tc : Thread Cert.KernelCO.nD Cert.KernelCO.τ).loc Cert.KernelCO.main_arg1) = m ((c.tc : Thread Cert.KernelCO.nD Cert.KernelCO.τ).loc Cert.KernelCO.main_arg1))
      ∧ r.2.sem = fun _ => 0)

def quiescent_KernelCOIdeal [hKernelCOIdeal : Cert.KernelCOIdeal.Facts] : Prop :=
  ∀ (m : (ℓ : Loc Cert.KernelCOIdeal.nD Cert.KernelCOIdeal.τ Cert.KernelCOIdeal.sig) → Buf (Elt Ideal) ℓ) (g : Dev Cert.KernelCOIdeal.nD → PrngReg), Pre_KernelCOIdeal m →
    θ_run (Cert.KernelCOIdeal.defs (F := Ideal)) (onTc (τ := Cert.KernelCOIdeal.τ) (Cert.KernelCOIdeal.main (F := Ideal))) ⟨m, fun _ => 0, g⟩ (fun r => (∀ c : Dev Cert.KernelCOIdeal.nD,
      r.2.mem ((c.tc : Thread Cert.KernelCOIdeal.nD Cert.KernelCOIdeal.τ).loc Cert.KernelCOIdeal.main_arg0) = m ((c.tc : Thread Cert.KernelCOIdeal.nD Cert.KernelCOIdeal.τ).loc Cert.KernelCOIdeal.main_arg0)
      ∧ r.2.mem ((c.tc : Thread Cert.KernelCOIdeal.nD Cert.KernelCOIdeal.τ).loc Cert.KernelCOIdeal.main_arg1) = m ((c.tc : Thread Cert.KernelCOIdeal.nD Cert.KernelCOIdeal.τ).loc Cert.KernelCOIdeal.main_arg1))
      ∧ r.2.sem = fun _ => 0)

def quiescent_ReferenceCOIdeal [hReferenceCOIdeal : Cert.ReferenceCOIdeal.Facts] : Prop :=
  ∀ (m : (ℓ : Loc Cert.ReferenceCOIdeal.nD Cert.ReferenceCOIdeal.τ Cert.ReferenceCOIdeal.sig) → Buf (Elt Ideal) ℓ) (g : Dev Cert.ReferenceCOIdeal.nD → PrngReg), Pre_ReferenceCOIdeal m →
    θ_run (Cert.ReferenceCOIdeal.defs (F := Ideal)) (onTc (τ := Cert.ReferenceCOIdeal.τ) (Cert.ReferenceCOIdeal.main (F := Ideal))) ⟨m, fun _ => 0, g⟩ (fun r => (∀ c : Dev Cert.ReferenceCOIdeal.nD,
      r.2.mem ((c.tc : Thread Cert.ReferenceCOIdeal.nD Cert.ReferenceCOIdeal.τ).loc Cert.ReferenceCOIdeal.main_arg0) = m ((c.tc : Thread Cert.ReferenceCOIdeal.nD Cert.ReferenceCOIdeal.τ).loc Cert.ReferenceCOIdeal.main_arg0)
      ∧ r.2.mem ((c.tc : Thread Cert.ReferenceCOIdeal.nD Cert.ReferenceCOIdeal.τ).loc Cert.ReferenceCOIdeal.main_arg1) = m ((c.tc : Thread Cert.ReferenceCOIdeal.nD Cert.ReferenceCOIdeal.τ).loc Cert.ReferenceCOIdeal.main_arg1))
      ∧ r.2.sem = fun _ => 0)

def quiescent_KernelYA [hKernelYA : Cert.KernelYA.Facts] : Prop :=
  ∀ (m : (ℓ : Loc Cert.KernelYA.nD Cert.KernelYA.τ Cert.KernelYA.sig) → Buf (Elt Bits) ℓ) (g : Dev Cert.KernelYA.nD → PrngReg), Pre_KernelYA m →
    θ_run (Cert.KernelYA.defs (F := Bits)) (onTc (τ := Cert.KernelYA.τ) (Cert.KernelYA.main (F := Bits))) ⟨m, fun _ => 0, g⟩ (fun r => (∀ c : Dev Cert.KernelYA.nD,
      r.2.mem ((c.tc : Thread Cert.KernelYA.nD Cert.KernelYA.τ).loc Cert.KernelYA.main_arg0) = m ((c.tc : Thread Cert.KernelYA.nD Cert.KernelYA.τ).loc Cert.KernelYA.main_arg0)
      ∧ r.2.mem ((c.tc : Thread Cert.KernelYA.nD Cert.KernelYA.τ).loc Cert.KernelYA.main_arg1) = m ((c.tc : Thread Cert.KernelYA.nD Cert.KernelYA.τ).loc Cert.KernelYA.main_arg1))
      ∧ r.2.sem = fun _ => 0)

def quiescent_KernelYAIdeal [hKernelYAIdeal : Cert.KernelYAIdeal.Facts] : Prop :=
  ∀ (m : (ℓ : Loc Cert.KernelYAIdeal.nD Cert.KernelYAIdeal.τ Cert.KernelYAIdeal.sig) → Buf (Elt Ideal) ℓ) (g : Dev Cert.KernelYAIdeal.nD → PrngReg), Pre_KernelYAIdeal m →
    θ_run (Cert.KernelYAIdeal.defs (F := Ideal)) (onTc (τ := Cert.KernelYAIdeal.τ) (Cert.KernelYAIdeal.main (F := Ideal))) ⟨m, fun _ => 0, g⟩ (fun r => (∀ c : Dev Cert.KernelYAIdeal.nD,
      r.2.mem ((c.tc : Thread Cert.KernelYAIdeal.nD Cert.KernelYAIdeal.τ).loc Cert.KernelYAIdeal.main_arg0) = m ((c.tc : Thread Cert.KernelYAIdeal.nD Cert.KernelYAIdeal.τ).loc Cert.KernelYAIdeal.main_arg0)
      ∧ r.2.mem ((c.tc : Thread Cert.KernelYAIdeal.nD Cert.KernelYAIdeal.τ).loc Cert.KernelYAIdeal.main_arg1) = m ((c.tc : Thread Cert.KernelYAIdeal.nD Cert.KernelYAIdeal.τ).loc Cert.KernelYAIdeal.main_arg1))
      ∧ r.2.sem = fun _ => 0)

def quiescent_ReferenceYAIdeal [hReferenceYAIdeal : Cert.ReferenceYAIdeal.Facts] : Prop :=
  ∀ (m : (ℓ : Loc Cert.ReferenceYAIdeal.nD Cert.ReferenceYAIdeal.τ Cert.ReferenceYAIdeal.sig) → Buf (Elt Ideal) ℓ) (g : Dev Cert.ReferenceYAIdeal.nD → PrngReg), Pre_ReferenceYAIdeal m →
    θ_run (Cert.ReferenceYAIdeal.defs (F := Ideal)) (onTc (τ := Cert.ReferenceYAIdeal.τ) (Cert.ReferenceYAIdeal.main (F := Ideal))) ⟨m, fun _ => 0, g⟩ (fun r => (∀ c : Dev Cert.ReferenceYAIdeal.nD,
      r.2.mem ((c.tc : Thread Cert.ReferenceYAIdeal.nD Cert.ReferenceYAIdeal.τ).loc Cert.ReferenceYAIdeal.main_arg0) = m ((c.tc : Thread Cert.ReferenceYAIdeal.nD Cert.ReferenceYAIdeal.τ).loc Cert.ReferenceYAIdeal.main_arg0)
      ∧ r.2.mem ((c.tc : Thread Cert.ReferenceYAIdeal.nD Cert.ReferenceYAIdeal.τ).loc Cert.ReferenceYAIdeal.main_arg1) = m ((c.tc : Thread Cert.ReferenceYAIdeal.nD Cert.ReferenceYAIdeal.τ).loc Cert.ReferenceYAIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelMB [hKernelMB : Cert.KernelMB.Facts] : Prop :=
  ∀ (m : (ℓ : Loc Cert.KernelMB.nD Cert.KernelMB.τ Cert.KernelMB.sig) → Buf (Elt Bits) ℓ) (g : Dev Cert.KernelMB.nD → PrngReg), Pre_KernelMB m →
    θ_run (Cert.KernelMB.defs (F := Bits)) (onTc (τ := Cert.KernelMB.τ) (Cert.KernelMB.main (F := Bits))) ⟨m, fun _ => 0, g⟩ (fun r => (∀ c : Dev Cert.KernelMB.nD,
      r.2.mem ((c.tc : Thread Cert.KernelMB.nD Cert.KernelMB.τ).loc Cert.KernelMB.main_arg0) = m ((c.tc : Thread Cert.KernelMB.nD Cert.KernelMB.τ).loc Cert.KernelMB.main_arg0)
      ∧ r.2.mem ((c.tc : Thread Cert.KernelMB.nD Cert.KernelMB.τ).loc Cert.KernelMB.main_arg1) = m ((c.tc : Thread Cert.KernelMB.nD Cert.KernelMB.τ).loc Cert.KernelMB.main_arg1)
      ∧ r.2.mem ((c.tc : Thread Cert.KernelMB.nD Cert.KernelMB.τ).loc Cert.KernelMB.main_arg2) = m ((c.tc : Thread Cert.KernelMB.nD Cert.KernelMB.τ).loc Cert.KernelMB.main_arg2)
      ∧ r.2.mem ((c.tc : Thread Cert.KernelMB.nD Cert.KernelMB.τ).loc Cert.KernelMB.main_arg3) = m ((c.tc : Thread Cert.KernelMB.nD Cert.KernelMB.τ).loc Cert.KernelMB.main_arg3)
      ∧ r.2.mem ((c.tc : Thread Cert.KernelMB.nD Cert.KernelMB.τ).loc Cert.KernelMB.main_arg4) = m ((c.tc : Thread Cert.KernelMB.nD Cert.KernelMB.τ).loc Cert.KernelMB.main_arg4))
      ∧ r.2.sem = fun _ => 0)

def quiescent_KernelMBIdeal [hKernelMBIdeal : Cert.KernelMBIdeal.Facts] : Prop :=
  ∀ (m : (ℓ : Loc Cert.KernelMBIdeal.nD Cert.KernelMBIdeal.τ Cert.KernelMBIdeal.sig) → Buf (Elt Ideal) ℓ) (g : Dev Cert.KernelMBIdeal.nD → PrngReg), Pre_KernelMBIdeal m →
    θ_run (Cert.KernelMBIdeal.defs (F := Ideal)) (onTc (τ := Cert.KernelMBIdeal.τ) (Cert.KernelMBIdeal.main (F := Ideal))) ⟨m, fun _ => 0, g⟩ (fun r => (∀ c : Dev Cert.KernelMBIdeal.nD,
      r.2.mem ((c.tc : Thread Cert.KernelMBIdeal.nD Cert.KernelMBIdeal.τ).loc Cert.KernelMBIdeal.main_arg0) = m ((c.tc : Thread Cert.KernelMBIdeal.nD Cert.KernelMBIdeal.τ).loc Cert.KernelMBIdeal.main_arg0)
      ∧ r.2.mem ((c.tc : Thread Cert.KernelMBIdeal.nD Cert.KernelMBIdeal.τ).loc Cert.KernelMBIdeal.main_arg1) = m ((c.tc : Thread Cert.KernelMBIdeal.nD Cert.KernelMBIdeal.τ).loc Cert.KernelMBIdeal.main_arg1)
      ∧ r.2.mem ((c.tc : Thread Cert.KernelMBIdeal.nD Cert.KernelMBIdeal.τ).loc Cert.KernelMBIdeal.main_arg2) = m ((c.tc : Thread Cert.KernelMBIdeal.nD Cert.KernelMBIdeal.τ).loc Cert.KernelMBIdeal.main_arg2)
      ∧ r.2.mem ((c.tc : Thread Cert.KernelMBIdeal.nD Cert.KernelMBIdeal.τ).loc Cert.KernelMBIdeal.main_arg3) = m ((c.tc : Thread Cert.KernelMBIdeal.nD Cert.KernelMBIdeal.τ).loc Cert.KernelMBIdeal.main_arg3)
      ∧ r.2.mem ((c.tc : Thread Cert.KernelMBIdeal.nD Cert.KernelMBIdeal.τ).loc Cert.KernelMBIdeal.main_arg4) = m ((c.tc : Thread Cert.KernelMBIdeal.nD Cert.KernelMBIdeal.τ).loc Cert.KernelMBIdeal.main_arg4))
      ∧ r.2.sem = fun _ => 0)

def quiescent_ReferenceMBIdeal [hReferenceMBIdeal : Cert.ReferenceMBIdeal.Facts] : Prop :=
  ∀ (m : (ℓ : Loc Cert.ReferenceMBIdeal.nD Cert.ReferenceMBIdeal.τ Cert.ReferenceMBIdeal.sig) → Buf (Elt Ideal) ℓ) (g : Dev Cert.ReferenceMBIdeal.nD → PrngReg), Pre_ReferenceMBIdeal m →
    θ_run (Cert.ReferenceMBIdeal.defs (F := Ideal)) (onTc (τ := Cert.ReferenceMBIdeal.τ) (Cert.ReferenceMBIdeal.main (F := Ideal))) ⟨m, fun _ => 0, g⟩ (fun r => (∀ c : Dev Cert.ReferenceMBIdeal.nD,
      r.2.mem ((c.tc : Thread Cert.ReferenceMBIdeal.nD Cert.ReferenceMBIdeal.τ).loc Cert.ReferenceMBIdeal.main_arg0) = m ((c.tc : Thread Cert.ReferenceMBIdeal.nD Cert.ReferenceMBIdeal.τ).loc Cert.ReferenceMBIdeal.main_arg0)
      ∧ r.2.mem ((c.tc : Thread Cert.ReferenceMBIdeal.nD Cert.ReferenceMBIdeal.τ).loc Cert.ReferenceMBIdeal.main_arg1) = m ((c.tc : Thread Cert.ReferenceMBIdeal.nD Cert.ReferenceMBIdeal.τ).loc Cert.ReferenceMBIdeal.main_arg1)
      ∧ r.2.mem ((c.tc : Thread Cert.ReferenceMBIdeal.nD Cert.ReferenceMBIdeal.τ).loc Cert.ReferenceMBIdeal.main_arg2) = m ((c.tc : Thread Cert.ReferenceMBIdeal.nD Cert.ReferenceMBIdeal.τ).loc Cert.ReferenceMBIdeal.main_arg2)
      ∧ r.2.mem ((c.tc : Thread Cert.ReferenceMBIdeal.nD Cert.ReferenceMBIdeal.τ).loc Cert.ReferenceMBIdeal.main_arg3) = m ((c.tc : Thread Cert.ReferenceMBIdeal.nD Cert.ReferenceMBIdeal.τ).loc Cert.ReferenceMBIdeal.main_arg3)
      ∧ r.2.mem ((c.tc : Thread Cert.ReferenceMBIdeal.nD Cert.ReferenceMBIdeal.τ).loc Cert.ReferenceMBIdeal.main_arg4) = m ((c.tc : Thread Cert.ReferenceMBIdeal.nD Cert.ReferenceMBIdeal.τ).loc Cert.ReferenceMBIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v109_0)) (v1 : (c : Dev Cert.KernelIdeal.nD) → Buf (Elt Ideal) ((c.tc : Thread Cert.KernelIdeal.nD Cert.KernelIdeal.τ).loc Cert.KernelIdeal.main_v109_1)) (v2 : (c : Dev Cert.KernelIdeal.nD) → Buf (Elt Ideal) ((c.tc : Thread Cert.KernelIdeal.nD Cert.KernelIdeal.τ).loc Cert.KernelIdeal.main_v109_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109_0) = v0 c
          ∧ r.2.mem ((c.tc : Thread Cert.KernelIdeal.nD Cert.KernelIdeal.τ).loc Cert.KernelIdeal.main_v109_1) = v1 c
          ∧ r.2.mem ((c.tc : Thread Cert.KernelIdeal.nD Cert.KernelIdeal.τ).loc Cert.KernelIdeal.main_v109_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v197) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v5)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelGU_KernelGUIdeal : Prop :=
  True

def algebraic_KernelGUIdeal_ReferenceGUIdeal [hKernelGUIdeal : Cert.KernelGUIdeal.Facts] [hReferenceGUIdeal : Cert.ReferenceGUIdeal.Facts] : Prop :=
  ∀ (m : (ℓ : Loc Cert.KernelGUIdeal.nD Cert.KernelGUIdeal.τ Cert.KernelGUIdeal.sig) → Buf (Elt Ideal) ℓ) (g : Dev Cert.KernelGUIdeal.nD → PrngReg)
    (m' : (ℓ : Loc Cert.ReferenceGUIdeal.nD Cert.ReferenceGUIdeal.τ Cert.ReferenceGUIdeal.sig) → Buf (Elt Ideal) ℓ) (g' : Dev Cert.ReferenceGUIdeal.nD → PrngReg), Pre_KernelGUIdeal m →
    (∀ c : Dev Cert.KernelGUIdeal.nD,
      m' ((c.tc : Thread Cert.ReferenceGUIdeal.nD Cert.ReferenceGUIdeal.τ).loc Cert.ReferenceGUIdeal.main_arg0) = m ((c.tc : Thread Cert.KernelGUIdeal.nD Cert.KernelGUIdeal.τ).loc Cert.KernelGUIdeal.main_arg0)
      ∧ m' ((c.tc : Thread Cert.ReferenceGUIdeal.nD Cert.ReferenceGUIdeal.τ).loc Cert.ReferenceGUIdeal.main_arg1) = m ((c.tc : Thread Cert.KernelGUIdeal.nD Cert.KernelGUIdeal.τ).loc Cert.KernelGUIdeal.main_arg1)
      ∧ m' ((c.tc : Thread Cert.ReferenceGUIdeal.nD Cert.ReferenceGUIdeal.τ).loc Cert.ReferenceGUIdeal.main_arg2) = m ((c.tc : Thread Cert.KernelGUIdeal.nD Cert.KernelGUIdeal.τ).loc Cert.KernelGUIdeal.main_arg2)) →
    ∃ (v0 : (c : Dev Cert.KernelGUIdeal.nD) → Buf (Elt Ideal) ((c.tc : Thread Cert.KernelGUIdeal.nD Cert.KernelGUIdeal.τ).loc Cert.KernelGUIdeal.main_v8_0)) (v1 : (c : Dev Cert.KernelGUIdeal.nD) → Buf (Elt Ideal) ((c.tc : Thread Cert.KernelGUIdeal.nD Cert.KernelGUIdeal.τ).loc Cert.KernelGUIdeal.main_v8_1)),
      θ_run (Cert.KernelGUIdeal.defs (F := Ideal)) (onTc (τ := Cert.KernelGUIdeal.τ) (Cert.KernelGUIdeal.main (F := Ideal))) ⟨m, fun _ => 0, g⟩ (fun r => ∀ c : Dev Cert.KernelGUIdeal.nD,
          r.2.mem ((c.tc : Thread Cert.KernelGUIdeal.nD Cert.KernelGUIdeal.τ).loc Cert.KernelGUIdeal.main_v8_0) = v0 c
          ∧ r.2.mem ((c.tc : Thread Cert.KernelGUIdeal.nD Cert.KernelGUIdeal.τ).loc Cert.KernelGUIdeal.main_v8_1) = v1 c
          ∧ r.2.mem ((c.tc : Thread Cert.KernelGUIdeal.nD Cert.KernelGUIdeal.τ).loc Cert.KernelGUIdeal.main_arg0) = m ((c.tc : Thread Cert.KernelGUIdeal.nD Cert.KernelGUIdeal.τ).loc Cert.KernelGUIdeal.main_arg0)
          ∧ r.2.mem ((c.tc : Thread Cert.KernelGUIdeal.nD Cert.KernelGUIdeal.τ).loc Cert.KernelGUIdeal.main_arg1) = m ((c.tc : Thread Cert.KernelGUIdeal.nD Cert.KernelGUIdeal.τ).loc Cert.KernelGUIdeal.main_arg1)
          ∧ r.2.mem ((c.tc : Thread Cert.KernelGUIdeal.nD Cert.KernelGUIdeal.τ).loc Cert.KernelGUIdeal.main_arg2) = m ((c.tc : Thread Cert.KernelGUIdeal.nD Cert.KernelGUIdeal.τ).loc Cert.KernelGUIdeal.main_arg2))
      ∧ θ_run (Cert.ReferenceGUIdeal.defs (F := Ideal)) (onTc (τ := Cert.ReferenceGUIdeal.τ) (Cert.ReferenceGUIdeal.main (F := Ideal))) ⟨m', fun _ => 0, g'⟩ (fun r => ∀ c : Dev Cert.ReferenceGUIdeal.nD,
          r.2.mem ((c.tc : Thread Cert.ReferenceGUIdeal.nD Cert.ReferenceGUIdeal.τ).loc Cert.ReferenceGUIdeal.main_v9) = v0 c
          ∧ r.2.mem ((c.tc : Thread Cert.ReferenceGUIdeal.nD Cert.ReferenceGUIdeal.τ).loc Cert.ReferenceGUIdeal.main_v12) = v1 c
          ∧ r.2.mem ((c.tc : Thread Cert.ReferenceGUIdeal.nD Cert.ReferenceGUIdeal.τ).loc Cert.ReferenceGUIdeal.main_arg0) = m' ((c.tc : Thread Cert.ReferenceGUIdeal.nD Cert.ReferenceGUIdeal.τ).loc Cert.ReferenceGUIdeal.main_arg0)
          ∧ r.2.mem ((c.tc : Thread Cert.ReferenceGUIdeal.nD Cert.ReferenceGUIdeal.τ).loc Cert.ReferenceGUIdeal.main_arg1) = m' ((c.tc : Thread Cert.ReferenceGUIdeal.nD Cert.ReferenceGUIdeal.τ).loc Cert.ReferenceGUIdeal.main_arg1)
          ∧ r.2.mem ((c.tc : Thread Cert.ReferenceGUIdeal.nD Cert.ReferenceGUIdeal.τ).loc Cert.ReferenceGUIdeal.main_arg2) = m' ((c.tc : Thread Cert.ReferenceGUIdeal.nD Cert.ReferenceGUIdeal.τ).loc Cert.ReferenceGUIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelGate_KernelGateIdeal : Prop :=
  True

def algebraic_KernelGateIdeal_ReferenceGateIdeal_pre_finite_gate [hKernelGateIdeal : Cert.KernelGateIdeal.Facts] [hReferenceGateIdeal : Cert.ReferenceGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal_finite_gate m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)) →
    ∃ (v0 : (c : Dev Cert.KernelGateIdeal.nD) → Buf (Elt Ideal) ((c.tc : Thread Cert.KernelGateIdeal.nD Cert.KernelGateIdeal.τ).loc Cert.KernelGateIdeal.main_v9_0)) (v1 : (c : Dev Cert.KernelGateIdeal.nD) → Buf (Elt Ideal) ((c.tc : Thread Cert.KernelGateIdeal.nD Cert.KernelGateIdeal.τ).loc Cert.KernelGateIdeal.main_v9_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v9_0) = v0 c
          ∧ r.2.mem ((c.tc : Thread Cert.KernelGateIdeal.nD Cert.KernelGateIdeal.τ).loc Cert.KernelGateIdeal.main_v9_1) = v1 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v9) = v0 c
          ∧ r.2.mem ((c.tc : Thread Cert.ReferenceGateIdeal.nD Cert.ReferenceGateIdeal.τ).loc Cert.ReferenceGateIdeal.main_v12) = v1 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v8_0)) (v1 : (c : Dev Cert.KernelUpIdeal.nD) → Buf (Elt Ideal) ((c.tc : Thread Cert.KernelUpIdeal.nD Cert.KernelUpIdeal.τ).loc Cert.KernelUpIdeal.main_v8_1)) (v2 : (c : Dev Cert.KernelUpIdeal.nD) → Buf (Elt Ideal) ((c.tc : Thread Cert.KernelUpIdeal.nD Cert.KernelUpIdeal.τ).loc Cert.KernelUpIdeal.main_v8_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v8_0) = v0 c
          ∧ r.2.mem ((c.tc : Thread Cert.KernelUpIdeal.nD Cert.KernelUpIdeal.τ).loc Cert.KernelUpIdeal.main_v8_1) = v1 c
          ∧ r.2.mem ((c.tc : Thread Cert.KernelUpIdeal.nD Cert.KernelUpIdeal.τ).loc Cert.KernelUpIdeal.main_v8_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_v9) = v1 c
          ∧ r.2.mem ((c.tc : Thread Cert.ReferenceUpIdeal.nD Cert.ReferenceUpIdeal.τ).loc Cert.ReferenceUpIdeal.main_v12) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelMerged_KernelMergedIdeal : Prop :=
  True

def algebraic_KernelMergedIdeal_ReferenceMergedIdeal [hKernelMergedIdeal : Cert.KernelMergedIdeal.Facts] [hReferenceMergedIdeal : Cert.ReferenceMergedIdeal.Facts] : Prop :=
  ∀ (m : (ℓ : Loc Cert.KernelMergedIdeal.nD Cert.KernelMergedIdeal.τ Cert.KernelMergedIdeal.sig) → Buf (Elt Ideal) ℓ) (g : Dev Cert.KernelMergedIdeal.nD → PrngReg)
    (m' : (ℓ : Loc Cert.ReferenceMergedIdeal.nD Cert.ReferenceMergedIdeal.τ Cert.ReferenceMergedIdeal.sig) → Buf (Elt Ideal) ℓ) (g' : Dev Cert.ReferenceMergedIdeal.nD → PrngReg), Pre_KernelMergedIdeal m →
    (∀ c : Dev Cert.KernelMergedIdeal.nD,
      m' ((c.tc : Thread Cert.ReferenceMergedIdeal.nD Cert.ReferenceMergedIdeal.τ).loc Cert.ReferenceMergedIdeal.main_arg0) = m ((c.tc : Thread Cert.KernelMergedIdeal.nD Cert.KernelMergedIdeal.τ).loc Cert.KernelMergedIdeal.main_arg0)
      ∧ m' ((c.tc : Thread Cert.ReferenceMergedIdeal.nD Cert.ReferenceMergedIdeal.τ).loc Cert.ReferenceMergedIdeal.main_arg1) = m ((c.tc : Thread Cert.KernelMergedIdeal.nD Cert.KernelMergedIdeal.τ).loc Cert.KernelMergedIdeal.main_arg1)) →
    ∃ (v0 : (c : Dev Cert.KernelMergedIdeal.nD) → Buf (Elt Ideal) ((c.tc : Thread Cert.KernelMergedIdeal.nD Cert.KernelMergedIdeal.τ).loc Cert.KernelMergedIdeal.main_v2)),
      θ_run (Cert.KernelMergedIdeal.defs (F := Ideal)) (onTc (τ := Cert.KernelMergedIdeal.τ) (Cert.KernelMergedIdeal.main (F := Ideal))) ⟨m, fun _ => 0, g⟩ (fun r => ∀ c : Dev Cert.KernelMergedIdeal.nD,
          r.2.mem ((c.tc : Thread Cert.KernelMergedIdeal.nD Cert.KernelMergedIdeal.τ).loc Cert.KernelMergedIdeal.main_v2) = v0 c
          ∧ r.2.mem ((c.tc : Thread Cert.KernelMergedIdeal.nD Cert.KernelMergedIdeal.τ).loc Cert.KernelMergedIdeal.main_arg0) = m ((c.tc : Thread Cert.KernelMergedIdeal.nD Cert.KernelMergedIdeal.τ).loc Cert.KernelMergedIdeal.main_arg0)
          ∧ r.2.mem ((c.tc : Thread Cert.KernelMergedIdeal.nD Cert.KernelMergedIdeal.τ).loc Cert.KernelMergedIdeal.main_arg1) = m ((c.tc : Thread Cert.KernelMergedIdeal.nD Cert.KernelMergedIdeal.τ).loc Cert.KernelMergedIdeal.main_arg1))
      ∧ θ_run (Cert.ReferenceMergedIdeal.defs (F := Ideal)) (onTc (τ := Cert.ReferenceMergedIdeal.τ) (Cert.ReferenceMergedIdeal.main (F := Ideal))) ⟨m', fun _ => 0, g'⟩ (fun r => ∀ c : Dev Cert.ReferenceMergedIdeal.nD,
          r.2.mem ((c.tc : Thread Cert.ReferenceMergedIdeal.nD Cert.ReferenceMergedIdeal.τ).loc Cert.ReferenceMergedIdeal.main_v4) = v0 c
          ∧ r.2.mem ((c.tc : Thread Cert.ReferenceMergedIdeal.nD Cert.ReferenceMergedIdeal.τ).loc Cert.ReferenceMergedIdeal.main_arg0) = m' ((c.tc : Thread Cert.ReferenceMergedIdeal.nD Cert.ReferenceMergedIdeal.τ).loc Cert.ReferenceMergedIdeal.main_arg0)
          ∧ r.2.mem ((c.tc : Thread Cert.ReferenceMergedIdeal.nD Cert.ReferenceMergedIdeal.τ).loc Cert.ReferenceMergedIdeal.main_arg1) = m' ((c.tc : Thread Cert.ReferenceMergedIdeal.nD Cert.ReferenceMergedIdeal.τ).loc Cert.ReferenceMergedIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v3)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v3) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v4) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelAO_KernelAOIdeal : Prop :=
  True

def algebraic_KernelAOIdeal_ReferenceAOIdeal [hKernelAOIdeal : Cert.KernelAOIdeal.Facts] [hReferenceAOIdeal : Cert.ReferenceAOIdeal.Facts] : Prop :=
  ∀ (m : (ℓ : Loc Cert.KernelAOIdeal.nD Cert.KernelAOIdeal.τ Cert.KernelAOIdeal.sig) → Buf (Elt Ideal) ℓ) (g : Dev Cert.KernelAOIdeal.nD → PrngReg)
    (m' : (ℓ : Loc Cert.ReferenceAOIdeal.nD Cert.ReferenceAOIdeal.τ Cert.ReferenceAOIdeal.sig) → Buf (Elt Ideal) ℓ) (g' : Dev Cert.ReferenceAOIdeal.nD → PrngReg), Pre_KernelAOIdeal m →
    (∀ c : Dev Cert.KernelAOIdeal.nD,
      m' ((c.tc : Thread Cert.ReferenceAOIdeal.nD Cert.ReferenceAOIdeal.τ).loc Cert.ReferenceAOIdeal.main_arg0) = m ((c.tc : Thread Cert.KernelAOIdeal.nD Cert.KernelAOIdeal.τ).loc Cert.KernelAOIdeal.main_arg0)
      ∧ m' ((c.tc : Thread Cert.ReferenceAOIdeal.nD Cert.ReferenceAOIdeal.τ).loc Cert.ReferenceAOIdeal.main_arg1) = m ((c.tc : Thread Cert.KernelAOIdeal.nD Cert.KernelAOIdeal.τ).loc Cert.KernelAOIdeal.main_arg1)) →
    ∃ (v0 : (c : Dev Cert.KernelAOIdeal.nD) → Buf (Elt Ideal) ((c.tc : Thread Cert.KernelAOIdeal.nD Cert.KernelAOIdeal.τ).loc Cert.KernelAOIdeal.main_v4)),
      θ_run (Cert.KernelAOIdeal.defs (F := Ideal)) (onTc (τ := Cert.KernelAOIdeal.τ) (Cert.KernelAOIdeal.main (F := Ideal))) ⟨m, fun _ => 0, g⟩ (fun r => ∀ c : Dev Cert.KernelAOIdeal.nD,
          r.2.mem ((c.tc : Thread Cert.KernelAOIdeal.nD Cert.KernelAOIdeal.τ).loc Cert.KernelAOIdeal.main_v4) = v0 c
          ∧ r.2.mem ((c.tc : Thread Cert.KernelAOIdeal.nD Cert.KernelAOIdeal.τ).loc Cert.KernelAOIdeal.main_arg0) = m ((c.tc : Thread Cert.KernelAOIdeal.nD Cert.KernelAOIdeal.τ).loc Cert.KernelAOIdeal.main_arg0)
          ∧ r.2.mem ((c.tc : Thread Cert.KernelAOIdeal.nD Cert.KernelAOIdeal.τ).loc Cert.KernelAOIdeal.main_arg1) = m ((c.tc : Thread Cert.KernelAOIdeal.nD Cert.KernelAOIdeal.τ).loc Cert.KernelAOIdeal.main_arg1))
      ∧ θ_run (Cert.ReferenceAOIdeal.defs (F := Ideal)) (onTc (τ := Cert.ReferenceAOIdeal.τ) (Cert.ReferenceAOIdeal.main (F := Ideal))) ⟨m', fun _ => 0, g'⟩ (fun r => ∀ c : Dev Cert.ReferenceAOIdeal.nD,
          r.2.mem ((c.tc : Thread Cert.ReferenceAOIdeal.nD Cert.ReferenceAOIdeal.τ).loc Cert.ReferenceAOIdeal.main_v6) = v0 c
          ∧ r.2.mem ((c.tc : Thread Cert.ReferenceAOIdeal.nD Cert.ReferenceAOIdeal.τ).loc Cert.ReferenceAOIdeal.main_arg0) = m' ((c.tc : Thread Cert.ReferenceAOIdeal.nD Cert.ReferenceAOIdeal.τ).loc Cert.ReferenceAOIdeal.main_arg0)
          ∧ r.2.mem ((c.tc : Thread Cert.ReferenceAOIdeal.nD Cert.ReferenceAOIdeal.τ).loc Cert.ReferenceAOIdeal.main_arg1) = m' ((c.tc : Thread Cert.ReferenceAOIdeal.nD Cert.ReferenceAOIdeal.τ).loc Cert.ReferenceAOIdeal.main_arg1))

def preserves_KernelCO_KernelCOIdeal : Prop :=
  True

def algebraic_KernelCOIdeal_ReferenceCOIdeal [hKernelCOIdeal : Cert.KernelCOIdeal.Facts] [hReferenceCOIdeal : Cert.ReferenceCOIdeal.Facts] : Prop :=
  ∀ (m : (ℓ : Loc Cert.KernelCOIdeal.nD Cert.KernelCOIdeal.τ Cert.KernelCOIdeal.sig) → Buf (Elt Ideal) ℓ) (g : Dev Cert.KernelCOIdeal.nD → PrngReg)
    (m' : (ℓ : Loc Cert.ReferenceCOIdeal.nD Cert.ReferenceCOIdeal.τ Cert.ReferenceCOIdeal.sig) → Buf (Elt Ideal) ℓ) (g' : Dev Cert.ReferenceCOIdeal.nD → PrngReg), Pre_KernelCOIdeal m →
    (∀ c : Dev Cert.KernelCOIdeal.nD,
      m' ((c.tc : Thread Cert.ReferenceCOIdeal.nD Cert.ReferenceCOIdeal.τ).loc Cert.ReferenceCOIdeal.main_arg0) = m ((c.tc : Thread Cert.KernelCOIdeal.nD Cert.KernelCOIdeal.τ).loc Cert.KernelCOIdeal.main_arg0)
      ∧ m' ((c.tc : Thread Cert.ReferenceCOIdeal.nD Cert.ReferenceCOIdeal.τ).loc Cert.ReferenceCOIdeal.main_arg1) = m ((c.tc : Thread Cert.KernelCOIdeal.nD Cert.KernelCOIdeal.τ).loc Cert.KernelCOIdeal.main_arg1)) →
    ∃ (v0 : (c : Dev Cert.KernelCOIdeal.nD) → Buf (Elt Ideal) ((c.tc : Thread Cert.KernelCOIdeal.nD Cert.KernelCOIdeal.τ).loc Cert.KernelCOIdeal.main_v4)),
      θ_run (Cert.KernelCOIdeal.defs (F := Ideal)) (onTc (τ := Cert.KernelCOIdeal.τ) (Cert.KernelCOIdeal.main (F := Ideal))) ⟨m, fun _ => 0, g⟩ (fun r => ∀ c : Dev Cert.KernelCOIdeal.nD,
          r.2.mem ((c.tc : Thread Cert.KernelCOIdeal.nD Cert.KernelCOIdeal.τ).loc Cert.KernelCOIdeal.main_v4) = v0 c
          ∧ r.2.mem ((c.tc : Thread Cert.KernelCOIdeal.nD Cert.KernelCOIdeal.τ).loc Cert.KernelCOIdeal.main_arg0) = m ((c.tc : Thread Cert.KernelCOIdeal.nD Cert.KernelCOIdeal.τ).loc Cert.KernelCOIdeal.main_arg0)
          ∧ r.2.mem ((c.tc : Thread Cert.KernelCOIdeal.nD Cert.KernelCOIdeal.τ).loc Cert.KernelCOIdeal.main_arg1) = m ((c.tc : Thread Cert.KernelCOIdeal.nD Cert.KernelCOIdeal.τ).loc Cert.KernelCOIdeal.main_arg1))
      ∧ θ_run (Cert.ReferenceCOIdeal.defs (F := Ideal)) (onTc (τ := Cert.ReferenceCOIdeal.τ) (Cert.ReferenceCOIdeal.main (F := Ideal))) ⟨m', fun _ => 0, g'⟩ (fun r => ∀ c : Dev Cert.ReferenceCOIdeal.nD,
          r.2.mem ((c.tc : Thread Cert.ReferenceCOIdeal.nD Cert.ReferenceCOIdeal.τ).loc Cert.ReferenceCOIdeal.main_v4) = v0 c
          ∧ r.2.mem ((c.tc : Thread Cert.ReferenceCOIdeal.nD Cert.ReferenceCOIdeal.τ).loc Cert.ReferenceCOIdeal.main_arg0) = m' ((c.tc : Thread Cert.ReferenceCOIdeal.nD Cert.ReferenceCOIdeal.τ).loc Cert.ReferenceCOIdeal.main_arg0)
          ∧ r.2.mem ((c.tc : Thread Cert.ReferenceCOIdeal.nD Cert.ReferenceCOIdeal.τ).loc Cert.ReferenceCOIdeal.main_arg1) = m' ((c.tc : Thread Cert.ReferenceCOIdeal.nD Cert.ReferenceCOIdeal.τ).loc Cert.ReferenceCOIdeal.main_arg1))

def preserves_KernelYA_KernelYAIdeal : Prop :=
  True

def algebraic_KernelYAIdeal_ReferenceYAIdeal [hKernelYAIdeal : Cert.KernelYAIdeal.Facts] [hReferenceYAIdeal : Cert.ReferenceYAIdeal.Facts] : Prop :=
  ∀ (m : (ℓ : Loc Cert.KernelYAIdeal.nD Cert.KernelYAIdeal.τ Cert.KernelYAIdeal.sig) → Buf (Elt Ideal) ℓ) (g : Dev Cert.KernelYAIdeal.nD → PrngReg)
    (m' : (ℓ : Loc Cert.ReferenceYAIdeal.nD Cert.ReferenceYAIdeal.τ Cert.ReferenceYAIdeal.sig) → Buf (Elt Ideal) ℓ) (g' : Dev Cert.ReferenceYAIdeal.nD → PrngReg), Pre_KernelYAIdeal m →
    (∀ c : Dev Cert.KernelYAIdeal.nD,
      m' ((c.tc : Thread Cert.ReferenceYAIdeal.nD Cert.ReferenceYAIdeal.τ).loc Cert.ReferenceYAIdeal.main_arg0) = m ((c.tc : Thread Cert.KernelYAIdeal.nD Cert.KernelYAIdeal.τ).loc Cert.KernelYAIdeal.main_arg0)
      ∧ m' ((c.tc : Thread Cert.ReferenceYAIdeal.nD Cert.ReferenceYAIdeal.τ).loc Cert.ReferenceYAIdeal.main_arg1) = m ((c.tc : Thread Cert.KernelYAIdeal.nD Cert.KernelYAIdeal.τ).loc Cert.KernelYAIdeal.main_arg1)) →
    ∃ (v0 : (c : Dev Cert.KernelYAIdeal.nD) → Buf (Elt Ideal) ((c.tc : Thread Cert.KernelYAIdeal.nD Cert.KernelYAIdeal.τ).loc Cert.KernelYAIdeal.main_v5)),
      θ_run (Cert.KernelYAIdeal.defs (F := Ideal)) (onTc (τ := Cert.KernelYAIdeal.τ) (Cert.KernelYAIdeal.main (F := Ideal))) ⟨m, fun _ => 0, g⟩ (fun r => ∀ c : Dev Cert.KernelYAIdeal.nD,
          r.2.mem ((c.tc : Thread Cert.KernelYAIdeal.nD Cert.KernelYAIdeal.τ).loc Cert.KernelYAIdeal.main_v5) = v0 c
          ∧ r.2.mem ((c.tc : Thread Cert.KernelYAIdeal.nD Cert.KernelYAIdeal.τ).loc Cert.KernelYAIdeal.main_arg0) = m ((c.tc : Thread Cert.KernelYAIdeal.nD Cert.KernelYAIdeal.τ).loc Cert.KernelYAIdeal.main_arg0)
          ∧ r.2.mem ((c.tc : Thread Cert.KernelYAIdeal.nD Cert.KernelYAIdeal.τ).loc Cert.KernelYAIdeal.main_arg1) = m ((c.tc : Thread Cert.KernelYAIdeal.nD Cert.KernelYAIdeal.τ).loc Cert.KernelYAIdeal.main_arg1))
      ∧ θ_run (Cert.ReferenceYAIdeal.defs (F := Ideal)) (onTc (τ := Cert.ReferenceYAIdeal.τ) (Cert.ReferenceYAIdeal.main (F := Ideal))) ⟨m', fun _ => 0, g'⟩ (fun r => ∀ c : Dev Cert.ReferenceYAIdeal.nD,
          r.2.mem ((c.tc : Thread Cert.ReferenceYAIdeal.nD Cert.ReferenceYAIdeal.τ).loc Cert.ReferenceYAIdeal.main_v2) = v0 c
          ∧ r.2.mem ((c.tc : Thread Cert.ReferenceYAIdeal.nD Cert.ReferenceYAIdeal.τ).loc Cert.ReferenceYAIdeal.main_arg0) = m' ((c.tc : Thread Cert.ReferenceYAIdeal.nD Cert.ReferenceYAIdeal.τ).loc Cert.ReferenceYAIdeal.main_arg0)
          ∧ r.2.mem ((c.tc : Thread Cert.ReferenceYAIdeal.nD Cert.ReferenceYAIdeal.τ).loc Cert.ReferenceYAIdeal.main_arg1) = m' ((c.tc : Thread Cert.ReferenceYAIdeal.nD Cert.ReferenceYAIdeal.τ).loc Cert.ReferenceYAIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v10_0)) (v1 : (c : Dev Cert.KernelMixIdeal.nD) → Buf (Elt Ideal) ((c.tc : Thread Cert.KernelMixIdeal.nD Cert.KernelMixIdeal.τ).loc Cert.KernelMixIdeal.main_v10_1)) (v2 : (c : Dev Cert.KernelMixIdeal.nD) → Buf (Elt Ideal) ((c.tc : Thread Cert.KernelMixIdeal.nD Cert.KernelMixIdeal.τ).loc Cert.KernelMixIdeal.main_v10_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v10_0) = v0 c
          ∧ r.2.mem ((c.tc : Thread Cert.KernelMixIdeal.nD Cert.KernelMixIdeal.τ).loc Cert.KernelMixIdeal.main_v10_1) = v1 c
          ∧ r.2.mem ((c.tc : Thread Cert.KernelMixIdeal.nD Cert.KernelMixIdeal.τ).loc Cert.KernelMixIdeal.main_v10_2) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v33) = v0 c
          ∧ r.2.mem ((c.tc : Thread Cert.ReferenceMixIdeal.nD Cert.ReferenceMixIdeal.τ).loc Cert.ReferenceMixIdeal.main_v31) = v1 c
          ∧ r.2.mem ((c.tc : Thread Cert.ReferenceMixIdeal.nD Cert.ReferenceMixIdeal.τ).loc Cert.ReferenceMixIdeal.main_v34) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelMB_KernelMBIdeal : Prop :=
  True

def algebraic_KernelMBIdeal_ReferenceMBIdeal [hKernelMBIdeal : Cert.KernelMBIdeal.Facts] [hReferenceMBIdeal : Cert.ReferenceMBIdeal.Facts] : Prop :=
  ∀ (m : (ℓ : Loc Cert.KernelMBIdeal.nD Cert.KernelMBIdeal.τ Cert.KernelMBIdeal.sig) → Buf (Elt Ideal) ℓ) (g : Dev Cert.KernelMBIdeal.nD → PrngReg)
    (m' : (ℓ : Loc Cert.ReferenceMBIdeal.nD Cert.ReferenceMBIdeal.τ Cert.ReferenceMBIdeal.sig) → Buf (Elt Ideal) ℓ) (g' : Dev Cert.ReferenceMBIdeal.nD → PrngReg), Pre_KernelMBIdeal m →
    (∀ c : Dev Cert.KernelMBIdeal.nD,
      m' ((c.tc : Thread Cert.ReferenceMBIdeal.nD Cert.ReferenceMBIdeal.τ).loc Cert.ReferenceMBIdeal.main_arg0) = m ((c.tc : Thread Cert.KernelMBIdeal.nD Cert.KernelMBIdeal.τ).loc Cert.KernelMBIdeal.main_arg0)
      ∧ m' ((c.tc : Thread Cert.ReferenceMBIdeal.nD Cert.ReferenceMBIdeal.τ).loc Cert.ReferenceMBIdeal.main_arg1) = m ((c.tc : Thread Cert.KernelMBIdeal.nD Cert.KernelMBIdeal.τ).loc Cert.KernelMBIdeal.main_arg1)
      ∧ m' ((c.tc : Thread Cert.ReferenceMBIdeal.nD Cert.ReferenceMBIdeal.τ).loc Cert.ReferenceMBIdeal.main_arg2) = m ((c.tc : Thread Cert.KernelMBIdeal.nD Cert.KernelMBIdeal.τ).loc Cert.KernelMBIdeal.main_arg2)
      ∧ m' ((c.tc : Thread Cert.ReferenceMBIdeal.nD Cert.ReferenceMBIdeal.τ).loc Cert.ReferenceMBIdeal.main_arg3) = m ((c.tc : Thread Cert.KernelMBIdeal.nD Cert.KernelMBIdeal.τ).loc Cert.KernelMBIdeal.main_arg3)
      ∧ m' ((c.tc : Thread Cert.ReferenceMBIdeal.nD Cert.ReferenceMBIdeal.τ).loc Cert.ReferenceMBIdeal.main_arg4) = m ((c.tc : Thread Cert.KernelMBIdeal.nD Cert.KernelMBIdeal.τ).loc Cert.KernelMBIdeal.main_arg4)) →
    ∃ (v0 : (c : Dev Cert.KernelMBIdeal.nD) → Buf (Elt Ideal) ((c.tc : Thread Cert.KernelMBIdeal.nD Cert.KernelMBIdeal.τ).loc Cert.KernelMBIdeal.main_v9_0)) (v1 : (c : Dev Cert.KernelMBIdeal.nD) → Buf (Elt Ideal) ((c.tc : Thread Cert.KernelMBIdeal.nD Cert.KernelMBIdeal.τ).loc Cert.KernelMBIdeal.main_v9_1)) (v2 : (c : Dev Cert.KernelMBIdeal.nD) → Buf (Elt Ideal) ((c.tc : Thread Cert.KernelMBIdeal.nD Cert.KernelMBIdeal.τ).loc Cert.KernelMBIdeal.main_v9_2)) (v3 : (c : Dev Cert.KernelMBIdeal.nD) → Buf (Elt Ideal) ((c.tc : Thread Cert.KernelMBIdeal.nD Cert.KernelMBIdeal.τ).loc Cert.KernelMBIdeal.main_v9_3)) (v4 : (c : Dev Cert.KernelMBIdeal.nD) → Buf (Elt Ideal) ((c.tc : Thread Cert.KernelMBIdeal.nD Cert.KernelMBIdeal.τ).loc Cert.KernelMBIdeal.main_v9_4)) (v5 : (c : Dev Cert.KernelMBIdeal.nD) → Buf (Elt Ideal) ((c.tc : Thread Cert.KernelMBIdeal.nD Cert.KernelMBIdeal.τ).loc Cert.KernelMBIdeal.main_v9_5)),
      θ_run (Cert.KernelMBIdeal.defs (F := Ideal)) (onTc (τ := Cert.KernelMBIdeal.τ) (Cert.KernelMBIdeal.main (F := Ideal))) ⟨m, fun _ => 0, g⟩ (fun r => ∀ c : Dev Cert.KernelMBIdeal.nD,
          r.2.mem ((c.tc : Thread Cert.KernelMBIdeal.nD Cert.KernelMBIdeal.τ).loc Cert.KernelMBIdeal.main_v9_0) = v0 c
          ∧ r.2.mem ((c.tc : Thread Cert.KernelMBIdeal.nD Cert.KernelMBIdeal.τ).loc Cert.KernelMBIdeal.main_v9_1) = v1 c
          ∧ r.2.mem ((c.tc : Thread Cert.KernelMBIdeal.nD Cert.KernelMBIdeal.τ).loc Cert.KernelMBIdeal.main_v9_2) = v2 c
          ∧ r.2.mem ((c.tc : Thread Cert.KernelMBIdeal.nD Cert.KernelMBIdeal.τ).loc Cert.KernelMBIdeal.main_v9_3) = v3 c
          ∧ r.2.mem ((c.tc : Thread Cert.KernelMBIdeal.nD Cert.KernelMBIdeal.τ).loc Cert.KernelMBIdeal.main_v9_4) = v4 c
          ∧ r.2.mem ((c.tc : Thread Cert.KernelMBIdeal.nD Cert.KernelMBIdeal.τ).loc Cert.KernelMBIdeal.main_v9_5) = v5 c
          ∧ r.2.mem ((c.tc : Thread Cert.KernelMBIdeal.nD Cert.KernelMBIdeal.τ).loc Cert.KernelMBIdeal.main_arg0) = m ((c.tc : Thread Cert.KernelMBIdeal.nD Cert.KernelMBIdeal.τ).loc Cert.KernelMBIdeal.main_arg0)
          ∧ r.2.mem ((c.tc : Thread Cert.KernelMBIdeal.nD Cert.KernelMBIdeal.τ).loc Cert.KernelMBIdeal.main_arg1) = m ((c.tc : Thread Cert.KernelMBIdeal.nD Cert.KernelMBIdeal.τ).loc Cert.KernelMBIdeal.main_arg1)
          ∧ r.2.mem ((c.tc : Thread Cert.KernelMBIdeal.nD Cert.KernelMBIdeal.τ).loc Cert.KernelMBIdeal.main_arg2) = m ((c.tc : Thread Cert.KernelMBIdeal.nD Cert.KernelMBIdeal.τ).loc Cert.KernelMBIdeal.main_arg2)
          ∧ r.2.mem ((c.tc : Thread Cert.KernelMBIdeal.nD Cert.KernelMBIdeal.τ).loc Cert.KernelMBIdeal.main_arg3) = m ((c.tc : Thread Cert.KernelMBIdeal.nD Cert.KernelMBIdeal.τ).loc Cert.KernelMBIdeal.main_arg3)
          ∧ r.2.mem ((c.tc : Thread Cert.KernelMBIdeal.nD Cert.KernelMBIdeal.τ).loc Cert.KernelMBIdeal.main_arg4) = m ((c.tc : Thread Cert.KernelMBIdeal.nD Cert.KernelMBIdeal.τ).loc Cert.KernelMBIdeal.main_arg4))
      ∧ θ_run (Cert.ReferenceMBIdeal.defs (F := Ideal)) (onTc (τ := Cert.ReferenceMBIdeal.τ) (Cert.ReferenceMBIdeal.main (F := Ideal))) ⟨m', fun _ => 0, g'⟩ (fun r => ∀ c : Dev Cert.ReferenceMBIdeal.nD,
          r.2.mem ((c.tc : Thread Cert.ReferenceMBIdeal.nD Cert.ReferenceMBIdeal.τ).loc Cert.ReferenceMBIdeal.main_v32) = v0 c
          ∧ r.2.mem ((c.tc : Thread Cert.ReferenceMBIdeal.nD Cert.ReferenceMBIdeal.τ).loc Cert.ReferenceMBIdeal.main_v34) = v1 c
          ∧ r.2.mem ((c.tc : Thread Cert.ReferenceMBIdeal.nD Cert.ReferenceMBIdeal.τ).loc Cert.ReferenceMBIdeal.main_v36) = v2 c
          ∧ r.2.mem ((c.tc : Thread Cert.ReferenceMBIdeal.nD Cert.ReferenceMBIdeal.τ).loc Cert.ReferenceMBIdeal.main_v38) = v3 c
          ∧ r.2.mem ((c.tc : Thread Cert.ReferenceMBIdeal.nD Cert.ReferenceMBIdeal.τ).loc Cert.ReferenceMBIdeal.main_v40) = v4 c
          ∧ r.2.mem ((c.tc : Thread Cert.ReferenceMBIdeal.nD Cert.ReferenceMBIdeal.τ).loc Cert.ReferenceMBIdeal.main_v41) = v5 c
          ∧ r.2.mem ((c.tc : Thread Cert.ReferenceMBIdeal.nD Cert.ReferenceMBIdeal.τ).loc Cert.ReferenceMBIdeal.main_arg0) = m' ((c.tc : Thread Cert.ReferenceMBIdeal.nD Cert.ReferenceMBIdeal.τ).loc Cert.ReferenceMBIdeal.main_arg0)
          ∧ r.2.mem ((c.tc : Thread Cert.ReferenceMBIdeal.nD Cert.ReferenceMBIdeal.τ).loc Cert.ReferenceMBIdeal.main_arg1) = m' ((c.tc : Thread Cert.ReferenceMBIdeal.nD Cert.ReferenceMBIdeal.τ).loc Cert.ReferenceMBIdeal.main_arg1)
          ∧ r.2.mem ((c.tc : Thread Cert.ReferenceMBIdeal.nD Cert.ReferenceMBIdeal.τ).loc Cert.ReferenceMBIdeal.main_arg2) = m' ((c.tc : Thread Cert.ReferenceMBIdeal.nD Cert.ReferenceMBIdeal.τ).loc Cert.ReferenceMBIdeal.main_arg2)
          ∧ r.2.mem ((c.tc : Thread Cert.ReferenceMBIdeal.nD Cert.ReferenceMBIdeal.τ).loc Cert.ReferenceMBIdeal.main_arg3) = m' ((c.tc : Thread Cert.ReferenceMBIdeal.nD Cert.ReferenceMBIdeal.τ).loc Cert.ReferenceMBIdeal.main_arg3)
          ∧ r.2.mem ((c.tc : Thread Cert.ReferenceMBIdeal.nD Cert.ReferenceMBIdeal.τ).loc Cert.ReferenceMBIdeal.main_arg4) = m' ((c.tc : Thread Cert.ReferenceMBIdeal.nD Cert.ReferenceMBIdeal.τ).loc Cert.ReferenceMBIdeal.main_arg4))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelGU : Cert.KernelGU.Facts) (hKernelGUIdeal : Cert.KernelGUIdeal.Facts) (hReferenceGUIdeal : Cert.ReferenceGUIdeal.Facts) (hKernelDown : Cert.KernelDown.Facts) (hKernelDownIdeal : Cert.KernelDownIdeal.Facts) (hReferenceDownIdeal : Cert.ReferenceDownIdeal.Facts) (hKernelGate : Cert.KernelGate.Facts) (hKernelGateIdeal : Cert.KernelGateIdeal.Facts) (hReferenceGateIdeal : Cert.ReferenceGateIdeal.Facts) (hKernelUp : Cert.KernelUp.Facts) (hKernelUpIdeal : Cert.KernelUpIdeal.Facts) (hReferenceUpIdeal : Cert.ReferenceUpIdeal.Facts) (hKernelMerged : Cert.KernelMerged.Facts) (hKernelMergedIdeal : Cert.KernelMergedIdeal.Facts) (hReferenceMergedIdeal : Cert.ReferenceMergedIdeal.Facts) (hKernelO : Cert.KernelO.Facts) (hKernelOIdeal : Cert.KernelOIdeal.Facts) (hReferenceOIdeal : Cert.ReferenceOIdeal.Facts) (hKernelAO : Cert.KernelAO.Facts) (hKernelAOIdeal : Cert.KernelAOIdeal.Facts) (hReferenceAOIdeal : Cert.ReferenceAOIdeal.Facts) (hKernelCO : Cert.KernelCO.Facts) (hKernelCOIdeal : Cert.KernelCOIdeal.Facts) (hReferenceCOIdeal : Cert.ReferenceCOIdeal.Facts) (hKernelYA : Cert.KernelYA.Facts) (hKernelYAIdeal : Cert.KernelYAIdeal.Facts) (hReferenceYAIdeal : Cert.ReferenceYAIdeal.Facts) (hKernelMix : Cert.KernelMix.Facts) (hKernelMixIdeal : Cert.KernelMixIdeal.Facts) (hReferenceMixIdeal : Cert.ReferenceMixIdeal.Facts) (hKernelMB : Cert.KernelMB.Facts) (hKernelMBIdeal : Cert.KernelMBIdeal.Facts) (hReferenceMBIdeal : Cert.ReferenceMBIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGU (hKernelGU := hKernelGU)
    ∧ quiescent_KernelGUIdeal (hKernelGUIdeal := hKernelGUIdeal)
    ∧ quiescent_ReferenceGUIdeal (hReferenceGUIdeal := hReferenceGUIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGate (hKernelGate := hKernelGate)
    ∧ quiescent_KernelGateIdeal (hKernelGateIdeal := hKernelGateIdeal)
    ∧ quiescent_KernelGateIdeal_pre_finite_gate (hKernelGateIdeal := hKernelGateIdeal) (hPre_finite_gate := hPre_finite_gate)
    ∧ quiescent_ReferenceGateIdeal (hReferenceGateIdeal := hReferenceGateIdeal)
    ∧ quiescent_ReferenceGateIdeal_pre_finite_gate (hReferenceGateIdeal := hReferenceGateIdeal) (hPre_finite_gate := hPre_finite_gate)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelMerged (hKernelMerged := hKernelMerged)
    ∧ quiescent_KernelMergedIdeal (hKernelMergedIdeal := hKernelMergedIdeal)
    ∧ quiescent_ReferenceMergedIdeal (hReferenceMergedIdeal := hReferenceMergedIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelAO (hKernelAO := hKernelAO)
    ∧ quiescent_KernelAOIdeal (hKernelAOIdeal := hKernelAOIdeal)
    ∧ quiescent_ReferenceAOIdeal (hReferenceAOIdeal := hReferenceAOIdeal)
    ∧ quiescent_KernelCO (hKernelCO := hKernelCO)
    ∧ quiescent_KernelCOIdeal (hKernelCOIdeal := hKernelCOIdeal)
    ∧ quiescent_ReferenceCOIdeal (hReferenceCOIdeal := hReferenceCOIdeal)
    ∧ quiescent_KernelYA (hKernelYA := hKernelYA)
    ∧ quiescent_KernelYAIdeal (hKernelYAIdeal := hKernelYAIdeal)
    ∧ quiescent_ReferenceYAIdeal (hReferenceYAIdeal := hReferenceYAIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelMB (hKernelMB := hKernelMB)
    ∧ quiescent_KernelMBIdeal (hKernelMBIdeal := hKernelMBIdeal)
    ∧ quiescent_ReferenceMBIdeal (hReferenceMBIdeal := hReferenceMBIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelGU_KernelGUIdeal
    ∧ algebraic_KernelGUIdeal_ReferenceGUIdeal (hKernelGUIdeal := hKernelGUIdeal) (hReferenceGUIdeal := hReferenceGUIdeal)
    ∧ preserves_KernelDown_KernelDownIdeal
    ∧ algebraic_KernelDownIdeal_ReferenceDownIdeal (hKernelDownIdeal := hKernelDownIdeal) (hReferenceDownIdeal := hReferenceDownIdeal)
    ∧ preserves_KernelGate_KernelGateIdeal
    ∧ algebraic_KernelGateIdeal_ReferenceGateIdeal_pre_finite_gate (hKernelGateIdeal := hKernelGateIdeal) (hReferenceGateIdeal := hReferenceGateIdeal) (hPre_finite_gate := hPre_finite_gate)
    ∧ preserves_KernelUp_KernelUpIdeal
    ∧ algebraic_KernelUpIdeal_ReferenceUpIdeal (hKernelUpIdeal := hKernelUpIdeal) (hReferenceUpIdeal := hReferenceUpIdeal)
    ∧ preserves_KernelMerged_KernelMergedIdeal
    ∧ algebraic_KernelMergedIdeal_ReferenceMergedIdeal (hKernelMergedIdeal := hKernelMergedIdeal) (hReferenceMergedIdeal := hReferenceMergedIdeal)
    ∧ preserves_KernelO_KernelOIdeal
    ∧ algebraic_KernelOIdeal_ReferenceOIdeal (hKernelOIdeal := hKernelOIdeal) (hReferenceOIdeal := hReferenceOIdeal)
    ∧ preserves_KernelAO_KernelAOIdeal
    ∧ algebraic_KernelAOIdeal_ReferenceAOIdeal (hKernelAOIdeal := hKernelAOIdeal) (hReferenceAOIdeal := hReferenceAOIdeal)
    ∧ preserves_KernelCO_KernelCOIdeal
    ∧ algebraic_KernelCOIdeal_ReferenceCOIdeal (hKernelCOIdeal := hKernelCOIdeal) (hReferenceCOIdeal := hReferenceCOIdeal)
    ∧ preserves_KernelYA_KernelYAIdeal
    ∧ algebraic_KernelYAIdeal_ReferenceYAIdeal (hKernelYAIdeal := hKernelYAIdeal) (hReferenceYAIdeal := hReferenceYAIdeal)
    ∧ preserves_KernelMix_KernelMixIdeal
    ∧ algebraic_KernelMixIdeal_ReferenceMixIdeal (hKernelMixIdeal := hKernelMixIdeal) (hReferenceMixIdeal := hReferenceMixIdeal)
    ∧ preserves_KernelMB_KernelMBIdeal
    ∧ algebraic_KernelMBIdeal_ReferenceMBIdeal (hKernelMBIdeal := hKernelMBIdeal) (hReferenceMBIdeal := hReferenceMBIdeal)
-- ==== Pre_finite.lean ====
abbrev S2x2048x8x64 : Shape := ⟨4, ![2, 2048, 8, 64]⟩
abbrev S2x2048x8 : Shape := ⟨3, ![2, 2048, 8]⟩
abbrev S2x2048x512 : Shape := ⟨3, ![2, 2048, 512]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x8 : S_.BroadcastsInDim S2x2048x8 (![] : Fin 0 → Fin S2x2048x8.rank)
  reducesTo_S2x2048x8_S_d0_1_2 : S2x2048x8.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part2 {F : FTy → Type} [FloatOps F] (main_arg7 : FVec F S2x2048x512 .f32) (main_v33 : IVec S_ 1) : IVec S_ 1 :=
  let main_v34 : FVec F S2x2048x512 .f32 := Host.absf main_arg7
  let main_cst_12 : FVec F S_ .f32 := constant S_ .f32 0x7F800000#32
  let main_v35 : FVec F S2x2048x512 .f32 := broadcastInDim S2x2048x512 ![] bcast_S_S2x2048x512 main_cst_12
  let main_v36 : IVec S2x2048x512 1 := cmpf .olt main_v34 main_v35
  let main_c_13 : IVec S_ 1 := constantI S_ 1 1#1
  let main_v37 : IVec S_ 1 := (fun x v => Host.reduce IntOp.andi x v reducesTo_S2x2048x512_S_d0_1_2 h_S_) main_v36 main_c_13
  let main_v38 : IVec S_ 1 := andi main_v33 main_v37
  main_v38

def fn_part1 {F : FTy → Type} [FloatOps F] (main_arg4 : FVec F S2x2048x8x64 .f32) (main_arg5 : FVec F S2x2048x8 .f32) (main_arg6 : FVec F S2x2048x8 .f32) (main_arg7 : FVec F S2x2048x512 .f32) (main_v13 : IVec S_ 1) (main_v16 : IVec S2x2048x8x64 1) : IVec S_ 1 :=
  let main_c_5 : IVec S_ 1 := constantI S_ 1 1#1
  let main_v17 : IVec S_ 1 := (fun x v => Host.reduce IntOp.andi x v reducesTo_S2x2048x8x64_S_d0_1_2_3 h_S_) main_v16 main_c_5
  let main_v18 : IVec S_ 1 := andi main_v13 main_v17
  let main_v19 : FVec F S2x2048x8x64 .f32 := Host.absf main_arg4
  let main_cst_6 : FVec F S_ .f32 := constant S_ .f32 0x7F800000#32
  let main_v20 : FVec F S2x2048x8x64 .f32 := broadcastInDim S2x2048x8x64 ![] bcast_S_S2x2048x8x64 main_cst_6
  let main_v21 : IVec S2x2048x8x64 1 := cmpf .olt main_v19 main_v20
  let main_c_7 : IVec S_ 1 := constantI S_ 1 1#1
  let main_v22 : IVec S_ 1 := (fun x v => Host.reduce IntOp.andi x v reducesTo_S2x2048x8x64_S_d0_1_2_3 h_S_) main_v21 main_c_7
  let main_v23 : IVec S_ 1 := andi main_v18 main_v22
  let main_v24 : FVec F S2x2048x8 .f32 := Host.absf main_arg5
  let main_cst_8 : FVec F S_ .f32 := constant S_ .f32 0x7F800000#32
  let main_v25 : FVec F S2x2048x8 .f32 := broadcastInDim S2x2048x8 ![] bcast_S_S2x2048x8 main_cst_8
  let main_v26 : IVec S2x2048x8 1 := cmpf .olt main_v24 main_v25
  let main_c_9 : IVec S_ 1 := constantI S_ 1 1#1
  let main_v27 : IVec S_ 1 := (fun x v => Host.reduce IntOp.andi x v reducesTo_S2x2048x8_S_d0_1_2 h_S_) main_v26 main_c_9
  let main_v28 : IVec S_ 1 := andi main_v23 main_v27
  let main_v29 : FVec F S2x2048x8 .f32 := Host.absf main_arg6
  let main_cst_10 : FVec F S_ .f32 := constant S_ .f32 0x7F800000#32
  let main_v30 : FVec F S2x2048x8 .f32 := broadcastInDim S2x2048x8 ![] bcast_S_S2x2048x8 main_cst_10
  let main_v31 : IVec S2x2048x8 1 := cmpf .olt main_v29 main_v30
  let main_c_11 : IVec S_ 1 := constantI S_ 1 1#1
  let main_v32 : IVec S_ 1 := (fun x v => Host.reduce IntOp.andi x v reducesTo_S2x2048x8_S_d0_1_2 h_S_) main_v31 main_c_11
  let main_v33 : IVec S_ 1 := andi main_v28 main_v32
  fn_part2 (F := F) main_arg7 main_v33

def fn {F : FTy → Type} [FloatOps F] (main_arg0 : FVec F S2x2048x8x64 .f32) (main_arg1 : FVec F S2x2048x8x64 .f32) (main_arg2 : FVec F S2x2048x8x64 .f32) (main_arg3 : FVec F S2x2048x8x64 .f32) (main_arg4 : FVec F S2x2048x8x64 .f32) (main_arg5 : FVec F S2x2048x8 .f32) (main_arg6 : FVec F S2x2048x8 .f32) (main_arg7 : FVec F S2x2048x512 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  let main_v14 : FVec F S2x2048x8x64 .f32 := Host.absf main_arg3
  let main_cst_4 : FVec F S_ .f32 := constant S_ .f32 0x7F800000#32
  let main_v15 : FVec F S2x2048x8x64 .f32 := broadcastInDim S2x2048x8x64 ![] bcast_S_S2x2048x8x64 main_cst_4
  let main_v16 : IVec S2x2048x8x64 1 := cmpf .olt main_v14 main_v15
  fn_part1 (F := F) main_arg4 main_arg5 main_arg6 main_arg7 main_v13 main_v16
-- ==== Pre_finite_gate.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S_ : Shape := ⟨0, ![]⟩

class Facts : Prop where
  bcast_S_S2x2048x2816 : S_.BroadcastsInDim S2x2048x2816 (![] : Fin 0 → Fin S2x2048x2816.rank)
  reducesTo_S2x2048x2816_S_d0_1_2 : S2x2048x2816.ReducesTo [0, 1, 2] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn {F : FTy → Type} [FloatOps F] (main_arg0 : FVec F S2x2048x2816 .f32) (main_arg1 : FVec F S2x2048x2816 .f32) (main_arg2 : FVec F S2816x1024 .f32) (main_arg3 : FVec F S2x2048x1024 .f32) : IVec S_ 1 :=
  let main_v0 : FVec F S2x2048x2816 .f32 := Host.absf main_arg1
  let main_cst : FVec F S_ .f32 := constant S_ .f32 0x7F800000#32
  let main_v1 : FVec F S2x2048x2816 .f32 := broadcastInDim S2x2048x2816 ![] bcast_S_S2x2048x2816 main_cst
  let main_v2 : IVec S2x2048x2816 1 := cmpf .olt main_v0 main_v1
  let main_c : IVec S_ 1 := constantI S_ 1 1#1
  let main_v3 : IVec S_ 1 := (fun x v => Host.reduce IntOp.andi x v reducesTo_S2x2048x2816_S_d0_1_2 h_S_) main_v2 main_c
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2x2048x1024 .f32 := Host.absf main_arg3
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  main_v13
-- ==== Kernel.lean ====
abbrev S2x2048x8x64 : Shape := ⟨4, ![2, 2048, 8, 64]⟩
abbrev S2x2048x8 : Shape := ⟨3, ![2, 2048, 8]⟩
abbrev S2x2048x512 : Shape := ⟨3, ![2, 2048, 512]⟩
abbrev S2x128x16x512 : Shape := ⟨4, ![2, 128, 16, 512]⟩
abbrev S2x16x128x512 : Shape := ⟨4, ![2, 16, 128, 512]⟩
abbrev S_ : Shape := ⟨0, ![]⟩
abbrev S1 : Shape := ⟨1, ![1]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x128x16x8x64 : Shape := ⟨5, ![2, 128, 16, 8, 64]⟩
abbrev S2x16x8x128x64 : Shape := ⟨5, ![2, 16, 8, 128, 64]⟩
abbrev S2x16x8x128x128 : Shape := ⟨5, ![2, 16, 8, 128, 128]⟩
abbrev S8x1x1 : Shape := ⟨3, ![8, 1, 1]⟩
abbrev S1x128x128 : Shape := ⟨3, ![1, 128, 128]⟩
abbrev S8x128x128 : Shape := ⟨3, ![8, 128, 128]⟩
abbrev S1x1x8x128x128 : Shape := ⟨5, ![1, 1, 8, 128, 128]⟩
abbrev S2x16x8x128 : Shape := ⟨4, ![2, 16, 8, 128]⟩
abbrev S2x16x8x128x1 : Shape := ⟨5, ![2, 16, 8, 128, 1]⟩
abbrev S2x128x16x8 : Shape := ⟨4, ![2, 128, 16, 8]⟩
abbrev S2x2048x8x1 : Shape := ⟨4, ![2, 2048, 8, 1]⟩
abbrev S2x2048x128 : Shape := ⟨3, ![2, 2048, 128]⟩
abbrev S2x128x16x128 : Shape := ⟨4, ![2, 128, 16, 128]⟩
abbrev S2x16x128x128 : Shape := ⟨4, ![2, 16, 128, 128]⟩
abbrev S1x1x128x512 : Shape := ⟨4, ![1, 1, 128, 512]⟩
abbrev S1x1x128x128 : Shape := ⟨4, ![1, 1, 128, 128]⟩
abbrev S128x512 : Shape := ⟨2, ![128, 512]⟩
abbrev S8x128x256 : Shape := ⟨3, ![8, 128, 256]⟩
abbrev S1x1x128x1 : Shape := ⟨4, ![1, 1, 128, 1]⟩

abbrev nBuf : Space → Nat
  | .hbm => 143
  | .vmem => 25
  | .smem => 0
  | _ => 0

abbrev hbmTy0_0 (i : Nat) : BufTy := match i % 128 with
  | 0 => ⟨S2x2048x8x64, .f32⟩
  | 1 => ⟨S2x2048x8x64, .f32⟩
  | 2 => ⟨S2x2048x8x64, .f32⟩
  | 3 => ⟨S2x2048x8x64, .f32⟩
  | 4 => ⟨S2x2048x8x64, .f32⟩
  | 5 => ⟨S2x2048x8, .f32⟩
  | 6 => ⟨S2x2048x8, .f32⟩
  | 7 => ⟨S2x2048x512, .f32⟩
  | 8 => ⟨S2x2048x512, .f32⟩
  | 9 => ⟨S2x128x16x512, .f32⟩
  | 10 => ⟨S2x16x128x512, .f32⟩
  | 11 => ⟨S2x16x128x512, .bf16⟩
  | 12 => ⟨S2x2048x512, .f32⟩
  | 13 => ⟨S2x128x16x512, .f32⟩
  | 14 => ⟨S2x16x128x512, .f32⟩
  | 15 => ⟨S2x16x128x512, .bf16⟩
  | 16 => ⟨S_, .f32⟩
  | 17 => ⟨S1, .f32⟩
  | 18 => ⟨S_, .f32⟩
  | 19 => ⟨S1, .f32⟩
  | 20 => ⟨S_, .f32⟩
  | 21 => ⟨S1, .f32⟩
  | 22 => ⟨S_, .f32⟩
  | 23 => ⟨S1, .f32⟩
  | 24 => ⟨S_, .f32⟩
  | 25 => ⟨S1, .f32⟩
  | 26 => ⟨S_, .f32⟩
  | 27 => ⟨S1, .f32⟩
  | 28 => ⟨S_, .f32⟩
  | 29 => ⟨S1, .f32⟩
  | 30 => ⟨S_, .f32⟩
  | 31 => ⟨S1, .f32⟩
  | 32 => ⟨S8, .f32⟩
  | 33 => ⟨S128, .i32⟩
  | 34 => ⟨S128x1, .i32⟩
  | 35 => ⟨S128, .i32⟩
  | 36 => ⟨S1x128, .i32⟩
  | 37 => ⟨S128x128, .i32⟩
  | 38 => ⟨S128x128, .i32⟩
  | 39 => ⟨S128x128, .i32⟩
  | 40 => ⟨S_, .i32⟩
  | 41 => ⟨S128x128, .i32⟩
  | 42 => ⟨S128x128, .i1⟩
  | 43 => ⟨S_, .i32⟩
  | 44 => ⟨S128x128, .i32⟩
  | 45 => ⟨S128x128, .i1⟩
  | 46 => ⟨S128x128, .i1⟩
  | 47 => ⟨S_, .i32⟩
  | 48 => ⟨S128x128, .i32⟩
  | 49 => ⟨S128x128, .i32⟩
  | 50 => ⟨S128x128, .f32⟩
  | 51 => ⟨S2x128x16x8x64, .f32⟩
  | 52 => ⟨S2x16x8x128x64, .f32⟩
  | 53 => ⟨S2x128x16x8x64, .f32⟩
  | 54 => ⟨S2x16x8x128x64, .f32⟩
  | 55 => ⟨S2x16x8x128x128, .f32⟩
  | 56 => ⟨S_, .f32⟩
  | 57 => ⟨S2x16x8x128x128, .f32⟩
  | 58 => ⟨S2x16x8x128x128, .f32⟩
  | 59 => ⟨S8x1x1, .f32⟩
  | 60 => ⟨S1x128x128, .f32⟩
  | 61 => ⟨S8x128x128, .f32⟩
  | 62 => ⟨S8x128x128, .f32⟩
  | 63 => ⟨S8x128x128, .f32⟩
  | 64 => ⟨S1x1x8x128x128, .f32⟩
  | 65 => ⟨S2x16x8x128x128, .f32⟩
  | 66 => ⟨S2x16x8x128x128, .f32⟩
  | 67 => ⟨S_, .f32⟩
  | 68 => ⟨S_, .f32⟩
  | 69 => ⟨S2x16x8x128x128, .i1⟩
  | 70 => ⟨S2x16x8x128x128, .f32⟩
  | 71 => ⟨S2x16x8x128x128, .f32⟩
  | 72 => ⟨S_, .f32⟩
  | 73 => ⟨S2x16x8x128, .f32⟩
  | 74 => ⟨S2x16x8x128x1, .f32⟩
  | 75 => ⟨S2x16x8x128x128, .f32⟩
  | 76 => ⟨S2x16x8x128x128, .f32⟩
  | 77 => ⟨S2x16x8x128x128, .f32⟩
  | 78 => ⟨S_, .f32⟩
  | 79 => ⟨S2x16x8x128, .f32⟩
  | 80 => ⟨S2x128x16x8x64, .f32⟩
  | 81 => ⟨S2x16x8x128x64, .f32⟩
  | 82 => ⟨S2x16x8x128x64, .f32⟩
  | 83 => ⟨S2x16x8x128x1, .f32⟩
  | 84 => ⟨S2x16x8x128x64, .f32⟩
  | 85 => ⟨S2x16x8x128x64, .f32⟩
  | 86 => ⟨S2x16x8x128, .f32⟩
  | 87 => ⟨S2x16x8x128, .f32⟩
  | 88 => ⟨S2x16x8x128, .f32⟩
  | 89 => ⟨S2x128x16x8x64, .f32⟩
  | 90 => ⟨S2x2048x8x64, .f32⟩
  | 91 => ⟨S2x128x16x8, .f32⟩
  | 92 => ⟨S2x2048x8, .f32⟩
  | 93 => ⟨S2x2048x8, .f32⟩
  | 94 => ⟨S2x2048x8, .f32⟩
  | 95 => ⟨S2x2048x8, .f32⟩
  | 96 => ⟨S2x2048x8, .f32⟩
  | 97 => ⟨S2x2048x8, .f32⟩
  | 98 => ⟨S2x2048x8, .f32⟩
  | 99 => ⟨S2x2048x8, .f32⟩
  | 100 => ⟨S2x2048x8, .f32⟩
  | 101 => ⟨S2x2048x8, .f32⟩
  | 102 => ⟨S2x2048x8, .f32⟩
  | 103 => ⟨S2x2048x8, .f32⟩
  | 104 => ⟨S2x2048x8, .f32⟩
  | 105 => ⟨S2x2048x8, .f32⟩
  | 106 => ⟨S2x2048x8x1, .f32⟩
  | 107 => ⟨S2x2048x8x64, .f32⟩
  | 108 => ⟨S2x2048x8x64, .f32⟩
  | 109 => ⟨S2x2048x8, .f32⟩
  | 110 => ⟨S2x2048x8x1, .f32⟩
  | 111 => ⟨S2x2048x8x64, .f32⟩
  | 112 => ⟨S2x2048x8x64, .f32⟩
  | 113 => ⟨S2x2048x8x64, .f32⟩
  | 114 => ⟨S2x2048x8, .f32⟩
  | 115 => ⟨S2x2048x8x1, .f32⟩
  | 116 => ⟨S2x2048x8x64, .f32⟩
  | 117 => ⟨S2x2048x8x64, .f32⟩
  | 118 => ⟨S2x2048x8x64, .f32⟩
  | 119 => ⟨S2x2048x8x64, .f32⟩
  | 120 => ⟨S2x2048x8x64, .f32⟩
  | 121 => ⟨S_, .f32⟩
  | 122 => ⟨S2x2048x8, .f32⟩
  | 123 => ⟨S2x2048x512, .f32⟩
  | 124 => ⟨S2x128x16x512, .f32⟩
  | 125 => ⟨S2x16x128x512, .f32⟩
  | 126 => ⟨S2x16x128x512, .bf16⟩
  | 127 => ⟨S2x128x16x512, .f32⟩
  | _ => ⟨S2x2048x8x64, .f32⟩

abbrev hbmTy0_1 (i : Nat) : BufTy := match i % 128 with
  | 0 => ⟨S2x16x128x512, .f32⟩
  | 1 => ⟨S2x16x128x512, .bf16⟩
  | 2 => ⟨S_, .i32⟩
  | 3 => ⟨S_, .f32⟩
  | 4 => ⟨S2x2048x128, .f32⟩
  | 5 => ⟨S2x128x16x128, .f32⟩
  | 6 => ⟨S2x16x128x128, .f32⟩
  | 7 => ⟨S_, .i32⟩
  | 8 => ⟨S_, .f32⟩
  | 9 => ⟨S2x2048x128, .f32⟩
  | 10 => ⟨S2x128x16x128, .f32⟩
  | 11 => ⟨S2x16x128x128, .f32⟩
  | 12 => ⟨S2x16x128x512, .bf16⟩
  | 13 => ⟨S2x16x128x512, .bf16⟩
  | 14 => ⟨S2x16x128x512, .bf16⟩
  | _ => ⟨S2x2048x8x64, .f32⟩

abbrev hbmTy (i : Nat) : BufTy := match i / 128 with
  | 0 => hbmTy0_0 i
  | 1 => hbmTy0_1 i
  | _ => ⟨S2x2048x8x64, .f32⟩

abbrev bufTy : (tb : Table) → Fin (tcTables nBuf tb) → BufTy
  | .hbm, ⟨i, _⟩ => hbmTy i
  | .local _ .vmem, ⟨0, _⟩ => ⟨S1x1x128x512, .bf16⟩
  | .local _ .vmem, ⟨1, _⟩ => ⟨S1x1x128x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1x1x128x512, .bf16⟩
  | .local _ .vmem, ⟨5, _⟩ => ⟨S1x1x128x512, .bf16⟩
  | .local _ .vmem, ⟨6, _⟩ => ⟨S1x1x128x512, .bf16⟩
  | .local _ .vmem, ⟨7, _⟩ => ⟨S1x1x128x512, .bf16⟩
  | .local _ .vmem, ⟨8, _⟩ => ⟨S1x1x128x128, .f32⟩
  | .local _ .vmem, ⟨9, _⟩ => ⟨S1x1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128x512, .bf16⟩
  | .local _ .vmem, ⟨13, _⟩ => ⟨S1x1x128x512, .bf16⟩
  | .local _ .vmem, ⟨14, _⟩ => ⟨S1x1x128x512, .bf16⟩
  | .local _ .vmem, ⟨15, _⟩ => ⟨S1x1x128x512, .bf16⟩
  | .local _ .vmem, ⟨16, _⟩ => ⟨S1x1x128x512, .bf16⟩
  | .local _ .vmem, ⟨17, _⟩ => ⟨S1x1x128x512, .bf16⟩
  | .local _ .vmem, ⟨18, _⟩ => ⟨S128x512, .f32⟩
  | .local _ .vmem, ⟨19, _⟩ => ⟨S128x512, .f32⟩
  | .local _ .vmem, ⟨20, _⟩ => ⟨S8x128x256, .f32⟩
  | .local _ .vmem, ⟨21, _⟩ => ⟨S8x128x256, .f32⟩
  | .local _ .vmem, ⟨22, _⟩ => ⟨S8x128x256, .f32⟩
  | .local _ .vmem, ⟨23, _⟩ => ⟨S8x128x256, .bf16⟩
  | .local _ .vmem, ⟨24, _⟩ => ⟨S8x128x256, .bf16⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_13 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_c_14 : Ref sig .tc := ⟨.hbm, 130, rfl⟩
abbrev main_call1_v0 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_15 : Ref sig .tc := ⟨.hbm, 135, rfl⟩
abbrev main_call2_v0 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109_0 : Ref sig .tc := ⟨.hbm, 140, rfl⟩
abbrev main_v109_1 : Ref sig .tc := ⟨.hbm, 141, rfl⟩
abbrev main_v109_2 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x2048x8x64 : Shape := ⟨4, ![2, 2048, 8, 64]⟩
abbrev S2x2048x8 : Shape := ⟨3, ![2, 2048, 8]⟩
abbrev S2x2048x512 : Shape := ⟨3, ![2, 2048, 512]⟩
abbrev S_ : Shape := ⟨0, ![]⟩
abbrev S1 : Shape := ⟨1, ![1]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x128x16x8x64 : Shape := ⟨5, ![2, 128, 16, 8, 64]⟩
abbrev S2x16x8x128x64 : Shape := ⟨5, ![2, 16, 8, 128, 64]⟩
abbrev S2x16x8x128x128 : Shape := ⟨5, ![2, 16, 8, 128, 128]⟩
abbrev S8x1x1 : Shape := ⟨3, ![8, 1, 1]⟩
abbrev S1x128x128 : Shape := ⟨3, ![1, 128, 128]⟩
abbrev S8x128x128 : Shape := ⟨3, ![8, 128, 128]⟩
abbrev S1x1x8x128x128 : Shape := ⟨5, ![1, 1, 8, 128, 128]⟩
abbrev S2x16x8x128 : Shape := ⟨4, ![2, 16, 8, 128]⟩
abbrev S2x16x8x128x1 : Shape := ⟨5, ![2, 16, 8, 128, 1]⟩
abbrev S2x128x16x8 : Shape := ⟨4, ![2, 128, 16, 8]⟩
abbrev S1x2x2048x8 : Shape := ⟨4, ![1, 2, 2048, 8]⟩
abbrev S3x2x2048x8 : Shape := ⟨4, ![3, 2, 2048, 8]⟩
abbrev S3x2x2048x8x1 : Shape := ⟨5, ![3, 2, 2048, 8, 1]⟩
abbrev S1x2x2048x8x64 : Shape := ⟨5, ![1, 2, 2048, 8, 64]⟩
abbrev S3x2x2048x8x64 : Shape := ⟨5, ![3, 2, 2048, 8, 64]⟩
abbrev S2x16x8x64x128 : Shape := ⟨5, ![2, 16, 8, 64, 128]⟩
abbrev S2x128x16x512 : Shape := ⟨4, ![2, 128, 16, 512]⟩
abbrev S2x16x128x512 : Shape := ⟨4, ![2, 16, 128, 512]⟩

abbrev nBuf : Space → Nat
  | .hbm => 254
  | .vmem => 0
  | .smem => 0
  | _ => 0

abbrev hbmTy0_0 (i : Nat) : BufTy := match i % 128 with
  | 0 => ⟨S2x2048x8x64, .f32⟩
  | 1 => ⟨S2x2048x8x64, .f32⟩
  | 2 => ⟨S2x2048x8x64, .f32⟩
  | 3 => ⟨S2x2048x8x64, .f32⟩
  | 4 => ⟨S2x2048x8x64, .f32⟩
  | 5 => ⟨S2x2048x8, .f32⟩
  | 6 => ⟨S2x2048x8, .f32⟩
  | 7 => ⟨S2x2048x512, .f32⟩
  | 8 => ⟨S_, .f32⟩
  | 9 => ⟨S1, .f32⟩
  | 10 => ⟨S_, .f32⟩
  | 11 => ⟨S1, .f32⟩
  | 12 => ⟨S_, .f32⟩
  | 13 => ⟨S1, .f32⟩
  | 14 => ⟨S_, .f32⟩
  | 15 => ⟨S1, .f32⟩
  | 16 => ⟨S_, .f32⟩
  | 17 => ⟨S1, .f32⟩
  | 18 => ⟨S_, .f32⟩
  | 19 => ⟨S1, .f32⟩
  | 20 => ⟨S_, .f32⟩
  | 21 => ⟨S1, .f32⟩
  | 22 => ⟨S_, .f32⟩
  | 23 => ⟨S1, .f32⟩
  | 24 => ⟨S8, .f32⟩
  | 25 => ⟨S128, .i32⟩
  | 26 => ⟨S128x1, .i32⟩
  | 27 => ⟨S128, .i32⟩
  | 28 => ⟨S1x128, .i32⟩
  | 29 => ⟨S128x128, .i32⟩
  | 30 => ⟨S128x128, .i32⟩
  | 31 => ⟨S128x128, .i32⟩
  | 32 => ⟨S_, .i32⟩
  | 33 => ⟨S128x128, .i32⟩
  | 34 => ⟨S128x128, .i1⟩
  | 35 => ⟨S_, .i32⟩
  | 36 => ⟨S128x128, .i32⟩
  | 37 => ⟨S128x128, .i1⟩
  | 38 => ⟨S128x128, .i1⟩
  | 39 => ⟨S_, .i32⟩
  | 40 => ⟨S128x128, .i32⟩
  | 41 => ⟨S128x128, .i32⟩
  | 42 => ⟨S128x128, .f32⟩
  | 43 => ⟨S2x128x16x8x64, .f32⟩
  | 44 => ⟨S2x16x8x128x64, .f32⟩
  | 45 => ⟨S2x128x16x8x64, .f32⟩
  | 46 => ⟨S2x16x8x128x64, .f32⟩
  | 47 => ⟨S2x16x8x128x128, .f32⟩
  | 48 => ⟨S_, .f32⟩
  | 49 => ⟨S2x16x8x128x128, .f32⟩
  | 50 => ⟨S2x16x8x128x128, .f32⟩
  | 51 => ⟨S8x1x1, .f32⟩
  | 52 => ⟨S1x128x128, .f32⟩
  | 53 => ⟨S8x128x128, .f32⟩
  | 54 => ⟨S8x128x128, .f32⟩
  | 55 => ⟨S8x128x128, .f32⟩
  | 56 => ⟨S1x1x8x128x128, .f32⟩
  | 57 => ⟨S2x16x8x128x128, .f32⟩
  | 58 => ⟨S2x16x8x128x128, .f32⟩
  | 59 => ⟨S_, .f32⟩
  | 60 => ⟨S_, .f32⟩
  | 61 => ⟨S2x16x8x128x128, .i1⟩
  | 62 => ⟨S2x16x8x128x128, .f32⟩
  | 63 => ⟨S2x16x8x128x128, .f32⟩
  | 64 => ⟨S_, .f32⟩
  | 65 => ⟨S2x16x8x128x128, .f32⟩
  | 66 => ⟨S_, .f32⟩
  | 67 => ⟨S2x16x8x128, .f32⟩
  | 68 => ⟨S2x16x8x128x1, .f32⟩
  | 69 => ⟨S2x16x8x128x128, .f32⟩
  | 70 => ⟨S2x16x8x128x128, .i1⟩
  | 71 => ⟨S2x16x8x128x128, .f32⟩
  | 72 => ⟨S_, .f32⟩
  | 73 => ⟨S2x16x8x128, .f32⟩
  | 74 => ⟨S2x16x8x128x1, .f32⟩
  | 75 => ⟨S2x16x8x128x128, .f32⟩
  | 76 => ⟨S2x16x8x128x128, .f32⟩
  | 77 => ⟨S2x16x8x128x128, .f32⟩
  | 78 => ⟨S_, .f32⟩
  | 79 => ⟨S2x16x8x128, .f32⟩
  | 80 => ⟨S2x128x16x8x64, .f32⟩
  | 81 => ⟨S2x16x8x128x64, .f32⟩
  | 82 => ⟨S2x16x8x128x64, .f32⟩
  | 83 => ⟨S2x16x8x128x1, .f32⟩
  | 84 => ⟨S2x16x8x128x64, .f32⟩
  | 85 => ⟨S2x16x8x128x64, .f32⟩
  | 86 => ⟨S2x16x8x128x1, .f32⟩
  | 87 => ⟨S_, .f32⟩
  | 88 => ⟨S2x16x8x128x1, .f32⟩
  | 89 => ⟨S2x16x8x128x1, .f32⟩
  | 90 => ⟨S2x16x8x128, .f32⟩
  | 91 => ⟨S2x16x8x128, .f32⟩
  | 92 => ⟨S2x16x8x128, .f32⟩
  | 93 => ⟨S2x128x16x8x64, .f32⟩
  | 94 => ⟨S2x2048x8x64, .f32⟩
  | 95 => ⟨S2x128x16x8, .f32⟩
  | 96 => ⟨S2x2048x8, .f32⟩
  | 97 => ⟨S1x2x2048x8, .f32⟩
  | 98 => ⟨S1x2x2048x8, .f32⟩
  | 99 => ⟨S1x2x2048x8, .f32⟩
  | 100 => ⟨S3x2x2048x8, .f32⟩
  | 101 => ⟨S_, .f32⟩
  | 102 => ⟨S2x2048x8, .f32⟩
  | 103 => ⟨S_, .f32⟩
  | 104 => ⟨S2x2048x8, .f32⟩
  | 105 => ⟨S_, .f32⟩
  | 106 => ⟨S2x2048x8, .f32⟩
  | 107 => ⟨S1x2x2048x8, .f32⟩
  | 108 => ⟨S3x2x2048x8, .f32⟩
  | 109 => ⟨S3x2x2048x8, .i1⟩
  | 110 => ⟨S3x2x2048x8, .f32⟩
  | 111 => ⟨S_, .f32⟩
  | 112 => ⟨S2x2048x8, .f32⟩
  | 113 => ⟨S_, .f32⟩
  | 114 => ⟨S2x2048x8, .f32⟩
  | 115 => ⟨S2x2048x8, .f32⟩
  | 116 => ⟨S_, .f32⟩
  | 117 => ⟨S2x2048x8, .f32⟩
  | 118 => ⟨S2x2048x8, .i1⟩
  | 119 => ⟨S_, .f32⟩
  | 120 => ⟨S2x2048x8, .f32⟩
  | 121 => ⟨S2x2048x8, .i1⟩
  | 122 => ⟨S_, .f32⟩
  | 123 => ⟨S2x2048x8, .f32⟩
  | 124 => ⟨S_, .f32⟩
  | 125 => ⟨S2x2048x8, .f32⟩
  | 126 => ⟨S_, .f32⟩
  | 127 => ⟨S2x2048x8, .f32⟩
  | _ => ⟨S2x2048x8x64, .f32⟩

abbrev hbmTy0_1 (i : Nat) : BufTy := match i % 128 with
  | 0 => ⟨S2x2048x8, .f32⟩
  | 1 => ⟨S2x2048x8, .f32⟩
  | 2 => ⟨S1x2x2048x8, .f32⟩
  | 3 => ⟨S3x2x2048x8, .f32⟩
  | 4 => ⟨S3x2x2048x8, .f32⟩
  | 5 => ⟨S3x2x2048x8, .f32⟩
  | 6 => ⟨S_, .f32⟩
  | 7 => ⟨S2x2048x8, .f32⟩
  | 8 => ⟨S1x2x2048x8, .f32⟩
  | 9 => ⟨S3x2x2048x8, .f32⟩
  | 10 => ⟨S3x2x2048x8, .f32⟩
  | 11 => ⟨S1x2x2048x8, .f32⟩
  | 12 => ⟨S_, .f32⟩
  | 13 => ⟨S1x2x2048x8, .f32⟩
  | 14 => ⟨S1x2x2048x8, .f32⟩
  | 15 => ⟨S3x2x2048x8x1, .f32⟩
  | 16 => ⟨S1x2x2048x8x64, .f32⟩
  | 17 => ⟨S1x2x2048x8x64, .f32⟩
  | 18 => ⟨S1x2x2048x8x64, .f32⟩
  | 19 => ⟨S3x2x2048x8x64, .f32⟩
  | 20 => ⟨S_, .f32⟩
  | 21 => ⟨S2x2048x8x64, .f32⟩
  | 22 => ⟨S_, .f32⟩
  | 23 => ⟨S2x2048x8x64, .f32⟩
  | 24 => ⟨S3x2x2048x8x64, .f32⟩
  | 25 => ⟨S3x2x2048x8x64, .f32⟩
  | 26 => ⟨S_, .f32⟩
  | 27 => ⟨S2x2048x8x64, .f32⟩
  | 28 => ⟨S2x2048x512, .f32⟩
  | 29 => ⟨S2x2048x8x64, .f32⟩
  | 30 => ⟨S3x2x2048x8x64, .f32⟩
  | 31 => ⟨S3x2x2048x8x64, .f32⟩
  | 32 => ⟨S3x2x2048x8x64, .f32⟩
  | 33 => ⟨S3x2x2048x8x64, .f32⟩
  | 34 => ⟨S_, .f32⟩
  | 35 => ⟨S3x2x2048x8, .f32⟩
  | 36 => ⟨S3x2x2048x8x1, .f32⟩
  | 37 => ⟨S1x2x2048x8x64, .f32⟩
  | 38 => ⟨S2x2048x8x64, .f32⟩
  | 39 => ⟨S1x2x2048x8x64, .f32⟩
  | 40 => ⟨S2x2048x8x64, .f32⟩
  | 41 => ⟨S1x2x2048x8x64, .f32⟩
  | 42 => ⟨S2x2048x8x64, .f32⟩
  | 43 => ⟨S_, .f32⟩
  | 44 => ⟨S3x2x2048x8, .f32⟩
  | 45 => ⟨S3x2x2048x8, .f32⟩
  | 46 => ⟨S3x2x2048x8, .f32⟩
  | 47 => ⟨S3x2x2048x8, .f32⟩
  | 48 => ⟨S_, .f32⟩
  | 49 => ⟨S2x2048x8, .f32⟩
  | 50 => ⟨S1x2x2048x8, .f32⟩
  | 51 => ⟨S1x2x2048x8, .f32⟩
  | 52 => ⟨S3x2x2048x8, .f32⟩
  | 53 => ⟨S3x2x2048x8, .f32⟩
  | 54 => ⟨S_, .f32⟩
  | 55 => ⟨S2x2048x8, .f32⟩
  | 56 => ⟨S3x2x2048x8, .f32⟩
  | 57 => ⟨S3x2x2048x8, .f32⟩
  | 58 => ⟨S3x2x2048x8, .f32⟩
  | 59 => ⟨S1x2x2048x8, .f32⟩
  | 60 => ⟨S2x2048x8, .f32⟩
  | 61 => ⟨S1x2x2048x8, .f32⟩
  | 62 => ⟨S2x2048x8, .f32⟩
  | 63 => ⟨S1x2x2048x8, .f32⟩
  | 64 => ⟨S2x2048x8, .f32⟩
  | 65 => ⟨S2x128x16x8, .f32⟩
  | 66 => ⟨S2x16x8x128, .f32⟩
  | 67 => ⟨S2x128x16x8x64, .f32⟩
  | 68 => ⟨S2x16x8x128x64, .f32⟩
  | 69 => ⟨S2x16x8x128, .f32⟩
  | 70 => ⟨S2x16x8x128x1, .f32⟩
  | 71 => ⟨S2x16x8x128x64, .f32⟩
  | 72 => ⟨S2x16x8x128x64, .f32⟩
  | 73 => ⟨S2x16x8x128x64, .f32⟩
  | 74 => ⟨S_, .f32⟩
  | 75 => ⟨S2x16x8x128, .f32⟩
  | 76 => ⟨S2x16x8x128x1, .f32⟩
  | 77 => ⟨S2x16x8x128x1, .f32⟩
  | 78 => ⟨S2x16x8x128x64, .f32⟩
  | 79 => ⟨S2x16x8x128x64, .f32⟩
  | 80 => ⟨S_, .f32⟩
  | 81 => ⟨S2x16x8x128, .f32⟩
  | 82 => ⟨S2x16x8x128, .f32⟩
  | 83 => ⟨S2x16x8x64x128, .f32⟩
  | 84 => ⟨S2x16x8x128x64, .f32⟩
  | 85 => ⟨S2x16x8x128x128, .f32⟩
  | 86 => ⟨S2x128x16x8x64, .f32⟩
  | 87 => ⟨S2x2048x8x64, .f32⟩
  | 88 => ⟨S2x16x8x128x128, .f32⟩
  | 89 => ⟨S2x16x8x128x128, .f32⟩
  | 90 => ⟨S2x16x8x128x128, .f32⟩
  | 91 => ⟨S2x16x8x128x128, .f32⟩
  | 92 => ⟨S_, .f32⟩
  | 93 => ⟨S2x16x8x128, .f32⟩
  | 94 => ⟨S2x16x8x128x1, .f32⟩
  | 95 => ⟨S2x16x8x128x1, .f32⟩
  | 96 => ⟨S_, .f32⟩
  | 97 => ⟨S2x16x8x128, .f32⟩
  | 98 => ⟨S2x16x8x128, .f32⟩
  | 99 => ⟨S2x16x8x128x128, .f32⟩
  | 100 => ⟨S2x16x8x128x128, .f32⟩
  | 101 => ⟨S2x16x8x128x128, .f32⟩
  | 102 => ⟨S_, .f32⟩
  | 103 => ⟨S2x16x8x128x128, .f32⟩
  | 104 => ⟨S2x16x8x128x128, .f32⟩
  | 105 => ⟨S_, .f32⟩
  | 106 => ⟨S2x16x8x128x128, .f32⟩
  | 107 => ⟨S2x16x8x128x128, .f32⟩
  | 108 => ⟨S2x16x8x128x64, .f32⟩
  | 109 => ⟨S2x16x8x128x64, .f32⟩
  | 110 => ⟨S2x128x16x8x64, .f32⟩
  | 111 => ⟨S2x2048x8x64, .f32⟩
  | 112 => ⟨S2x128x16x8x64, .f32⟩
  | 113 => ⟨S2x2048x8x64, .f32⟩
  | 114 => ⟨S2x2048x512, .f32⟩
  | 115 => ⟨S2x128x16x512, .f32⟩
  | 116 => ⟨S2x16x128x512, .f32⟩
  | 117 => ⟨S2x16x128x512, .bf16⟩
  | 118 => ⟨S2x2048x512, .f32⟩
  | 119 => ⟨S2x128x16x512, .f32⟩
  | 120 => ⟨S2x16x128x512, .f32⟩
  | 121 => ⟨S2x16x128x512, .bf16⟩
  | 122 => ⟨S2x2048x512, .f32⟩
  | 123 => ⟨S2x128x16x512, .f32⟩
  | 124 => ⟨S2x16x128x512, .f32⟩
  | 125 => ⟨S2x16x128x512, .bf16⟩
  | _ => ⟨S2x2048x8x64, .f32⟩

abbrev hbmTy (i : Nat) : BufTy := match i / 128 with
  | 0 => hbmTy0_0 i
  | 1 => hbmTy0_1 i
  | _ => ⟨S2x2048x8x64, .f32⟩

abbrev bufTy : (tb : Table) → Fin (tcTables nBuf tb) → BufTy
  | .hbm, ⟨i, _⟩ => hbmTy i
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_cst_3 : Ref sig .tc := ⟨.hbm, 16, rfl⟩
abbrev main_v4 : Ref sig .tc := ⟨.hbm, 17, rfl⟩
abbrev main_cst_4 : Ref sig .tc := ⟨.hbm, 18, rfl⟩
abbrev main_v5 : Ref sig .tc := ⟨.hbm, 19, rfl⟩
abbrev main_cst_5 : Ref sig .tc := ⟨.hbm, 20, rfl⟩
abbrev main_v6 : Ref sig .tc := ⟨.hbm, 21, rfl⟩
abbrev main_cst_6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_7 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_8 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_call0_v0 : Ref sig .tc := ⟨.hbm, 60, rfl⟩
abbrev main_v39_1 : Ref sig .tc := ⟨.hbm, 61, rfl⟩
abbrev main_call0_v2 : Ref sig .tc := ⟨.hbm, 62, rfl⟩
abbrev main_v39_0 : Ref sig .tc := ⟨.hbm, 63, rfl⟩
abbrev main_call0_cst : Ref sig .tc := ⟨.hbm, 64, rfl⟩
abbrev main_v39_2 : Ref sig .tc := ⟨.hbm, 65, rfl⟩
abbrev main_cst_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_14 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_cst_17 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_18 : Ref sig .tc := ⟨.hbm, 111, rfl⟩
abbrev main_v78 : Ref sig .tc := ⟨.hbm, 112, rfl⟩
abbrev main_cst_19 : Ref sig .tc := ⟨.hbm, 113, rfl⟩
abbrev main_v79 : Ref sig .tc := ⟨.hbm, 114, rfl⟩
abbrev main_v80 : Ref sig .tc := ⟨.hbm, 115, rfl⟩
abbrev main_cst_20 : Ref sig .tc := ⟨.hbm, 116, rfl⟩
abbrev main_v81 : Ref sig .tc := ⟨.hbm, 117, rfl⟩
abbrev main_v82 : Ref sig .tc := ⟨.hbm, 118, rfl⟩
abbrev main_cst_21 : Ref sig .tc := ⟨.hbm, 119, rfl⟩
abbrev main_v83 : Ref sig .tc := ⟨.hbm, 120, rfl⟩
abbrev main_v84 : Ref sig .tc := ⟨.hbm, 121, rfl⟩
abbrev main_cst_22 : Ref sig .tc := ⟨.hbm, 122, rfl⟩
abbrev main_v85 : Ref sig .tc := ⟨.hbm, 123, rfl⟩
abbrev main_cst_23 : Ref sig .tc := ⟨.hbm, 124, rfl⟩
abbrev main_v86 : Ref sig .tc := ⟨.hbm, 125, rfl⟩
abbrev main_cst_24 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_25 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_26 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_27 : Ref sig .tc := ⟨.hbm, 148, rfl⟩
abbrev main_v106 : Ref sig .tc := ⟨.hbm, 149, rfl⟩
abbrev main_cst_28 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_29 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_30 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_31 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_32 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_33 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_34 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_35 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_36 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_37 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_call1_cst : Ref sig .tc := ⟨.hbm, 230, rfl⟩
abbrev main_call1_v0 : Ref sig .tc := ⟨.hbm, 231, rfl⟩
abbrev main_v177 : Ref sig .tc := ⟨.hbm, 232, rfl⟩
abbrev main_cst_38 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩

abbrev nD : Nat := 1
abbrev τ : Topo := Topo.v7x

variable {F : FTy → Type} [FloatOps F]
-- ==== KernelIn.lean ====
abbrev S2x2048x1024 : Shape := ⟨3, ![2, 2048, 1024]⟩
abbrev S2x2048x8704 : Shape := ⟨3, ![2, 2048, 8704]⟩
abbrev S4096x1024 : Shape := ⟨2, ![4096, 1024]⟩
abbrev S1024x4096 : Shape := ⟨2, ![1024, 4096]⟩
abbrev S4096x8704 : Shape := ⟨2, ![4096, 8704]⟩
abbrev S4x1024x2176 : Shape := ⟨3, ![4, 1024, 2176]⟩
abbrev S1024x2048 : Shape := ⟨2, ![1024, 2048]⟩
abbrev S2048x2176 : Shape := ⟨2, ![2048, 2176]⟩
abbrev S1x1024x2176 : Shape := ⟨3, ![1, 1024, 2176]⟩
abbrev S1024x2176 : Shape := ⟨2, ![1024, 2176]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x8704, .f32⟩
  | .hbm, ⟨2, _⟩ => ⟨S4096x1024, .f32⟩
  | .hbm, ⟨3, _⟩ => ⟨S1024x4096, .f32⟩
  | .hbm, ⟨4, _⟩ => ⟨S1024x4096, .bf16⟩
  | .hbm, ⟨5, _⟩ => ⟨S4096x8704, .f32⟩
  | .hbm, ⟨6, _⟩ => ⟨S4096x8704, .bf16⟩
  | .hbm, ⟨7, _⟩ => ⟨S4x1024x2176, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2176, .bf16⟩
  | .local _ .vmem, ⟨3, _⟩ => ⟨S2048x2176, .bf16⟩
  | .local _ .vmem, ⟨4, _⟩ => ⟨S1x1024x2176, .bf16⟩
  | .local _ .vmem, ⟨5, _⟩ => ⟨S1x1024x2176, .bf16⟩
  | .local _ .vmem, ⟨6, _⟩ => ⟨S1024x2176, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceInIdeal.lean ====
abbrev S2x2048x1024 : Shape := ⟨3, ![2, 2048, 1024]⟩
abbrev S2x2048x8704 : Shape := ⟨3, ![2, 2048, 8704]⟩
abbrev S_ : Shape := ⟨0, ![]⟩
abbrev S1024x8704 : Shape := ⟨2, ![1024, 8704]⟩
abbrev S8704x1024 : Shape := ⟨2, ![8704, 1024]⟩
abbrev S1024x4x2176 : Shape := ⟨3, ![1024, 4, 2176]⟩
abbrev S4x1024x2176 : Shape := ⟨3, ![4, 1024, 2176]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x8704, .f32⟩
  | .hbm, ⟨2, _⟩ => ⟨S_, .f32⟩
  | .hbm, ⟨3, _⟩ => ⟨S1024x8704, .f32⟩
  | .hbm, ⟨4, _⟩ => ⟨S2x2048x8704, .f32⟩
  | .hbm, ⟨5, _⟩ => ⟨S8704x1024, .f32⟩
  | .hbm, ⟨6, _⟩ => ⟨S1024x8704, .f32⟩
  | .hbm, ⟨7, _⟩ => ⟨S1024x4x2176, .f32⟩
  | .hbm, ⟨8, _⟩ => ⟨S4x1024x2176, .f32⟩
  | .hbm, ⟨9, _⟩ => ⟨S4x1024x2176, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGU.lean ====
abbrev S2x2048x1024 : Shape := ⟨3, ![2, 2048, 1024]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 13
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S4096x1024, .f32⟩
  | .hbm, ⟨4, _⟩ => ⟨S4096x1024, .bf16⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4x704x1024, .bf16⟩
  | .hbm, ⟨12, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S2048x1024, .bf16⟩
  | .local _ .vmem, ⟨5, _⟩ => ⟨S2048x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S704x1024, .f32⟩
  | .local _ .vmem, ⟨11, _⟩ => ⟨S704x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceGUIdeal.lean ====
abbrev S2x2048x1024 : Shape := ⟨3, ![2, 2048, 1024]⟩
abbrev S2x2048x2816 : Shape := ⟨3, ![2, 2048, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S_, .f32⟩
  | .hbm, ⟨4, _⟩ => ⟨S1024x2816, .f32⟩
  | .hbm, ⟨5, _⟩ => ⟨S2x2048x2816, .f32⟩
  | .hbm, ⟨6, _⟩ => ⟨S2x2048x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4x704x1024, .bf16⟩
  | .hbm, ⟨14, _⟩ => ⟨S2816x1024, .f32⟩
  | .hbm, ⟨15, _⟩ => ⟨S4x704x1024, .f32⟩
  | .hbm, ⟨16, _⟩ => ⟨S4x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelDown.lean ====
abbrev S2x2048x2816 : Shape := ⟨3, ![2, 2048, 2816]⟩
abbrev S2x2048x1024 : Shape := ⟨3, ![2, 2048, 1024]⟩
abbrev S4096x4x704 : Shape := ⟨3, ![4096, 4, 704]⟩
abbrev S4x4096x704 : Shape := ⟨3, ![4, 4096, 704]⟩
abbrev S4096x1024 : Shape := ⟨2, ![4096, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4096x1024, .f32⟩
  | .hbm, ⟨6, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownIdeal.lean ====
abbrev S2x2048x2816 : Shape := ⟨3, ![2, 2048, 2816]⟩
abbrev S2x2048x1024 : Shape := ⟨3, ![2, 2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S_, .f32⟩
  | .hbm, ⟨3, _⟩ => ⟨S2816x1024, .f32⟩
  | .hbm, ⟨4, _⟩ => ⟨S2x2048x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelGate.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S4x704x1024 : Shape := ⟨3, ![4, 704, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 15
  | .vmem => 12
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2816x1024, .f32⟩
  | .hbm, ⟨3, _⟩ => ⟨S2x2048x1024, .f32⟩
  | .hbm, ⟨4, _⟩ => ⟨S4x704x1024, .f32⟩
  | .hbm, ⟨5, _⟩ => ⟨S4x704x1024, .bf16⟩
  | .hbm, ⟨6, _⟩ => ⟨S4096x1024, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S4x4096x704, .bf16⟩
  | .hbm, ⟨14, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceGateIdeal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2816x1024, .f32⟩
  | .hbm, ⟨3, _⟩ => ⟨S2x2048x1024, .f32⟩
  | .hbm, ⟨4, _⟩ => ⟨S2x2048x2816, .f32⟩
  | .hbm, ⟨5, _⟩ => ⟨S2x2048x2816, .f32⟩
  | .hbm, ⟨6, _⟩ => ⟨S_, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x1024, .f32⟩
  | .hbm, ⟨19, _⟩ => ⟨S2x2048x2816, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S4096x4x704, .f32⟩
  | .hbm, ⟨27, _⟩ => ⟨S4x4096x704, .f32⟩
  | .hbm, ⟨28, _⟩ => ⟨S4x4096x704, .bf16⟩
  | .hbm, ⟨29, _⟩ => ⟨S4096x4x704, .f32⟩
  | .hbm, ⟨30, _⟩ => ⟨S4x4096x704, .f32⟩
  | .hbm, ⟨31, _⟩ => ⟨S4x4096x704, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== KernelUp.lean ====
abbrev S2x2048x1024 : Shape := ⟨3, ![2, 2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4096x1024 : Shape := ⟨2, ![4096, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 14
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4x704x1024, .f32⟩
  | .hbm, ⟨5, _⟩ => ⟨S4x704x1024, .bf16⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S4096x1024, .f32⟩
  | .hbm, ⟨10, _⟩ => ⟨S4096x1024, .bf16⟩
  | .hbm, ⟨11, _⟩ => ⟨S4x4096x704, .bf16⟩
  | .hbm, ⟨12, _⟩ => ⟨S4x4096x704, .bf16⟩
  | .hbm, ⟨13, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUpIdeal.lean ====
abbrev S2x2048x1024 : Shape := ⟨3, ![2, 2048, 1024]⟩
abbrev S1024x2816 : Shape := ⟨2, ![1024, 2816]⟩
abbrev S2x2048x2816 : Shape := ⟨3, ![2, 2048, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S_, .f32⟩
  | .hbm, ⟨8, _⟩ => ⟨S2x2048x2816, .f32⟩
  | .hbm, ⟨9, _⟩ => ⟨S2x2048x2816, .f32⟩
  | .hbm, ⟨10, _⟩ => ⟨S_, .f32⟩
  | .hbm, ⟨11, _⟩ => ⟨S2x2048x2816, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x4x704, .f32⟩
  | .hbm, ⟨19, _⟩ => ⟨S4x4096x704, .f32⟩
  | .hbm, ⟨20, _⟩ => ⟨S4x4096x704, .bf16⟩
  | .hbm, ⟨21, _⟩ => ⟨S4096x4x704, .f32⟩
  | .hbm, ⟨22, _⟩ => ⟨S4x4096x704, .f32⟩
  | .hbm, ⟨23, _⟩ => ⟨S4x4096x704, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== KernelMerged.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceMergedIdeal.lean ====
abbrev S2x2048x1024 : Shape := ⟨3, ![2, 2048, 1024]⟩
abbrev S1024x1024 : Shape := ⟨2, ![1024, 1024]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S_, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S4096x1024, .f32⟩
  | .hbm, ⟨7, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelO.lean ====
abbrev S2x2048x1024 : Shape := ⟨3, ![2, 2048, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceOIdeal.lean ====
abbrev S2x2048x1024 : Shape := ⟨3, ![2, 2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S_, .f32⟩
  | .hbm, ⟨3, _⟩ => ⟨S1024x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAO.lean ====
abbrev S2x2048x512 : Shape := ⟨3, ![2, 2048, 512]⟩
abbrev S2x2048x1024 : Shape := ⟨3, ![2, 2048, 1024]⟩
abbrev S4096x512 : Shape := ⟨2, ![4096, 512]⟩
abbrev S4096x1024 : Shape := ⟨2, ![4096, 1024]⟩
abbrev S4x512x256 : Shape := ⟨3, ![4, 512, 256]⟩
abbrev S1024x512 : Shape := ⟨2, ![1024, 512]⟩
abbrev S1024x1024 : Shape := ⟨2, ![1024, 1024]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x512, .f32⟩
  | .hbm, ⟨1, _⟩ => ⟨S2x2048x1024, .f32⟩
  | .hbm, ⟨2, _⟩ => ⟨S4096x512, .f32⟩
  | .hbm, ⟨3, _⟩ => ⟨S4096x512, .bf16⟩
  | .hbm, ⟨4, _⟩ => ⟨S4096x1024, .f32⟩
  | .hbm, ⟨5, _⟩ => ⟨S4096x1024, .bf16⟩
  | .hbm, ⟨6, _⟩ => ⟨S4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x256, .bf16⟩
  | .local _ .vmem, ⟨5, _⟩ => ⟨S512x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceAOIdeal.lean ====
abbrev S2x2048x512 : Shape := ⟨3, ![2, 2048, 512]⟩
abbrev S2x2048x1024 : Shape := ⟨3, ![2, 2048, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x1024, .f32⟩
  | .hbm, ⟨2, _⟩ => ⟨S_, .f32⟩
  | .hbm, ⟨3, _⟩ => ⟨S512x1024, .f32⟩
  | .hbm, ⟨4, _⟩ => ⟨S2x2048x1024, .f32⟩
  | .hbm, ⟨5, _⟩ => ⟨S1024x512, .f32⟩
  | .hbm, ⟨6, _⟩ => ⟨S512x1024, .f32⟩
  | .hbm, ⟨7, _⟩ => ⟨S512x4x256, .f32⟩
  | .hbm, ⟨8, _⟩ => ⟨S4x512x256, .f32⟩
  | .hbm, ⟨9, _⟩ => ⟨S4x512x256, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelCO.lean ====
abbrev S2x2048x1024 : Shape := ⟨3, ![2, 2048, 1024]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceCOIdeal.lean ====
abbrev S2x2048x1024 : Shape := ⟨3, ![2, 2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S_, .f32⟩
  | .hbm, ⟨3, _⟩ => ⟨S1024x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelYA.lean ====
abbrev S2x2048x512 : Shape := ⟨3, ![2, 2048, 512]⟩
abbrev S512x1024 : Shape := ⟨2, ![512, 1024]⟩
abbrev S512x4x256 : Shape := ⟨3, ![512, 4, 256]⟩
abbrev S4x512x256 : Shape := ⟨3, ![4, 512, 256]⟩
abbrev S4096x512 : Shape := ⟨2, ![4096, 512]⟩
abbrev S4096x1024 : Shape := ⟨2, ![4096, 1024]⟩
abbrev S1024x512 : Shape := ⟨2, ![1024, 512]⟩
abbrev S1024x1024 : Shape := ⟨2, ![1024, 1024]⟩
abbrev S1x512x256 : Shape := ⟨3, ![1, 512, 256]⟩
abbrev S512x256 : Shape := ⟨2, ![512, 256]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x512, .f32⟩
  | .hbm, ⟨1, _⟩ => ⟨S512x1024, .f32⟩
  | .hbm, ⟨2, _⟩ => ⟨S512x4x256, .f32⟩
  | .hbm, ⟨3, _⟩ => ⟨S4x512x256, .f32⟩
  | .hbm, ⟨4, _⟩ => ⟨S4x512x256, .bf16⟩
  | .hbm, ⟨5, _⟩ => ⟨S4096x512, .f32⟩
  | .hbm, ⟨6, _⟩ => ⟨S4096x512, .bf16⟩
  | .hbm, ⟨7, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S4x512x256, .bf16⟩
  | .local _ .vmem, ⟨3, _⟩ => ⟨S1024x1024, .bf16⟩
  | .local _ .vmem, ⟨4, _⟩ => ⟨S1024x1024, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceYAIdeal.lean ====
abbrev S2x2048x512 : Shape := ⟨3, ![2, 2048, 512]⟩
abbrev S512x1024 : Shape := ⟨2, ![512, 1024]⟩
abbrev S2x2048x1024 : Shape := ⟨3, ![2, 2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMix.lean ====
abbrev S2x2048x8704 : Shape := ⟨3, ![2, 2048, 8704]⟩
abbrev S2048 : Shape := ⟨1, ![2048]⟩
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S4096x8704 : Shape := ⟨2, ![4096, 8704]⟩
abbrev S1x2048 : Shape := ⟨2, ![1, 2048]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S2x2048x8704, .f32⟩
  | .hbm, ⟨1, _⟩ => ⟨S2048, .f32⟩
  | .hbm, ⟨2, _⟩ => ⟨S2x2048x1024, .f32⟩
  | .hbm, ⟨3, _⟩ => ⟨S2x2048x1024, .f32⟩
  | .hbm, ⟨4, _⟩ => ⟨S1024x1024, .f32⟩
  | .hbm, ⟨5, _⟩ => ⟨S2x2048x1024, .f32⟩
  | .hbm, ⟨6, _⟩ => ⟨S1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x8704, .f32⟩
  | .hbm, ⟨12, _⟩ => ⟨S4096x8704, .bf16⟩
  | .hbm, ⟨13, _⟩ => ⟨S1x2048, .f32⟩
  | .hbm, ⟨14, _⟩ => ⟨S1024x1024, .bf16⟩
  | .hbm, ⟨15, _⟩ => ⟨S4096x1024, .f32⟩
  | .hbm, ⟨16, _⟩ => ⟨S1x1024, .f32⟩
  | .hbm, ⟨17, _⟩ => ⟨S4096x1024, .bf16⟩
  | .hbm, ⟨18, _⟩ => ⟨S4096x1024, .f32⟩
  | .hbm, ⟨19, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S2x2048x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMixIdeal.lean ====
abbrev S2x2048x8704 : Shape := ⟨3, ![2, 2048, 8704]⟩
abbrev S2048 : Shape := ⟨1, ![2048]⟩
abbrev S2x2048x1024 : Shape := ⟨3, ![2, 2048, 1024]⟩
abbrev S1024x1024 : Shape := ⟨2, ![1024, 1024]⟩
abbrev S1024 : Shape := ⟨1, ![1024]⟩
abbrev S2x2048x2048 : Shape := ⟨3, ![2, 2048, 2048]⟩
abbrev S1x1x2048 : Shape := ⟨3, ![1, 1, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x8704, .f32⟩
  | .hbm, ⟨1, _⟩ => ⟨S2048, .f32⟩
  | .hbm, ⟨2, _⟩ => ⟨S2x2048x1024, .f32⟩
  | .hbm, ⟨3, _⟩ => ⟨S2x2048x1024, .f32⟩
  | .hbm, ⟨4, _⟩ => ⟨S1024x1024, .f32⟩
  | .hbm, ⟨5, _⟩ => ⟨S2x2048x1024, .f32⟩
  | .hbm, ⟨6, _⟩ => ⟨S1024, .f32⟩
  | .hbm, ⟨7, _⟩ => ⟨S2x2048x2048, .f32⟩
  | .hbm, ⟨8, _⟩ => ⟨S1x1x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .hbm, ⟨12, _⟩ => ⟨S2x2048x2048, .f32⟩
  | .hbm, ⟨13, _⟩ => ⟨S_, .f32⟩
  | .hbm, ⟨14, _⟩ => ⟨S2x2048x2048, .f32⟩
  | .hbm, ⟨15, _⟩ => ⟨S2x2048x2048, .f32⟩
  | .hbm, ⟨16, _⟩ => ⟨S_, .f32⟩
  | .hbm, ⟨17, _⟩ => ⟨S2x2048x2048, .f32⟩
  | .hbm, ⟨18, _⟩ => ⟨S2x2048x2048, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S_, .f32⟩
  | .hbm, ⟨34, _⟩ => ⟨S2x2048x1, .f32⟩
  | .hbm, ⟨35, _⟩ => ⟨S2x2048x1, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S4096x1024, .bf16⟩
  | _, _ => ⟨S2x2048x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelMB.lean ====
abbrev S2x2048x1024 : Shape := ⟨3, ![2, 2048, 1024]⟩
abbrev S2x2048x8704 : Shape := ⟨3, ![2, 2048, 8704]⟩
abbrev S2048 : Shape := ⟨1, ![2048]⟩
abbrev S4096x1024 : Shape := ⟨2, ![4096, 1024]⟩
abbrev S4096x8704 : Shape := ⟨2, ![4096, 8704]⟩
abbrev S1x2048 : Shape := ⟨2, ![1, 2048]⟩
abbrev S1x1024 : Shape := ⟨2, ![1, 1024]⟩
abbrev S1024x512 : Shape := ⟨2, ![1024, 512]⟩
abbrev S1x512 : Shape := ⟨2, ![1, 512]⟩
abbrev S512 : Shape := ⟨1, ![512]⟩

abbrev nBuf : Space → Nat
  | .hbm => 20
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2x2048x8704, .f32⟩
  | .hbm, ⟨2, _⟩ => ⟨S2048, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x8704, .f32⟩
  | .hbm, ⟨12, _⟩ => ⟨S4096x8704, .bf16⟩
  | .hbm, ⟨13, _⟩ => ⟨S1x2048, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S1x1024, .f32⟩
  | .hbm, ⟨19, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev main_v9_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v61 : BitVec 1 := Scalar.cmpi .eq arg1 c0_i32
  let v62 : BitVec 32 := Scalar.extui v61
  let c0_i32_30 : BitVec 32 := 0#32
  let v63 : BitVec 1 := Scalar.cmpi .ne v62 c0_i32_30
  v63

def k0_cond2 (i : grid0.Coords) : BitVec 1 :=
  let arg1 : BitVec 32 := BitVec.ofNat 32 (i 1).val
  let c0_i32_31 : BitVec 32 := 0#32
  let v64 : BitVec 1 := Scalar.cmpi .sgt arg1 c0_i32_31
  let v65 : BitVec 32 := Scalar.extui v64
  let c0_i32_32 : BitVec 32 := 0#32
  let v66 : BitVec 1 := Scalar.cmpi .ne v65 c0_i32_32
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceMBIdeal.lean ====
abbrev S2x2048x1024 : Shape := ⟨3, ![2, 2048, 1024]⟩
abbrev S2x2048x8704 : Shape := ⟨3, ![2, 2048, 8704]⟩
abbrev S2048 : Shape := ⟨1, ![2048]⟩
abbrev S2x2048x2048 : Shape := ⟨3, ![2, 2048, 2048]⟩
abbrev S1x1x2048 : Shape := ⟨3, ![1, 1, 2048]⟩
abbrev S_ : Shape := ⟨0, ![]⟩
abbrev S4096x1024 : Shape := ⟨2, ![4096, 1024]⟩
abbrev S1x2048 : Shape := ⟨2, ![1, 2048]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x8704, .f32⟩
  | .hbm, ⟨2, _⟩ => ⟨S2048, .f32⟩
  | .hbm, ⟨3, _⟩ => ⟨S2x2048x1024, .f32⟩
  | .hbm, ⟨4, _⟩ => ⟨S2x2048x1024, .f32⟩
  | .hbm, ⟨5, _⟩ => ⟨S2x2048x2048, .f32⟩
  | .hbm, ⟨6, _⟩ => ⟨S1x1x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S_, .f32⟩
  | .hbm, ⟨15, _⟩ => ⟨S2x2048x2048, .f32⟩
  | .hbm, ⟨16, _⟩ => ⟨S2x2048x2048, .f32⟩
  | .hbm, ⟨17, _⟩ => ⟨S_, .f32⟩
  | .hbm, ⟨18, _⟩ => ⟨S2x2048x2048, .f32⟩
  | .hbm, ⟨19, _⟩ => ⟨S2x2048x2048, .f32⟩
  | .hbm, ⟨20, _⟩ => ⟨S2x2048x2048, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2048, .f32⟩
  | .hbm, ⟨36, _⟩ => ⟨S1x1x2048, .f32⟩
  | .hbm, ⟨37, _⟩ => ⟨S_, .f32⟩
  | .hbm, ⟨38, _⟩ => ⟨S2048, .f32⟩
  | .hbm, ⟨39, _⟩ => ⟨S2x2048x1024, .f32⟩
  | .hbm, ⟨40, _⟩ => ⟨S2x2048x1024, .f32⟩
  | .hbm, ⟨41, _⟩ => ⟨S4096x1024, .f32⟩
  | .hbm, ⟨42, _⟩ => ⟨S4096x1024, .bf16⟩
  | .hbm, ⟨43, _⟩ => ⟨S4096x1024, .f32⟩
  | .hbm, ⟨44, _⟩ => ⟨S4096x1024, .bf16⟩
  | .hbm, ⟨45, _⟩ => ⟨S4096x1024, .f32⟩
  | .hbm, ⟨46, _⟩ => ⟨S4096x1024, .bf16⟩
  | .hbm, ⟨47, _⟩ => ⟨S4096x1024, .f32⟩
  | .hbm, ⟨48, _⟩ => ⟨S4096x1024, .bf16⟩
  | .hbm, ⟨49, _⟩ => ⟨S1x2048, .f32⟩
  | .hbm, ⟨50, _⟩ => ⟨S1x1024, .f32⟩
  | .hbm, ⟨51, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Proof.Host.lean ====
/- The operations before the kernel's region: what they leave in the six arrays the region reads. The head's softmax is
   the same computation the reference makes, so its stages are named by the reference's. -/
module

public import proofs.«01_k».proof.Proof.Gen.KernelIdeal.Frame
public import proofs.«01_k».proof.Proof.Gen.ReferenceIdeal.Read
public import Idealize.ShloMosaic.Lib.StableHlo.RunRead
public import Idealize.ShloMosaic.Lib.Pipeline.Frame

@[expose] public section

noncomputable section

namespace Cert.Attn

open Idealize.ShloMosaic Idealize.ShloMosaic.StableHlo Cert.KernelIdeal Cert.KernelIdeal.Gen
open Cert.ReferenceIdeal.Read (val_main_v38 val_main_v20 val_main_v39_0 val_main_v64 val_main_v66)

variable {F : FTy → Type} [FloatOps F] [Named F]

/-! ## The mix of the three groups, as the host makes it -/

/-- One number for each row, position and head. -/
abbrev Row (F : FTy → Type) := (⟨S2x2048x8, .f32⟩ : BufTy).Contents (Elt F)

/-- The same for each lane. -/
abbrev Rows (F : FTy → Type) := (⟨S2x2048x8x64, .f32⟩ : BufTy).Contents (Elt F)

/-- All heads' lanes side by side. -/
abbrev Wide (F : FTy → Type) := (⟨S2x2048x512, .f32⟩ : BufTy).Contents (Elt F)

/-- The greatest of three log-sums. -/
def most (a b c : Row F) : Row F := maximumf (maximumf a b) c

/-- The exponential of a log-sum, less the greatest. -/
def weight (a m : Row F) : Row F := Host.exp (subf a m)

/-- The weights' total. -/
def total (a b c : Row F) : Row F := addf (addf (weight a (most a b c)) (weight b (most a b c))) (weight c (most a b c))

/-- The log-sum of all three groups. -/
def logTotal (a b c : Row F) : Row F := addf (most a b c) (Host.log (total a b c))

/-- One group's part of the mixed output. -/
def share (x a b c : Row F) (y : Rows F) : Rows F :=
  mulf (broadcastInDim S2x2048x8x64 ![0, 1, 2, 3] bcast_S2x2048x8x1_S2x2048x8x64_0_1_2_3
    (broadcastInDim S2x2048x8x1 ![0, 1, 2] bcast_S2x2048x8_S2x2048x8x1_0_1_2 (Host.divf (weight x (most a b c)) (total a b c)))) y

/-- The mixed output. -/
def mixed (a b c : Row F) (x y z : Rows F) : Rows F := addf (addf (share a a b c x) (share b a b c y)) (share c a b c z)

/-- The cotangent against an output. -/
def against (g : Wide F) (y : Rows F) : Row F :=
  Host.reduceAdd (mulf (shapeCast S2x2048x8x64 g shapeCasts_S2x2048x512_S2x2048x8x64) y) (constant S_ .f32 0x00000000#32)
    reducesTo_S2x2048x8x64_S2x2048x8_d3 h_S_

/-! ## The layouts of the region's arrays -/

/-- All heads' lanes, residue class by residue class. -/
def byClass (x : Wide F) : (⟨S2x16x128x512, .bf16⟩ : BufTy).Contents (Elt F) :=
  truncf .bf16 (transpose S2x16x128x512 [0, 2, 1, 3] (shapeCast S2x128x16x512 x shapeCasts_S2x2048x512_S2x128x16x512)
    transposes_S2x128x16x512_S2x16x128x512_0_2_1_3) bitsLt_bf16_f32

/-- The heads side by side. -/
def together (x : Rows F) : Wide F := shapeCast S2x2048x512 x shapeCasts_S2x2048x8x64_S2x2048x512

/-- One number per head, widened to a full row of lanes, residue class by residue class. -/
def padded (x : Row F) (z : (⟨S_, .f32⟩ : BufTy).Contents (Elt F)) : (⟨S2x16x128x128, .f32⟩ : BufTy).Contents (Elt F) :=
  transpose S2x16x128x128 [0, 2, 1, 3] (shapeCast S2x128x16x128 (pad S2x2048x128 ![0, 0, 0] ![0, 0, 120] ![0, 0, 0] x z
    pads_S2x2048x8_S2x2048x128_000_000_01200 h_S_) shapeCasts_S2x2048x128_S2x128x16x128)
    transposes_S2x128x16x128_S2x16x128x128_0_2_1_3

/-! ## The three stretches of operations -/

section Stretches

variable (X : Valuation τ sig (Elt F))

/-- The scores, the causal mask and its filling. -/
theorem scores :
    after hostOps0 X (Proc.devRef .tc main_v46) = val_main_v38 (F := F) (X (Proc.devRef .tc main_arg0)) (X (Proc.devRef .tc main_arg1)) ∧
    after hostOps0 X (Proc.devRef .tc main_v28) = val_main_v20 (F := F) ∧
    after hostOps0 X (Proc.devRef .tc main_cst_10) = constant S_ .f32 0xFF800000#32 := by
  refine ⟨?_, ?_, ?_⟩
  all_goals after_reads_simp
  all_goals rfl

/-- The arguments stay as they were. -/
theorem unchanged (r : Ref sig .tc) (hr : r ∈ [main_arg0, main_arg1, main_arg2, main_arg3, main_arg4, main_arg5, main_arg6, main_arg7]) :
    after hostOps0_1 (after hostOps0 X) (Proc.devRef .tc r) = X (Proc.devRef .tc r) := by
  fin_cases hr
  all_goals after_reads_simp

/-- The masked scores. -/
theorem masked : after hostOps0_1 (after hostOps0 X) (Proc.devRef .tc main_v47) =
    val_main_v39_0 (F := F) (X (Proc.devRef .tc main_arg0)) (X (Proc.devRef .tc main_arg1)) := by
  have hs := scores X
  generalize after hostOps0 X = Y at hs ⊢
  after_reads_simp
  rw [hs.1, hs.2.1, hs.2.2]
  rfl

variable (hx : X (Proc.devRef .tc main_v47) = val_main_v39_0 (F := F) (X (Proc.devRef .tc main_arg0)) (X (Proc.devRef .tc main_arg1)))

include hx in
theorem logs : after hostOps0_2 X (Proc.devRef .tc main_v78) =
    logTotal (X (Proc.devRef .tc main_arg5)) (X (Proc.devRef .tc main_arg6))
      (val_main_v66 (F := F) (X (Proc.devRef .tc main_arg0)) (X (Proc.devRef .tc main_arg1))) := by
  after_reads_simp
  rw [hx]
  rfl

include hx in
theorem deltas : after hostOps0_2 X (Proc.devRef .tc main_v95) =
    against (X (Proc.devRef .tc main_arg7)) (mixed (X (Proc.devRef .tc main_arg5)) (X (Proc.devRef .tc main_arg6))
      (val_main_v66 (F := F) (X (Proc.devRef .tc main_arg0)) (X (Proc.devRef .tc main_arg1)))
      (X (Proc.devRef .tc main_arg3)) (X (Proc.devRef .tc main_arg4))
      (val_main_v64 (F := F) (X (Proc.devRef .tc main_arg0)) (X (Proc.devRef .tc main_arg1)) (X (Proc.devRef .tc main_arg2)))) := by
  after_reads_simp
  rw [hx]
  rfl

/-- The queries and keys, which the first stretch lays out and the next two leave alone. -/
theorem inputs1 :
    after hostOps0_2 (after hostOps0_1 (after hostOps0 X)) (Proc.devRef .tc main_v3) = byClass (together (X (Proc.devRef .tc main_arg0))) ∧
    after hostOps0_2 (after hostOps0_1 (after hostOps0 X)) (Proc.devRef .tc main_v7) = byClass (together (X (Proc.devRef .tc main_arg1))) := by
  refine ⟨?_, ?_⟩
  all_goals after_reads_simp
  all_goals rfl

theorem inputs2 :
    after hostOps0_2 X (Proc.devRef .tc main_v99) = byClass (together (X (Proc.devRef .tc main_arg2))) ∧
    after hostOps0_2 X (Proc.devRef .tc main_v102) = byClass (X (Proc.devRef .tc main_arg7)) := by
  refine ⟨?_, ?_⟩
  all_goals after_reads_simp
  all_goals rfl

theorem rest :
    (∃ z, after hostOps0_6 (after hostOps0_5 (after hostOps0_4 (after hostOps0_3 X))) (Proc.devRef .tc main_v105) =
      padded (X (Proc.devRef .tc main_v78)) z) ∧
    ∃ z, after hostOps0_6 (after hostOps0_5 (after hostOps0_4 (after hostOps0_3 X))) (Proc.devRef .tc main_v108) =
      padded (X (Proc.devRef .tc main_v95)) z := by
  refine ⟨⟨sitofp .f32 (X (Proc.devRef .tc main_c_14)), ?_⟩, sitofp .f32 (constantI S_ 32 0#32), ?_⟩
  all_goals after_reads_simp
  all_goals rfl

theorem rest_unchanged (r : Ref sig .tc) (hr : r ∈ [main_v3, main_v7, main_v99, main_v102]) :
    after hostOps0_6 (after hostOps0_5 (after hostOps0_4 (after hostOps0_3 X))) (Proc.devRef .tc r) = X (Proc.devRef .tc r) := by
  fin_cases hr
  all_goals after_reads_simp

end Stretches

/-! ## The region's arrays -/

section Arrays

variable (m : (ℓ : Loc nD τ sig) → Buf (Elt F) ℓ) (c : Dev nD)

/-- The operations one stretch after another. -/
theorem V_eq (r : Ref sig .tc) : V m c r = after hostOps0_6 (after hostOps0_5 (after hostOps0_4 (after hostOps0_3 (after hostOps0_2
    (after hostOps0_1 (after hostOps0 (fun b => m (c, b)))))))) (Proc.devRef .tc r) := by
  unfold V
  simp only [List.flatten_cons, List.flatten_nil, List.append_nil, after_append]

theorem V_q : V m c main_v3 = byClass (together (m ((c.tc : Thread nD τ).loc main_arg0))) := by
  rw [V_eq, rest_unchanged _ _ (by simp), (inputs1 _).1]

theorem V_k : V m c main_v7 = byClass (together (m ((c.tc : Thread nD τ).loc main_arg1))) := by
  rw [V_eq, rest_unchanged _ _ (by simp), (inputs1 _).2]

theorem V_v : V m c main_v99 = byClass (together (m ((c.tc : Thread nD τ).loc main_arg2))) := by
  rw [V_eq, rest_unchanged _ _ (by simp), (inputs2 _).1, unchanged _ _ (by simp)]

theorem V_g : V m c main_v102 = byClass (m ((c.tc : Thread nD τ).loc main_arg7)) := by
  rw [V_eq, rest_unchanged _ _ (by simp), (inputs2 _).2, unchanged _ _ (by simp)]

/-- The arguments at the entry of the last long stretch, and the masked scores there. -/
theorem entry (Y : Valuation τ sig (Elt F)) (hY : Y = after hostOps0_1 (after hostOps0 (fun b => m (c, b)))) :
    Y (Proc.devRef .tc main_v47) = val_main_v39_0 (F := F) (Y (Proc.devRef .tc main_arg0)) (Y (Proc.devRef .tc main_arg1)) := by
  subst hY
  rw [masked, unchanged _ main_arg0 (by simp), unchanged _ main_arg1 (by simp)]

theorem V_lse : ∃ z, V m c main_v105 = padded (logTotal (m ((c.tc : Thread nD τ).loc main_arg5)) (m ((c.tc : Thread nD τ).loc main_arg6))
    (val_main_v66 (F := F) (m ((c.tc : Thread nD τ).loc main_arg0)) (m ((c.tc : Thread nD τ).loc main_arg1)))) z := by
  obtain ⟨z, hz⟩ := (rest (StableHlo.after hostOps0_2 (after hostOps0_1 (after hostOps0 (fun b => m (c, b)))))).1
  refine ⟨z, ?_⟩
  rw [V_eq, hz, logs _ (entry m c _ rfl), unchanged _ main_arg0 (by simp), unchanged _ main_arg1 (by simp), unchanged _ main_arg5 (by simp),
    unchanged _ main_arg6 (by simp)]

theorem V_delta : ∃ z, V m c main_v108 = padded (against (m ((c.tc : Thread nD τ).loc main_arg7))
    (mixed (m ((c.tc : Thread nD τ).loc main_arg5)) (m ((c.tc : Thread nD τ).loc main_arg6))
      (val_main_v66 (F := F) (m ((c.tc : Thread nD τ).loc main_arg0)) (m ((c.tc : Thread nD τ).loc main_arg1)))
      (m ((c.tc : Thread nD τ).loc main_arg3)) (m ((c.tc : Thread nD τ).loc main_arg4))
      (val_main_v64 (F := F) (m ((c.tc : Thread nD τ).loc main_arg0)) (m ((c.tc : Thread nD τ).loc main_arg1))
        (m ((c.tc : Thread nD τ).loc main_arg2))))) z := by
  obtain ⟨z, hz⟩ := (rest (StableHlo.after hostOps0_2 (after hostOps0_1 (after hostOps0 (fun b => m (c, b)))))).2
  refine ⟨z, ?_⟩
  rw [V_eq, hz, deltas _ (entry m c _ rfl), unchanged _ main_arg0 (by simp), unchanged _ main_arg1 (by simp), unchanged _ main_arg2 (by simp),
    unchanged _ main_arg3 (by simp), unchanged _ main_arg4 (by simp), unchanged _ main_arg5 (by simp), unchanged _ main_arg6 (by simp), unchanged _ main_arg7 (by simp)]

end Arrays

end Cert.Attn

end

end
-- ==== Proof.Head.lean ====
/- The mathematics of one head of one residue class: attention over 128 positions with a causal mask and a linear
   penalty on distance, mixed with two other groups by the weights of a softmax over the groups, and its gradients.
   Real numbers only; no program is named here. -/
module

public import Mathlib.Analysis.SpecialFunctions.Log.Basic
public import Mathlib.Data.EReal.Operations
public import Mathlib.Algebra.BigOperators.Field
public import Mathlib.Algebra.BigOperators.Fin
public import Mathlib.Tactic.Ring

@[expose] public section

noncomputable section

namespace Cert.Attn

/-- What one head of one residue class is given: its queries, keys and values, the cotangent of the mixed output, the
    outputs and log-sum-exps of the two other groups, and the slope of the distance penalty. -/
structure Head where
  q : Fin 128 → Fin 64 → ℝ
  k : Fin 128 → Fin 64 → ℝ
  v : Fin 128 → Fin 64 → ℝ
  g : Fin 128 → Fin 64 → ℝ
  a0 : Fin 128 → Fin 64 → ℝ
  a1 : Fin 128 → Fin 64 → ℝ
  l0 : Fin 128 → ℝ
  l1 : Fin 128 → ℝ
  sl : ℝ

namespace Head

variable (H : Head)

/-- The score of key `j` for query `i`. -/
def sc (i j : Fin 128) : ℝ := (∑ d, H.q i d * H.k j d) * (1 / 8) - H.sl * (((i.val : ℝ) - (j.val : ℝ)) * 16)

/-- The exponential of the score under the causal mask. -/
def E (i j : Fin 128) : ℝ := if j ≤ i then Real.exp (H.sc i j) else 0

/-- The row sum of the exponentials. -/
def Z (i : Fin 128) : ℝ := ∑ j, H.E i j

/-- The unnormalised output. -/
def N (i : Fin 128) (d : Fin 64) : ℝ := ∑ j, H.E i j * H.v j d

/-- The three groups' total weight. -/
def W (i : Fin 128) : ℝ := Real.exp (H.l0 i) + Real.exp (H.l1 i) + H.Z i

/-- The cotangent against the value of key `j`. -/
def gv (i j : Fin 128) : ℝ := ∑ d, H.g i d * H.v j d

/-- The cotangent against the mixed output. -/
def del (i : Fin 128) : ℝ :=
  ∑ d, H.g i d * ((Real.exp (H.l0 i) * H.a0 i d + Real.exp (H.l1 i) * H.a1 i d + H.N i d) / H.W i)

/-- The mixed probability of key `j`. -/
def P (i j : Fin 128) : ℝ := H.E i j / H.W i

/-- The gradient of the score. -/
def dS (i j : Fin 128) : ℝ := H.P i j * (H.gv i j - H.del i)

/-- The gradient of the query. -/
def dq (i : Fin 128) (d : Fin 64) : ℝ := (∑ j, H.dS i j * H.k j d) * (1 / 8)

/-- The gradient of the key. -/
def dk (j : Fin 128) (d : Fin 64) : ℝ := (∑ i, H.dS i j * H.q i d) * (1 / 8)

/-- The gradient of the value. -/
def dv (j : Fin 128) (d : Fin 64) : ℝ := ∑ i, H.P i j * H.g i d

theorem E_nonneg (i j : Fin 128) : 0 ≤ H.E i j := by
  unfold E; split
  · exact (Real.exp_pos _).le
  · exact le_rfl

theorem Z_pos (i : Fin 128) : 0 < H.Z i := by
  refine Finset.sum_pos' (fun j _ => H.E_nonneg i j) ⟨i, Finset.mem_univ _, ?_⟩
  unfold E; rw [if_pos le_rfl]; exact Real.exp_pos _

theorem W_pos (i : Fin 128) : 0 < H.W i :=
  add_pos (add_pos (Real.exp_pos _) (Real.exp_pos _)) (H.Z_pos i)

/-- The cotangent against this group's own output, before normalising. -/
theorem sum_E_gv (i : Fin 128) : ∑ j, H.E i j * H.gv i j = ∑ d, H.g i d * H.N i d := by
  simp only [gv, N, Finset.mul_sum]
  rw [Finset.sum_comm]
  exact Finset.sum_congr rfl fun d _ => Finset.sum_congr rfl fun j _ => by ring

/-- The row sum of the scores' gradient: what reaches the row's log-sum-exp. -/
theorem sum_dS (i : Fin 128) :
    ∑ j, H.dS i j = ((∑ d, H.g i d * H.N i d) - H.Z i * H.del i) / H.W i := by
  simp only [dS, P, mul_sub, Finset.sum_sub_distrib]
  rw [sub_div]
  congr 1
  · rw [← H.sum_E_gv i, Finset.sum_div]
    exact Finset.sum_congr rfl fun j _ => by ring
  · rw [Z, Finset.sum_mul, Finset.sum_div]
    exact Finset.sum_congr rfl fun j _ => by ring

/-- The cotangent against the mixed output, the three groups apart. -/
theorem del_eq (i : Fin 128) :
    H.del i = (Real.exp (H.l0 i) * (∑ d, H.g i d * H.a0 i d) + Real.exp (H.l1 i) * (∑ d, H.g i d * H.a1 i d)
      + ∑ d, H.g i d * H.N i d) / H.W i := by
  unfold del
  simp only [Finset.mul_sum]
  rw [← Finset.sum_add_distrib, ← Finset.sum_add_distrib, Finset.sum_div]
  exact Finset.sum_congr rfl fun d _ => by ring

end Head

/-! ## Sums over the two blocks of keys -/

/-- A sum over 256 keys is the sum over the first 128 and the sum over the last 128. -/
theorem sum_256 {M : Type} [AddCommMonoid M] (f : Fin 256 → M) :
    ∑ x, f x = (∑ j : Fin 128, f ⟨j.val, by omega⟩) + ∑ j : Fin 128, f ⟨128 + j.val, by omega⟩ := by
  exact Fin.sum_univ_add (a := 128) (b := 128) f

/-- A sum of real numbers taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Attn

end

end
-- ==== Proof.Layout.lean ====
/- The arguments both programs are given, read as numbers, and the few layouts and operations through which they pass. -/
module

public import proofs.«01_k».proof.Proof.Head
public import Idealize.ShloMosaic.Lib.Pointwise
public import Idealize.ShloMosaic.Lib.Pipeline.Value

@[expose] public section

noncomputable section

namespace Cert.Attn

open Idealize.ShloMosaic

/-- Position `i` of residue class `r` in the sequence. -/
def tok (i : Fin 128) (r : Fin 16) : Fin 2048 := ⟨i.val * 16 + r.val, by omega⟩

/-- Lane `d` of head `h` among all heads' lanes. -/
def wide (h : Fin 8) (d : Fin 64) : Fin 512 := ⟨h.val * 64 + d.val, by omega⟩

/-- The slopes of the eight heads' distance penalties, as single-precision words. -/
def slopeWord : Fin 8 → BitVec 32
  | 0 => 0x3D3504F3#32 | 1 => 0x3D000000#32 | 2 => 0x3CB504F3#32 | 3 => 0x3C800000#32
  | 4 => 0x3C3504F3#32 | 5 => 0x3C000000#32 | 6 => 0x3BB504F3#32 | 7 => 0x3B800000#32

/-! ## Arguments -/

/-- The arguments hold the real numbers of the heads `H`. -/
structure Inputs (x0 x1 x2 x3 x4 : (⟨4, ![2, 2048, 8, 64]⟩ : Shape).Idx → EReal) (x5 x6 : (⟨3, ![2, 2048, 8]⟩ : Shape).Idx → EReal)
    (x7 : (⟨3, ![2, 2048, 512]⟩ : Shape).Idx → EReal) (H : Fin 2 → Fin 16 → Fin 8 → Head) : Prop where
  slope : ∀ b r h, Ideal.ofBits .f32 (slopeWord h) = (((H b r h).sl : ℝ) : EReal)
  q : ∀ b r h i d, x0 (ix4 b (tok i r) h d) = (((H b r h).q i d : ℝ) : EReal)
  k : ∀ b r h i d, x1 (ix4 b (tok i r) h d) = (((H b r h).k i d : ℝ) : EReal)
  v : ∀ b r h i d, x2 (ix4 b (tok i r) h d) = (((H b r h).v i d : ℝ) : EReal)
  a0 : ∀ b r h i d, x3 (ix4 b (tok i r) h d) = (((H b r h).a0 i d : ℝ) : EReal)
  a1 : ∀ b r h i d, x4 (ix4 b (tok i r) h d) = (((H b r h).a1 i d : ℝ) : EReal)
  l0 : ∀ b r h i, x5 (ix3 b (tok i r) h) = (((H b r h).l0 i : ℝ) : EReal)
  l1 : ∀ b r h i, x6 (ix3 b (tok i r) h) = (((H b r h).l1 i : ℝ) : EReal)
  g : ∀ b r h i d, x7 (ix3 b (tok i r) (wide h d)) = (((H b r h).g i d : ℝ) : EReal)

/-! ## Layouts -/

section Layouts

variable {α : Type} (b : Fin 2) (r : Fin 16) (h : Fin 8) (i : Fin 128) (d : Fin 64) (l : Fin 512)

/-- The sequence put together from its residue classes, for the log-sums. -/
theorem merge3 (y : (⟨4, ![2, 128, 16, 8]⟩ : Shape).Idx → α) (hc : (⟨4, ![2, 128, 16, 8]⟩ : Shape).ShapeCasts ⟨3, ![2, 2048, 8]⟩) :
    shapeCast ⟨3, ![2, 2048, 8]⟩ y hc (ix3 b (tok i r) h) = y (ix4 b i r h) := by
  refine shapeCast_apply y hc _ _ ?_
  rw [Shape.rowMajor_val_three, Shape.rowMajor_val_four]
  show ((b.val * 128 + i.val) * 16 + r.val) * 8 + h.val = (b.val * 2048 + (i.val * 16 + r.val)) * 8 + h.val
  omega

/-- The sequence put together from its residue classes, for the outputs. -/
theorem merge4 (y : (⟨5, ![2, 128, 16, 8, 64]⟩ : Shape).Idx → α)
    (hc : (⟨5, ![2, 128, 16, 8, 64]⟩ : Shape).ShapeCasts ⟨4, ![2, 2048, 8, 64]⟩) :
    shapeCast ⟨4, ![2, 2048, 8, 64]⟩ y hc (ix4 b (tok i r) h d) = y (ix5 b i r h d) := by
  refine shapeCast_apply y hc _ _ ?_
  rw [Shape.rowMajor_val_five, Shape.rowMajor_val_four]
  show (((b.val * 128 + i.val) * 16 + r.val) * 8 + h.val) * 64 + d.val = ((b.val * 2048 + (i.val * 16 + r.val)) * 8 + h.val) * 64 + d.val
  omega

/-- The sequence split into its residue classes, for the log-sums. -/
theorem split3 (y : (⟨3, ![2, 2048, 8]⟩ : Shape).Idx → α) (hc : (⟨3, ![2, 2048, 8]⟩ : Shape).ShapeCasts ⟨4, ![2, 128, 16, 8]⟩) :
    shapeCast ⟨4, ![2, 128, 16, 8]⟩ y hc (ix4 b i r h) = y (ix3 b (tok i r) h) := by
  refine shapeCast_apply y hc _ _ ?_
  rw [Shape.rowMajor_val_three, Shape.rowMajor_val_four]
  show (b.val * 2048 + (i.val * 16 + r.val)) * 8 + h.val = ((b.val * 128 + i.val) * 16 + r.val) * 8 + h.val
  omega

/-- The sequence split into its residue classes, head by head. -/
theorem split4 (y : (⟨4, ![2, 2048, 8, 64]⟩ : Shape).Idx → α)
    (hc : (⟨4, ![2, 2048, 8, 64]⟩ : Shape).ShapeCasts ⟨5, ![2, 128, 16, 8, 64]⟩) :
    shapeCast ⟨5, ![2, 128, 16, 8, 64]⟩ y hc (ix5 b i r h d) = y (ix4 b (tok i r) h d) := by
  refine shapeCast_apply y hc _ _ ?_
  rw [Shape.rowMajor_val_five, Shape.rowMajor_val_four]
  show ((b.val * 2048 + (i.val * 16 + r.val)) * 8 + h.val) * 64 + d.val = (((b.val * 128 + i.val) * 16 + r.val) * 8 + h.val) * 64 + d.val
  omega

/-- The lanes split into heads. -/
theorem heads (n : Fin 2048) (y : (⟨3, ![2, 2048, 512]⟩ : Shape).Idx → α) (hc : (⟨3, ![2, 2048, 512]⟩ : Shape).ShapeCasts ⟨4, ![2, 2048, 8, 64]⟩) :
    shapeCast ⟨4, ![2, 2048, 8, 64]⟩ y hc (ix4 b n h d) = y (ix3 b n (wide h d)) := by
  refine shapeCast_apply y hc _ _ ?_
  rw [Shape.rowMajor_val_three, Shape.rowMajor_val_four]
  show (b.val * 2048 + n.val) * 512 + (h.val * 64 + d.val) = ((b.val * 2048 + n.val) * 8 + h.val) * 64 + d.val
  omega

/-- The heads put side by side. -/
theorem lanes (n : Fin 2048) (y : (⟨4, ![2, 2048, 8, 64]⟩ : Shape).Idx → α) (hc : (⟨4, ![2, 2048, 8, 64]⟩ : Shape).ShapeCasts ⟨3, ![2, 2048, 512]⟩) :
    shapeCast ⟨3, ![2, 2048, 512]⟩ y hc (ix3 b n (wide h d)) = y (ix4 b n h d) := by
  refine shapeCast_apply y hc _ _ ?_
  rw [Shape.rowMajor_val_three, Shape.rowMajor_val_four]
  show ((b.val * 2048 + n.val) * 8 + h.val) * 64 + d.val = (b.val * 2048 + n.val) * 512 + (h.val * 64 + d.val)
  omega

/-- The sequence split into its residue classes, for the lanes of all heads. -/
theorem splitL (y : (⟨3, ![2, 2048, 512]⟩ : Shape).Idx → α) (hc : (⟨3, ![2, 2048, 512]⟩ : Shape).ShapeCasts ⟨4, ![2, 128, 16, 512]⟩) :
    shapeCast ⟨4, ![2, 128, 16, 512]⟩ y hc (ix4 b i r l) = y (ix3 b (tok i r) l) := by
  refine shapeCast_apply y hc _ _ ?_
  rw [Shape.rowMajor_val_three, Shape.rowMajor_val_four]
  show (b.val * 2048 + (i.val * 16 + r.val)) * 512 + l.val = ((b.val * 128 + i.val) * 16 + r.val) * 512 + l.val
  omega

/-- A last axis of size one dropped. -/
theorem squeeze5 (y : (⟨5, ![2, 16, 8, 128, 1]⟩ : Shape).Idx → α) (hc : (⟨5, ![2, 16, 8, 128, 1]⟩ : Shape).ShapeCasts ⟨4, ![2, 16, 8, 128]⟩) :
    shapeCast ⟨4, ![2, 16, 8, 128]⟩ y hc (ix4 b r h i) = y (ix5 b r h i 0) := by
  refine shapeCast_apply y hc _ _ ?_
  rw [Shape.rowMajor_val_five, Shape.rowMajor_val_four]
  show (((b.val * 16 + r.val) * 8 + h.val) * 128 + i.val) * 1 + 0 = ((b.val * 16 + r.val) * 8 + h.val) * 128 + i.val
  omega

/-- One of the stacked log-sums. -/
theorem slab4 (n : Fin 2048) (y : (⟨4, ![1, 2, 2048, 8]⟩ : Shape).Idx → α) (hc : (⟨4, ![1, 2, 2048, 8]⟩ : Shape).ShapeCasts ⟨3, ![2, 2048, 8]⟩) :
    shapeCast ⟨3, ![2, 2048, 8]⟩ y hc (ix3 b n h) = y (ix4 0 b n h) := by
  refine shapeCast_apply y hc _ _ ?_
  rw [Shape.rowMajor_val_three, Shape.rowMajor_val_four]
  show ((0 * 2 + b.val) * 2048 + n.val) * 8 + h.val = (b.val * 2048 + n.val) * 8 + h.val
  omega

/-- One of the stacked outputs. -/
theorem slab5 (n : Fin 2048) (y : (⟨5, ![1, 2, 2048, 8, 64]⟩ : Shape).Idx → α) (hc : (⟨5, ![1, 2, 2048, 8, 64]⟩ : Shape).ShapeCasts ⟨4, ![2, 2048, 8, 64]⟩) :
    shapeCast ⟨4, ![2, 2048, 8, 64]⟩ y hc (ix4 b n h d) = y (ix5 0 b n h d) := by
  refine shapeCast_apply y hc _ _ ?_
  rw [Shape.rowMajor_val_five, Shape.rowMajor_val_four]
  show (((0 * 2 + b.val) * 2048 + n.val) * 8 + h.val) * 64 + d.val = ((b.val * 2048 + n.val) * 8 + h.val) * 64 + d.val
  omega

end Layouts

/-! ## Operations on real numbers -/

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem log_coe (x : ℝ) (hx : 0 < x) : Ideal.log (x : EReal) = ((Real.log x : ℝ) : EReal) := by
  rw [Ideal.log_coe, if_neg (not_le.mpr hx)]

/-- The greatest of finitely many numbers, of which none is `⊤` and one is not `⊥`, is a real number and one of them. -/
theorem fold_max {n : ℕ} (f : Fin n → EReal) (hf : ∀ j, f j ≠ ⊤) (i : Fin n) (hi : f i ≠ ⊥) :
    ∃ m : ℝ, Finset.fold max ⊥ f Finset.univ = (m : EReal) ∧ ∃ j, f j = (m : EReal) := by
  obtain ⟨j, -, hj⟩ := Finset.exists_mem_eq_sup Finset.univ ⟨i, Finset.mem_univ _⟩ f
  have hb : f j ≠ ⊥ := fun h => hi (le_bot_iff.mp ((Finset.le_sup (Finset.mem_univ i)).trans (le_of_eq (hj.trans h))))
  have he := EReal.coe_toReal (hf j) hb
  exact ⟨(f j).toReal, (show Finset.fold max ⊥ f Finset.univ = f j from hj).trans he.symm, j, he.symm⟩

theorem word_bot : Ideal.ofBits .f32 0xFF800000#32 = ⊥ := by
  simp [Ideal.ofBits, Ideal.ieee]

theorem word_zero : Ideal.ofBits .f32 0x00000000#32 = 0 := by
  simp [Ideal.ofBits, Ideal.ieee]

theorem word_one : Ideal.ofBits .f32 0x3F800000#32 = ((1 : ℝ) : EReal) := by
  simp [Ideal.ofBits, Ideal.ieee, -EReal.coe_mul]; norm_num

end Cert.Attn

end

end
-- ==== Proof.Tile.lean ====
module

public import proofs.«01_k».proof.Proof.Gen.KernelIdeal.Launch
public import Idealize.ShloMosaic.Lib.Pipeline.FrameBody

/-! # What one grid point of the kernel computes

A point holds one residue's 128 rows of all eight heads. The heads come in four pairs of 64 + 64 lanes. The definitions
here name the arrays the body builds for one head of one pair, and its three result blocks. -/

@[expose] public section

noncomputable section

namespace Cert.Attn

open Cert.KernelIdeal Cert.KernelIdeal.Gen Idealize.ShloMosaic Idealize.ShloMosaic.TcCoe Idealize.SL.Sem
  Idealize.ShloMosaic.Tactic

/-! ## The arrays of one head -/

variable {F : FTy → Type} [FloatOps F] [Named F]

/-- The lanes of one head of a pair (`.slt`: the first 64, `.sge`: the last 64), zero elsewhere. -/
def half (pr : CmpIPredicate) (x : FVec F S128x128 .bf16) : FVec F S128x128 .bf16 :=
  select (broadcastTo S128x128 (shapeCast S1x128 (cmpi pr (iota .tc S1x128 32 [1] iota_S1x128_d1_w32) (broadcast S1x128 64#32))
    shapeCasts_S1x128_S1x128) broadcasts_S1x128_S128x128) x (broadcast S128x128 (Scalar.ofBits .bf16 0x0000#16))

/-- How far row `i` lies behind row `j`. -/
def rel : IVec S128x128 32 :=
  addi (subi (iota .tc S128x128 32 [0] iota_S128x128_d0_w32) (iota .tc S128x128 32 [1] iota_S128x128_d1_w32)) (broadcast S128x128 0#32)

/-- The bias: the slope (given negated, as a word) times the distance where the pair is seen, the mask elsewhere. -/
def bias (w : BitVec 32) : FVec F S128x128 .f32 :=
  select (andi (cmpi .sge rel (broadcast S128x128 0#32)) (cmpi .sle rel (broadcast S128x128 128#32)))
    (mulf (broadcast S128x128 (Scalar.ofBits .f32 w)) (mulf (sitofp .f32 rel) (broadcast S128x128 (Scalar.ofBits .f32 0x41800000#32))))
    (broadcast S128x128 (Named.named κ "mask" 0xF149F2CA#32))

/-- Row-by-row products of two blocks, contracted over the lanes. -/
def prod (a b : FVec F S128x128 .bf16) : FVec F S128x128 .f32 :=
  matmul dot_S128x128_S128x128_S128x128_1_1_0_0_n_n none a b (constant S128x128 .f32 0x00000000#32)

/-- The scores of one head. -/
def score (w : BitVec 32) (a b : FVec F S128x128 .bf16) : FVec F S128x128 .f32 :=
  addf (mulf (prod a b) (broadcast S128x128 (Scalar.ofBits .f32 0x3E000000#32))) (bias w)

/-- The columns of one pair of heads. -/
def blk (o : ℕ) (h : ∀ a, (![0, 0, 0, o] : Fin 4 → ℕ) a + S1x1x128x128.size a ≤ S1x1x128x512.size a) (x : Vec F S1x1x128x512 .bf16) :
    FVec F S128x128 .bf16 :=
  shapeCast S128x128 (View.ld x (Rect.unit (s := S1x1x128x512) ![0, 0, 0, o] S1x1x128x128.size h)) shapeCasts_S1x1x128x128_S128x128

/-- One column of per-row numbers, spread over the lanes. -/
def col (o : ℕ) (h : ∀ a, (![0, 0, 0, o] : Fin 4 → ℕ) a + S1x1x128x1.size a ≤ S1x1x128x128.size a) (x : Vec F S1x1x128x128 .f32) :
    FVec F S128x128 .f32 :=
  broadcastTo S128x128 (shapeCast S128x1 (View.ld x (Rect.unit (s := S1x1x128x128) ![0, 0, 0, o] S1x1x128x1.size h))
    shapeCasts_S1x1x128x1_S128x1) broadcasts_S128x1_S128x128

/-- The attention weights of one head, from its scores and its rows' log-sums. -/
def wgt (s l : FVec F S128x128 .f32) : FVec F S128x128 .f32 :=
  exp (subf (shapeCast S128x128 (shapeCast S1x128x128 s shapeCasts_S128x128_S1x128x128) shapeCasts_S1x128x128_S128x128) l)

/-- The gradient of the scores. -/
def gsc (p d l : FVec F S128x128 .f32) : FVec F S128x128 .f32 :=
  mulf p (subf (shapeCast S128x128 (shapeCast S1x128x128 d shapeCasts_S128x128_S1x128x128) shapeCasts_S1x128x128_S128x128) l)

/-- An array rounded, stored in scratch and loaded again. -/
def kept (x : FVec F S128x128 .f32) : FVec F S128x128 .bf16 :=
  shapeCast S128x128 (shapeCast S1x128x128 (truncf .bf16 x bitsLt_bf16_f32) shapeCasts_S128x128_S1x128x128) shapeCasts_S1x128x128_S128x128

/-- The sum of the two heads' products with the keys: the gradient of the queries of a pair, before scaling. -/
def overKeys (d0 d1 : FVec F S128x128 .bf16) (x : FVec F S128x128 .bf16) : FVec F S128x128 .f32 :=
  addf (addf (broadcast S128x128 (Scalar.ofBits .f32 0x00000000#32))
      (matmul dot_S128x128_S128x128_S128x128_1_0_0_1_n_n none d0 (half .slt x) (constant S128x128 .f32 0x00000000#32)))
    (matmul dot_S128x128_S128x128_S128x128_1_0_0_1_n_n none d1 (half .sge x) (constant S128x128 .f32 0x00000000#32))

/-- The same over the query rows. -/
def overRows (d0 d1 : FVec F S128x128 .bf16) (x : FVec F S128x128 .bf16) : FVec F S128x128 .f32 :=
  addf (addf (broadcast S128x128 (Scalar.ofBits .f32 0x00000000#32))
      (matmul dot_S128x128_S128x128_S128x128_0_0_1_1_n_n none d0 (half .slt x) (constant S128x128 .f32 0x00000000#32)))
    (matmul dot_S128x128_S128x128_S128x128_0_0_1_1_n_n none d1 (half .sge x) (constant S128x128 .f32 0x00000000#32))

/-- The scale. -/
def eighth : FVec F S128x128 .f32 := broadcast S128x128 (Scalar.ofBits .f32 0x3E000000#32)

/-- The query gradient's tile of a pair. -/
def tileQ (d0 d1 : FVec F S128x128 .bf16) (x : FVec F S128x128 .bf16) : FVec F S1x1x128x128 .bf16 :=
  shapeCast S1x1x128x128 (truncf .bf16 (mulf (overKeys d0 d1 x) eighth) bitsLt_bf16_f32) shapeCasts_S128x128_S1x1x128x128

/-- The key gradient's tile of a pair. -/
def tileK (d0 d1 : FVec F S128x128 .bf16) (x : FVec F S128x128 .bf16) : FVec F S128x128 .f32 :=
  shapeCast S128x128 (addf (broadcast S128x128 (Scalar.ofBits .f32 0x00000000#32)) (mulf (overRows d0 d1 x) eighth)) shapeCasts_S128x128_S128x128

/-- The value gradient's tile of a pair. -/
def tileV (p0 p1 : FVec F S128x128 .bf16) (x : FVec F S128x128 .bf16) : FVec F S128x128 .f32 :=
  shapeCast S128x128 (addf (broadcast S128x128 (Scalar.ofBits .f32 0x00000000#32)) (overRows p0 p1 x)) shapeCasts_S128x128_S128x128

section Heads

variable (x0 x1 x2 x3 : Vec F S1x1x128x512 .bf16) (x4 x5 : Vec F S1x1x128x128 .f32)

/-- The weights of one head: its lanes `pr` of the pair whose columns begin at `o`, its slope's word `w`, and the column
    `t` that holds its rows' log-sums. -/
def headP (pr : CmpIPredicate) (w : BitVec 32) (o : ℕ) (ho : ∀ a, (![0, 0, 0, o] : Fin 4 → ℕ) a + S1x1x128x128.size a ≤ S1x1x128x512.size a)
    (t : ℕ) (ht : ∀ a, (![0, 0, 0, t] : Fin 4 → ℕ) a + S1x1x128x1.size a ≤ S1x1x128x128.size a) : FVec F S128x128 .f32 :=
  wgt (score w (half pr (blk o ho x0)) (blk o ho x1)) (col t ht x4)

/-- The gradient of one head's scores. -/
def headD (pr : CmpIPredicate) (w : BitVec 32) (o : ℕ) (ho : ∀ a, (![0, 0, 0, o] : Fin 4 → ℕ) a + S1x1x128x128.size a ≤ S1x1x128x512.size a)
    (t : ℕ) (ht : ∀ a, (![0, 0, 0, t] : Fin 4 → ℕ) a + S1x1x128x1.size a ≤ S1x1x128x128.size a) : FVec F S128x128 .f32 :=
  gsc (headP x0 x1 x4 pr w o ho t ht) (prod (half pr (blk o ho x3)) (blk o ho x2)) (col t ht x5)

variable (w w' : BitVec 32) (o : ℕ) (ho : ∀ a, (![0, 0, 0, o] : Fin 4 → ℕ) a + S1x1x128x128.size a ≤ S1x1x128x512.size a)
  (t : ℕ) (ht : ∀ a, (![0, 0, 0, t] : Fin 4 → ℕ) a + S1x1x128x1.size a ≤ S1x1x128x128.size a)
  (t' : ℕ) (ht' : ∀ a, (![0, 0, 0, t'] : Fin 4 → ℕ) a + S1x1x128x1.size a ≤ S1x1x128x128.size a)

/-- A pair's tile of the query gradient. -/
def pairQ : FVec F S1x1x128x128 .bf16 :=
  tileQ (kept (headD x0 x1 x2 x3 x4 x5 .slt w o ho t ht)) (kept (headD x0 x1 x2 x3 x4 x5 .sge w' o ho t' ht')) (blk o ho x1)

/-- A pair's tile of the key gradient. -/
def pairK : FVec F S128x128 .f32 :=
  tileK (kept (headD x0 x1 x2 x3 x4 x5 .slt w o ho t ht)) (kept (headD x0 x1 x2 x3 x4 x5 .sge w' o ho t' ht')) (blk o ho x0)

/-- A pair's tile of the value gradient. -/
def pairV : FVec F S128x128 .f32 :=
  tileV (kept (headP x0 x1 x4 .slt w o ho t ht)) (kept (headP x0 x1 x4 .sge w' o ho t' ht')) (blk o ho x3)

/-- The query gradient's block. -/
def blockQ : Vec F S1x1x128x512 .bf16 :=
  View.canon [⟨Rect.unit (s := S1x1x128x512) ![0, 0, 0, 384] S1x1x128x128.size inb_S1x1x128x512_S1x1x128x128_0_0_0_384,
     pairQ x0 x1 x2 x3 x4 x5 0xBBB504F3#32 0xBB800000#32 384 inb_S1x1x128x512_S1x1x128x128_0_0_0_384 6 inb_S1x1x128x128_S1x1x128x1_0_0_0_6 7 inb_S1x1x128x128_S1x1x128x1_0_0_0_7⟩, ⟨Rect.unit (s := S1x1x128x512) ![0, 0, 0, 256] S1x1x128x128.size inb_S1x1x128x512_S1x1x128x128_0_0_0_256,
     pairQ x0 x1 x2 x3 x4 x5 0xBC3504F3#32 0xBC000000#32 256 inb_S1x1x128x512_S1x1x128x128_0_0_0_256 4 inb_S1x1x128x128_S1x1x128x1_0_0_0_4 5 inb_S1x1x128x128_S1x1x128x1_0_0_0_5⟩, ⟨Rect.unit (s := S1x1x128x512) ![0, 0, 0, 128] S1x1x128x128.size inb_S1x1x128x512_S1x1x128x128_0_0_0_128,
     pairQ x0 x1 x2 x3 x4 x5 0xBCB504F3#32 0xBC800000#32 128 inb_S1x1x128x512_S1x1x128x128_0_0_0_128 2 inb_S1x1x128x128_S1x1x128x1_0_0_0_2 3 inb_S1x1x128x128_S1x1x128x1_0_0_0_3⟩, ⟨Rect.unit (s := S1x1x128x512) ![0, 0, 0, 0] S1x1x128x128.size inb_S1x1x128x512_S1x1x128x128_0_0_0_0,
     pairQ x0 x1 x2 x3 x4 x5 0xBD3504F3#32 0xBD000000#32 0 inb_S1x1x128x512_S1x1x128x128_0_0_0_0 0 inb_S1x1x128x128_S1x1x128x1_0_0_0_0 1 inb_S1x1x128x128_S1x1x128x1_0_0_0_1⟩]

/-- The key gradient's block. -/
def blockK : Vec F S1x1x128x512 .bf16 :=
  shapeCast S1x1x128x512 (truncf .bf16 (View.canon (Val := Elt F) (e := .f32) [⟨Rect.unit (s := S128x512) ![0, 384] S128x128.size inb_S128x512_S128x128_0_384,
     pairK x0 x1 x2 x3 x4 x5 0xBBB504F3#32 0xBB800000#32 384 inb_S1x1x128x512_S1x1x128x128_0_0_0_384 6 inb_S1x1x128x128_S1x1x128x1_0_0_0_6 7 inb_S1x1x128x128_S1x1x128x1_0_0_0_7⟩, ⟨Rect.unit (s := S128x512) ![0, 256] S128x128.size inb_S128x512_S128x128_0_256,
     pairK x0 x1 x2 x3 x4 x5 0xBC3504F3#32 0xBC000000#32 256 inb_S1x1x128x512_S1x1x128x128_0_0_0_256 4 inb_S1x1x128x128_S1x1x128x1_0_0_0_4 5 inb_S1x1x128x128_S1x1x128x1_0_0_0_5⟩, ⟨Rect.unit (s := S128x512) ![0, 128] S128x128.size inb_S128x512_S128x128_0_128,
     pairK x0 x1 x2 x3 x4 x5 0xBCB504F3#32 0xBC800000#32 128 inb_S1x1x128x512_S1x1x128x128_0_0_0_128 2 inb_S1x1x128x128_S1x1x128x1_0_0_0_2 3 inb_S1x1x128x128_S1x1x128x1_0_0_0_3⟩, ⟨Rect.unit (s := S128x512) ![0, 0] S128x128.size inb_S128x512_S128x128_0_0,
     pairK x0 x1 x2 x3 x4 x5 0xBD3504F3#32 0xBD000000#32 0 inb_S1x1x128x512_S1x1x128x128_0_0_0_0 0 inb_S1x1x128x128_S1x1x128x1_0_0_0_0 1 inb_S1x1x128x128_S1x1x128x1_0_0_0_1⟩, ⟨Rect.unit (s := S128x512) ![0, 0] S128x512.size inb_S128x512_S128x512_0_0, shapeCast S128x512 (broadcast S128x512 (Scalar.ofBits .f32 0x00000000#32)) shapeCasts_S128x512_S128x512⟩]) bitsLt_bf16_f32) shapeCasts_S128x512_S1x1x128x512

/-- The value gradient's block. -/
def blockV : Vec F S1x1x128x512 .bf16 :=
  shapeCast S1x1x128x512 (truncf .bf16 (View.canon (Val := Elt F) (e := .f32) [⟨Rect.unit (s := S128x512) ![0, 384] S128x128.size inb_S128x512_S128x128_0_384,
     pairV x0 x1 x3 x4 0xBBB504F3#32 0xBB800000#32 384 inb_S1x1x128x512_S1x1x128x128_0_0_0_384 6 inb_S1x1x128x128_S1x1x128x1_0_0_0_6 7 inb_S1x1x128x128_S1x1x128x1_0_0_0_7⟩, ⟨Rect.unit (s := S128x512) ![0, 256] S128x128.size inb_S128x512_S128x128_0_256,
     pairV x0 x1 x3 x4 0xBC3504F3#32 0xBC000000#32 256 inb_S1x1x128x512_S1x1x128x128_0_0_0_256 4 inb_S1x1x128x128_S1x1x128x1_0_0_0_4 5 inb_S1x1x128x128_S1x1x128x1_0_0_0_5⟩, ⟨Rect.unit (s := S128x512) ![0, 128] S128x128.size inb_S128x512_S128x128_0_128,
     pairV x0 x1 x3 x4 0xBCB504F3#32 0xBC800000#32 128 inb_S1x1x128x512_S1x1x128x128_0_0_0_128 2 inb_S1x1x128x128_S1x1x128x1_0_0_0_2 3 inb_S1x1x128x128_S1x1x128x1_0_0_0_3⟩, ⟨Rect.unit (s := S128x512) ![0, 0] S128x128.size inb_S128x512_S128x128_0_0,
     pairV x0 x1 x3 x4 0xBD3504F3#32 0xBD000000#32 0 inb_S1x1x128x512_S1x1x128x128_0_0_0_0 0 inb_S1x1x128x128_S1x1x128x1_0_0_0_0 1 inb_S1x1x128x128_S1x1x128x1_0_0_0_1⟩, ⟨Rect.unit (s := S128x512) ![0, 0] S128x512.size inb_S128x512_S128x512_0_0, shapeCast S128x512 (broadcast S128x512 (Scalar.ofBits .f32 0x00000000#32)) shapeCasts_S128x512_S128x512⟩]) bitsLt_bf16_f32) shapeCasts_S128x512_S1x1x128x512

end Heads

end Cert.Attn
-- ==== Proof.Entries.lean ====
/- The entries of the arrays one grid point builds, as numbers: with real queries, keys, values and cotangents, and with
   the rows' log-sums, the three result blocks hold the gradients that Head.lean defines. -/
module

public import proofs.«01_k».proof.Proof.Tile
public import proofs.«01_k».proof.Proof.Head
public import Idealize.ShloMosaic.Lib.Pointwise

@[expose] public section

noncomputable section

namespace Cert.Attn

open Cert.KernelIdeal Cert.KernelIdeal.Gen Idealize.ShloMosaic

/-! ## Lanes -/

/-- Lane `d` of the first or the second head of a pair. -/
def lane (e : Fin 2) (d : Fin 64) : Fin 128 := ⟨64 * e.val + d.val, by omega⟩

/-- Which comparison with 64 keeps the lanes of a head of a pair. -/
def side (e : Fin 2) : CmpIPredicate := if e = 0 then .slt else .sge

/-- A sum over the lanes of a pair is a sum over each head's. -/
theorem sum_lanes {M : Type} [AddCommMonoid M] (f : Fin 128 → M) :
    ∑ l, f l = (∑ d, f (lane 0 d)) + ∑ d, f (lane 1 d) := by
  rw [show (∑ l, f l) = _ from Fin.sum_univ_add (a := 64) (b := 64) f]
  have h0 : ∀ d : Fin 64, f (Fin.castAdd 64 d) = f (lane 0 d) := fun d => congrArg f (Fin.ext (by simp [lane]))
  have h1 : ∀ d : Fin 64, f (Fin.natAdd 64 d) = f (lane 1 d) := fun d => congrArg f (Fin.ext (by simp [lane, add_comm]))
  simp only [h0, h1]

theorem cmp_lane (e e' : Fin 2) (d : Fin 64) :
    IntOp.cmpi (side e) (BitVec.ofNat 32 (lane e' d).val) 64#32 = if e = e' then 1#1 else 0#1 := by
  revert e e' d; decide

theorem half_apply (e e' : Fin 2) (x : FVec Ideal S128x128 .bf16) (i : Fin 128) (d : Fin 64) :
    half (side e) x (ix2 i (lane e' d)) = if e = e' then x (ix2 i (lane e' d)) else 0 := by
  unfold half
  simp only [pointwise]
  change Scalar.select (IntOp.cmpi (side e) (BitVec.ofNat 32 (0 * 128 + (lane e' d).val)) 64#32) (x (ix2 i (lane e' d))) 0 = _
  rw [zero_mul, zero_add, cmp_lane]
  split <;> rfl

/-- Sums over the lanes of a pair, of what one head keeps. -/
theorem sum_half (e : Fin 2) (A : FVec Ideal S128x128 .bf16) (i : Fin 128) (f : Fin 128 → EReal) :
    ∑ l, half (side e) A (ix2 i l) * f l = ∑ d, A (ix2 i (lane e d)) * f (lane e d) := by
  rw [sum_lanes]
  simp only [half_apply]
  fin_cases e <;> simp

/-- Products over the lanes of one head. -/
theorem prod_half (e : Fin 2) (A B : FVec Ideal S128x128 .bf16) (a b : Fin 128 → Fin 64 → ℝ)
    (hA : ∀ i d, A (ix2 i (lane e d)) = ((a i d : ℝ) : EReal)) (hB : ∀ i d, B (ix2 i (lane e d)) = ((b i d : ℝ) : EReal))
    (i j : Fin 128) : prod (half (side e) A) B (ix2 i j) = ((∑ d, a i d * b j d : ℝ) : EReal) := by
  unfold prod
  simp only [pointwise]
  rw [zero_add, sum_half e A i (fun l => B (ix2 j l)), ← coe_sum]
  exact Finset.sum_congr rfl fun d _ => by rw [hA, hB, EReal.coe_mul]

theorem rel_apply (i j : Fin 128) : rel (ix2 i j) = BitVec.ofInt 32 ((i.val : ℤ) - (j.val : ℤ)) := by
  unfold rel
  simp only [pointwise]
  have h0 : List.foldl (fun n a => n * (![128, 128] : Fin 2 → ℕ) a + (ix2 i j a).val) 0 [(0 : Fin 2)] = i.val := by simp [ix2]
  have h1 : List.foldl (fun n a => n * (![128, 128] : Fin 2 → ℕ) a + (ix2 i j a).val) 0 [(1 : Fin 2)] = j.val := by simp [ix2]
  rw [h0, h1]
  unfold IntOp.addi IntOp.subi
  rw [BitVec.add_zero, sub_eq_add_neg, BitVec.ofInt_add, BitVec.ofInt_neg, BitVec.ofInt_natCast, BitVec.ofInt_natCast,
    BitVec.sub_eq_add_neg]

theorem toInt_diff (i j : Fin 128) : (BitVec.ofInt 32 ((i.val : ℤ) - (j.val : ℤ))).toInt = (i.val : ℤ) - (j.val : ℤ) := by
  rw [BitVec.toInt_ofInt, Int.bmod_def]
  have := i.isLt; have := j.isLt
  omega

theorem seen (i j : Fin 128) : IntOp.andi (IntOp.cmpi .sge (BitVec.ofInt 32 ((i.val : ℤ) - (j.val : ℤ))) 0#32)
    (IntOp.cmpi .sle (BitVec.ofInt 32 ((i.val : ℤ) - (j.val : ℤ))) 128#32) = if j ≤ i then 1#1 else 0#1 := by
  have h := toInt_diff i j
  have := i.isLt; have := j.isLt
  by_cases hij : j ≤ i
  · have hij' : j.val ≤ i.val := hij
    rw [if_pos hij]
    simp only [IntOp.andi, IntOp.cmpi, BitVec.sle_eq_decide, h]
    rw [decide_eq_true (by simp; omega), decide_eq_true (by simp; omega)]
    rfl
  · have hij' : i.val < j.val := not_le.mp hij
    rw [if_neg hij]
    simp only [IntOp.andi, IntOp.cmpi, BitVec.sle_eq_decide, h]
    rw [decide_eq_false (by simp; omega)]
    simp

theorem word_16 : Ideal.ofBits .f32 0x41800000#32 = ((16 : ℝ) : EReal) := by
  simp [Ideal.ofBits, Ideal.ieee, -EReal.coe_mul]; norm_num

theorem word_eighth : Ideal.ofBits .f32 0x3E000000#32 = ((1 / 8 : ℝ) : EReal) := by
  simp [Ideal.ofBits, Ideal.ieee, -EReal.coe_mul]; norm_num

theorem bias_apply (w : BitVec 32) (s : ℝ) (hw : Ideal.ofBits .f32 w = ((-s : ℝ) : EReal)) (i j : Fin 128) :
    bias (F := Ideal) w (ix2 i j) = if j ≤ i then ((-s * (((i.val : ℝ) - (j.val : ℝ)) * 16) : ℝ) : EReal) else ⊥ := by
  unfold bias
  simp only [pointwise]
  rw [rel_apply, seen, hw, word_16]
  have hs : FloatOps.sitofp (F := Ideal) FTy.f32 (BitVec.ofInt 32 ((i.val : ℤ) - (j.val : ℤ))) = (((i.val : ℝ) - (j.val : ℝ) : ℝ) : EReal) := by
    show (((BitVec.ofInt 32 ((i.val : ℤ) - (j.val : ℤ))).toInt : ℝ) : EReal) = _
    rw [toInt_diff]; push_cast; rfl
  rw [hs]
  split
  · rw [EReal.coe_mul, EReal.coe_mul]; rfl
  · rfl

/-! ## One head's weights and score gradients -/

section Head

variable (H : Head) (e : Fin 2) (w : BitVec 32) (hw : Ideal.ofBits .f32 w = ((-H.sl : ℝ) : EReal))
  (A B G V : FVec Ideal S128x128 .bf16) (L D : FVec Ideal S128x128 .f32)
  (hA : ∀ i d, A (ix2 i (lane e d)) = ((H.q i d : ℝ) : EReal)) (hB : ∀ i d, B (ix2 i (lane e d)) = ((H.k i d : ℝ) : EReal))
  (hG : ∀ i d, G (ix2 i (lane e d)) = ((H.g i d : ℝ) : EReal)) (hV : ∀ i d, V (ix2 i (lane e d)) = ((H.v i d : ℝ) : EReal))
  (hL : ∀ i j, L (ix2 i j) = ((Real.log (H.W i) : ℝ) : EReal)) (hD : ∀ i j, D (ix2 i j) = ((H.del i : ℝ) : EReal))

include hw hA hB in
theorem score_apply (i j : Fin 128) :
    score w (half (side e) A) B (ix2 i j) = if j ≤ i then ((H.sc i j : ℝ) : EReal) else ⊥ := by
  unfold score
  simp only [pointwise]
  rw [prod_half e A B H.q H.k hA hB, bias_apply w H.sl hw, word_eighth]
  split
  · rw [← EReal.coe_mul, ← EReal.coe_add]; congr 1; unfold Head.sc; ring
  · rw [EReal.add_bot]

include hw hA hB hL in
theorem wgt_apply (i j : Fin 128) :
    wgt (score w (half (side e) A) B) L (ix2 i j) = ((H.P i j : ℝ) : EReal) := by
  unfold wgt
  simp only [pointwise]
  rw [score_apply H e w hw A B hA hB, hL]
  unfold Head.P Head.E
  split
  · rw [← EReal.coe_sub, Ideal.exp_coe, Real.exp_sub, Real.exp_log (H.W_pos i)]
  · rw [zero_div, sub_eq_add_neg, EReal.bot_add, Ideal.exp_bot, EReal.coe_zero]

include hw hA hB hG hV hL hD in
theorem gsc_apply (i j : Fin 128) :
    gsc (wgt (score w (half (side e) A) B) L) (prod (half (side e) G) V) D (ix2 i j) = ((H.dS i j : ℝ) : EReal) := by
  unfold gsc
  simp only [pointwise]
  rw [wgt_apply H e w hw A B L hA hB hL, prod_half e G V H.g H.v hG hV, hD, ← EReal.coe_sub, ← EReal.coe_mul]
  rfl

end Head

/-! ## The tiles of one pair -/

theorem kept_apply (X : FVec Ideal S128x128 .f32) (i j : Fin 128) : kept X (ix2 i j) = X (ix2 i j) := by
  unfold kept
  simp only [pointwise]

theorem overKeys_apply (e : Fin 2) (d : Fin 2 → FVec Ideal S128x128 .f32) (X : FVec Ideal S128x128 .bf16) (i : Fin 128) (l : Fin 64) :
    overKeys (kept (d 0)) (kept (d 1)) X (ix2 i (lane e l)) = ∑ j, d e (ix2 i j) * X (ix2 j (lane e l)) := by
  unfold overKeys
  simp only [pointwise]
  simp only [show CmpIPredicate.slt = side 0 from rfl, show CmpIPredicate.sge = side 1 from rfl, half_apply, kept_apply, zero_add]
  fin_cases e <;> simp

theorem overRows_apply (e : Fin 2) (d : Fin 2 → FVec Ideal S128x128 .f32) (X : FVec Ideal S128x128 .bf16) (j : Fin 128) (l : Fin 64) :
    overRows (kept (d 0)) (kept (d 1)) X (ix2 j (lane e l)) = ∑ i, d e (ix2 i j) * X (ix2 i (lane e l)) := by
  unfold overRows
  simp only [pointwise]
  simp only [show CmpIPredicate.slt = side 0 from rfl, show CmpIPredicate.sge = side 1 from rfl, half_apply, kept_apply, zero_add]
  fin_cases e <;> simp

section Pair

variable (H : Fin 2 → Head) (d : Fin 2 → FVec Ideal S128x128 .f32) (X : FVec Ideal S128x128 .bf16)

theorem tileQ_apply (hd : ∀ e i j, d e (ix2 i j) = (((H e).dS i j : ℝ) : EReal))
    (hX : ∀ e i l, X (ix2 i (lane e l)) = (((H e).k i l : ℝ) : EReal)) (e : Fin 2) (i : Fin 128) (l : Fin 64) :
    tileQ (kept (d 0)) (kept (d 1)) X (ix4 0 0 i (lane e l)) = (((H e).dq i l : ℝ) : EReal) := by
  unfold tileQ eighth
  simp only [pointwise]
  rw [overKeys_apply, word_eighth]
  simp only [hd, hX, ← EReal.coe_mul]
  rw [coe_sum, ← EReal.coe_mul]
  rfl

theorem tileK_apply (hd : ∀ e i j, d e (ix2 i j) = (((H e).dS i j : ℝ) : EReal))
    (hX : ∀ e i l, X (ix2 i (lane e l)) = (((H e).q i l : ℝ) : EReal)) (e : Fin 2) (j : Fin 128) (l : Fin 64) :
    tileK (kept (d 0)) (kept (d 1)) X (ix2 j (lane e l)) = (((H e).dk j l : ℝ) : EReal) := by
  unfold tileK eighth
  simp only [pointwise]
  rw [overRows_apply, word_eighth, zero_add]
  simp only [hd, hX, ← EReal.coe_mul]
  rw [coe_sum, ← EReal.coe_mul]
  rfl

theorem tileV_apply (hd : ∀ e i j, d e (ix2 i j) = (((H e).P i j : ℝ) : EReal))
    (hX : ∀ e i l, X (ix2 i (lane e l)) = (((H e).g i l : ℝ) : EReal)) (e : Fin 2) (j : Fin 128) (l : Fin 64) :
    tileV (kept (d 0)) (kept (d 1)) X (ix2 j (lane e l)) = (((H e).dv j l : ℝ) : EReal) := by
  unfold tileV
  simp only [pointwise]
  rw [overRows_apply, zero_add]
  simp only [hd, hX, ← EReal.coe_mul]
  rw [coe_sum]
  rfl

end Pair

end Cert.Attn
end
-- ==== Proof.Forward.lean ====
/- The reference's forward pass, stage by stage, as real numbers: the scores and their row maximum, the softmax of one
   head, its log-sum, and the mix of the three groups. -/
module

public import proofs.«01_k».proof.Proof.Gen.ReferenceIdeal.Read
public import proofs.«01_k».proof.Proof.Layout
public import proofs.«01_k».proof.Proof.Entries

@[expose] public section

noncomputable section

namespace Cert.Attn

open Idealize.ShloMosaic Cert.ReferenceIdeal.Read Cert.ReferenceIdeal

/-! ## The three groups of one head -/

namespace Head

variable (H : Head)

/-- The log-sums of the three groups. -/
def L (i : Fin 128) : Fin 3 → ℝ
  | 0 => H.l0 i | 1 => H.l1 i | 2 => Real.log (H.Z i)

/-- The weights of the three groups, before normalising. -/
def X (i : Fin 128) : Fin 3 → ℝ
  | 0 => Real.exp (H.l0 i) | 1 => Real.exp (H.l1 i) | 2 => H.Z i

/-- The outputs of the three groups. -/
def O (i : Fin 128) (d : Fin 64) : Fin 3 → ℝ
  | 0 => H.a0 i d | 1 => H.a1 i d | 2 => H.N i d / H.Z i

/-- The cotangent against each group's output. -/
def ga (i : Fin 128) (a : Fin 3) : ℝ := ∑ d, H.g i d * H.O i d a

theorem exp_L (i : Fin 128) (a : Fin 3) : Real.exp (H.L i a) = H.X i a := by
  fin_cases a
  · rfl
  · rfl
  · exact Real.exp_log (H.Z_pos i)

theorem sum_X (i : Fin 128) : ∑ a, H.X i a = H.W i := by
  rw [Fin.sum_univ_three]; rfl

theorem ga_two (i : Fin 128) : H.Z i * H.ga i 2 = ∑ d, H.g i d * H.N i d := by
  unfold ga
  rw [Finset.mul_sum]
  refine Finset.sum_congr rfl fun d _ => ?_
  show H.Z i * (H.g i d * (H.N i d / H.Z i)) = _
  have := (H.Z_pos i).ne'
  field_simp

theorem sum_X_ga (i : Fin 128) : ∑ a, H.X i a * H.ga i a = H.del i * H.W i := by
  rw [H.del_eq, div_mul_cancel₀ _ (H.W_pos i).ne', Fin.sum_univ_three, ← H.ga_two]
  rfl

end Head

variable {x0 x1 x2 x3 x4 : (⟨S2x2048x8x64, .f32⟩ : BufTy).Contents (Elt Ideal)} {x5 x6 : (⟨S2x2048x8, .f32⟩ : BufTy).Contents (Elt Ideal)}
  {x7 : (⟨S2x2048x512, .f32⟩ : BufTy).Contents (Elt Ideal)}
variable {H : Fin 2 → Fin 16 → Fin 8 → Head}
variable (b : Fin 2) (r : Fin 16) (h : Fin 8) (i j : Fin 128) (d : Fin 64) (a : Fin 3)

/-! ## Slopes, positions and the mask -/

theorem r8 : val_main_v8 (F := Ideal) (Idealize.ShloMosaic.ix1 h) = Ideal.ofBits .f32 (slopeWord h) := by
  simp only [val_main_v8, val_main_v0, val_main_v1, val_main_v2, val_main_v3, val_main_v4, val_main_v5, val_main_v6, val_main_v7,
    val_main_cst, val_main_cst_0, val_main_cst_1, val_main_cst_2, val_main_cst_3, val_main_cst_4, val_main_cst_5, val_main_cst_6, pointwise]
  fin_cases h <;> rfl

theorem r15 : val_main_v15 (F := Ideal) (ix2 i j) = BitVec.ofInt 32 ((i.val : ℤ) - (j.val : ℤ)) := by
  simp only [val_main_v15, val_main_v9, val_main_v10, val_main_v11, val_main_v12, val_main_v13, val_main_v14, pointwise,
    Nat.reduceEqDiff, reduceDIte]
  unfold IntOp.subi
  rw [sub_eq_add_neg, BitVec.ofInt_add, BitVec.ofInt_neg, BitVec.ofInt_natCast, BitVec.ofInt_natCast, BitVec.sub_eq_add_neg]

theorem r39 : val_main_v39_1 (F := Ideal) (ix5 b r h i j) = if j ≤ i then 1#1 else 0#1 := by
  simp only [val_main_v39_1, val_main_v20, val_main_v19, val_main_v18, val_main_c_7, val_main_v17, val_main_v16, val_main_c, pointwise,
    Nat.reduceEqDiff, reduceDIte]
  rw [r15, seen]

theorem apart : FloatOps.sitofp (F := Ideal) FTy.f32 (IntOp.muli (BitVec.ofInt 32 ((i.val : ℤ) - (j.val : ℤ))) 16#32) =
    ((((i.val : ℝ) - (j.val : ℝ)) * 16 : ℝ) : EReal) := by
  have hm : IntOp.muli (BitVec.ofInt 32 ((i.val : ℤ) - (j.val : ℤ))) 16#32 = BitVec.ofInt 32 (((i.val : ℤ) - (j.val : ℤ)) * 16) := by
    unfold IntOp.muli
    rw [BitVec.ofInt_mul]; rfl
  have ht : (BitVec.ofInt 32 (((i.val : ℤ) - (j.val : ℤ)) * 16)).toInt = ((i.val : ℤ) - (j.val : ℤ)) * 16 := by
    rw [BitVec.toInt_ofInt, Int.bmod_def]
    have := i.isLt; have := j.isLt
    omega
  rw [hm]
  show (((BitVec.ofInt 32 (((i.val : ℤ) - (j.val : ℤ)) * 16)).toInt : ℝ) : EReal) = _
  rw [ht]; push_cast; rfl

theorem r60 : val_main_v60 (F := Ideal) x0 x1 (ix4 b r h i) = val_main_v46 (F := Ideal) x0 x1 (ix5 b r h i 0) := by
  unfold val_main_v60
  exact squeeze5 b r h i _ _

theorem r46 : val_main_v46 (F := Ideal) x0 x1 (ix5 b r h i 0) = val_main_v40 (F := Ideal) x0 x1 (ix4 b r h i) := by
  simp only [val_main_v46, pointwise, Nat.reduceEqDiff, reduceDIte]

/-! ## One head -/

section Stages

variable (I : Inputs x0 x1 x2 x3 x4 x5 x6 x7 H)

include I

theorem s25 : val_main_v25 (F := Ideal) x0 (ix5 b r h i d) = (((H b r h).q i d : ℝ) : EReal) := by
  simp only [val_main_v25, val_main_v24, pointwise]
  exact I.q b r h i d

theorem s27 : val_main_v27 (F := Ideal) x1 (ix5 b r h i d) = (((H b r h).k i d : ℝ) : EReal) := by
  simp only [val_main_v27, val_main_v26, pointwise]
  exact I.k b r h i d

theorem s52 : val_main_v52 (F := Ideal) x2 (ix5 b r h i d) = (((H b r h).v i d : ℝ) : EReal) := by
  simp only [val_main_v52, val_main_v51, pointwise]
  exact I.v b r h i d

/-- The scores. -/
theorem s38 : val_main_v38 (F := Ideal) x0 x1 (ix5 b r h i j) = (((H b r h).sc i j : ℝ) : EReal) := by
  simp only [val_main_v38, val_main_v37, val_main_v36, val_main_v35, val_main_v34, val_main_v33, val_main_v32, val_main_v31, val_main_v30,
    val_main_v29, val_main_cst_9, val_main_v28, val_main_v23, val_main_v22, val_main_v21, val_main_c_8, pointwise, Nat.reduceEqDiff, reduceDIte]
  simp only [s25 _ _ _ _ _ I, s27 _ _ _ _ _ I]
  rw [zero_add, r8, r15, apart, I.slope b r h, word_eighth]
  simp only [← EReal.coe_mul]
  rw [coe_sum, ← EReal.coe_mul, ← EReal.coe_sub]
  rfl

/-- The masked scores. -/
theorem s39 : val_main_v39_0 (F := Ideal) x0 x1 (ix5 b r h i j) = if j ≤ i then (((H b r h).sc i j : ℝ) : EReal) else ⊥ := by
  simp only [val_main_v39_0, val_main_call0_v2, val_main_call0_v0, val_main_cst_10, pointwise, Nat.reduceEqDiff, reduceDIte]
  rw [r39, s38 b r h i j I]
  split
  · rfl
  · exact word_bot

omit I in
variable (x0 x1) in
/-- The row maximum. -/
def top : ℝ := (val_main_v40 (F := Ideal) x0 x1 (ix4 b r h i)).toReal

theorem s40 : val_main_v40 (F := Ideal) x0 x1 (ix4 b r h i) = ((top x0 x1 b r h i : ℝ) : EReal) ∧
    ∃ j, val_main_v39_0 (F := Ideal) x0 x1 (ix5 b r h i j) = val_main_v40 (F := Ideal) x0 x1 (ix4 b r h i) := by
  have hv : val_main_v40 (F := Ideal) x0 x1 (ix4 b r h i) =
      Finset.fold max ⊥ (fun k => val_main_v39_0 (F := Ideal) x0 x1 (ix5 b r h i k)) Finset.univ := by
    simp only [val_main_v40, val_main_cst_11, pointwise]
    rw [word_bot]
  obtain ⟨m, hm, j, hj⟩ := fold_max (fun k => val_main_v39_0 (F := Ideal) x0 x1 (ix5 b r h i k))
    (fun k => by rw [s39 b r h i k I]; split; exact EReal.coe_ne_top _; exact bot_ne_top) i
    (by rw [s39 b r h i i I, if_pos le_rfl]; exact EReal.coe_ne_bot _)
  refine ⟨?_, j, ?_⟩
  · unfold top; rw [hv, hm, EReal.toReal_coe]
  · rw [hv, hm]; exact hj

/-- The exponentials, less the row maximum. -/
theorem s49 : val_main_v49 (F := Ideal) x0 x1 (ix5 b r h i j) = (((H b r h).E i j * Real.exp (-top x0 x1 b r h i) : ℝ) : EReal) := by
  simp only [val_main_v49, val_main_v48, val_main_v47, val_main_v46, pointwise, Nat.reduceEqDiff, reduceDIte]
  rw [s39 b r h i j I, (s40 b r h i I).1]
  unfold Head.E
  by_cases hji : j ≤ i
  · rw [if_pos hji, if_pos hji, ← EReal.coe_sub, Ideal.exp_coe, sub_eq_add_neg, Real.exp_add]
  · rw [if_neg hji, if_neg hji, sub_eq_add_neg, EReal.bot_add, Ideal.exp_bot, zero_mul]; rfl

theorem s50 : val_main_v50 (F := Ideal) x0 x1 (ix4 b r h i) = (((H b r h).Z i * Real.exp (-top x0 x1 b r h i) : ℝ) : EReal) := by
  simp only [val_main_v50, val_main_cst_13, pointwise, Nat.reduceEqDiff, reduceDIte]
  simp only [s49 _ _ _ _ _ I]
  rw [zero_add, coe_sum, ← Finset.sum_mul]; rfl

theorem s53 : val_main_v53 (F := Ideal) x0 x1 x2 (ix5 b r h i d) = (((H b r h).N i d * Real.exp (-top x0 x1 b r h i) : ℝ) : EReal) := by
  simp only [val_main_v53, pointwise, Nat.reduceEqDiff, reduceDIte]
  simp only [s49 _ _ _ _ _ I, s52 _ _ _ _ _ I, ← EReal.coe_mul]
  rw [zero_add, coe_sum, Head.N, Finset.sum_mul]
  exact congrArg _ (Finset.sum_congr rfl fun j _ => by ring)

theorem Ze_ne : (H b r h).Z i * Real.exp (-top x0 x1 b r h i) ≠ 0 := (mul_pos ((H b r h).Z_pos i) (Real.exp_pos _)).ne'

/-- The head's own output. -/
theorem s56 : val_main_v56 (F := Ideal) x0 x1 x2 (ix5 b r h i d) = (((H b r h).N i d / (H b r h).Z i : ℝ) : EReal) := by
  simp only [val_main_v56, val_main_v55, val_main_v54, pointwise, Nat.reduceEqDiff, reduceDIte]
  rw [s53 b r h i d I, s50 b r h i I, div_coe _ _ (Ze_ne b r h i I), mul_div_mul_right _ _ (Real.exp_pos _).ne']

/-- The head's own log-sum. -/
theorem s62 : val_main_v62 (F := Ideal) x0 x1 (ix4 b r h i) = ((Real.log ((H b r h).Z i) : ℝ) : EReal) := by
  have h61 : val_main_v61 (F := Ideal) x0 x1 (ix4 b r h i) = Ideal.log (val_main_v50 (F := Ideal) x0 x1 (ix4 b r h i)) := rfl
  rw [val_main_v62_apply, h61, r60, r46, (s40 b r h i I).1, s50 b r h i I, log_coe _ (mul_pos ((H b r h).Z_pos i) (Real.exp_pos _)),
    Real.log_mul ((H b r h).Z_pos i).ne' (Real.exp_pos _).ne', Real.log_exp, Ideal.addf_def, ← EReal.coe_add]
  exact congrArg _ (by ring)

theorem s64 : val_main_v64 (F := Ideal) x0 x1 x2 (ix4 b (tok i r) h d) = (((H b r h).N i d / (H b r h).Z i : ℝ) : EReal) := by
  simp only [val_main_v64, merge4, val_main_v63, pointwise, Nat.reduceEqDiff, reduceDIte]
  exact s56 b r h i d I

theorem s66 : val_main_v66 (F := Ideal) x0 x1 (ix3 b (tok i r) h) = ((Real.log ((H b r h).Z i) : ℝ) : EReal) := by
  simp only [val_main_v66, merge3, val_main_v65, pointwise, Nat.reduceEqDiff, reduceDIte]
  exact s62 b r h i I

/-! ## The mix of the groups -/

theorem s70 : val_main_v70 (F := Ideal) x0 x1 x5 x6 (ix4 a b (tok i r) h) = (((H b r h).L i a : ℝ) : EReal) := by
  simp only [val_main_v70, val_main_v67, val_main_v68, val_main_v69, pointwise, Nat.reduceEqDiff, reduceDIte]
  fin_cases a
  · exact I.l0 b r h i
  · exact I.l1 b r h i
  · exact s66 b r h i I

omit I in
variable (x0 x1 x5 x6) in
/-- The greatest of the three log-sums. -/
def big : ℝ := (val_main_v73 (F := Ideal) x0 x1 x5 x6 (ix3 b (tok i r) h)).toReal

theorem s73 : val_main_v73 (F := Ideal) x0 x1 x5 x6 (ix3 b (tok i r) h) = ((big x0 x1 x5 x6 b r h i : ℝ) : EReal) := by
  have hv : val_main_v73 (F := Ideal) x0 x1 x5 x6 (ix3 b (tok i r) h) =
      Finset.fold max ⊥ (fun a => val_main_v70 (F := Ideal) x0 x1 x5 x6 (ix4 a b (tok i r) h)) Finset.univ := by
    simp only [val_main_v73, val_main_cst_17, pointwise, Nat.reduceEqDiff, reduceDIte]
    rw [word_bot]
  obtain ⟨m, hm, -⟩ := fold_max (fun a => val_main_v70 (F := Ideal) x0 x1 x5 x6 (ix4 a b (tok i r) h))
    (fun a => by rw [s70 b r h i a I]; exact EReal.coe_ne_top _) 0 (by rw [s70 b r h i 0 I]; exact EReal.coe_ne_bot _)
  unfold big; rw [hv, hm, EReal.toReal_coe]

theorem s93 : val_main_v93 (F := Ideal) x0 x1 x5 x6 (ix4 a b (tok i r) h) =
    (((H b r h).X i a * Real.exp (-big x0 x1 x5 x6 b r h i) : ℝ) : EReal) := by
  simp only [val_main_v93, val_main_v92, val_main_v91, val_main_v90, val_main_v80, val_main_v79, val_main_cst_19, pointwise,
    Nat.reduceEqDiff, reduceDIte]
  rw [s70 b r h i a I, s73 b r h i I, word_bot, max_eq_right bot_le, ← EReal.coe_sub, Ideal.exp_coe, sub_eq_add_neg, Real.exp_add,
    Head.exp_L]

theorem s94 : val_main_v94 (F := Ideal) x0 x1 x5 x6 (ix3 b (tok i r) h) =
    (((H b r h).W i * Real.exp (-big x0 x1 x5 x6 b r h i) : ℝ) : EReal) := by
  simp only [val_main_v94, val_main_cst_25, pointwise, Nat.reduceEqDiff, reduceDIte]
  simp only [s93 _ _ _ _ _ I]
  rw [zero_add, coe_sum, ← Finset.sum_mul, Head.sum_X]

theorem We_ne : (H b r h).W i * Real.exp (-big x0 x1 x5 x6 b r h i) ≠ 0 := (mul_pos ((H b r h).W_pos i) (Real.exp_pos _)).ne'

/-- The weights of the three groups. -/
theorem s97 : val_main_v97 (F := Ideal) x0 x1 x5 x6 (ix4 a b (tok i r) h) = (((H b r h).X i a / (H b r h).W i : ℝ) : EReal) := by
  simp only [val_main_v97, val_main_v96, val_main_v95, pointwise, Nat.reduceEqDiff, reduceDIte]
  rw [s93 b r h i a I, s94 b r h i I, div_coe _ _ (We_ne b r h i I), mul_div_mul_right _ _ (Real.exp_pos _).ne']

theorem s105 : val_main_v105 (F := Ideal) x0 x1 x2 x3 x4 (ix5 a b (tok i r) h d) = (((H b r h).O i d a : ℝ) : EReal) := by
  simp only [val_main_v105, val_main_v104, val_main_v103, val_main_v102, pointwise, Nat.reduceEqDiff, reduceDIte]
  fin_cases a
  · exact I.a0 b r h i d
  · exact I.a1 b r h i d
  · exact s64 b r h i d I

theorem s113 : val_main_v113 (F := Ideal) x7 (ix5 a b (tok i r) h d) = (((H b r h).g i d : ℝ) : EReal) := by
  simp only [val_main_v113, val_main_v112, pointwise, Nat.reduceEqDiff, reduceDIte]
  exact I.g b r h i d

end Stages

end Cert.Attn

end

end
-- ==== Proof.Block.lean ====
module

public import proofs.«01_k».proof.Proof.Gen.KernelIdeal.Value
public import proofs.«01_k».proof.Proof.Tile

/-! # What one grid point of the kernel computes

A point holds one residue's 128 rows of all eight heads. The heads come in four pairs of 64 + 64 lanes. The three
theorems at the end say that what the body leaves in its three result blocks is made of the arrays of Tile.lean. -/

@[expose] public section

noncomputable section

namespace Cert.Attn

open Cert.KernelIdeal Cert.KernelIdeal.Gen Idealize.ShloMosaic Idealize.ShloMosaic.TcCoe Idealize.SL.Sem
  Idealize.ShloMosaic.Tactic

/-! ## Reading scratch memory written one tile at a time -/

section Tiles

variable {Val : EltTy → Type} [∀ e, Nonempty (Val e)] {sg : RefSig} {kd : Kind} {sp : Space} {e : EltTy}

/-- A load of a tile right after it was stored reads what was stored. -/
theorem load_hit {S : Shape} (v : View sg kd sp S e) (off size : Fin S.rank → ℕ) (i₁ i₂)
    (w : (Rect.unit (s := S) off size i₁).shape.Idx → Val e) (L : List (View.Piece Val S e)) :
    v.readCov ((⟨Rect.unit (s := S) off size i₁, w⟩ : View.Piece Val S e) :: L)
      (Rect.unit (s := S) off size i₂).toLoadRect = w := by
  rw [View.readCov_eq_canon']
  funext j
  exact View.canon_cons_emb _ w L j

/-- A load of a tile does not see a store to a tile that starts, along axis `a`, where the loaded one ends. -/
theorem load_skip {S : Shape} (a : Fin S.rank) (v : View sg kd sp S e) (off off' size : Fin S.rank → ℕ)
    (hk : off a + size a ≤ off' a) (i₁ i₂)
    (w : (Rect.unit (s := S) off' size i₁).shape.Idx → Val e) (L : List (View.Piece Val S e)) :
    v.readCov ((⟨Rect.unit (s := S) off' size i₁, w⟩ : View.Piece Val S e) :: L)
      (Rect.unit (s := S) off size i₂).toLoadRect
      = v.readCov L (Rect.unit (s := S) off size i₂).toLoadRect := by
  rw [View.readCov_eq_canon', View.readCov_eq_canon']
  funext j
  refine View.canon_cons_of_not_mem _ _ ?_
  intro hm
  have hm' : _ ∈ (Rect.unit (s := S) off' size i₁).set := hm
  have h0 := (Rect.mem_set_unit.mp hm' a).1
  have hj : (j a).val < size a := (j a).isLt
  have e0 : (((Rect.unit (s := S) off size i₂).toLoadRect.idx j a : ℕ)) = off a + (j a).val := by
    show off a + 1 * (j a).val = _; omega
  rw [e0] at h0
  omega

/-- A load of a column tile that starts where an earlier tile ends does not see the store to that earlier tile. -/
theorem acc_skip (v : View sg kd sp S128x512 e) (off off' size : Fin 2 → ℕ)
    (hk : off' 1 + size 1 ≤ off 1) (i₁ i₂)
    (w : (Rect.unit (s := S128x512) off' size i₁).shape.Idx → Val e) (L : List (View.Piece Val S128x512 e)) :
    v.readCov ((⟨Rect.unit (s := S128x512) off' size i₁, w⟩ : View.Piece Val S128x512 e) :: L)
      (Rect.unit (s := S128x512) off size i₂).toLoadRect
      = v.readCov L (Rect.unit (s := S128x512) off size i₂).toLoadRect := by
  rw [View.readCov_eq_canon', View.readCov_eq_canon']
  funext j
  refine View.canon_cons_of_not_mem _ _ ?_
  intro hm
  have hm' : _ ∈ (Rect.unit (s := S128x512) off' size i₁).set := hm
  have h0 := (Rect.mem_set_unit.mp hm' 1).2
  have e0 : (((Rect.unit (s := S128x512) off size i₂).toLoadRect.idx j 1 : ℕ)) = off 1 + (j 1).val := by
    show off 1 + 1 * (j 1).val = _; omega
  rw [e0] at h0
  omega

/-- The same for the eight stacked tiles. -/
theorem load_skip8 (v : View sg kd sp S8x128x256 e) (off off' size : Fin 3 → ℕ)
    (hk : off 0 + size 0 ≤ off' 0) (i₁ i₂)
    (w : (Rect.unit (s := S8x128x256) off' size i₁).shape.Idx → Val e) (L : List (View.Piece Val S8x128x256 e)) :
    v.readCov ((⟨Rect.unit (s := S8x128x256) off' size i₁, w⟩ : View.Piece Val S8x128x256 e) :: L)
      (Rect.unit (s := S8x128x256) off size i₂).toLoadRect
      = v.readCov L (Rect.unit (s := S8x128x256) off size i₂).toLoadRect :=
  load_skip (S := S8x128x256) 0 v off off' size hk i₁ i₂ w L

/-- Before any tile is stored, a load of a tile reads the fill. -/
theorem acc_fill (v : View sg kd sp S128x512 e) (z : Val e) (off size : Fin 2 → ℕ) (i₁ i₂) (hc) :
    v.readCov [(⟨Rect.unit (s := S128x512) ![0, 0] ![128, 512] i₁, shapeCast S128x512 (broadcast S128x512 z) hc⟩ : View.Piece Val S128x512 e)]
      (Rect.unit (s := S128x512) off size i₂).toLoadRect = fun _ => z := by
  rw [View.readCov_eq_canon']
  funext j
  rw [View.canon_unit_zero (by funext a; fin_cases a <;> rfl)]
  rfl

/-- A load of the whole accumulator reads the stores. -/
theorem acc_whole (v : View sg kd sp S128x512 e) (L : List (View.Piece Val S128x512 e)) (i₂) :
    v.readCov L (Rect.unit (s := S128x512) ![0, 0] ![128, 512] i₂).toLoadRect = View.canon L := by
  rw [View.readCov_eq_canon']
  exact View.ld_unit_zero (S := S128x512) (by funext a; fin_cases a <;> rfl) i₂ (View.canon L)

end Tiles

variable {F : FTy → Type} [FloatOps F] [Named F]

set_option maxHeartbeats 4000000 in
set_option maxRecDepth 20000 in
theorem outQ (c : Dev nD) (i : grid0.Coords) (arg2 : Memref sig .tc .vmem S1x1x128x512 .bf16) (harg2 : arg2.IsWhole) (arg3 : Memref sig .tc .vmem S1x1x128x512 .bf16) (harg3 : arg3.IsWhole) (arg4 : Memref sig .tc .vmem S1x1x128x512 .bf16) (harg4 : arg4.IsWhole) (arg5 : Memref sig .tc .vmem S1x1x128x512 .bf16) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x512 .bf16) (harg8 : arg8.IsWhole) (arg9 : Memref sig .tc .vmem S1x1x128x512 .bf16) (harg9 : arg9.IsWhole) (arg10 : Memref sig .tc .vmem S1x1x128x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S8x128x256 .f32) (harg13 : arg13.IsWhole) (arg14 : Memref sig .tc .vmem S8x128x256 .f32) (harg14 : arg14.IsWhole) (arg15 : Memref sig .tc .vmem S8x128x256 .f32) (harg15 : arg15.IsWhole) (arg16 : Memref sig .tc .vmem S8x128x256 .bf16) (harg16 : arg16.IsWhole) (arg17 : Memref sig .tc .vmem S8x128x256 .bf16) (harg17 : arg17.IsWhole)
    (x0 : Vec F S1x1x128x512 .bf16) (x1 : Vec F S1x1x128x512 .bf16) (x2 : Vec F S1x1x128x512 .bf16) (x3 : Vec F S1x1x128x512 .bf16) (x4 : Vec F S1x1x128x128 .f32) (x5 : Vec F S1x1x128x128 .f32) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = blockQ x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5)]
  unfold kernelRun0_A
  dsimp only
  sl_unfold_words
  simp (decide := true) only [View.readAt_eq_ld, harg2.read_unread, harg3.read_unread, harg4.read_unread, harg5.read_unread, harg6.read_unread, harg7.read_unread, load_hit, load_skip8, acc_skip, acc_fill, acc_whole]
  rfl

set_option maxHeartbeats 4000000 in
set_option maxRecDepth 20000 in
theorem outK (c : Dev nD) (i : grid0.Coords) (arg2 : Memref sig .tc .vmem S1x1x128x512 .bf16) (harg2 : arg2.IsWhole) (arg3 : Memref sig .tc .vmem S1x1x128x512 .bf16) (harg3 : arg3.IsWhole) (arg4 : Memref sig .tc .vmem S1x1x128x512 .bf16) (harg4 : arg4.IsWhole) (arg5 : Memref sig .tc .vmem S1x1x128x512 .bf16) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x512 .bf16) (harg8 : arg8.IsWhole) (arg9 : Memref sig .tc .vmem S1x1x128x512 .bf16) (harg9 : arg9.IsWhole) (arg10 : Memref sig .tc .vmem S1x1x128x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S8x128x256 .f32) (harg13 : arg13.IsWhole) (arg14 : Memref sig .tc .vmem S8x128x256 .f32) (harg14 : arg14.IsWhole) (arg15 : Memref sig .tc .vmem S8x128x256 .f32) (harg15 : arg15.IsWhole) (arg16 : Memref sig .tc .vmem S8x128x256 .bf16) (harg16 : arg16.IsWhole) (arg17 : Memref sig .tc .vmem S8x128x256 .bf16) (harg17 : arg17.IsWhole)
    (x0 : Vec F S1x1x128x512 .bf16) (x1 : Vec F S1x1x128x512 .bf16) (x2 : Vec F S1x1x128x512 .bf16) (x3 : Vec F S1x1x128x512 .bf16) (x4 : Vec F S1x1x128x128 .f32) (x5 : Vec F S1x1x128x128 .f32) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = blockK x0 x1 x2 x3 x4 x5 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5)]
  unfold kernelRun0_A
  dsimp only
  rw [View.canon_unit_zero (by funext a; fin_cases a <;> rfl)]
  sl_unfold_words
  simp (decide := true) only [View.readAt_eq_ld, harg2.read_unread, harg3.read_unread, harg4.read_unread, harg5.read_unread, harg6.read_unread, harg7.read_unread, load_hit, load_skip8, acc_skip, acc_fill, acc_whole]
  rfl

set_option maxHeartbeats 4000000 in
set_option maxRecDepth 20000 in
theorem outV (c : Dev nD) (i : grid0.Coords) (arg2 : Memref sig .tc .vmem S1x1x128x512 .bf16) (harg2 : arg2.IsWhole) (arg3 : Memref sig .tc .vmem S1x1x128x512 .bf16) (harg3 : arg3.IsWhole) (arg4 : Memref sig .tc .vmem S1x1x128x512 .bf16) (harg4 : arg4.IsWhole) (arg5 : Memref sig .tc .vmem S1x1x128x512 .bf16) (harg5 : arg5.IsWhole) (arg6 : Memref sig .tc .vmem S1x1x128x128 .f32) (harg6 : arg6.IsWhole) (arg7 : Memref sig .tc .vmem S1x1x128x128 .f32) (harg7 : arg7.IsWhole) (arg8 : Memref sig .tc .vmem S1x1x128x512 .bf16) (harg8 : arg8.IsWhole) (arg9 : Memref sig .tc .vmem S1x1x128x512 .bf16) (harg9 : arg9.IsWhole) (arg10 : Memref sig .tc .vmem S1x1x128x512 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S8x128x256 .f32) (harg13 : arg13.IsWhole) (arg14 : Memref sig .tc .vmem S8x128x256 .f32) (harg14 : arg14.IsWhole) (arg15 : Memref sig .tc .vmem S8x128x256 .f32) (harg15 : arg15.IsWhole) (arg16 : Memref sig .tc .vmem S8x128x256 .bf16) (harg16 : arg16.IsWhole) (arg17 : Memref sig .tc .vmem S8x128x256 .bf16) (harg17 : arg17.IsWhole)
    (x0 : Vec F S1x1x128x512 .bf16) (x1 : Vec F S1x1x128x512 .bf16) (x2 : Vec F S1x1x128x512 .bf16) (x3 : Vec F S1x1x128x512 .bf16) (x4 : Vec F S1x1x128x128 .f32) (x5 : Vec F S1x1x128x128 .f32) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 = blockV x0 x1 x3 x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5)]
  unfold kernelRun0_A
  dsimp only
  rw [View.canon_unit_zero (by funext a; fin_cases a <;> rfl)]
  sl_unfold_words
  simp (decide := true) only [View.readAt_eq_ld, harg2.read_unread, harg3.read_unread, harg4.read_unread, harg5.read_unread, harg6.read_unread, harg7.read_unread, load_hit, load_skip8, acc_skip, acc_fill, acc_whole]
  rfl

end Cert.Attn
-- ==== Proof.Blocks.lean ====
/- The three result blocks of one grid point at an index: with real inputs, the gradients of the eight heads. -/
module

public import proofs.«01_k».proof.Proof.Entries
public import Idealize.ShloMosaic.Lib.Pipeline.ValueKit.Tiles

@[expose] public section

noncomputable section

namespace Cert.Attn

open Cert.KernelIdeal Cert.KernelIdeal.Gen Idealize.ShloMosaic

/-- The head a column of a row belongs to. -/
def headOf (l : Fin 512) : Fin 8 := ⟨l.val / 64, by omega⟩

/-- The lane of a column within its head. -/
def laneOf (l : Fin 512) : Fin 64 := ⟨l.val % 64, by omega⟩

/-- The head at side `e` of pair `p`. -/
def headAt (p : Fin 4) (e : Fin 2) : Fin 8 := ⟨2 * p.val + e.val, by omega⟩

/-- The words of the eight slopes, negated. -/
def word : Fin 8 → BitVec 32
  | 0 => 0xBD3504F3#32 | 1 => 0xBD000000#32 | 2 => 0xBCB504F3#32 | 3 => 0xBC800000#32
  | 4 => 0xBC3504F3#32 | 5 => 0xBC000000#32 | 6 => 0xBBB504F3#32 | 7 => 0xBB800000#32

theorem blk_apply (x : Vec Ideal S1x1x128x512 .bf16) (p : Fin 4) (o : ℕ) (ho) (hp : o = 128 * p.val) (i : Fin 128) (e : Fin 2) (d : Fin 64)
    (l : Fin 512) (hl : l.val = 64 * (headAt p e).val + d.val) :
    blk o ho x (ix2 i (lane e d)) = x (ix4 0 0 i l) := by
  unfold blk
  simp only [pointwise]
  congr 1
  funext a
  match a with
  | ⟨0, _⟩ => rfl
  | ⟨1, _⟩ => rfl
  | ⟨2, _⟩ => exact Fin.ext (show 0 + 1 * i.val = i.val by omega)
  | ⟨3, _⟩ => exact Fin.ext (show o + 1 * (lane e d).val = l.val by rw [hl, hp]; simp only [lane, headAt]; omega)

theorem col_apply (x : Vec Ideal S1x1x128x128 .f32) (t : ℕ) (ht) (i j : Fin 128) (l : Fin 128) (hl : l.val = t) :
    col t ht x (ix2 i j) = x (ix4 0 0 i l) := by
  unfold col
  simp only [pointwise]
  congr 1
  funext a
  match a with
  | ⟨0, _⟩ => rfl
  | ⟨1, _⟩ => rfl
  | ⟨2, _⟩ => exact Fin.ext (show 0 + 1 * i.val = i.val by omega)
  | ⟨3, _⟩ => exact Fin.ext (show t + 1 * 0 = l.val by omega)

section

variable (H : Fin 8 → Head) (x0 x1 x2 x3 : Vec Ideal S1x1x128x512 .bf16) (x4 x5 : Vec Ideal S1x1x128x128 .f32)

/-- What one residue's blocks hold: the eight heads' rows side by side, and their rows' numbers in the first eight columns. -/
structure Holds : Prop where
  slope : ∀ h, Ideal.ofBits .f32 (word h) = ((-(H h).sl : ℝ) : EReal)
  q : ∀ i l, x0 (ix4 0 0 i l) = (((H (headOf l)).q i (laneOf l) : ℝ) : EReal)
  k : ∀ i l, x1 (ix4 0 0 i l) = (((H (headOf l)).k i (laneOf l) : ℝ) : EReal)
  v : ∀ i l, x2 (ix4 0 0 i l) = (((H (headOf l)).v i (laneOf l) : ℝ) : EReal)
  g : ∀ i l, x3 (ix4 0 0 i l) = (((H (headOf l)).g i (laneOf l) : ℝ) : EReal)
  lse : ∀ i (h : Fin 8), x4 (ix4 0 0 i ⟨h.val, by omega⟩) = ((Real.log ((H h).W i) : ℝ) : EReal)
  del : ∀ i (h : Fin 8), x5 (ix4 0 0 i ⟨h.val, by omega⟩) = (((H h).del i : ℝ) : EReal)

variable {H x0 x1 x2 x3 x4 x5}
variable (B : Holds H x0 x1 x2 x3 x4 x5) (p : Fin 4) (e : Fin 2) (o : ℕ) (ho : ∀ a, (![0, 0, 0, o] : Fin 4 → ℕ) a + S1x1x128x128.size a ≤ S1x1x128x512.size a)
  (t : ℕ) (ht : ∀ a, (![0, 0, 0, t] : Fin 4 → ℕ) a + S1x1x128x1.size a ≤ S1x1x128x128.size a)
  (t' : ℕ) (ht' : ∀ a, (![0, 0, 0, t'] : Fin 4 → ℕ) a + S1x1x128x1.size a ≤ S1x1x128x128.size a)

/-- A block's tile at a lane, when the block holds one number per head, row and lane. -/
theorem blk_real (x : Vec Ideal S1x1x128x512 .bf16) (f : Fin 8 → Fin 128 → Fin 64 → ℝ)
    (hx : ∀ i l, x (ix4 0 0 i l) = ((f (headOf l) i (laneOf l) : ℝ) : EReal)) (hp : o = 128 * p.val) (i : Fin 128) (d : Fin 64) :
    blk o ho x (ix2 i (lane e d)) = ((f (headAt p e) i d : ℝ) : EReal) := by
  have hd := d.isLt; have hh := (headAt p e).isLt
  rw [blk_apply x p o ho hp i e d ⟨64 * (headAt p e).val + d.val, by omega⟩ rfl, hx]
  rw [show headOf ⟨64 * (headAt p e).val + d.val, by omega⟩ = headAt p e from
      Fin.ext (show (64 * (headAt p e).val + d.val) / 64 = (headAt p e).val by omega),
    show laneOf ⟨64 * (headAt p e).val + d.val, by omega⟩ = d from Fin.ext (show (64 * (headAt p e).val + d.val) % 64 = d.val by omega)]

include B in
theorem headP_apply (hp : o = 128 * p.val) (hh : t = (headAt p e).val) (w) (hw : w = word (headAt p e)) (i j : Fin 128) :
    headP x0 x1 x4 (side e) w o ho t ht (ix2 i j) = (((H (headAt p e)).P i j : ℝ) : EReal) :=
  wgt_apply (H (headAt p e)) e w (hw ▸ B.slope _) _ _ _
    (blk_real p e o ho x0 (fun h => (H h).q) B.q hp) (blk_real p e o ho x1 (fun h => (H h).k) B.k hp)
    (fun i j => (col_apply x4 t ht i j ⟨(headAt p e).val, by omega⟩ hh.symm).trans (B.lse i _)) i j

include B in
theorem headD_apply (hp : o = 128 * p.val) (hh : t = (headAt p e).val) (w) (hw : w = word (headAt p e)) (i j : Fin 128) :
    headD x0 x1 x2 x3 x4 x5 (side e) w o ho t ht (ix2 i j) = (((H (headAt p e)).dS i j : ℝ) : EReal) :=
  gsc_apply (H (headAt p e)) e w (hw ▸ B.slope _) _ _ _ _ _ _
    (blk_real p e o ho x0 (fun h => (H h).q) B.q hp) (blk_real p e o ho x1 (fun h => (H h).k) B.k hp)
    (blk_real p e o ho x3 (fun h => (H h).g) B.g hp) (blk_real p e o ho x2 (fun h => (H h).v) B.v hp)
    (fun i j => (col_apply x4 t ht i j ⟨(headAt p e).val, by omega⟩ hh.symm).trans (B.lse i _))
    (fun i j => (col_apply x5 t ht i j ⟨(headAt p e).val, by omega⟩ hh.symm).trans (B.del i _)) i j

theorem split_lane (x : Fin 128) : ∃ e d, x = lane e d :=
  ⟨⟨x.val / 64, by omega⟩, ⟨x.val % 64, by omega⟩, Fin.ext (by simp only [lane]; omega)⟩

variable (hp : o = 128 * p.val) (hh : t = (headAt p 0).val) (hh' : t' = (headAt p 1).val) (w w' : BitVec 32)
  (hw : w = word (headAt p 0)) (hw' : w' = word (headAt p 1))

include B hp hh hh' hw hw' in
theorem pairQ_apply (i x : Fin 128) (l : Fin 512) (hl : l.val = o + x.val) :
    pairQ x0 x1 x2 x3 x4 x5 w w' o ho t ht t' ht' (ix4 0 0 i x) = (((H (headOf l)).dq i (laneOf l) : ℝ) : EReal) := by
  obtain ⟨e, d, rfl⟩ := split_lane x
  have hd := d.isLt
  rw [show headOf l = headAt p e from Fin.ext (by simp only [headOf, headAt, hl, lane, hp]; omega),
    show laneOf l = d from Fin.ext (by simp only [laneOf, hl, lane, hp]; omega)]
  refine tileQ_apply (fun e => H (headAt p e)) ![headD x0 x1 x2 x3 x4 x5 .slt w o ho t ht, headD x0 x1 x2 x3 x4 x5 .sge w' o ho t' ht'] _
    (fun e i j => ?_) (fun e i l => blk_real p e o ho x1 (fun h => (H h).k) B.k hp i l) e i d
  match e with
  | 0 => exact headD_apply B p 0 o ho t ht hp hh w hw i j
  | 1 => exact headD_apply B p 1 o ho t' ht' hp hh' w' hw' i j

include B hp hh hh' hw hw' in
theorem pairK_apply (i x : Fin 128) (l : Fin 512) (hl : l.val = o + x.val) :
    pairK x0 x1 x2 x3 x4 x5 w w' o ho t ht t' ht' (ix2 i x) = (((H (headOf l)).dk i (laneOf l) : ℝ) : EReal) := by
  obtain ⟨e, d, rfl⟩ := split_lane x
  have hd := d.isLt
  rw [show headOf l = headAt p e from Fin.ext (by simp only [headOf, headAt, hl, lane, hp]; omega),
    show laneOf l = d from Fin.ext (by simp only [laneOf, hl, lane, hp]; omega)]
  refine tileK_apply (fun e => H (headAt p e)) ![headD x0 x1 x2 x3 x4 x5 .slt w o ho t ht, headD x0 x1 x2 x3 x4 x5 .sge w' o ho t' ht'] _
    (fun e i j => ?_) (fun e i l => blk_real p e o ho x0 (fun h => (H h).q) B.q hp i l) e i d
  match e with
  | 0 => exact headD_apply B p 0 o ho t ht hp hh w hw i j
  | 1 => exact headD_apply B p 1 o ho t' ht' hp hh' w' hw' i j

include B hp hh hh' hw hw' in
theorem pairV_apply (i x : Fin 128) (l : Fin 512) (hl : l.val = o + x.val) :
    pairV x0 x1 x3 x4 w w' o ho t ht t' ht' (ix2 i x) = (((H (headOf l)).dv i (laneOf l) : ℝ) : EReal) := by
  obtain ⟨e, d, rfl⟩ := split_lane x
  have hd := d.isLt
  rw [show headOf l = headAt p e from Fin.ext (by simp only [headOf, headAt, hl, lane, hp]; omega),
    show laneOf l = d from Fin.ext (by simp only [laneOf, hl, lane, hp]; omega)]
  refine tileV_apply (fun e => H (headAt p e)) ![headP x0 x1 x4 .slt w o ho t ht, headP x0 x1 x4 .sge w' o ho t' ht'] _
    (fun e i j => ?_) (fun e i l => blk_real p e o ho x3 (fun h => (H h).g) B.g hp i l) e i d
  match e with
  | 0 => exact headP_apply B p 0 o ho t ht hp hh w hw i j
  | 1 => exact headP_apply B p 1 o ho t' ht' hp hh' w' hw' i j

theorem idx4 (x : S1x1x128x128.Idx) : x = ix4 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem idx2 (x : S128x128.Idx) : x = ix2 (x 0) (x 1) := by
  funext a
  match a with
  | ⟨0, _⟩ => rfl
  | ⟨1, _⟩ => rfl

include B in
theorem blockQ_apply (i : Fin 128) (l : Fin 512) :
    blockQ x0 x1 x2 x3 x4 x5 (ix4 0 0 i l) = (((H (headOf l)).dq i (laneOf l) : ℝ) : EReal) := by
  have hi : ∀ {x : S1x1x128x128.Idx}, i.val = (x 2).val → x = ix4 0 0 i (x 3) := fun {x} h => by
    rw [show i = x 2 from Fin.ext h]; exact idx4 x
  unfold blockQ
  canon_tiles x h
  all_goals rw [hi h2]
  · exact pairQ_apply B 3 _ _ _ _ _ _ rfl rfl rfl _ _ rfl rfl i _ l h3
  · exact pairQ_apply B 2 _ _ _ _ _ _ rfl rfl rfl _ _ rfl rfl i _ l h3
  · exact pairQ_apply B 1 _ _ _ _ _ _ rfl rfl rfl _ _ rfl rfl i _ l h3
  · exact pairQ_apply B 0 _ _ _ _ _ _ rfl rfl rfl _ _ rfl rfl i _ l (h3.trans (Nat.zero_add _).symm)

theorem canon_covered {Val : EltTy → Type} [∀ e, Nonempty (Val e)] {S : Shape} {e : EltTy} (p : View.Piece Val S e) (y : S.Idx) :
    ∀ L : List (View.Piece Val S e), (∃ q ∈ L, y ∈ q.1.set) → View.canon (L ++ [p]) y = View.canon L y
  | [], h => by obtain ⟨q, hq, _⟩ := h; exact absurd hq List.not_mem_nil
  | q :: L, h => by
    by_cases hm : y ∈ q.1.set
    · obtain ⟨x, rfl⟩ := q.1.exists_idx_of_mem hm
      rw [show q.1.idx x = q.1.emb x from rfl, List.cons_append, View.canon_cons_emb, View.canon_cons_emb]
    · rw [List.cons_append, View.canon_cons_of_not_mem _ _ hm, View.canon_cons_of_not_mem _ _ hm]
      refine canon_covered p y L ?_
      obtain ⟨r, hr, hy⟩ := h
      rcases List.mem_cons.mp hr with rfl | hr
      · exact absurd hy hm
      · exact ⟨r, hr, hy⟩

/-- Four tiles over a filled array: only the tiles count. -/
theorem canon_four {Val : EltTy → Type} [∀ e, Nonempty (Val e)] {e : EltTy} (a b c d : S128x128.Idx → Val e) (z : View.Piece Val S128x512 e)
    (y : S128x512.Idx) :
    View.canon [⟨Rect.unit (s := S128x512) ![0, 384] S128x128.size inb_S128x512_S128x128_0_384, a⟩,
      ⟨Rect.unit (s := S128x512) ![0, 256] S128x128.size inb_S128x512_S128x128_0_256, b⟩,
      ⟨Rect.unit (s := S128x512) ![0, 128] S128x128.size inb_S128x512_S128x128_0_128, c⟩,
      ⟨Rect.unit (s := S128x512) ![0, 0] S128x128.size inb_S128x512_S128x128_0_0, d⟩, z] y
    = View.canon [⟨Rect.unit (s := S128x512) ![0, 384] S128x128.size inb_S128x512_S128x128_0_384, a⟩,
      ⟨Rect.unit (s := S128x512) ![0, 256] S128x128.size inb_S128x512_S128x128_0_256, b⟩,
      ⟨Rect.unit (s := S128x512) ![0, 128] S128x128.size inb_S128x512_S128x128_0_128, c⟩,
      ⟨Rect.unit (s := S128x512) ![0, 0] S128x128.size inb_S128x512_S128x128_0_0, d⟩] y :=
  canon_covered z y [_, _, _, _] (View.cover_of_tiled_head _ _ _ (by rfl) y)

include B in
theorem blockK_apply (i : Fin 128) (l : Fin 512) :
    blockK x0 x1 x2 x3 x4 x5 (ix4 0 0 i l) = (((H (headOf l)).dk i (laneOf l) : ℝ) : EReal) := by
  have hi : ∀ {x : S128x128.Idx}, i.val = (x 0).val → x = ix2 i (x 1) := fun {x} h => by
    rw [show i = x 0 from Fin.ext h]; exact idx2 x
  unfold blockK
  simp only [pointwise]
  refine (canon_four (Val := Elt Ideal) (e := .f32) _ _ _ _ _ _).trans ?_
  canon_tiles x h
  all_goals rw [hi h0]
  · exact pairK_apply B 3 _ _ _ _ _ _ rfl rfl rfl _ _ rfl rfl i _ l h1
  · exact pairK_apply B 2 _ _ _ _ _ _ rfl rfl rfl _ _ rfl rfl i _ l h1
  · exact pairK_apply B 1 _ _ _ _ _ _ rfl rfl rfl _ _ rfl rfl i _ l h1
  · exact pairK_apply B 0 _ _ _ _ _ _ rfl rfl rfl _ _ rfl rfl i _ l (h1.trans (Nat.zero_add _).symm)

include B in
theorem blockV_apply (i : Fin 128) (l : Fin 512) :
    blockV x0 x1 x3 x4 (ix4 0 0 i l) = (((H (headOf l)).dv i (laneOf l) : ℝ) : EReal) := by
  have hi : ∀ {x : S128x128.Idx}, i.val = (x 0).val → x = ix2 i (x 1) := fun {x} h => by
    rw [show i = x 0 from Fin.ext h]; exact idx2 x
  unfold blockV
  simp only [pointwise]
  refine (canon_four (Val := Elt Ideal) (e := .f32) _ _ _ _ _ _).trans ?_
  canon_tiles x h
  all_goals rw [hi h0]
  · exact pairV_apply B 3 _ _ _ _ _ _ rfl rfl rfl _ _ rfl rfl i _ l h1
  · exact pairV_apply B 2 _ _ _ _ _ _ rfl rfl rfl _ _ rfl rfl i _ l h1
  · exact pairV_apply B 1 _ _ _ _ _ _ rfl rfl rfl _ _ rfl rfl i _ l h1
  · exact pairV_apply B 0 _ _ _ _ _ _ rfl rfl rfl _ _ rfl rfl i _ l (h1.trans (Nat.zero_add _).symm)

end

end Cert.Attn
end
-- ==== Proof.Arrays.lean ====
/- The kernel's result arrays at an index: block `(b, r)` of each is what grid point `(b, r)` wrote, and that is the
   eight heads' gradients wherever the six input arrays hold the heads' data. -/
module

public import proofs.«01_k».proof.Proof.Block
public import proofs.«01_k».proof.Proof.Blocks

@[expose] public section

noncomputable section

namespace Cert.Attn

open Cert.KernelIdeal Cert.KernelIdeal.Gen Idealize.ShloMosaic Idealize.ShloMosaic.TcCoe Idealize.SL.Sem
open Idealize.ShloMosaic.Pipeline (Dat)

/-- A grid point for each batch row and residue. -/
theorem point : ∀ (b : Fin 2) (r : Fin 16), ∃ t : Fin grid0.N, cc0_transform_0 (grid0.coords t) = ![b.val, r.val, 0, 0] := by
  decide +kernel

section Index

variable (t : Fin cfg0.N) (b : Fin 2) (r : Fin 16) (h : cc0_transform_0 (grid0.coords t) = ![b.val, r.val, 0, 0]) (i : Fin 128)

include h in
theorem read0 (A : (⟨S2x16x128x512, .bf16⟩ : BufTy).Contents (Elt Ideal)) (l : Fin 512) :
    ((cfg0.win 0).blk t).view.read (Elt Ideal) A (ix4 0 0 i l) = A (ix4 b r i l) := by
  refine congrArg A (funext fun a => ?_)
  have h := congrFun h a
  match a with
  | ⟨0, _⟩ => exact Fin.ext (show cc0_transform_0 (grid0.coords t) 0 * 1 + 1 * 0 = b.val from by rw [show cc0_transform_0 (grid0.coords t) 0 = b.val from h]; omega)
  | ⟨1, _⟩ => exact Fin.ext (show cc0_transform_0 (grid0.coords t) 1 * 1 + 1 * 0 = r.val from by rw [show cc0_transform_0 (grid0.coords t) 1 = r.val from h]; omega)
  | ⟨2, _⟩ => exact Fin.ext (show cc0_transform_0 (grid0.coords t) 2 * 128 + 1 * i.val = i.val from by rw [show cc0_transform_0 (grid0.coords t) 2 = 0 from h]; omega)
  | ⟨3, _⟩ => exact Fin.ext (show cc0_transform_0 (grid0.coords t) 3 * 512 + 1 * l.val = l.val from by rw [show cc0_transform_0 (grid0.coords t) 3 = 0 from h]; omega)

include h in
theorem read1 (A : (⟨S2x16x128x512, .bf16⟩ : BufTy).Contents (Elt Ideal)) (l : Fin 512) :
    ((cfg0.win 1).blk t).view.read (Elt Ideal) A (ix4 0 0 i l) = A (ix4 b r i l) := by
  refine congrArg A (funext fun a => ?_)
  have h := congrFun h a
  match a with
  | ⟨0, _⟩ => exact Fin.ext (show cc0_transform_1 (grid0.coords t) 0 * 1 + 1 * 0 = b.val from by rw [show cc0_transform_1 (grid0.coords t) 0 = b.val from h]; omega)
  | ⟨1, _⟩ => exact Fin.ext (show cc0_transform_1 (grid0.coords t) 1 * 1 + 1 * 0 = r.val from by rw [show cc0_transform_1 (grid0.coords t) 1 = r.val from h]; omega)
  | ⟨2, _⟩ => exact Fin.ext (show cc0_transform_1 (grid0.coords t) 2 * 128 + 1 * i.val = i.val from by rw [show cc0_transform_1 (grid0.coords t) 2 = 0 from h]; omega)
  | ⟨3, _⟩ => exact Fin.ext (show cc0_transform_1 (grid0.coords t) 3 * 512 + 1 * l.val = l.val from by rw [show cc0_transform_1 (grid0.coords t) 3 = 0 from h]; omega)

include h in
theorem read2 (A : (⟨S2x16x128x512, .bf16⟩ : BufTy).Contents (Elt Ideal)) (l : Fin 512) :
    ((cfg0.win 2).blk t).view.read (Elt Ideal) A (ix4 0 0 i l) = A (ix4 b r i l) := by
  refine congrArg A (funext fun a => ?_)
  have h := congrFun h a
  match a with
  | ⟨0, _⟩ => exact Fin.ext (show cc0_transform_2 (grid0.coords t) 0 * 1 + 1 * 0 = b.val from by rw [show cc0_transform_2 (grid0.coords t) 0 = b.val from h]; omega)
  | ⟨1, _⟩ => exact Fin.ext (show cc0_transform_2 (grid0.coords t) 1 * 1 + 1 * 0 = r.val from by rw [show cc0_transform_2 (grid0.coords t) 1 = r.val from h]; omega)
  | ⟨2, _⟩ => exact Fin.ext (show cc0_transform_2 (grid0.coords t) 2 * 128 + 1 * i.val = i.val from by rw [show cc0_transform_2 (grid0.coords t) 2 = 0 from h]; omega)
  | ⟨3, _⟩ => exact Fin.ext (show cc0_transform_2 (grid0.coords t) 3 * 512 + 1 * l.val = l.val from by rw [show cc0_transform_2 (grid0.coords t) 3 = 0 from h]; omega)

include h in
theorem read3 (A : (⟨S2x16x128x512, .bf16⟩ : BufTy).Contents (Elt Ideal)) (l : Fin 512) :
    ((cfg0.win 3).blk t).view.read (Elt Ideal) A (ix4 0 0 i l) = A (ix4 b r i l) := by
  refine congrArg A (funext fun a => ?_)
  have h := congrFun h a
  match a with
  | ⟨0, _⟩ => exact Fin.ext (show cc0_transform_3 (grid0.coords t) 0 * 1 + 1 * 0 = b.val from by rw [show cc0_transform_3 (grid0.coords t) 0 = b.val from h]; omega)
  | ⟨1, _⟩ => exact Fin.ext (show cc0_transform_3 (grid0.coords t) 1 * 1 + 1 * 0 = r.val from by rw [show cc0_transform_3 (grid0.coords t) 1 = r.val from h]; omega)
  | ⟨2, _⟩ => exact Fin.ext (show cc0_transform_3 (grid0.coords t) 2 * 128 + 1 * i.val = i.val from by rw [show cc0_transform_3 (grid0.coords t) 2 = 0 from h]; omega)
  | ⟨3, _⟩ => exact Fin.ext (show cc0_transform_3 (grid0.coords t) 3 * 512 + 1 * l.val = l.val from by rw [show cc0_transform_3 (grid0.coords t) 3 = 0 from h]; omega)

include h in
theorem read4 (A : (⟨S2x16x128x128, .f32⟩ : BufTy).Contents (Elt Ideal)) (l : Fin 128) :
    ((cfg0.win 4).blk t).view.read (Elt Ideal) A (ix4 0 0 i l) = A (ix4 b r i l) := by
  refine congrArg A (funext fun a => ?_)
  have h := congrFun h a
  match a with
  | ⟨0, _⟩ => exact Fin.ext (show cc0_transform_4 (grid0.coords t) 0 * 1 + 1 * 0 = b.val from by rw [show cc0_transform_4 (grid0.coords t) 0 = b.val from h]; omega)
  | ⟨1, _⟩ => exact Fin.ext (show cc0_transform_4 (grid0.coords t) 1 * 1 + 1 * 0 = r.val from by rw [show cc0_transform_4 (grid0.coords t) 1 = r.val from h]; omega)
  | ⟨2, _⟩ => exact Fin.ext (show cc0_transform_4 (grid0.coords t) 2 * 128 + 1 * i.val = i.val from by rw [show cc0_transform_4 (grid0.coords t) 2 = 0 from h]; omega)
  | ⟨3, _⟩ => exact Fin.ext (show cc0_transform_4 (grid0.coords t) 3 * 128 + 1 * l.val = l.val from by rw [show cc0_transform_4 (grid0.coords t) 3 = 0 from h]; omega)

include h in
theorem read5 (A : (⟨S2x16x128x128, .f32⟩ : BufTy).Contents (Elt Ideal)) (l : Fin 128) :
    ((cfg0.win 5).blk t).view.read (Elt Ideal) A (ix4 0 0 i l) = A (ix4 b r i l) := by
  refine congrArg A (funext fun a => ?_)
  have h := congrFun h a
  match a with
  | ⟨0, _⟩ => exact Fin.ext (show cc0_transform_5 (grid0.coords t) 0 * 1 + 1 * 0 = b.val from by rw [show cc0_transform_5 (grid0.coords t) 0 = b.val from h]; omega)
  | ⟨1, _⟩ => exact Fin.ext (show cc0_transform_5 (grid0.coords t) 1 * 1 + 1 * 0 = r.val from by rw [show cc0_transform_5 (grid0.coords t) 1 = r.val from h]; omega)
  | ⟨2, _⟩ => exact Fin.ext (show cc0_transform_5 (grid0.coords t) 2 * 128 + 1 * i.val = i.val from by rw [show cc0_transform_5 (grid0.coords t) 2 = 0 from h]; omega)
  | ⟨3, _⟩ => exact Fin.ext (show cc0_transform_5 (grid0.coords t) 3 * 128 + 1 * l.val = l.val from by rw [show cc0_transform_5 (grid0.coords t) 3 = 0 from h]; omega)

include h in
theorem read6 (A : (⟨S2x16x128x512, .bf16⟩ : BufTy).Contents (Elt Ideal)) (l : Fin 512) :
    ((cfg0.win 6).blk t).view.read (Elt Ideal) A (ix4 0 0 i l) = A (ix4 b r i l) := by
  refine congrArg A (funext fun a => ?_)
  have h := congrFun h a
  match a with
  | ⟨0, _⟩ => exact Fin.ext (show cc0_transform_6 (grid0.coords t) 0 * 1 + 1 * 0 = b.val from by rw [show cc0_transform_6 (grid0.coords t) 0 = b.val from h]; omega)
  | ⟨1, _⟩ => exact Fin.ext (show cc0_transform_6 (grid0.coords t) 1 * 1 + 1 * 0 = r.val from by rw [show cc0_transform_6 (grid0.coords t) 1 = r.val from h]; omega)
  | ⟨2, _⟩ => exact Fin.ext (show cc0_transform_6 (grid0.coords t) 2 * 128 + 1 * i.val = i.val from by rw [show cc0_transform_6 (grid0.coords t) 2 = 0 from h]; omega)
  | ⟨3, _⟩ => exact Fin.ext (show cc0_transform_6 (grid0.coords t) 3 * 512 + 1 * l.val = l.val from by rw [show cc0_transform_6 (grid0.coords t) 3 = 0 from h]; omega)

include h in
theorem read7 (A : (⟨S2x16x128x512, .bf16⟩ : BufTy).Contents (Elt Ideal)) (l : Fin 512) :
    ((cfg0.win 7).blk t).view.read (Elt Ideal) A (ix4 0 0 i l) = A (ix4 b r i l) := by
  refine congrArg A (funext fun a => ?_)
  have h := congrFun h a
  match a with
  | ⟨0, _⟩ => exact Fin.ext (show cc0_transform_7 (grid0.coords t) 0 * 1 + 1 * 0 = b.val from by rw [show cc0_transform_7 (grid0.coords t) 0 = b.val from h]; omega)
  | ⟨1, _⟩ => exact Fin.ext (show cc0_transform_7 (grid0.coords t) 1 * 1 + 1 * 0 = r.val from by rw [show cc0_transform_7 (grid0.coords t) 1 = r.val from h]; omega)
  | ⟨2, _⟩ => exact Fin.ext (show cc0_transform_7 (grid0.coords t) 2 * 128 + 1 * i.val = i.val from by rw [show cc0_transform_7 (grid0.coords t) 2 = 0 from h]; omega)
  | ⟨3, _⟩ => exact Fin.ext (show cc0_transform_7 (grid0.coords t) 3 * 512 + 1 * l.val = l.val from by rw [show cc0_transform_7 (grid0.coords t) 3 = 0 from h]; omega)

include h in
theorem read8 (A : (⟨S2x16x128x512, .bf16⟩ : BufTy).Contents (Elt Ideal)) (l : Fin 512) :
    ((cfg0.win 8).blk t).view.read (Elt Ideal) A (ix4 0 0 i l) = A (ix4 b r i l) := by
  refine congrArg A (funext fun a => ?_)
  have h := congrFun h a
  match a with
  | ⟨0, _⟩ => exact Fin.ext (show cc0_transform_8 (grid0.coords t) 0 * 1 + 1 * 0 = b.val from by rw [show cc0_transform_8 (grid0.coords t) 0 = b.val from h]; omega)
  | ⟨1, _⟩ => exact Fin.ext (show cc0_transform_8 (grid0.coords t) 1 * 1 + 1 * 0 = r.val from by rw [show cc0_transform_8 (grid0.coords t) 1 = r.val from h]; omega)
  | ⟨2, _⟩ => exact Fin.ext (show cc0_transform_8 (grid0.coords t) 2 * 128 + 1 * i.val = i.val from by rw [show cc0_transform_8 (grid0.coords t) 2 = 0 from h]; omega)
  | ⟨3, _⟩ => exact Fin.ext (show cc0_transform_8 (grid0.coords t) 3 * 512 + 1 * l.val = l.val from by rw [show cc0_transform_8 (grid0.coords t) 3 = 0 from h]; omega)

end Index

variable (m : (ℓ : Loc nD τ sig) → Buf (Elt Ideal) ℓ) (c : Dev nD)

/-- The six input arrays hold, per batch row and residue, the eight heads' data. -/
structure Staged (H : Fin 2 → Fin 16 → Fin 8 → Head) : Prop where
  slope : ∀ b r h, Ideal.ofBits .f32 (word h) = ((-(H b r h).sl : ℝ) : EReal)
  q : ∀ b r i l, V m c main_v3 (ix4 b r i l) = (((H b r (headOf l)).q i (laneOf l) : ℝ) : EReal)
  k : ∀ b r i l, V m c main_v7 (ix4 b r i l) = (((H b r (headOf l)).k i (laneOf l) : ℝ) : EReal)
  v : ∀ b r i l, V m c main_v99 (ix4 b r i l) = (((H b r (headOf l)).v i (laneOf l) : ℝ) : EReal)
  g : ∀ b r i l, V m c main_v102 (ix4 b r i l) = (((H b r (headOf l)).g i (laneOf l) : ℝ) : EReal)
  lse : ∀ b r i (h : Fin 8), V m c main_v105 (ix4 b r i ⟨h.val, by omega⟩) = ((Real.log ((H b r h).W i) : ℝ) : EReal)
  del : ∀ b r i (h : Fin 8), V m c main_v108 (ix4 b r i ⟨h.val, by omega⟩) = (((H b r h).del i : ℝ) : EReal)

variable {m c} {H : Fin 2 → Fin 16 → Fin 8 → Head} (S : Staged m c H)

include S in
theorem holds (t : Fin cfg0.N) (b : Fin 2) (r : Fin 16) (h : cc0_transform_0 (grid0.coords t) = ![b.val, r.val, 0, 0]) :
    Holds (H b r) (iblk m c 0 t) (iblk m c 1 t) (iblk m c 2 t) (iblk m c 3 t) (iblk m c 4 t) (iblk m c 5 t) where
  slope := S.slope b r
  q i l := (read0 t b r h i (V m c main_v3) l).trans (S.q b r i l)
  k i l := (read1 t b r h i (V m c main_v7) l).trans (S.k b r i l)
  v i l := (read2 t b r h i (V m c main_v99) l).trans (S.v b r i l)
  g i l := (read3 t b r h i (V m c main_v102) l).trans (S.g b r i l)
  lse i j := (read4 t b r h i (V m c main_v105) _).trans (S.lse b r i j)
  del i j := (read5 t b r h i (V m c main_v108) _).trans (S.del b r i j)

include S in
theorem arr_dq (b : Fin 2) (r : Fin 16) (i : Fin 128) (l : Fin 512) :
    (dats m 0 c).arrAt 6 cfg0.N (ix4 b r i l) = (((H b r (headOf l)).dq i (laneOf l) : ℝ) : EReal) := by
  obtain ⟨t, ht⟩ := point b r
  have h := congrFun (Cert.KernelIdeal.Value.blocks6 m c t (flush0_6 t)) (ix4 0 0 i l)
  rw [Cert.KernelIdeal.Value.flushed6_A, outQ] at h
  exact (read6 t b r ht i ((dats m 0 c).arrAt 6 cfg0.N) l).symm.trans (h.trans (blockQ_apply (holds S t b r ht) i l))

include S in
theorem arr_dk (b : Fin 2) (r : Fin 16) (i : Fin 128) (l : Fin 512) :
    (dats m 0 c).arrAt 7 cfg0.N (ix4 b r i l) = (((H b r (headOf l)).dk i (laneOf l) : ℝ) : EReal) := by
  obtain ⟨t, ht⟩ := point b r
  have h := congrFun (Cert.KernelIdeal.Value.blocks7 m c t (flush0_7 t)) (ix4 0 0 i l)
  rw [Cert.KernelIdeal.Value.flushed7_A, outK] at h
  exact (read7 t b r ht i ((dats m 0 c).arrAt 7 cfg0.N) l).symm.trans (h.trans (blockK_apply (holds S t b r ht) i l))

include S in
theorem arr_dv (b : Fin 2) (r : Fin 16) (i : Fin 128) (l : Fin 512) :
    (dats m 0 c).arrAt 8 cfg0.N (ix4 b r i l) = (((H b r (headOf l)).dv i (laneOf l) : ℝ) : EReal) := by
  obtain ⟨t, ht⟩ := point b r
  have h := congrFun (Cert.KernelIdeal.Value.blocks8 m c t (flush0_8 t)) (ix4 0 0 i l)
  rw [Cert.KernelIdeal.Value.flushed8_A, outV] at h
  exact (read8 t b r ht i ((dats m 0 c).arrAt 8 cfg0.N) l).symm.trans (h.trans (blockV_apply (holds S t b r ht) i l))

end Cert.Attn

end
-- ==== Proof.Stage.lean ====
/- The six arrays the kernel's region reads, at an index, as real numbers. -/
module

public import proofs.«01_k».proof.Proof.Host
public import proofs.«01_k».proof.Proof.Forward
public import proofs.«01_k».proof.Proof.Arrays
public import Idealize.ShloMosaic.Lib.KernelVsHost

@[expose] public section

noncomputable section

namespace Cert.Attn

open Idealize.ShloMosaic Cert.KernelIdeal Cert.KernelIdeal.Gen
open Cert.ReferenceIdeal.Read (val_main_v64 val_main_v66)

/-! ## The mix of the three groups, at an index -/

section Mix

variable (A B C : Row Ideal) (p : Fin 2) (n : Fin 2048) (h : Fin 8) (d : Fin 64) (α β γ : ℝ)

theorem most_at : most A B C (ix3 p n h) = max (max (A (ix3 p n h)) (B (ix3 p n h)) : EReal) (C (ix3 p n h)) := by
  simp only [most, pointwise]

theorem weight_at : weight A B (ix3 p n h) = Ideal.exp (A (ix3 p n h) - B (ix3 p n h) : EReal) := by
  simp only [weight, pointwise]

theorem total_at : total A B C (ix3 p n h) = (weight A (most A B C) (ix3 p n h) + weight B (most A B C) (ix3 p n h) +
    weight C (most A B C) (ix3 p n h) : EReal) := by
  simp only [total, pointwise]

theorem logTotal_at : logTotal A B C (ix3 p n h) = (most A B C (ix3 p n h) + Ideal.log (total A B C (ix3 p n h)) : EReal) := by
  simp only [logTotal, pointwise]

theorem share_at (D : Row Ideal) (Y : Rows Ideal) : share D A B C Y (ix4 p n h d) =
    (Ideal.div (weight D (most A B C) (ix3 p n h)) (total A B C (ix3 p n h)) * Y (ix4 p n h d) : EReal) := by
  simp only [share, pointwise, Nat.reduceEqDiff, reduceDIte]

theorem mixed_at (Y0 Y1 Y2 : Rows Ideal) : mixed A B C Y0 Y1 Y2 (ix4 p n h d) =
    (share A A B C Y0 (ix4 p n h d) + share B A B C Y1 (ix4 p n h d) + share C A B C Y2 (ix4 p n h d) : EReal) := by
  simp only [mixed, pointwise]

theorem against_at (G : Wide Ideal) (Y : Rows Ideal) : against G Y (ix3 p n h) =
    (0 + ∑ d : Fin 64, G (ix3 p n (wide h d)) * Y (ix4 p n h d) : EReal) := by
  simp only [against, heads, pointwise]

end Mix

/-! ## Layouts -/

section Layouts

variable (b : Fin 2) (r : Fin 16) (i : Fin 128) (l : Fin 512) (h : Fin 8)

theorem byClass_at (x : Wide Ideal) : byClass x (ix4 b r i l) = x (ix3 b (tok i r) l) := by
  simp only [byClass, splitL, pointwise]

theorem together_at (x : Rows Ideal) (n : Fin 2048) : together x (ix3 b n l) = x (ix4 b n (headOf l) (laneOf l)) := by
  have hl : l = wide (headOf l) (laneOf l) := Fin.ext (show l.val = l.val / 64 * 64 + l.val % 64 by omega)
  conv_lhs => rw [hl]
  unfold together
  exact lanes b (headOf l) (laneOf l) n _ _

/-- The sequence split into its residue classes, for the widened rows. -/
theorem split128 {α : Type} (l : Fin 128) (y : (⟨3, ![2, 2048, 128]⟩ : Shape).Idx → α)
    (hc : (⟨3, ![2, 2048, 128]⟩ : Shape).ShapeCasts ⟨4, ![2, 128, 16, 128]⟩) :
    shapeCast ⟨4, ![2, 128, 16, 128]⟩ y hc (ix4 b i r l) = y (ix3 b (tok i r) l) := by
  refine shapeCast_apply y hc _ _ ?_
  rw [Shape.rowMajor_val_three, Shape.rowMajor_val_four]
  show (b.val * 2048 + (i.val * 16 + r.val)) * 128 + l.val = ((b.val * 128 + i.val) * 16 + r.val) * 128 + l.val
  omega

theorem classes (l : Fin 128) (y : (⟨S2x2048x128, .f32⟩ : BufTy).Contents (Elt Ideal)) :
    transpose S2x16x128x128 [0, 2, 1, 3] (shapeCast S2x128x16x128 y shapeCasts_S2x2048x128_S2x128x16x128)
      transposes_S2x128x16x128_S2x16x128x128_0_2_1_3 (ix4 b r i l) = y (ix3 b (tok i r) l) := by
  simp only [split128, pointwise]

theorem padded_at (x : Row Ideal) (z) : padded x z (ix4 b r i ⟨h.val, by omega⟩) = x (ix3 b (tok i r) h) := by
  have hp : pad S2x2048x128 ![0, 0, 0] ![0, 0, 120] ![0, 0, 0] x z pads_S2x2048x8_S2x2048x128_000_000_01200 h_S_
      (ix3 b (tok i r) ⟨h.val, by omega⟩) = x (ix3 b (tok i r) h) := by
    refine pad_apply_of_inside _ _ _ _ _ _ _ _ _ fun k => ?_
    fin_cases k
    · show b.val = 0 + b.val * (0 + 1); omega
    · show (tok i r).val = 0 + (tok i r).val * (0 + 1); omega
    · show h.val = 0 + h.val * (0 + 1); omega
  unfold padded
  exact (classes b r i _ _).trans hp

end Layouts

/-! ## The region's arrays -/

theorem word_neg (h : Fin 8) : Ideal.ofBits .f32 (word h) = -Ideal.ofBits .f32 (slopeWord h) := by
  fin_cases h <;> simp [word, slopeWord, Ideal.ofBits, Ideal.ieee, -EReal.coe_mul] <;> norm_num

section Entries

variable {x0 x1 x2 x3 x4 : Rows Ideal} {x5 x6 : Row Ideal} {x7 : Wide Ideal} {H : Fin 2 → Fin 16 → Fin 8 → Head}
variable (I : Inputs x0 x1 x2 x3 x4 x5 x6 x7 H) (b : Fin 2) (r : Fin 16) (h : Fin 8) (i : Fin 128) (d : Fin 64)

/-- The greatest of the three log-sums, as a real number. -/
def peak (H : Head) (i : Fin 128) : ℝ := max (max (H.L i 0) (H.L i 1)) (H.L i 2)

include I

theorem u_most : most x5 x6 (val_main_v66 (F := Ideal) x0 x1) (ix3 b (tok i r) h) = ((peak (H b r h) i : ℝ) : EReal) := by
  rw [most_at, I.l0 b r h i, I.l1 b r h i, s66 b r h i I, ← EReal.coe_strictMono.monotone.map_max, ← EReal.coe_strictMono.monotone.map_max]
  rfl

theorem u_weight0 : weight x5 (most x5 x6 (val_main_v66 (F := Ideal) x0 x1)) (ix3 b (tok i r) h) =
    (((H b r h).X i 0 * Real.exp (-peak (H b r h) i) : ℝ) : EReal) := by
  rw [weight_at, u_most I b r h i, I.l0 b r h i, ← EReal.coe_sub, Ideal.exp_coe, sub_eq_add_neg, Real.exp_add]; rfl

theorem u_weight1 : weight x6 (most x5 x6 (val_main_v66 (F := Ideal) x0 x1)) (ix3 b (tok i r) h) =
    (((H b r h).X i 1 * Real.exp (-peak (H b r h) i) : ℝ) : EReal) := by
  rw [weight_at, u_most I b r h i, I.l1 b r h i, ← EReal.coe_sub, Ideal.exp_coe, sub_eq_add_neg, Real.exp_add]; rfl

theorem u_weight2 : weight (val_main_v66 (F := Ideal) x0 x1) (most x5 x6 (val_main_v66 (F := Ideal) x0 x1)) (ix3 b (tok i r) h) =
    (((H b r h).X i 2 * Real.exp (-peak (H b r h) i) : ℝ) : EReal) := by
  rw [weight_at, u_most I b r h i, s66 b r h i I, ← EReal.coe_sub, Ideal.exp_coe, sub_eq_add_neg, Real.exp_add,
    Real.exp_log ((H b r h).Z_pos i)]; rfl

theorem u_total : total x5 x6 (val_main_v66 (F := Ideal) x0 x1) (ix3 b (tok i r) h) =
    (((H b r h).W i * Real.exp (-peak (H b r h) i) : ℝ) : EReal) := by
  rw [total_at, u_weight0 I b r h i, u_weight1 I b r h i, u_weight2 I b r h i, ← EReal.coe_add, ← EReal.coe_add, ← add_mul, ← add_mul]
  rfl

omit I in
theorem total_pos : 0 < (H b r h).W i * Real.exp (-peak (H b r h) i) := mul_pos ((H b r h).W_pos i) (Real.exp_pos _)

theorem u_logTotal : logTotal x5 x6 (val_main_v66 (F := Ideal) x0 x1) (ix3 b (tok i r) h) = ((Real.log ((H b r h).W i) : ℝ) : EReal) := by
  rw [logTotal_at, u_most I b r h i, u_total I b r h i, log_coe _ (total_pos b r h i), Real.log_mul ((H b r h).W_pos i).ne' (Real.exp_pos _).ne',
    Real.log_exp, ← EReal.coe_add]
  exact congrArg _ (by ring)

theorem u_mixed : mixed x5 x6 (val_main_v66 (F := Ideal) x0 x1) x3 x4 (val_main_v64 (F := Ideal) x0 x1 x2) (ix4 b (tok i r) h d) =
    (((Real.exp ((H b r h).l0 i) * (H b r h).a0 i d + Real.exp ((H b r h).l1 i) * (H b r h).a1 i d + (H b r h).N i d) / (H b r h).W i : ℝ) : EReal) := by
  rw [mixed_at, share_at, share_at, share_at, u_weight0 I b r h i, u_weight1 I b r h i, u_weight2 I b r h i, u_total I b r h i,
    div_coe _ _ (total_pos b r h i).ne', div_coe _ _ (total_pos b r h i).ne', div_coe _ _ (total_pos b r h i).ne', I.a0 b r h i d,
    I.a1 b r h i d, s64 b r h i d I]
  simp only [← EReal.coe_mul, ← EReal.coe_add]
  refine congrArg _ ?_
  show (Real.exp ((H b r h).l0 i) * _) / _ * _ + (Real.exp ((H b r h).l1 i) * _) / _ * _ + ((H b r h).Z i * _) / _ * _ = _
  have := ((H b r h).W_pos i).ne'
  have := ((H b r h).Z_pos i).ne'
  have := (Real.exp_pos (-peak (H b r h) i)).ne'
  field_simp

theorem u_against : against x7 (mixed x5 x6 (val_main_v66 (F := Ideal) x0 x1) x3 x4 (val_main_v64 (F := Ideal) x0 x1 x2))
    (ix3 b (tok i r) h) = (((H b r h).del i : ℝ) : EReal) := by
  rw [against_at]
  simp only [u_mixed I, I.g b r h i, ← EReal.coe_mul]
  rw [zero_add, coe_sum]; rfl

end Entries

variable (m : (ℓ : Loc nD τ sig) → Buf (Elt Ideal) ℓ) (c : Dev nD) {H : Fin 2 → Fin 16 → Fin 8 → Head}

/-- Where the arguments hold the heads' numbers, so do the region's arrays. -/
theorem staged (I : Inputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) H) : Staged m c H where
  slope b r h := by rw [word_neg, I.slope b r h, EReal.coe_neg]
  q b r i l := by rw [V_q, byClass_at, together_at]; exact I.q b r (headOf l) i (laneOf l)
  k b r i l := by rw [V_k, byClass_at, together_at]; exact I.k b r (headOf l) i (laneOf l)
  v b r i l := by rw [V_v, byClass_at, together_at]; exact I.v b r (headOf l) i (laneOf l)
  g b r i l := by
    have hl : l = wide (headOf l) (laneOf l) := Fin.ext (show l.val = l.val / 64 * 64 + l.val % 64 by omega)
    rw [V_g, byClass_at]
    conv_lhs => rw [hl]
    exact I.g b r (headOf l) i (laneOf l)
  lse b r i h := by
    obtain ⟨z, hz⟩ := V_lse m c
    rw [hz, padded_at]; exact u_logTotal I b r h i
  del b r i h := by
    obtain ⟨z, hz⟩ := V_delta m c
    rw [hz, padded_at]; exact u_against I b r h i

end Cert.Attn

end

end
-- ==== Proof.Backward.lean ====
/- The reference's backward pass, stage by stage, as real numbers, down to the gradients of the queries, keys and values. -/
module

public import proofs.«01_k».proof.Proof.Forward
public import proofs.«01_k».proof.Proof.Blocks

@[expose] public section

noncomputable section

namespace Cert.Attn

open Idealize.ShloMosaic Cert.ReferenceIdeal.Read Cert.ReferenceIdeal

variable {x0 x1 x2 x3 x4 : (⟨S2x2048x8x64, .f32⟩ : BufTy).Contents (Elt Ideal)} {x5 x6 : (⟨S2x2048x8, .f32⟩ : BufTy).Contents (Elt Ideal)}
  {x7 : (⟨S2x2048x512, .f32⟩ : BufTy).Contents (Elt Ideal)}
variable {H : Fin 2 → Fin 16 → Fin 8 → Head}
variable (b : Fin 2) (r : Fin 16) (h : Fin 8) (i j : Fin 128) (d : Fin 64) (a : Fin 3)

/-- The reciprocal of a number that is not zero. -/
theorem inv_coe (x : ℝ) (hx : x ≠ 0) : Ideal.div 1 (x : EReal) = ((1 / x : ℝ) : EReal) :=
  div_coe 1 x hx

section Stages

variable (I : Inputs x0 x1 x2 x3 x4 x5 x6 x7 H)

include I

/-! ## Through the mix of the groups -/

theorem t125 : val_main_v125 (F := Ideal) x0 x1 x2 x3 x4 x7 (ix4 a b (tok i r) h) = (((H b r h).ga i a : ℝ) : EReal) := by
  simp only [val_main_v125, val_main_cst_31, val_main_v118, val_main_v117, val_main_cst_30, val_main_v116, pointwise,
    Nat.reduceEqDiff, reduceDIte]
  simp only [s113 _ _ _ _ _ _ I, s105 _ _ _ _ _ _ I, ← EReal.coe_mul]
  rw [coe_sum, Fin.sum_univ_one, zero_add, zero_add]
  rfl

theorem t100 : val_main_v100 (F := Ideal) x0 x1 x5 x6 (ix4 0 b (tok i r) h) =
    ((1 / ((H b r h).W i * Real.exp (-big x0 x1 x5 x6 b r h i) * ((H b r h).W i * Real.exp (-big x0 x1 x5 x6 b r h i))) : ℝ) : EReal) := by
  simp only [val_main_v100, val_main_v99, val_main_cst_26, val_main_v98, val_main_v95, pointwise, Nat.reduceEqDiff, reduceDIte]
  rw [s94 b r h i I, ← EReal.coe_mul, inv_coe _ (mul_ne_zero (We_ne b r h i I) (We_ne b r h i I))]

theorem t128 : val_main_v128 (F := Ideal) x0 x1 x2 x3 x4 x5 x6 x7 (ix4 a b (tok i r) h) =
    (((H b r h).X i a * (H b r h).ga i a / ((H b r h).W i * ((H b r h).W i * Real.exp (-big x0 x1 x5 x6 b r h i))) : ℝ) : EReal) := by
  simp only [val_main_v128, val_main_v127, val_main_v126, pointwise, Nat.reduceEqDiff, reduceDIte]
  rw [t125 b r h i a I, t100 b r h i I, s93 b r h i a I, ← EReal.coe_mul, ← EReal.coe_mul]
  refine congrArg _ ?_
  have := ((H b r h).W_pos i).ne'
  have := (Real.exp_pos (-big x0 x1 x5 x6 b r h i)).ne'
  field_simp

theorem t134 : val_main_v134 (F := Ideal) x0 x1 x2 x3 x4 x5 x6 x7 (ix3 b (tok i r) h) =
    ((-((H b r h).del i / ((H b r h).W i * Real.exp (-big x0 x1 x5 x6 b r h i))) : ℝ) : EReal) := by
  simp only [val_main_v134, val_main_cst_33, val_main_v131, val_main_v130, val_main_v129, val_main_cst_32, pointwise,
    Nat.reduceEqDiff, reduceDIte]
  simp only [t128 _ _ _ _ _ I]
  rw [coe_sum, Fin.sum_univ_one, zero_add, zero_add, ← EReal.coe_neg, ← Finset.sum_div, Head.sum_X_ga, mul_comm ((H b r h).del i),
    mul_div_mul_left _ _ ((H b r h).W_pos i).ne']

theorem t137 : val_main_v137 (F := Ideal) x0 x1 x2 x3 x4 x5 x6 x7 (ix4 a b (tok i r) h) =
    (((H b r h).X i a * ((H b r h).ga i a - (H b r h).del i) / (H b r h).W i : ℝ) : EReal) := by
  simp only [val_main_v137, val_main_v136, val_main_v135, val_main_v133, val_main_v132, val_main_v95, pointwise,
    Nat.reduceEqDiff, reduceDIte]
  rw [t125 b r h i a I, s94 b r h i I, t134 b r h i I, s93 b r h i a I, div_coe _ _ (We_ne b r h i I), ← EReal.coe_add, ← EReal.coe_mul]
  refine congrArg _ ?_
  have := ((H b r h).W_pos i).ne'
  have := (Real.exp_pos (-big x0 x1 x5 x6 b r h i)).ne'
  field_simp
  ring

theorem t145 : val_main_v145 (F := Ideal) x0 x1 x2 x3 x4 x5 x6 x7 (ix4 b r h i) =
    (((H b r h).Z i * ((H b r h).ga i 2 - (H b r h).del i) / (H b r h).W i : ℝ) : EReal) := by
  have h143 : val_main_v143 (F := Ideal) x0 x1 x2 x3 x4 x5 x6 x7 (ix3 b (tok i r) h) =
      val_main_v137 (F := Ideal) x0 x1 x2 x3 x4 x5 x6 x7 (ix4 2 b (tok i r) h) := by
    unfold val_main_v143 val_main_v142
    rw [slab4]
    refine extractStridedSlice_apply _ _ _ _ _ fun k => ?_
    fin_cases k
    · rfl
    · exact (Nat.zero_add _).symm
    · exact (Nat.zero_add _).symm
    · exact (Nat.zero_add _).symm
  simp only [val_main_v145, val_main_v144, split3, pointwise, Nat.reduceEqDiff, reduceDIte]
  exact h143.trans (t137 b r h i 2 I)

theorem t147 : val_main_v147 (F := Ideal) x0 x1 x5 x6 x7 (ix5 b r h i d) =
    (((H b r h).Z i / (H b r h).W i * (H b r h).g i d : ℝ) : EReal) := by
  have h115 : val_main_v115 (F := Ideal) x0 x1 x5 x6 x7 (ix5 2 b (tok i r) h d) =
      (((H b r h).Z i / (H b r h).W i * (H b r h).g i d : ℝ) : EReal) := by
    simp only [val_main_v115, val_main_v114, val_main_v101, pointwise, Nat.reduceEqDiff, reduceDIte]
    rw [s97 b r h i 2 I, s113 b r h i d 2 I, ← EReal.coe_mul]; rfl
  have h124 : val_main_v124 (F := Ideal) x0 x1 x5 x6 x7 (ix4 b (tok i r) h d) =
      val_main_v115 (F := Ideal) x0 x1 x5 x6 x7 (ix5 2 b (tok i r) h d) := by
    unfold val_main_v124 val_main_v123
    rw [slab5]
    refine extractStridedSlice_apply _ _ _ _ _ fun k => ?_
    fin_cases k
    · rfl
    · exact (Nat.zero_add _).symm
    · exact (Nat.zero_add _).symm
    · exact (Nat.zero_add _).symm
    · exact (Nat.zero_add _).symm
  simp only [val_main_v147, val_main_v146, split4, pointwise, Nat.reduceEqDiff, reduceDIte]
  exact h124.trans h115

/-! ## Through the division by the row sum -/

theorem t59 : val_main_v59 (F := Ideal) x0 x1 (ix5 b r h i 0) =
    ((1 / ((H b r h).Z i * Real.exp (-top x0 x1 b r h i) * ((H b r h).Z i * Real.exp (-top x0 x1 b r h i))) : ℝ) : EReal) := by
  simp only [val_main_v59, val_main_v58, val_main_v57, val_main_v54, val_main_cst_14, pointwise, Nat.reduceEqDiff, reduceDIte]
  rw [s50 b r h i I, ← EReal.coe_mul, inv_coe _ (mul_ne_zero (Ze_ne b r h i I) (Ze_ne b r h i I))]

theorem t150 : val_main_v150 (F := Ideal) x0 x1 (ix5 b r h i d) =
    ((1 / ((H b r h).Z i * Real.exp (-top x0 x1 b r h i) * ((H b r h).Z i * Real.exp (-top x0 x1 b r h i))) : ℝ) : EReal) := by
  simp only [val_main_v150, pointwise, Nat.reduceEqDiff, reduceDIte]
  exact t59 b r h i I

theorem t152 : val_main_v152 (F := Ideal) x0 x1 x2 x5 x6 x7 (ix5 b r h i d) =
    (((H b r h).g i d * (H b r h).N i d / ((H b r h).W i * ((H b r h).Z i * Real.exp (-top x0 x1 b r h i))) : ℝ) : EReal) := by
  rw [val_main_v152_apply, val_main_v151_apply, t147 b r h i d I, t150 b r h i d I, s53 b r h i d I, Ideal.mulf_def, Ideal.mulf_def,
    ← EReal.coe_mul, ← EReal.coe_mul]
  refine congrArg _ ?_
  have := ((H b r h).W_pos i).ne'
  have := ((H b r h).Z_pos i).ne'
  have := (Real.exp_pos (-top x0 x1 b r h i)).ne'
  field_simp

theorem t153 : val_main_v153 (F := Ideal) x0 x1 x2 x5 x6 x7 (ix4 b r h i) =
    (((H b r h).ga i 2 / ((H b r h).W i * Real.exp (-top x0 x1 b r h i)) : ℝ) : EReal) := by
  simp only [val_main_v153, val_main_cst_34, pointwise, Nat.reduceEqDiff, reduceDIte]
  simp only [t152 _ _ _ _ _ I]
  rw [zero_add, coe_sum, ← Finset.sum_div, ← Head.ga_two, mul_left_comm, mul_div_mul_left _ _ ((H b r h).Z_pos i).ne']

theorem t158 : val_main_v158 (F := Ideal) x0 x1 x2 x5 x6 x7 (ix4 b r h i) =
    ((-((H b r h).ga i 2 / ((H b r h).W i * Real.exp (-top x0 x1 b r h i))) : ℝ) : EReal) := by
  simp only [val_main_v158, val_main_cst_35, val_main_v155, val_main_v154, pointwise, Nat.reduceEqDiff, reduceDIte]
  rw [Fin.sum_univ_one, zero_add, t153 b r h i I, ← EReal.coe_neg]

theorem t159 : val_main_v159 (F := Ideal) x0 x1 x2 x3 x4 x5 x6 x7 (ix4 b r h i) =
    ((-((H b r h).del i / ((H b r h).W i * Real.exp (-top x0 x1 b r h i))) : ℝ) : EReal) := by
  simp only [val_main_v159, val_main_v148, pointwise, Nat.reduceEqDiff, reduceDIte]
  rw [t145 b r h i I, s50 b r h i I, t158 b r h i I, div_coe _ _ (Ze_ne b r h i I), ← EReal.coe_add]
  refine congrArg _ ?_
  have := ((H b r h).W_pos i).ne'
  have := ((H b r h).Z_pos i).ne'
  have := (Real.exp_pos (-top x0 x1 b r h i)).ne'
  field_simp
  ring

theorem t157 : val_main_v157 (F := Ideal) x0 x1 x5 x6 x7 (ix5 b r h i d) =
    (((H b r h).g i d / ((H b r h).W i * Real.exp (-top x0 x1 b r h i)) : ℝ) : EReal) := by
  simp only [val_main_v157, val_main_v156, val_main_v54, pointwise, Nat.reduceEqDiff, reduceDIte]
  rw [t147 b r h i d I, s50 b r h i I, div_coe _ _ (Ze_ne b r h i I)]
  refine congrArg _ ?_
  have := ((H b r h).W_pos i).ne'
  have := ((H b r h).Z_pos i).ne'
  have := (Real.exp_pos (-top x0 x1 b r h i)).ne'
  field_simp

/-! ## The scores' gradient -/

theorem t161 : val_main_v161 (F := Ideal) x0 x1 x5 x6 x7 (ix5 b r h j d) = (((H b r h).dv j d : ℝ) : EReal) := by
  simp only [val_main_v161, val_main_v160, pointwise, Nat.reduceEqDiff, reduceDIte]
  simp only [t157 _ _ _ _ _ I, s49 _ _ _ _ _ I, ← EReal.coe_mul]
  rw [zero_add, coe_sum]
  refine congrArg _ (Finset.sum_congr rfl fun i _ => ?_)
  unfold Head.P
  have := ((H b r h).W_pos i).ne'
  have := (Real.exp_pos (-top x0 x1 b r h i)).ne'
  field_simp

theorem t167 : val_main_v167 (F := Ideal) x0 x1 x2 x3 x4 x5 x6 x7 (ix5 b r h i j) = (((H b r h).dS i j : ℝ) : EReal) := by
  simp only [val_main_v167, val_main_v166, val_main_v165, val_main_v162, pointwise, Nat.reduceEqDiff, reduceDIte]
  simp only [t157 _ _ _ _ _ I, s52 _ _ _ _ _ I, t159 _ _ _ _ I, s49 _ _ _ _ _ I, ← EReal.coe_mul]
  rw [zero_add, coe_sum, ← EReal.coe_add, ← EReal.coe_mul]
  refine congrArg _ ?_
  have hs : (∑ d, (H b r h).g i d / ((H b r h).W i * Real.exp (-top x0 x1 b r h i)) * (H b r h).v j d) =
      (H b r h).gv i j / ((H b r h).W i * Real.exp (-top x0 x1 b r h i)) := by
    unfold Head.gv
    rw [Finset.sum_div]
    exact Finset.sum_congr rfl fun d _ => by ring
  rw [hs]
  unfold Head.dS Head.P
  have := ((H b r h).W_pos i).ne'
  have := (Real.exp_pos (-top x0 x1 b r h i)).ne'
  field_simp
  ring

/-- What reaches the row maximum is nothing. -/
theorem t172 : val_main_v172 (F := Ideal) x0 x1 x2 x3 x4 x5 x6 x7 (ix4 b r h i) = ((0 : ℝ) : EReal) := by
  simp only [val_main_v172, val_main_cst_37, val_main_v171, val_main_v149, val_main_v170, val_main_v169, val_main_cst_36, val_main_v168,
    pointwise, Nat.reduceEqDiff, reduceDIte]
  simp only [t167 _ _ _ _ _ I, ← EReal.coe_neg]
  rw [coe_sum, Fin.sum_univ_one, zero_add, zero_add, t145 b r h i I, ← EReal.coe_add]
  refine congrArg _ ?_
  rw [Finset.sum_neg_distrib, Head.sum_dS, ← Head.ga_two]
  ring

omit I in
theorem r44 : val_main_v44 (F := Ideal) x0 x1 (ix5 b r h i j) =
    (((if val_main_v39_0 (F := Ideal) x0 x1 (ix5 b r h i j) = val_main_v40 (F := Ideal) x0 x1 (ix4 b r h i) then 1 else 0 : ℝ)) : EReal) := by
  simp only [val_main_v44, val_main_v43, val_main_v42, val_main_v41, pointwise, Nat.reduceEqDiff, reduceDIte]
  split
  · rename_i hc
    rw [decide_eq_true hc]
    show (((1 : ℕ) : ℝ) : EReal) = _
    rw [Nat.cast_one]
  · rename_i hc
    rw [decide_eq_false hc]
    show (((0 : ℕ) : ℝ) : EReal) = _
    rw [Nat.cast_zero]

/-- The number of positions at which the row maximum is attained. -/
theorem t45 : ∃ c : ℝ, c ≠ 0 ∧ val_main_v45 (F := Ideal) x0 x1 (ix4 b r h i) = (c : EReal) := by
  refine ⟨∑ j, (if val_main_v39_0 (F := Ideal) x0 x1 (ix5 b r h i j) = val_main_v40 (F := Ideal) x0 x1 (ix4 b r h i) then 1 else 0 : ℝ), ?_, ?_⟩
  · obtain ⟨-, j, hj⟩ := s40 b r h i I
    refine (Finset.sum_pos' (fun k _ => ?_) ⟨j, Finset.mem_univ _, ?_⟩).ne'
    · split
      · exact zero_le_one
      · exact le_rfl
    · rw [if_pos hj]; exact zero_lt_one
  · simp only [val_main_v45, val_main_cst_12, pointwise, Nat.reduceEqDiff, reduceDIte]
    simp only [r44]
    rw [zero_add, coe_sum]

theorem t173 : val_main_v173 (F := Ideal) x0 x1 x2 x3 x4 x5 x6 x7 (ix4 b r h i) = ((0 : ℝ) : EReal) := by
  obtain ⟨c, hc, hv⟩ := t45 b r h i I
  rw [val_main_v173_apply, t172 b r h i I, hv, Ideal.hostDivf_def, div_coe _ _ hc, zero_div]

theorem t179 : val_main_v179 (F := Ideal) x0 x1 x2 x3 x4 x5 x6 x7 (ix5 b r h i j) = (((H b r h).dS i j * (1 / 8) : ℝ) : EReal) := by
  simp only [val_main_v179, val_main_v178, val_main_cst_38, val_main_v177, val_main_call1_v0, val_main_call1_cst, val_main_v176,
    val_main_v175, val_main_v174, pointwise, Nat.reduceEqDiff, reduceDIte]
  rw [r39, t167 b r h i j I, t173 b r h i I, r44, word_eighth, ← EReal.coe_mul, ← EReal.coe_add, zero_mul, add_zero]
  by_cases hji : j ≤ i
  · rw [if_pos hji]
    exact (EReal.coe_mul _ _).symm
  · rw [if_neg hji]
    have : (H b r h).dS i j = 0 := by
      unfold Head.dS Head.P Head.E
      rw [if_neg hji, zero_div, zero_mul]
    rw [this, zero_mul]
    exact (if_neg (by decide)).trans EReal.coe_zero.symm

/-! ## The gradients -/

theorem t180 : val_main_v180 (F := Ideal) x0 x1 x2 x3 x4 x5 x6 x7 (ix5 b r h j d) = (((H b r h).dk j d : ℝ) : EReal) := by
  simp only [val_main_v180, pointwise, Nat.reduceEqDiff, reduceDIte]
  simp only [t179 _ _ _ _ _ I, s25 _ _ _ _ _ I, ← EReal.coe_mul]
  rw [zero_add, coe_sum, Head.dk, Finset.sum_mul]
  exact congrArg _ (Finset.sum_congr rfl fun i _ => by ring)

theorem t181 : val_main_v181 (F := Ideal) x0 x1 x2 x3 x4 x5 x6 x7 (ix5 b r h i d) = (((H b r h).dq i d : ℝ) : EReal) := by
  simp only [val_main_v181, pointwise, Nat.reduceEqDiff, reduceDIte]
  simp only [t179 _ _ _ _ _ I, s27 _ _ _ _ _ I, ← EReal.coe_mul]
  rw [zero_add, coe_sum, Head.dq, Finset.sum_mul]
  exact congrArg _ (Finset.sum_congr rfl fun j _ => by ring)

variable (l : Fin 512)

/-- The reference's gradient of the queries. -/
theorem ref_dq : val_main_v189 (F := Ideal) x0 x1 x2 x3 x4 x5 x6 x7 (ix4 b r i l) = (((H b r (headOf l)).dq i (laneOf l) : ℝ) : EReal) := by
  simp only [val_main_v189, val_main_v188, val_main_v187, val_main_v186, val_main_v185, val_main_v184, pointwise, Nat.reduceEqDiff, reduceDIte]
  exact t181 b r (headOf l) i (laneOf l) I

/-- The reference's gradient of the keys. -/
theorem ref_dk : val_main_v193 (F := Ideal) x0 x1 x2 x3 x4 x5 x6 x7 (ix4 b r i l) = (((H b r (headOf l)).dk i (laneOf l) : ℝ) : EReal) := by
  simp only [val_main_v193, val_main_v192, val_main_v191, val_main_v190, val_main_v183, val_main_v182, pointwise, Nat.reduceEqDiff, reduceDIte]
  exact t180 b r (headOf l) i (laneOf l) I

/-- The reference's gradient of the values. -/
theorem ref_dv : val_main_v197 (F := Ideal) x0 x1 x5 x6 x7 (ix4 b r i l) = (((H b r (headOf l)).dv i (laneOf l) : ℝ) : EReal) := by
  simp only [val_main_v197, val_main_v196, val_main_v195, val_main_v194, val_main_v164, val_main_v163, pointwise, Nat.reduceEqDiff, reduceDIte]
  exact t161 b r (headOf l) i (laneOf l) I

end Stages

end Cert.Attn

end

end
-- ==== Proof.Equal.lean ====
/- The kernel's three results are the reference's, for real arguments. -/
module

public import proofs.«01_k».proof.Proof.Stage
public import proofs.«01_k».proof.Proof.Backward

@[expose] public section

noncomputable section

namespace Cert.Attn

open Idealize.ShloMosaic Cert.KernelIdeal Cert.KernelIdeal.Gen
open Cert.ReferenceIdeal.Read (val_main_v189 val_main_v193 val_main_v197)

/-- An index of a result is its four coordinates. -/
theorem four (j : S2x16x128x512.Idx) : ∃ b r i l, j = ix4 b r i l :=
  ⟨j 0, j 1, j 2, j 3, funext fun a => by fin_cases a <;> rfl⟩

variable (m : (ℓ : Loc nD τ sig) → Buf (Elt Ideal) ℓ) (c : Dev nD) {H : Fin 2 → Fin 16 → Fin 8 → Head}
variable (I : Inputs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) H)

include I

theorem equal_dq : (dats m 0 c).arrAt 6 cfg0.N = val_main_v189 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) := by
  refine funext fun j => ?_
  obtain ⟨b, r, i, l, rfl⟩ := four j
  exact (arr_dq (staged m c I) b r i l).trans (ref_dq b r i I l).symm

theorem equal_dk : (dats m 0 c).arrAt 7 cfg0.N = val_main_v193 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) := by
  refine funext fun j => ?_
  obtain ⟨b, r, i, l, rfl⟩ := four j
  exact (arr_dk (staged m c I) b r i l).trans (ref_dk b r i I l).symm

theorem equal_dv : (dats m 0 c).arrAt 8 cfg0.N = val_main_v197 (F := Ideal) (m ((c.tc : Thread nD τ).loc main_arg0))
    (m ((c.tc : Thread nD τ).loc main_arg1)) (m ((c.tc : Thread nD τ).loc main_arg5)) (m ((c.tc : Thread nD τ).loc main_arg6))
    (m ((c.tc : Thread nD τ).loc main_arg7)) := by
  refine funext fun j => ?_
  obtain ⟨b, r, i, l, rfl⟩ := four j
  exact (arr_dv (staged m c I) b r i l).trans (ref_dv b r i I l).symm

end Cert.Attn

end

end
-- ==== Proof.Finite.lean ====
/- The precondition read back: every entry of every argument is a real number, so the arguments hold the numbers of heads. -/
module

public import proofs.«01_k».proof.Pre_finite
public import proofs.«01_k».proof.Proof.Layout
public import proofs.«01_k».proof.Proof.Entries
public import Idealize.ShloMosaic.Lib.ReduceAll

@[expose] public section

noncomputable section

namespace Cert.Attn

open Idealize.ShloMosaic Cert.Pre_finite

/-- The shapes' side conditions of the precondition. -/
theorem pre_facts : Cert.Pre_finite.Facts where
  bcast_S_S2x2048x8x64 := by decide
  reducesTo_S2x2048x8x64_S_d0_1_2_3 := by decide
  h_S_ := by decide
  bcast_S_S2x2048x8 := by decide
  reducesTo_S2x2048x8_S_d0_1_2 := by decide
  bcast_S_S2x2048x512 := by decide
  reducesTo_S2x2048x512_S_d0_1_2 := by decide

instance : Subsingleton S_.Idx := ⟨fun i j => funext fun a => a.elim0⟩

theorem word_top : Ideal.ofBits .f32 0x7F800000#32 = ⊤ := by
  simp [Ideal.ofBits, Ideal.ieee]

/-- An array whose entries all compare below infinity has real entries. -/
theorem real_of {s : Shape} (x : FVec Ideal s .f32) (hb : S_.BroadcastsInDim s ![]) (axes : List (Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : x i = ((x i : EReal).toReal : EReal) := by
  have h := Host.reduce_andi_all _ _ hr hu ix0 e i
  have h' : (max (x i) (-(x i)) : EReal) < ⊤ := by
    rw [← word_top]
    by_contra hn
    have : (cmpf .olt (Host.absf x) (broadcastInDim s ![] hb (constant (F := Ideal) S_ .f32 0x7F800000#32))) i = 0#1 := by
      show BitVec.ofBool (decide _) = _
      rw [decide_eq_false (show ¬(Host.absf x i < broadcastInDim s ![] hb (constant (F := Ideal) S_ .f32 0x7F800000#32) i) from hn)]; rfl
    rw [this] at h; exact absurd h (by decide)
  refine (EReal.coe_toReal ?_ ?_).symm
  · rintro he
    rw [he] at h'; exact absurd h' (by simp)
  · rintro he
    rw [he] at h'; exact absurd h' (by simp)

/-- Two bits whose conjunction is set are both set. -/
theorem both {u v : IVec S_ 1} (h : andi u v ix0 = 1#1) : u ix0 = 1#1 ∧ v ix0 = 1#1 := IntOp.andi_eq_one.1 h

section Arguments

variable (x0 x1 x2 x3 x4 : FVec Ideal S2x2048x8x64 .f32) (x5 x6 : FVec Ideal S2x2048x8 .f32) (x7 : FVec Ideal S2x2048x512 .f32)

/-- The heads whose numbers the arguments hold. -/
def headsOf (b : Fin 2) (r : Fin 16) (h : Fin 8) : Head where
  q i d := (x0 (ix4 b (tok i r) h d) : EReal).toReal
  k i d := (x1 (ix4 b (tok i r) h d) : EReal).toReal
  v i d := (x2 (ix4 b (tok i r) h d) : EReal).toReal
  g i d := (x7 (ix3 b (tok i r) (wide h d)) : EReal).toReal
  a0 i d := (x3 (ix4 b (tok i r) h d) : EReal).toReal
  a1 i d := (x4 (ix4 b (tok i r) h d) : EReal).toReal
  l0 i := (x5 (ix3 b (tok i r) h) : EReal).toReal
  l1 i := (x6 (ix3 b (tok i r) h) : EReal).toReal
  sl := (Ideal.ofBits .f32 (slopeWord h)).toReal

theorem slope_real (h : Fin 8) : Ideal.ofBits .f32 (slopeWord h) = ((Ideal.ofBits .f32 (slopeWord h)).toReal : EReal) := by
  refine (EReal.coe_toReal ?_ ?_).symm
  · fin_cases h <;> simp [slopeWord, Ideal.ofBits, Ideal.ieee, -EReal.coe_mul]
  · fin_cases h <;> simp [slopeWord, Ideal.ofBits, Ideal.ieee, -EReal.coe_mul]

theorem inputs [Cert.Pre_finite.Facts] (hp : Cert.Pre_finite.fn (F := Ideal) x0 x1 x2 x3 x4 x5 x6 x7 = fun _ => 1#1) :
    Inputs x0 x1 x2 x3 x4 x5 x6 x7 (headsOf x0 x1 x2 x3 x4 x5 x6 x7) := by
  have h := congrFun hp ix0
  unfold fn fn_part1 fn_part2 at h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact {
    slope := fun _ _ h => slope_real h
    q := fun b r h i d => real_of x0 _ _ _ _ h0 _
    k := fun b r h i d => real_of x1 _ _ _ _ h1 _
    v := fun b r h i d => real_of x2 _ _ _ _ h2 _
    a0 := fun b r h i d => real_of x3 _ _ _ _ h3 _
    a1 := fun b r h i d => real_of x4 _ _ _ _ h4 _
    l0 := fun b r h i => real_of x5 _ _ _ _ h5 _
    l1 := fun b r h i => real_of x6 _ _ _ _ h6 _
    g := fun b r h i d => real_of x7 _ _ _ _ h7 _ }

end Arguments

end Cert.Attn

end

end
-- ==== Proof.Tokens.lean ====
/- Zero offsets, the tokens of the two batch rows, and the columns a chip holds of the feed-forward's width. -/
module

public import Idealize.ShloMosaic.Lib.Pointwise

@[expose] public section

noncomputable section

namespace Cert.Tok

open Idealize.ShloMosaic

theorem zero2 : (![0, 0] : Fin 2 → Nat) = fun _ => 0 := funext fun a => by fin_cases a <;> rfl

theorem zero3 : (![0, 0, 0] : Fin 3 → Nat) = fun _ => 0 := funext fun a => by fin_cases a <;> rfl

/-- Token `x` of batch row `b`. -/
def tok (b : Fin 2) (x : Fin 2048) : Fin 4096 := ⟨b.val * 2048 + x.val, by omega⟩

theorem row_tok (b : Fin 2) (x : Fin 2048) (h) : (⟨(tok b x).val / 2048, h⟩ : Fin 2) = b :=
  Fin.ext (show (b.val * 2048 + x.val) / 2048 = b.val by omega)

theorem place_tok (b : Fin 2) (x : Fin 2048) (h) : (⟨(tok b x).val % 2048, h⟩ : Fin 2048) = x :=
  Fin.ext (show (b.val * 2048 + x.val) % 2048 = x.val by omega)

/-- Column `l` of chip `s`. -/
def col (s : Fin 4) (l : Fin 704) : Fin 2816 := ⟨s.val * 704 + l.val, by omega⟩

theorem chip_col (s : Fin 4) (l : Fin 704) (h) : (⟨(col s l).val / 704, h⟩ : Fin 4) = s :=
  Fin.ext (show (s.val * 704 + l.val) / 704 = s.val by omega)

theorem lane_col (s : Fin 4) (l : Fin 704) (h) : (⟨(col s l).val % 704, h⟩ : Fin 704) = l :=
  Fin.ext (show (s.val * 704 + l.val) % 704 = l.val by omega)

/-- The batch row of a token. -/
def row (n : Fin 4096) : Fin 2 := ⟨n.val / 2048, by omega⟩

/-- Its place in the row. -/
def place (n : Fin 4096) : Fin 2048 := ⟨n.val % 2048, by omega⟩

/-- Token `i` of tile `r`. -/
def at4 (r : Fin 4) (i : Fin 1024) : Fin 4096 := ⟨r.val * 1024 + i.val, by omega⟩

/-- Every token is one of a tile. -/
theorem eq_at4 (n : Fin 4096) : ∃ r i, n = at4 r i :=
  ⟨⟨n.val / 1024, by omega⟩, ⟨n.val % 1024, by omega⟩, Fin.ext (show n.val = n.val / 1024 * 1024 + n.val % 1024 by omega)⟩

/-- An array of the feed-forward's width, cut by chip. -/
theorem cut (Z : FVec Ideal ⟨3, ![2, 2048, 2816]⟩ .f32) (hs : Shape.ShapeCasts ⟨3, ![2, 2048, 2816]⟩ ⟨3, ![4096, 4, 704]⟩)
    (ht : Shape.Transposes ⟨3, ![4096, 4, 704]⟩ [1, 0, 2] ⟨3, ![4, 4096, 704]⟩) (hb : FTy.bits .bf16 < FTy.bits .f32) (s : Fin 4) (n : Fin 4096) (d : Fin 704) :
    truncf (F := Ideal) .bf16 (transpose ⟨3, ![4, 4096, 704]⟩ [1, 0, 2] (shapeCast ⟨3, ![4096, 4, 704]⟩ Z hs) ht) hb (ix3 s n d)
      = Z (ix3 (row n) (place n) (col s d)) := by
  simp only [pointwise]
  rfl

/-- The activations, row under row. -/
theorem flat (Z : FVec Ideal ⟨3, ![2, 2048, 1024]⟩ .f32) (hs : Shape.ShapeCasts ⟨3, ![2, 2048, 1024]⟩ ⟨2, ![4096, 1024]⟩) (n : Fin 4096) (j : Fin 1024) :
    shapeCast (⟨2, ![4096, 1024]⟩ : Shape) Z hs (ix2 n j) = Z (ix3 (row n) (place n) j) := by
  simp only [pointwise]
  rfl

end Cert.Tok

end

end
-- ==== Proof.In.lean ====
/- The gradient of the joint projection's weights: each chip's block is the product of the transposed activations and the
   chip's columns of the projection's cotangent, added up over the two batch rows. -/
module

public import proofs.«01_k».proof.Proof.Gen.KernelInIdeal.Value
public import proofs.«01_k».proof.Proof.Gen.ReferenceInIdeal.Run
public import proofs.«01_k».proof.Proof.Tokens
public import Idealize.ShloMosaic.Lib.Tactic

@[expose] public section

noncomputable section

namespace Cert.In

open Cert.KernelInIdeal Cert.KernelInIdeal.Gen Idealize.ShloMosaic Idealize.ShloMosaic.TcCoe Idealize.SL.Sem
open Cert.Tok (zero2 zero3 tok row_tok place_tok)

section Points

variable {F : FTy → Type} [FloatOps F]
variable (c : Dev nD) (i : grid0.Coords) (arg2 : Memref sig .tc .vmem S1024x2048 .bf16) (harg2 : arg2.IsWhole)
  (arg3 : Memref sig .tc .vmem S2048x2176 .bf16) (harg3 : arg3.IsWhole) (arg4 : Memref sig .tc .vmem S1x1024x2176 .bf16) (harg4 : arg4.IsWhole)
  (arg5 : Memref sig .tc .vmem S1024x2176 .f32) (harg5 : arg5.IsWhole) (x0 : Vec F S1024x2048 .bf16) (x1 : Vec F S2048x2176 .bf16)

/-- The first point of a chip leaves the first batch row's product. -/
theorem first (hc0 : cond0_0 i) (hc1 : ¬cond0_1 i) (hc2 : ¬cond0_2 i) :
    sout0_A_0 c i arg2 harg2 arg3 harg3 arg4 harg4 arg5 harg5 hc0 hc1 hc2 x0 x1 = k0_pay2 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero zero2]
  simp only [View.readAt_eq_ld, harg2.read_unread, harg3.read_unread, View.ld_unit_zero (S := S1024x2048) zero2,
    View.ld_unit_zero (S := S2048x2176) zero2]

/-- The second writes the sum of both. -/
theorem second (hc0 : ¬cond0_0 i) (hc1 : cond0_1 i) (hc2 : cond0_2 i) (acc : Vec F S1024x2176 .f32) :
    out0_B_2 c i arg2 harg2 arg3 harg3 arg4 harg4 arg5 harg5 hc0 hc1 hc2 x0 x1 acc = k0_pay4 (k0_pay3 x0 x1 acc) := by
  unfold out0_B_2
  rw [View.read_writes_eq_canon _ _ _ (cover0_B_2 c i arg2 harg2 arg3 harg3 arg4 harg4 arg5 harg5 hc0 hc1 hc2 x0 x1 acc)]
  unfold kernelRun0_B
  dsimp only
  sl_unfold_words
  rw [View.canon_unit_zero zero3]
  simp only [View.readCov_unit_zero (S := S1024x2176) _ zero2, View.readAt_eq_ld, harg2.read_unread, harg3.read_unread, harg5.read_unread,
    View.ld_unit_zero (S := S1024x2048) zero2, View.ld_unit_zero (S := S2048x2176) zero2, View.ld_unit_zero (S := S1024x2176) zero2]

end Points

variable (m : (ℓ : Loc nD τ sig) → Buf (Elt Ideal) ℓ) (c : Dev nD)

/-- The activations. -/
abbrev X : (⟨3, ![2, 2048, 1024]⟩ : Shape).Idx → EReal := m ((c : Thread nD τ).loc main_arg0)

/-- The projection's cotangent. -/
abbrev G : (⟨3, ![2, 2048, 8704]⟩ : Shape).Idx → EReal := m ((c : Thread nD τ).loc main_arg1)

/-- The two points of a chip. -/
theorem points : ∀ s : Fin 4, ∃ t t' : Fin grid0.N, t'.val = t.val + 1 ∧ t.val = 2 * s.val
    ∧ cc0_transform_0 (grid0.coords t) = ![0, 0] ∧ cc0_transform_0 (grid0.coords t') = ![0, 1]
    ∧ cc0_transform_1 (grid0.coords t) = ![0, s.val] ∧ cc0_transform_1 (grid0.coords t') = ![1, s.val] := by
  decide +kernel

/-- Column `l` of chip `s`. -/
def col (s : Fin 4) (l : Fin 2176) : Fin 8704 := ⟨s.val * 2176 + l.val, by omega⟩

theorem read0 (t : Fin cfg0.N) (b : Fin 2) (h : cc0_transform_0 (grid0.coords t) = ![0, b.val]) (d : Fin 1024) (x : Fin 2048) :
    iblk m c 0 t (ix2 d x) = V m c main_v2 (ix2 d (tok b x)) := by
  refine congrArg (V m c main_v2) (funext fun a => ?_)
  have h := congrFun h a
  match a with
  | ⟨0, _⟩ => exact Fin.ext (show cc0_transform_0 (grid0.coords t) 0 * 1024 + 1 * d.val = d.val from by rw [show cc0_transform_0 (grid0.coords t) 0 = 0 from h]; omega)
  | ⟨1, _⟩ => exact Fin.ext (show cc0_transform_0 (grid0.coords t) 1 * 2048 + 1 * x.val = b.val * 2048 + x.val from by rw [show cc0_transform_0 (grid0.coords t) 1 = b.val from h]; omega)

theorem read1 (t : Fin cfg0.N) (b : Fin 2) (s : Fin 4) (h : cc0_transform_1 (grid0.coords t) = ![b.val, s.val]) (x : Fin 2048) (l : Fin 2176) :
    iblk m c 1 t (ix2 x l) = V m c main_v4 (ix2 (tok b x) (col s l)) := by
  refine congrArg (V m c main_v4) (funext fun a => ?_)
  have h := congrFun h a
  match a with
  | ⟨0, _⟩ => exact Fin.ext (show cc0_transform_1 (grid0.coords t) 0 * 2048 + 1 * x.val = b.val * 2048 + x.val from by rw [show cc0_transform_1 (grid0.coords t) 0 = b.val from h]; omega)
  | ⟨1, _⟩ => exact Fin.ext (show cc0_transform_1 (grid0.coords t) 1 * 2176 + 1 * l.val = s.val * 2176 + l.val from by rw [show cc0_transform_1 (grid0.coords t) 1 = s.val from h]; omega)

/-- The activations as the region reads them. -/
theorem acts (b : Fin 2) (x : Fin 2048) (d : Fin 1024) :
    V m c main_v2 (ix2 d (tok b x)) = X m c (ix3 b x d) := by
  rw [show V m c main_v2 = truncf (F := Ideal) .bf16 (transpose S1024x4096 [1, 0] (shapeCast S4096x1024 (X m c) shapeCasts_S2x2048x1024_S4096x1024) transposes_S4096x1024_S1024x4096_1_0) bitsLt_bf16_f32 from by
    show StableHlo.after hostOps0 (fun b => m (c, b)) main_v2 = _
    after_results <;> rfl]
  simp only [pointwise]
  rw [row_tok, place_tok]

/-- The cotangent as the region reads it. -/
theorem cots (b : Fin 2) (x : Fin 2048) (j : Fin 8704) :
    V m c main_v4 (ix2 (tok b x) j) = G m c (ix3 b x j) := by
  rw [show V m c main_v4 = truncf (F := Ideal) .bf16 (shapeCast S4096x8704 (G m c) shapeCasts_S2x2048x8704_S4096x8704) bitsLt_bf16_f32 from by
    show StableHlo.after hostOps0 (fun b => m (c, b)) main_v4 = _
    after_results <;> rfl]
  simp only [pointwise]
  rw [row_tok, place_tok]

theorem pay1_apply (x0 : Vec Ideal S1024x2048 .bf16) (x1 : Vec Ideal S2048x2176 .bf16) (d : Fin 1024) (l : Fin 2176) :
    k0_pay1 x0 x1 (ix2 d l) = ∑ x, x0 (ix2 d x) * x1 (ix2 x l) := by
  unfold k0_pay1
  simp only [shapeCast_self, pointwise]
  rw [zero_add]

/-- The kernel's result, entry by entry. -/
theorem kernel (s : Fin 4) (d : Fin 1024) (l : Fin 2176) :
    Value.G2 m c (ix3 s d l) =
      (∑ x, X m c (ix3 0 x d) * G m c (ix3 0 x (col s l)))
      + ∑ x, X m c (ix3 1 x d) * G m c (ix3 1 x (col s l)) := by
  obtain ⟨t, t', htt, ht, p0, p0', p1, p1'⟩ := points s
  have hp : Value.pt2Of (ix3 s d l) = t'.val := by
    have hs := s.isLt; have hd := d.isLt; have hl := l.isLt
    show 2 * (1 * (s.val / 1 - 0) + 1 * (d.val / 1024 - 0) + 1 * (l.val / 2176 - 0)) + 1 = _
    omega
  have hl : Value.loc2Of (ix3 s d l) = ix3 0 d l := by
    funext a
    match a with
    | ⟨0, _⟩ => exact Subsingleton.elim (α := Fin 1) _ _
    | ⟨1, _⟩ => exact Fin.ext (Nat.mod_eq_of_lt d.isLt)
    | ⟨2, _⟩ => exact Fin.ext (Nat.mod_eq_of_lt l.isLt)
  unfold Value.G2
  rw [dif_pos (by rw [hp]; exact t'.isLt), hl, ← Value.outsAt0_sweep m c (Value.pt2Of (ix3 s d l)) (by rw [hp]; exact t'.isLt)]
  simp only [hp]
  rw [outsAt0_B m c t' (by omega) (by omega) (by omega)]
  dsimp only
  rw [second]
  have e : outsAt0 m c (t'.val - 1) (Nat.lt_of_le_of_lt (Nat.sub_le _ _) t'.isLt) = outsAt0 m c t.val t.isLt := by
    congr 1; omega
  rw [e, outsAt0_A m c t (by omega) (by omega) (by omega)]
  dsimp only
  rw [first]
  unfold k0_pay4 k0_pay3 k0_pay2
  simp only [shapeCast_self, pointwise]
  refine (congrArg₂ (· + ·) (pay1_apply _ _ d l) (pay1_apply _ _ d l)).trans ?_
  simp only [read0 m c t 0 p0, read0 m c t' 1 p0', read1 m c t 0 s p1, read1 m c t' 1 s p1']
  exact congrArg₂ (· + ·) (Finset.sum_congr rfl fun x _ => congrArg₂ (· * ·) (acts m c 0 x d) (cots m c 0 x (col s l)))
    (Finset.sum_congr rfl fun x _ => congrArg₂ (· * ·) (acts m c 1 x d) (cots m c 1 x (col s l)))

/-- The reference's result. -/
def ref (x0 : FVec Ideal Cert.ReferenceInIdeal.S2x2048x1024 .f32) (x1 : FVec Ideal Cert.ReferenceInIdeal.S2x2048x8704 .f32) :
    FVec Ideal Cert.ReferenceInIdeal.S4x1024x2176 .bf16 :=
  truncf (F := Ideal) .bf16 (transpose Cert.ReferenceInIdeal.S4x1024x2176 [1, 0, 2] (shapeCast Cert.ReferenceInIdeal.S1024x4x2176 (transpose Cert.ReferenceInIdeal.S1024x8704 [1, 0] (Host.dotGeneral Cert.ReferenceInIdeal.dot_S2x2048x8704_S2x2048x1024_S8704x1024_01_01_2_2_n_n none x1 x0) Cert.ReferenceInIdeal.Gen.transposes_S8704x1024_S1024x8704_1_0) Cert.ReferenceInIdeal.Gen.shapeCasts_S1024x8704_S1024x4x2176) Cert.ReferenceInIdeal.Gen.transposes_S1024x4x2176_S4x1024x2176_1_0_2) bitsLt_bf16_f32

/-- The reference's result, entry by entry. -/
theorem reference (x0 : FVec Ideal Cert.ReferenceInIdeal.S2x2048x1024 .f32) (x1 : FVec Ideal Cert.ReferenceInIdeal.S2x2048x8704 .f32) (s : Fin 4) (d : Fin 1024) (l : Fin 2176) :
    ref x0 x1 (ix3 s d l) =
      (∑ x, x0 (ix3 0 x d) * x1 (ix3 0 x (col s l))) + ∑ x, x0 (ix3 1 x d) * x1 (ix3 1 x (col s l)) := by
  unfold ref
  simp only [pointwise]
  rw [zero_add, Fin.sum_univ_two]
  exact congrArg₂ (· + ·) (Finset.sum_congr rfl fun x _ => mul_comm _ _) (Finset.sum_congr rfl fun x _ => mul_comm _ _)

/-- The kernel and the reference hold the same array. -/
theorem equal : ref (X m c) (G m c) = Value.G2 m c := by
  funext y
  obtain ⟨s, d, l, rfl⟩ : ∃ s d l, y = ix3 s d l := ⟨y 0, y 1, y 2, eq_ix3 y⟩
  exact (reference (X m c) (G m c) s d l).trans (kernel m c s d l).symm

end Cert.In

end
-- ==== Proof.GateUp.lean ====
/- The gradients of the feed-forward's two first weights: each chip's block is the product of the chip's columns of a transposed
   cotangent and the normalised activations, added up over the two batch rows. -/
module

public import proofs.«01_k».proof.Proof.Gen.KernelGUIdeal.Value
public import proofs.«01_k».proof.Proof.Gen.ReferenceGUIdeal.Run
public import proofs.«01_k».proof.Proof.Tokens
public import Idealize.ShloMosaic.Lib.Tactic

@[expose] public section

noncomputable section

namespace Cert.GU

open Cert.KernelGUIdeal Cert.KernelGUIdeal.Gen Idealize.ShloMosaic Idealize.ShloMosaic.TcCoe Idealize.SL.Sem
open Cert.Tok (zero2 zero3 tok row_tok place_tok col chip_col lane_col)

section Points

variable {F : FTy → Type} [FloatOps F]
variable (c : Dev nD) (i : grid0.Coords) (arg2 : Memref sig .tc .vmem S1x2048x704 .bf16) (harg2 : arg2.IsWhole)
  (arg3 : Memref sig .tc .vmem S1x2048x704 .bf16) (harg3 : arg3.IsWhole) (arg4 : Memref sig .tc .vmem S2048x1024 .bf16) (harg4 : arg4.IsWhole)
  (arg5 : Memref sig .tc .vmem S1x704x1024 .bf16) (harg5 : arg5.IsWhole) (arg6 : Memref sig .tc .vmem S1x704x1024 .bf16) (harg6 : arg6.IsWhole)
  (arg7 : Memref sig .tc .vmem S704x1024 .f32) (harg7 : arg7.IsWhole) (arg8 : Memref sig .tc .vmem S704x1024 .f32) (harg8 : arg8.IsWhole)
  (x0 : Vec F S1x2048x704 .bf16) (x1 : Vec F S1x2048x704 .bf16) (x2 : Vec F S2048x1024 .bf16)

/-- The first point of a chip leaves the first batch row's product, of the first cotangent. -/
theorem first0 (hc0 : cond0_0 i) (hc1 : ¬cond0_1 i) (hc2 : ¬cond0_2 i) :
    sout0_A_0 c i arg2 harg2 arg3 harg3 arg4 harg4 arg5 harg5 arg6 harg6 arg7 harg7 arg8 harg8 hc0 hc1 hc2 x0 x1 x2 = k0_pay4 x2 x0 := by
  unfold sout0_A_0
  rw [View.read_writes_eq_canon _ _ _ (scover0_A_0 c i arg2 harg2 arg3 harg3 arg4 harg4 arg5 harg5 arg6 harg6 arg7 harg7 arg8 harg8 hc0 hc1 hc2 x0 x1 x2)]
  unfold kernelRun0_A
  dsimp only
  sl_unfold_words
  rw [View.canon_unit_zero zero2]
  simp only [View.readAt_eq_ld, harg2.read_unread, harg3.read_unread, harg4.read_unread, View.ld_unit_zero (S := S1x2048x704) zero3,
    View.ld_unit_zero (S := S2048x1024) zero2]

/-- And of the second. -/
theorem first1 (hc0 : cond0_0 i) (hc1 : ¬cond0_1 i) (hc2 : ¬cond0_2 i) :
    sout0_A_1 c i arg2 harg2 arg3 harg3 arg4 harg4 arg5 harg5 arg6 harg6 arg7 harg7 arg8 harg8 hc0 hc1 hc2 x0 x1 x2 = k0_pay4 x2 x1 := by
  unfold sout0_A_1
  rw [View.read_writes_eq_canon _ _ _ (scover0_A_1 c i arg2 harg2 arg3 harg3 arg4 harg4 arg5 harg5 arg6 harg6 arg7 harg7 arg8 harg8 hc0 hc1 hc2 x0 x1 x2)]
  unfold kernelRun0_A
  dsimp only
  sl_unfold_words
  rw [View.canon_unit_zero zero2]
  simp only [View.readAt_eq_ld, harg2.read_unread, harg3.read_unread, harg4.read_unread, View.ld_unit_zero (S := S1x2048x704) zero3,
    View.ld_unit_zero (S := S2048x1024) zero2]
  rfl

/-- The second writes the sum of both, of the first cotangent. -/
theorem second0 (hc0 : ¬cond0_0 i) (hc1 : cond0_1 i) (hc2 : cond0_2 i) (a0 a1 : Vec F S704x1024 .f32) :
    out0_B_3 c i arg2 harg2 arg3 harg3 arg4 harg4 arg5 harg5 arg6 harg6 arg7 harg7 arg8 harg8 hc0 hc1 hc2 x0 x1 x2 a0 a1 = k0_pay8 (k0_pay6 x2 x0 a0) := by
  unfold out0_B_3
  rw [View.read_writes_eq_canon _ _ _ (cover0_B_3 c i arg2 harg2 arg3 harg3 arg4 harg4 arg5 harg5 arg6 harg6 arg7 harg7 arg8 harg8 hc0 hc1 hc2 x0 x1 x2 a0 a1)]
  unfold kernelRun0_B
  dsimp only
  sl_unfold_words
  rw [View.canon_unit_zero zero3]
  simp only [View.readCov_unit_zero (S := S704x1024) _ zero2, View.readAt_eq_ld, harg2.read_unread, harg3.read_unread, harg4.read_unread,
    harg7.read_unread, harg8.read_unread,
    View.ld_unit_zero (S := S1x2048x704) zero3, View.ld_unit_zero (S := S2048x1024) zero2, View.ld_unit_zero (S := S704x1024) zero2]

/-- And of the second. -/
theorem second1 (hc0 : ¬cond0_0 i) (hc1 : cond0_1 i) (hc2 : cond0_2 i) (a0 a1 : Vec F S704x1024 .f32) :
    out0_B_4 c i arg2 harg2 arg3 harg3 arg4 harg4 arg5 harg5 arg6 harg6 arg7 harg7 arg8 harg8 hc0 hc1 hc2 x0 x1 x2 a0 a1 = k0_pay8 (k0_pay6 x2 x1 a1) := by
  unfold out0_B_4
  rw [View.read_writes_eq_canon _ _ _ (cover0_B_4 c i arg2 harg2 arg3 harg3 arg4 harg4 arg5 harg5 arg6 harg6 arg7 harg7 arg8 harg8 hc0 hc1 hc2 x0 x1 x2 a0 a1)]
  unfold kernelRun0_B
  dsimp only
  sl_unfold_words
  rw [View.canon_unit_zero zero3]
  simp only [View.readCov_unit_zero (S := S704x1024) _ zero2, View.readAt_eq_ld, harg2.read_unread, harg3.read_unread, harg4.read_unread,
    harg7.read_unread, harg8.read_unread,
    View.ld_unit_zero (S := S1x2048x704) zero3, View.ld_unit_zero (S := S2048x1024) zero2, View.ld_unit_zero (S := S704x1024) zero2]
  rfl

end Points

variable (m : (ℓ : Loc nD τ sig) → Buf (Elt Ideal) ℓ) (c : Dev nD)

/-- The normalised activations. -/
abbrev X : (⟨3, ![2, 2048, 1024]⟩ : Shape).Idx → EReal := m ((c : Thread nD τ).loc main_arg0)

/-- The first cotangent. -/
abbrev A : (⟨3, ![2, 2048, 2816]⟩ : Shape).Idx → EReal := m ((c : Thread nD τ).loc main_arg1)

/-- The second. -/
abbrev B : (⟨3, ![2, 2048, 2816]⟩ : Shape).Idx → EReal := m ((c : Thread nD τ).loc main_arg2)

/-- The two points of a chip. -/
theorem points : ∀ s : Fin 4, ∃ t t' : Fin grid0.N, t'.val = t.val + 1 ∧ t.val = 2 * s.val
    ∧ cc0_transform_0 (grid0.coords t) = ![s.val, 0, 0] ∧ cc0_transform_0 (grid0.coords t') = ![s.val, 1, 0]
    ∧ cc0_transform_1 (grid0.coords t) = ![s.val, 0, 0] ∧ cc0_transform_1 (grid0.coords t') = ![s.val, 1, 0]
    ∧ cc0_transform_2 (grid0.coords t) = ![0, 0] ∧ cc0_transform_2 (grid0.coords t') = ![1, 0] := by
  decide +kernel

theorem read0 (t : Fin cfg0.N) (b : Fin 2) (s : Fin 4) (h : cc0_transform_0 (grid0.coords t) = ![s.val, b.val, 0]) (x : Fin 2048) (d : Fin 704) :
    iblk m c 0 t (ix3 0 x d) = V m c main_v4 (ix3 s (tok b x) d) := by
  refine congrArg (V m c main_v4) (funext fun a => ?_)
  have h := congrFun h a
  match a with
  | ⟨0, _⟩ => exact Fin.ext (show cc0_transform_0 (grid0.coords t) 0 * 1 + 1 * 0 = s.val from by rw [show cc0_transform_0 (grid0.coords t) 0 = s.val from h]; omega)
  | ⟨1, _⟩ => exact Fin.ext (show cc0_transform_0 (grid0.coords t) 1 * 2048 + 1 * x.val = b.val * 2048 + x.val from by rw [show cc0_transform_0 (grid0.coords t) 1 = b.val from h]; omega)
  | ⟨2, _⟩ => exact Fin.ext (show cc0_transform_0 (grid0.coords t) 2 * 704 + 1 * d.val = d.val from by rw [show cc0_transform_0 (grid0.coords t) 2 = 0 from h]; omega)

theorem read1 (t : Fin cfg0.N) (b : Fin 2) (s : Fin 4) (h : cc0_transform_1 (grid0.coords t) = ![s.val, b.val, 0]) (x : Fin 2048) (d : Fin 704) :
    iblk m c 1 t (ix3 0 x d) = V m c main_v7 (ix3 s (tok b x) d) := by
  refine congrArg (V m c main_v7) (funext fun a => ?_)
  have h := congrFun h a
  match a with
  | ⟨0, _⟩ => exact Fin.ext (show cc0_transform_1 (grid0.coords t) 0 * 1 + 1 * 0 = s.val from by rw [show cc0_transform_1 (grid0.coords t) 0 = s.val from h]; omega)
  | ⟨1, _⟩ => exact Fin.ext (show cc0_transform_1 (grid0.coords t) 1 * 2048 + 1 * x.val = b.val * 2048 + x.val from by rw [show cc0_transform_1 (grid0.coords t) 1 = b.val from h]; omega)
  | ⟨2, _⟩ => exact Fin.ext (show cc0_transform_1 (grid0.coords t) 2 * 704 + 1 * d.val = d.val from by rw [show cc0_transform_1 (grid0.coords t) 2 = 0 from h]; omega)

theorem read2 (t : Fin cfg0.N) (b : Fin 2) (h : cc0_transform_2 (grid0.coords t) = ![b.val, 0]) (x : Fin 2048) (l : Fin 1024) :
    iblk m c 2 t (ix2 x l) = V m c main_v1 (ix2 (tok b x) l) := by
  refine congrArg (V m c main_v1) (funext fun a => ?_)
  have h := congrFun h a
  match a with
  | ⟨0, _⟩ => exact Fin.ext (show cc0_transform_2 (grid0.coords t) 0 * 2048 + 1 * x.val = b.val * 2048 + x.val from by rw [show cc0_transform_2 (grid0.coords t) 0 = b.val from h]; omega)
  | ⟨1, _⟩ => exact Fin.ext (show cc0_transform_2 (grid0.coords t) 1 * 1024 + 1 * l.val = l.val from by rw [show cc0_transform_2 (grid0.coords t) 1 = 0 from h]; omega)

/-- An array of the feed-forward's width, cut by chip. -/
theorem cut (Z : FVec Ideal S2x2048x2816 .f32) (s : Fin 4) (b : Fin 2) (x : Fin 2048) (d : Fin 704) :
    truncf (F := Ideal) .bf16 (transpose S4x4096x704 [1, 0, 2] (shapeCast S4096x4x704 Z shapeCasts_S2x2048x2816_S4096x4x704) transposes_S4096x4x704_S4x4096x704_1_0_2) bitsLt_bf16_f32 (ix3 s (tok b x) d)
      = Z (ix3 b x (col s d)) := by
  simp only [pointwise]
  rw [row_tok, place_tok]
  rfl

/-- The first cotangent as the region reads it. -/
theorem cotA (s : Fin 4) (b : Fin 2) (x : Fin 2048) (d : Fin 704) :
    V m c main_v4 (ix3 s (tok b x) d) = A m c (ix3 b x (col s d)) := by
  refine (congrFun (?_ : V m c main_v4 = _) _).trans (cut (A m c) s b x d)
  show StableHlo.after hostOps0 (fun b => m (c, b)) main_v4 = _
  after_results <;> rfl

/-- And the second. -/
theorem cotB (s : Fin 4) (b : Fin 2) (x : Fin 2048) (d : Fin 704) :
    V m c main_v7 (ix3 s (tok b x) d) = B m c (ix3 b x (col s d)) := by
  refine (congrFun (?_ : V m c main_v7 = _) _).trans (cut (B m c) s b x d)
  show StableHlo.after hostOps0 (fun b => m (c, b)) main_v7 = _
  after_results <;> rfl

/-- The activations as the region reads them. -/
theorem acts (b : Fin 2) (x : Fin 2048) (j : Fin 1024) :
    V m c main_v1 (ix2 (tok b x) j) = X m c (ix3 b x j) := by
  rw [show V m c main_v1 = truncf (F := Ideal) .bf16 (shapeCast S4096x1024 (X m c) shapeCasts_S2x2048x1024_S4096x1024) bitsLt_bf16_f32 from by
    show StableHlo.after hostOps0 (fun b => m (c, b)) main_v1 = _
    after_results <;> rfl]
  simp only [pointwise]
  rw [row_tok, place_tok]

theorem pay2_apply (x2 : Vec Ideal S2048x1024 .bf16) (x0 : Vec Ideal S1x2048x704 .bf16) (d : Fin 704) (l : Fin 1024) :
    k0_pay2 x2 x0 (ix2 d l) = ∑ x, x0 (ix3 0 x d) * x2 (ix2 x l) := by
  unfold k0_pay2 k0_pay1
  simp only [shapeCast_self, pointwise]
  rw [zero_add]

/-- What a chip's second point writes, entry by entry. -/
theorem block (x2 y2 : Vec Ideal S2048x1024 .bf16) (x0 y0 : Vec Ideal S1x2048x704 .bf16) (d : Fin 704) (l : Fin 1024) :
    k0_pay8 (k0_pay6 y2 y0 (k0_pay4 x2 x0)) (ix3 0 d l)
      = (∑ x, x0 (ix3 0 x d) * x2 (ix2 x l)) + ∑ x, y0 (ix3 0 x d) * y2 (ix2 x l) := by
  unfold k0_pay8 k0_pay6 k0_pay4
  simp only [shapeCast_self, pointwise]
  exact congrArg₂ (· + ·) (pay2_apply _ _ d l) (pay2_apply _ _ d l)

/-- The kernel's results, block by block. -/
theorem outs (t t' : Fin cfg0.N) (htt : t'.val = t.val + 1) (ht : t.val % 2 = 0) :
    (outsAt0 m c t'.val t'.isLt).1 = k0_pay8 (k0_pay6 (iblk m c 2 t') (iblk m c 0 t') (k0_pay4 (iblk m c 2 t) (iblk m c 0 t)))
    ∧ (outsAt0 m c t'.val t'.isLt).2.1 = k0_pay8 (k0_pay6 (iblk m c 2 t') (iblk m c 1 t') (k0_pay4 (iblk m c 2 t) (iblk m c 1 t))) := by
  have e : outsAt0 m c (t'.val - 1) (Nat.lt_of_le_of_lt (Nat.sub_le _ _) t'.isLt) = outsAt0 m c t.val t.isLt := by
    congr 1; omega
  rw [outsAt0_B m c t' (by omega) (by omega) (by omega)]
  dsimp only
  rw [second0, second1, e, outsAt0_A m c t (by omega) (by omega) (by omega)]
  dsimp only
  rw [first0, first1]
  exact ⟨rfl, rfl⟩

theorem loc (s : Fin 4) (d : Fin 704) (l : Fin 1024) : Value.loc3Of (ix3 s d l) = ix3 0 d l := by
  funext a
  match a with
  | ⟨0, _⟩ => exact Subsingleton.elim (α := Fin 1) _ _
  | ⟨1, _⟩ => exact Fin.ext (Nat.mod_eq_of_lt d.isLt)
  | ⟨2, _⟩ => exact Fin.ext (Nat.mod_eq_of_lt l.isLt)

theorem pt (s : Fin 4) (d : Fin 704) (l : Fin 1024) : Value.pt3Of (ix3 s d l) = 2 * s.val + 1 := by
  have hs := s.isLt; have hd := d.isLt; have hl := l.isLt
  show 2 * (1 * (s.val / 1 - 0) + 1 * (d.val / 704 - 0) + 1 * (l.val / 1024 - 0)) + 1 = _
  omega

/-- The sum a result's entry is, of a cotangent's entries. -/
abbrev total (X : (⟨3, ![2, 2048, 1024]⟩ : Shape).Idx → EReal) (A : (⟨3, ![2, 2048, 2816]⟩ : Shape).Idx → EReal) (s : Fin 4) (d : Fin 704) (l : Fin 1024) : EReal :=
  (∑ x, A (ix3 0 x (col s d)) * X (ix3 0 x l)) + ∑ x, A (ix3 1 x (col s d)) * X (ix3 1 x l)

/-- The first gradient, entry by entry. -/
theorem kernel0 (s : Fin 4) (d : Fin 704) (l : Fin 1024) : Value.G3 m c (ix3 s d l) = total (X m c) (A m c) s d l := by
  obtain ⟨t, t', htt, ht, p0, p0', p1, p1', p2, p2'⟩ := points s
  have hp : Value.pt3Of (ix3 s d l) = t'.val := (pt s d l).trans (by omega)
  unfold Value.G3
  rw [dif_pos (by rw [hp]; exact t'.isLt), show Value.loc3Of (ix3 s d l) = ix3 0 d l from loc s d l, ← Value.outsAt0_sweep m c (Value.pt3Of (ix3 s d l)) (by rw [hp]; exact t'.isLt)]
  simp only [hp]
  rw [(outs m c t t' htt (by omega)).1]
  refine (block _ _ _ _ d l).trans ?_
  simp only [read0 m c t 0 s p0, read0 m c t' 1 s p0', read2 m c t 0 p2, read2 m c t' 1 p2']
  exact congrArg₂ (· + ·) (Finset.sum_congr rfl fun x _ => congrArg₂ (· * ·) (cotA m c s 0 x d) (acts m c 0 x l))
    (Finset.sum_congr rfl fun x _ => congrArg₂ (· * ·) (cotA m c s 1 x d) (acts m c 1 x l))

/-- And the second. -/
theorem kernel1 (s : Fin 4) (d : Fin 704) (l : Fin 1024) : Value.G4 m c (ix3 s d l) = total (X m c) (B m c) s d l := by
  obtain ⟨t, t', htt, ht, p0, p0', p1, p1', p2, p2'⟩ := points s
  have hp : Value.pt4Of (ix3 s d l) = t'.val := (pt s d l).trans (by omega)
  unfold Value.G4
  rw [dif_pos (by rw [hp]; exact t'.isLt), show Value.loc4Of (ix3 s d l) = ix3 0 d l from loc s d l, ← Value.outsAt0_sweep m c (Value.pt4Of (ix3 s d l)) (by rw [hp]; exact t'.isLt)]
  simp only [hp]
  rw [(outs m c t t' htt (by omega)).2]
  refine (block _ _ _ _ d l).trans ?_
  simp only [read1 m c t 0 s p1, read1 m c t' 1 s p1', read2 m c t 0 p2, read2 m c t' 1 p2']
  exact congrArg₂ (· + ·) (Finset.sum_congr rfl fun x _ => congrArg₂ (· * ·) (cotB m c s 0 x d) (acts m c 0 x l))
    (Finset.sum_congr rfl fun x _ => congrArg₂ (· * ·) (cotB m c s 1 x d) (acts m c 1 x l))

/-- The reference's result, of a cotangent. -/
def ref (x0 : FVec Ideal Cert.ReferenceGUIdeal.S2x2048x1024 .f32) (x1 : FVec Ideal Cert.ReferenceGUIdeal.S2x2048x2816 .f32) :
    FVec Ideal Cert.ReferenceGUIdeal.S4x704x1024 .bf16 :=
  truncf (F := Ideal) .bf16 (shapeCast Cert.ReferenceGUIdeal.S4x704x1024 (transpose Cert.ReferenceGUIdeal.S2816x1024 [1, 0] (transpose Cert.ReferenceGUIdeal.S1024x2816 [1, 0] (Host.dotGeneral Cert.ReferenceGUIdeal.dot_S2x2048x2816_S2x2048x1024_S2816x1024_01_01_2_2_n_n none x1 x0) Cert.ReferenceGUIdeal.Gen.transposes_S2816x1024_S1024x2816_1_0) Cert.ReferenceGUIdeal.Gen.transposes_S1024x2816_S2816x1024_1_0) Cert.ReferenceGUIdeal.Gen.shapeCasts_S2816x1024_S4x704x1024) bitsLt_bf16_f32

/-- The reference's result, entry by entry. -/
theorem reference (x0 : FVec Ideal Cert.ReferenceGUIdeal.S2x2048x1024 .f32) (x1 : FVec Ideal Cert.ReferenceGUIdeal.S2x2048x2816 .f32) (s : Fin 4) (d : Fin 704) (l : Fin 1024) :
    ref x0 x1 (ix3 s d l) = total x0 x1 s d l := by
  unfold ref
  simp only [pointwise]
  rw [zero_add, Fin.sum_univ_two]
  rfl

/-- The kernel and the reference hold the same arrays. -/
theorem equal : ref (X m c) (A m c) = Value.G3 m c ∧ ref (X m c) (B m c) = Value.G4 m c := by
  refine ⟨funext fun y => ?_, funext fun y => ?_⟩ <;> obtain ⟨s, d, l, rfl⟩ : ∃ s d l, y = ix3 s d l := ⟨y 0, y 1, y 2, eq_ix3 y⟩
  · exact (reference (X m c) (A m c) s d l).trans (kernel0 m c s d l).symm
  · exact (reference (X m c) (B m c) s d l).trans (kernel1 m c s d l).symm

end Cert.GU

end
-- ==== Proof.Down.lean ====
/- The gradient of the feed-forward's second weights: each chip's block is the product of the transposed gated activations of
   the chip's columns and the cotangent, added up over the two batch rows. -/
module

public import proofs.«01_k».proof.Proof.Gen.KernelDownIdeal.Value
public import proofs.«01_k».proof.Proof.Gen.ReferenceDownIdeal.Run
public import proofs.«01_k».proof.Proof.Tokens
public import Idealize.ShloMosaic.Lib.Tactic

@[expose] public section

noncomputable section

namespace Cert.Down

open Cert.KernelDownIdeal Cert.KernelDownIdeal.Gen Idealize.ShloMosaic Idealize.ShloMosaic.TcCoe Idealize.SL.Sem
open Cert.Tok (zero2 zero3 tok row_tok place_tok col chip_col lane_col)

section Points

variable {F : FTy → Type} [FloatOps F]
variable (c : Dev nD) (i : grid0.Coords) (arg2 : Memref sig .tc .vmem S1x2048x704 .bf16) (harg2 : arg2.IsWhole)
  (arg3 : Memref sig .tc .vmem S2048x1024 .f32) (harg3 : arg3.IsWhole) (arg4 : Memref sig .tc .vmem S1x704x1024 .bf16) (harg4 : arg4.IsWhole)
  (arg5 : Memref sig .tc .vmem S704x1024 .f32) (harg5 : arg5.IsWhole) (x0 : Vec F S1x2048x704 .bf16) (x1 : Vec F S2048x1024 .f32)

/-- The first point of a chip leaves the first batch row's product. -/
theorem first (hc0 : cond0_0 i) (hc1 : ¬cond0_1 i) (hc2 : ¬cond0_2 i) :
    sout0_A_0 c i arg2 harg2 arg3 harg3 arg4 harg4 arg5 harg5 hc0 hc1 hc2 x0 x1 = k0_pay2 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero zero2]
  simp only [View.readAt_eq_ld, harg2.read_unread, harg3.read_unread, View.ld_unit_zero (S := S1x2048x704) zero3,
    View.ld_unit_zero (S := S2048x1024) zero2]

/-- The second writes the sum of both. -/
theorem second (hc0 : ¬cond0_0 i) (hc1 : cond0_1 i) (hc2 : cond0_2 i) (acc : Vec F S704x1024 .f32) :
    out0_B_2 c i arg2 harg2 arg3 harg3 arg4 harg4 arg5 harg5 hc0 hc1 hc2 x0 x1 acc = k0_pay4 (k0_pay3 x0 x1 acc) := by
  unfold out0_B_2
  rw [View.read_writes_eq_canon _ _ _ (cover0_B_2 c i arg2 harg2 arg3 harg3 arg4 harg4 arg5 harg5 hc0 hc1 hc2 x0 x1 acc)]
  unfold kernelRun0_B
  dsimp only
  sl_unfold_words
  rw [View.canon_unit_zero zero3]
  simp only [View.readCov_unit_zero (S := S704x1024) _ zero2, View.readAt_eq_ld, harg2.read_unread, harg3.read_unread, harg5.read_unread,
    View.ld_unit_zero (S := S1x2048x704) zero3, View.ld_unit_zero (S := S2048x1024) zero2, View.ld_unit_zero (S := S704x1024) zero2]

end Points

variable (m : (ℓ : Loc nD τ sig) → Buf (Elt Ideal) ℓ) (c : Dev nD)

/-- The gated activations. -/
abbrev X : (⟨3, ![2, 2048, 2816]⟩ : Shape).Idx → EReal := m ((c : Thread nD τ).loc main_arg0)

/-- The cotangent. -/
abbrev G : (⟨3, ![2, 2048, 1024]⟩ : Shape).Idx → EReal := m ((c : Thread nD τ).loc main_arg1)

/-- The two points of a chip. -/
theorem points : ∀ s : Fin 4, ∃ t t' : Fin grid0.N, t'.val = t.val + 1 ∧ t.val = 2 * s.val
    ∧ cc0_transform_0 (grid0.coords t) = ![s.val, 0, 0] ∧ cc0_transform_0 (grid0.coords t') = ![s.val, 1, 0]
    ∧ cc0_transform_1 (grid0.coords t) = ![0, 0] ∧ cc0_transform_1 (grid0.coords t') = ![1, 0] := by
  decide +kernel

theorem read0 (t : Fin cfg0.N) (b : Fin 2) (s : Fin 4) (h : cc0_transform_0 (grid0.coords t) = ![s.val, b.val, 0]) (x : Fin 2048) (d : Fin 704) :
    iblk m c 0 t (ix3 0 x d) = V m c main_v2 (ix3 s (tok b x) d) := by
  refine congrArg (V m c main_v2) (funext fun a => ?_)
  have h := congrFun h a
  match a with
  | ⟨0, _⟩ => exact Fin.ext (show cc0_transform_0 (grid0.coords t) 0 * 1 + 1 * 0 = s.val from by rw [show cc0_transform_0 (grid0.coords t) 0 = s.val from h]; omega)
  | ⟨1, _⟩ => exact Fin.ext (show cc0_transform_0 (grid0.coords t) 1 * 2048 + 1 * x.val = b.val * 2048 + x.val from by rw [show cc0_transform_0 (grid0.coords t) 1 = b.val from h]; omega)
  | ⟨2, _⟩ => exact Fin.ext (show cc0_transform_0 (grid0.coords t) 2 * 704 + 1 * d.val = d.val from by rw [show cc0_transform_0 (grid0.coords t) 2 = 0 from h]; omega)

theorem read1 (t : Fin cfg0.N) (b : Fin 2) (h : cc0_transform_1 (grid0.coords t) = ![b.val, 0]) (x : Fin 2048) (l : Fin 1024) :
    iblk m c 1 t (ix2 x l) = V m c main_v3 (ix2 (tok b x) l) := by
  refine congrArg (V m c main_v3) (funext fun a => ?_)
  have h := congrFun h a
  match a with
  | ⟨0, _⟩ => exact Fin.ext (show cc0_transform_1 (grid0.coords t) 0 * 2048 + 1 * x.val = b.val * 2048 + x.val from by rw [show cc0_transform_1 (grid0.coords t) 0 = b.val from h]; omega)
  | ⟨1, _⟩ => exact Fin.ext (show cc0_transform_1 (grid0.coords t) 1 * 1024 + 1 * l.val = l.val from by rw [show cc0_transform_1 (grid0.coords t) 1 = 0 from h]; omega)

/-- The gated activations as the region reads them. -/
theorem acts (s : Fin 4) (b : Fin 2) (x : Fin 2048) (d : Fin 704) :
    V m c main_v2 (ix3 s (tok b x) d) = X m c (ix3 b x (col s d)) := by
  rw [show V m c main_v2 = truncf (F := Ideal) .bf16 (transpose S4x4096x704 [1, 0, 2] (shapeCast S4096x4x704 (X m c) shapeCasts_S2x2048x2816_S4096x4x704) transposes_S4096x4x704_S4x4096x704_1_0_2) bitsLt_bf16_f32 from by
    show StableHlo.after hostOps0 (fun b => m (c, b)) main_v2 = _
    after_results <;> rfl]
  simp only [pointwise]
  rw [row_tok, place_tok]
  rfl

/-- The cotangent as the region reads it. -/
theorem cots (b : Fin 2) (x : Fin 2048) (j : Fin 1024) :
    V m c main_v3 (ix2 (tok b x) j) = G m c (ix3 b x j) := by
  rw [show V m c main_v3 = shapeCast S4096x1024 (G m c) shapeCasts_S2x2048x1024_S4096x1024 from by
    show StableHlo.after hostOps0 (fun b => m (c, b)) main_v3 = _
    after_results <;> rfl]
  simp only [pointwise]
  rw [row_tok, place_tok]

theorem pay1_apply (x0 : Vec Ideal S1x2048x704 .bf16) (x1 : Vec Ideal S2048x1024 .f32) (d : Fin 704) (l : Fin 1024) :
    k0_pay1 x0 x1 (ix2 d l) = ∑ x, x0 (ix3 0 x d) * x1 (ix2 x l) := by
  unfold k0_pay1
  simp only [shapeCast_self, pointwise]
  rw [zero_add]

/-- The kernel's result, entry by entry. -/
theorem kernel (s : Fin 4) (d : Fin 704) (l : Fin 1024) :
    Value.G2 m c (ix3 s d l) =
      (∑ x, X m c (ix3 0 x (col s d)) * G m c (ix3 0 x l))
      + ∑ x, X m c (ix3 1 x (col s d)) * G m c (ix3 1 x l) := by
  obtain ⟨t, t', htt, ht, p0, p0', p1, p1'⟩ := points s
  have hp : Value.pt2Of (ix3 s d l) = t'.val := by
    have hs := s.isLt; have hd := d.isLt; have hl := l.isLt
    show 2 * (1 * (s.val / 1 - 0) + 1 * (d.val / 704 - 0) + 1 * (l.val / 1024 - 0)) + 1 = _
    omega
  have hl : Value.loc2Of (ix3 s d l) = ix3 0 d l := by
    funext a
    match a with
    | ⟨0, _⟩ => exact Subsingleton.elim (α := Fin 1) _ _
    | ⟨1, _⟩ => exact Fin.ext (Nat.mod_eq_of_lt d.isLt)
    | ⟨2, _⟩ => exact Fin.ext (Nat.mod_eq_of_lt l.isLt)
  unfold Value.G2
  rw [dif_pos (by rw [hp]; exact t'.isLt), hl, ← Value.outsAt0_sweep m c (Value.pt2Of (ix3 s d l)) (by rw [hp]; exact t'.isLt)]
  simp only [hp]
  rw [outsAt0_B m c t' (by omega) (by omega) (by omega)]
  dsimp only
  rw [second]
  have e : outsAt0 m c (t'.val - 1) (Nat.lt_of_le_of_lt (Nat.sub_le _ _) t'.isLt) = outsAt0 m c t.val t.isLt := by
    congr 1; omega
  rw [e, outsAt0_A m c t (by omega) (by omega) (by omega)]
  dsimp only
  rw [first]
  unfold k0_pay4 k0_pay3 k0_pay2
  simp only [shapeCast_self, pointwise]
  refine (congrArg₂ (· + ·) (pay1_apply _ _ d l) (pay1_apply _ _ d l)).trans ?_
  simp only [read0 m c t 0 s p0, read0 m c t' 1 s p0', read1 m c t 0 p1, read1 m c t' 1 p1']
  exact congrArg₂ (· + ·) (Finset.sum_congr rfl fun x _ => congrArg₂ (· * ·) (acts m c s 0 x d) (cots m c 0 x l))
    (Finset.sum_congr rfl fun x _ => congrArg₂ (· * ·) (acts m c s 1 x d) (cots m c 1 x l))

/-- The reference's result. -/
def ref (x0 : FVec Ideal Cert.ReferenceDownIdeal.S2x2048x2816 .f32) (x1 : FVec Ideal Cert.ReferenceDownIdeal.S2x2048x1024 .f32) :
    FVec Ideal Cert.ReferenceDownIdeal.S4x704x1024 .bf16 :=
  truncf (F := Ideal) .bf16 (shapeCast Cert.ReferenceDownIdeal.S4x704x1024 (transpose Cert.ReferenceDownIdeal.S2816x1024 [1, 0] (Host.dotGeneral Cert.ReferenceDownIdeal.dot_S2x2048x1024_S2x2048x2816_S1024x2816_01_01_2_2_n_n none x1 x0) Cert.ReferenceDownIdeal.Gen.transposes_S1024x2816_S2816x1024_1_0) Cert.ReferenceDownIdeal.Gen.shapeCasts_S2816x1024_S4x704x1024) bitsLt_bf16_f32

/-- The reference's result, entry by entry. -/
theorem reference (x0 : FVec Ideal Cert.ReferenceDownIdeal.S2x2048x2816 .f32) (x1 : FVec Ideal Cert.ReferenceDownIdeal.S2x2048x1024 .f32) (s : Fin 4) (d : Fin 704) (l : Fin 1024) :
    ref x0 x1 (ix3 s d l) =
      (∑ x, x0 (ix3 0 x (col s d)) * x1 (ix3 0 x l)) + ∑ x, x0 (ix3 1 x (col s d)) * x1 (ix3 1 x l) := by
  unfold ref
  simp only [pointwise]
  rw [zero_add, Fin.sum_univ_two]
  exact congrArg₂ (· + ·) (Finset.sum_congr rfl fun x _ => mul_comm _ _) (Finset.sum_congr rfl fun x _ => mul_comm _ _)

/-- The kernel and the reference hold the same array. -/
theorem equal : ref (X m c) (G m c) = Value.G2 m c := by
  funext y
  obtain ⟨s, d, l, rfl⟩ : ∃ s d l, y = ix3 s d l := ⟨y 0, y 1, y 2, eq_ix3 y⟩
  exact (reference (X m c) (G m c) s d l).trans (kernel m c s d l).symm

end Cert.Down

end
-- ==== Proof.Gate.lean ====
/- The gradient through the feed-forward's second product and its gate: each chip's columns of the two cotangents. -/
module

public import proofs.«01_k».proof.Proof.Gen.KernelGateIdeal.Value
public import proofs.«01_k».proof.Proof.Gen.ReferenceGateIdeal.Run
public import proofs.«01_k».proof.Pre_finite_gate
public import proofs.«01_k».proof.Proof.Tokens
public import proofs.«01_k».proof.Proof.Finite
public import proofs.«01_k».proof.Proof.Head
public import Idealize.ShloMosaic.Lib.Tactic

@[expose] public section

noncomputable section

namespace Cert.Gate

open Cert.KernelGateIdeal Cert.KernelGateIdeal.Gen Idealize.ShloMosaic Idealize.ShloMosaic.TcCoe Idealize.SL.Sem
open Cert.Attn (coe_sum real_of both)
open Cert.Tok (zero2 zero3 col row place at4 eq_at4 cut flat)

/-- One over one plus the exponential of minus a number. -/
abbrev sg (a : EReal) : EReal := Ideal.div 1 (1 + Ideal.exp (-a))

theorem sg_real (a : ℝ) : ∃ r : ℝ, sg a = r := by
  have h : (1 + Real.exp (-a) : ℝ) ≠ 0 := by positivity
  refine ⟨1 / (1 + Real.exp (-a)), ?_⟩
  show Ideal.div 1 (1 + Ideal.exp (-(a : EReal))) = _
  rw [← EReal.coe_neg, Ideal.exp_coe, ← EReal.coe_one, ← EReal.coe_add, Ideal.div_coe h, ← EReal.coe_mul, one_mul]

theorem sg_top : sg ⊤ = 1 := by
  show Ideal.div 1 (1 + Ideal.exp (-⊤)) = 1
  rw [EReal.neg_top, Ideal.exp_bot, add_zero, ← EReal.coe_one, Ideal.div_coe one_ne_zero]
  norm_num

theorem sg_bot : sg ⊥ = 0 := by
  show Ideal.div 1 (1 + Ideal.exp (-⊥)) = 0
  rw [EReal.neg_bot, Ideal.exp_top, ← EReal.coe_one, EReal.coe_add_top]
  unfold Ideal.div
  rw [if_neg (by simp)]
  simp

/-- The kernel's first cotangent, from an entry of the product's cotangent and of the two halves, is the reference's. -/
theorem da_eq (a : EReal) (f b : ℝ) :
    (f : EReal) * b * (sg a * (1 + a * (1 - sg a))) = (f : EReal) * b * sg a + a * ((f : EReal) * b) * (sg a * (1 - sg a)) := by
  rw [← EReal.coe_mul]
  induction a using EReal.rec with
  | bot => rw [sg_bot]; simp
  | top => rw [sg_top, show (1 : EReal) - 1 = 0 from by rw [← EReal.coe_one, ← EReal.coe_sub, sub_self, EReal.coe_zero]]; simp
  | coe a =>
    obtain ⟨r, hr⟩ := sg_real a
    rw [hr, ← EReal.coe_one]
    simp only [← EReal.coe_mul, ← EReal.coe_add, ← EReal.coe_sub]
    congr 1
    ring

/-- The second needs no finiteness. -/
theorem db_eq (a f : EReal) : f * a * sg a = a * sg a * f := by
  rw [mul_assoc, mul_comm]

variable (m : (ℓ : Loc nD τ sig) → Buf (Elt Ideal) ℓ) (c : Dev nD)

/-- The gate's half. -/
abbrev A : (⟨3, ![2, 2048, 2816]⟩ : Shape).Idx → EReal := m ((c : Thread nD τ).loc main_arg0)

/-- The other half. -/
abbrev B : (⟨3, ![2, 2048, 2816]⟩ : Shape).Idx → EReal := m ((c : Thread nD τ).loc main_arg1)

/-- The second weights. -/
abbrev W : (⟨2, ![2816, 1024]⟩ : Shape).Idx → EReal := m ((c : Thread nD τ).loc main_arg2)

/-- The cotangent of the product. -/
abbrev G : (⟨3, ![2, 2048, 1024]⟩ : Shape).Idx → EReal := m ((c : Thread nD τ).loc main_arg3)

/-- The point of a chip and a tile of tokens. -/
theorem point : ∀ s r : Fin 4, ∃ t : Fin grid0.N, cc0_transform_0 (grid0.coords t) = ![r.val, 0]
    ∧ cc0_transform_1 (grid0.coords t) = ![s.val, 0, 0] ∧ cc0_transform_2 (grid0.coords t) = ![s.val, r.val, 0]
    ∧ cc0_transform_3 (grid0.coords t) = ![s.val, r.val, 0] ∧ cc0_transform_4 (grid0.coords t) = ![s.val, r.val, 0]
    ∧ cc0_transform_5 (grid0.coords t) = ![s.val, r.val, 0] := by
  decide +kernel

theorem read0 (t : Fin cfg0.N) (r : Fin 4) (i : Fin 1024) (h : cc0_transform_0 (grid0.coords t) = ![r.val, 0]) (k : Fin 1024) :
    iblk m c 0 t (ix2 i k) = V m c main_v2 (ix2 (at4 r i) k) := by
  refine congrArg (V m c main_v2) (funext fun a => ?_)
  have h := congrFun h a
  match a with
  | ⟨0, _⟩ => exact Fin.ext (show cc0_transform_0 (grid0.coords t) 0 * 1024 + 1 * i.val = r.val * 1024 + i.val from by rw [show cc0_transform_0 (grid0.coords t) 0 = r.val from h]; omega)
  | ⟨1, _⟩ => exact Fin.ext (show cc0_transform_0 (grid0.coords t) 1 * 1024 + 1 * k.val = k.val from by rw [show cc0_transform_0 (grid0.coords t) 1 = 0 from h]; omega)

theorem read1 (t : Fin cfg0.N) (s : Fin 4) (h : cc0_transform_1 (grid0.coords t) = ![s.val, 0, 0]) (d : Fin 704) (j : Fin 1024) :
    iblk m c 1 t (ix3 0 d j) = V m c main_v1 (ix3 s d j) := by
  refine congrArg (V m c main_v1) (funext fun a => ?_)
  have h := congrFun h a
  match a with
  | ⟨0, _⟩ => exact Fin.ext (show cc0_transform_1 (grid0.coords t) 0 * 1 + 1 * 0 = s.val from by rw [show cc0_transform_1 (grid0.coords t) 0 = s.val from h]; omega)
  | ⟨1, _⟩ => exact Fin.ext (show cc0_transform_1 (grid0.coords t) 1 * 704 + 1 * d.val = d.val from by rw [show cc0_transform_1 (grid0.coords t) 1 = 0 from h]; omega)
  | ⟨2, _⟩ => exact Fin.ext (show cc0_transform_1 (grid0.coords t) 2 * 1024 + 1 * j.val = j.val from by rw [show cc0_transform_1 (grid0.coords t) 2 = 0 from h]; omega)

theorem read2 (t : Fin cfg0.N) (s : Fin 4) (r : Fin 4) (i : Fin 1024) (h : cc0_transform_2 (grid0.coords t) = ![s.val, r.val, 0]) (d : Fin 704) :
    iblk m c 2 t (ix3 0 i d) = V m c main_v5 (ix3 s (at4 r i) d) := by
  refine congrArg (V m c main_v5) (funext fun a => ?_)
  have h := congrFun h a
  match a with
  | ⟨0, _⟩ => exact Fin.ext (show cc0_transform_2 (grid0.coords t) 0 * 1 + 1 * 0 = s.val from by rw [show cc0_transform_2 (grid0.coords t) 0 = s.val from h]; omega)
  | ⟨1, _⟩ => exact Fin.ext (show cc0_transform_2 (grid0.coords t) 1 * 1024 + 1 * i.val = r.val * 1024 + i.val from by rw [show cc0_transform_2 (grid0.coords t) 1 = r.val from h]; omega)
  | ⟨2, _⟩ => exact Fin.ext (show cc0_transform_2 (grid0.coords t) 2 * 704 + 1 * d.val = d.val from by rw [show cc0_transform_2 (grid0.coords t) 2 = 0 from h]; omega)

theorem read3 (t : Fin cfg0.N) (s : Fin 4) (r : Fin 4) (i : Fin 1024) (h : cc0_transform_3 (grid0.coords t) = ![s.val, r.val, 0]) (d : Fin 704) :
    iblk m c 3 t (ix3 0 i d) = V m c main_v8 (ix3 s (at4 r i) d) := by
  refine congrArg (V m c main_v8) (funext fun a => ?_)
  have h := congrFun h a
  match a with
  | ⟨0, _⟩ => exact Fin.ext (show cc0_transform_3 (grid0.coords t) 0 * 1 + 1 * 0 = s.val from by rw [show cc0_transform_3 (grid0.coords t) 0 = s.val from h]; omega)
  | ⟨1, _⟩ => exact Fin.ext (show cc0_transform_3 (grid0.coords t) 1 * 1024 + 1 * i.val = r.val * 1024 + i.val from by rw [show cc0_transform_3 (grid0.coords t) 1 = r.val from h]; omega)
  | ⟨2, _⟩ => exact Fin.ext (show cc0_transform_3 (grid0.coords t) 2 * 704 + 1 * d.val = d.val from by rw [show cc0_transform_3 (grid0.coords t) 2 = 0 from h]; omega)

theorem read4 (t : Fin cfg0.N) (s : Fin 4) (r : Fin 4) (i : Fin 1024) (h : cc0_transform_4 (grid0.coords t) = ![s.val, r.val, 0])
    (A : (⟨3, ![4, 4096, 704]⟩ : Shape).Idx → EReal) (d : Fin 704) :
    ((cfg0.win 4).blk t).view.read (Elt Ideal) A (ix3 0 i d) = A (ix3 s (at4 r i) d) := by
  refine congrArg A (funext fun a => ?_)
  have h := congrFun h a
  match a with
  | ⟨0, _⟩ => exact Fin.ext (show cc0_transform_4 (grid0.coords t) 0 * 1 + 1 * 0 = s.val from by rw [show cc0_transform_4 (grid0.coords t) 0 = s.val from h]; omega)
  | ⟨1, _⟩ => exact Fin.ext (show cc0_transform_4 (grid0.coords t) 1 * 1024 + 1 * i.val = r.val * 1024 + i.val from by rw [show cc0_transform_4 (grid0.coords t) 1 = r.val from h]; omega)
  | ⟨2, _⟩ => exact Fin.ext (show cc0_transform_4 (grid0.coords t) 2 * 704 + 1 * d.val = d.val from by rw [show cc0_transform_4 (grid0.coords t) 2 = 0 from h]; omega)

theorem read5 (t : Fin cfg0.N) (s : Fin 4) (r : Fin 4) (i : Fin 1024) (h : cc0_transform_5 (grid0.coords t) = ![s.val, r.val, 0])
    (A : (⟨3, ![4, 4096, 704]⟩ : Shape).Idx → EReal) (d : Fin 704) :
    ((cfg0.win 5).blk t).view.read (Elt Ideal) A (ix3 0 i d) = A (ix3 s (at4 r i) d) := by
  refine congrArg A (funext fun a => ?_)
  have h := congrFun h a
  match a with
  | ⟨0, _⟩ => exact Fin.ext (show cc0_transform_5 (grid0.coords t) 0 * 1 + 1 * 0 = s.val from by rw [show cc0_transform_5 (grid0.coords t) 0 = s.val from h]; omega)
  | ⟨1, _⟩ => exact Fin.ext (show cc0_transform_5 (grid0.coords t) 1 * 1024 + 1 * i.val = r.val * 1024 + i.val from by rw [show cc0_transform_5 (grid0.coords t) 1 = r.val from h]; omega)
  | ⟨2, _⟩ => exact Fin.ext (show cc0_transform_5 (grid0.coords t) 2 * 704 + 1 * d.val = d.val from by rw [show cc0_transform_5 (grid0.coords t) 2 = 0 from h]; omega)

/-- The cotangent as the region reads it. -/
theorem cots (n : Fin 4096) (j : Fin 1024) : V m c main_v2 (ix2 n j) = G m c (ix3 (row n) (place n) j) := by
  refine (congrFun (?_ : V m c main_v2 = shapeCast S4096x1024 (G m c) shapeCasts_S2x2048x1024_S4096x1024) _).trans
    (flat (G m c) shapeCasts_S2x2048x1024_S4096x1024 n j)
  show StableHlo.after hostOps0 (fun b => m (c, b)) main_v2 = _
  after_results <;> rfl

/-- The weights as the region reads them. -/
theorem wts (s : Fin 4) (d : Fin 704) (j : Fin 1024) : V m c main_v1 (ix3 s d j) = W m c (ix2 (col s d) j) := by
  rw [show V m c main_v1 = truncf (F := Ideal) .bf16 (shapeCast S4x704x1024 (W m c) shapeCasts_S2816x1024_S4x704x1024) bitsLt_bf16_f32 from by
    show StableHlo.after hostOps0 (fun b => m (c, b)) main_v1 = _
    after_results <;> rfl]
  simp only [pointwise]
  rfl

/-- The halves as the region reads them. -/
theorem halfA (s : Fin 4) (n : Fin 4096) (d : Fin 704) : V m c main_v5 (ix3 s n d) = A m c (ix3 (row n) (place n) (col s d)) := by
  refine (congrFun (?_ : V m c main_v5 = _) _).trans (cut (A m c) shapeCasts_S2x2048x2816_S4096x4x704 transposes_S4096x4x704_S4x4096x704_1_0_2 bitsLt_bf16_f32 s n d)
  show StableHlo.after hostOps0 (fun b => m (c, b)) main_v5 = _
  after_results <;> rfl

theorem halfB (s : Fin 4) (n : Fin 4096) (d : Fin 704) : V m c main_v8 (ix3 s n d) = B m c (ix3 (row n) (place n) (col s d)) := by
  refine (congrFun (?_ : V m c main_v8 = _) _).trans (cut (B m c) shapeCasts_S2x2048x2816_S4096x4x704 transposes_S4096x4x704_S4x4096x704_1_0_2 bitsLt_bf16_f32 s n d)
  show StableHlo.after hostOps0 (fun b => m (c, b)) main_v8 = _
  after_results <;> rfl

/-- The gated product's cotangent, entry by entry. -/
abbrev df (G : (⟨3, ![2, 2048, 1024]⟩ : Shape).Idx → EReal) (W : (⟨2, ![2816, 1024]⟩ : Shape).Idx → EReal) (s : Fin 4) (n : Fin 4096) (d : Fin 704) : EReal :=
  ∑ k, G (ix3 (row n) (place n) k) * W (ix2 (col s d) k)

theorem pay2_apply (x0 : Vec Ideal S1024x1024 .f32) (x1 : Vec Ideal S1x704x1024 .bf16) (i : Fin 1024) (d : Fin 704) :
    k0_pay2 x0 x1 (ix2 i d) = ∑ k, x0 (ix2 i k) * x1 (ix3 0 d k) := by
  unfold k0_pay2
  simp only [shapeCast_self, pointwise]
  rw [zero_add]

theorem pay3_apply (x : Vec Ideal S1x1024x704 .bf16) (i : Fin 1024) (d : Fin 704) : k0_pay3 x (ix2 i d) = x (ix3 0 i d) := by
  unfold k0_pay3
  simp only [pointwise]

theorem pay4_apply (x : Vec Ideal S1x1024x704 .bf16) (i : Fin 1024) (d : Fin 704) : k0_pay4 x (ix2 i d) = sg (x (ix3 0 i d)) := by
  unfold k0_pay4
  simp only [pointwise]
  rw [zero_sub, pay3_apply]

theorem pay5_apply (x0 : Vec Ideal S1024x1024 .f32) (x1 : Vec Ideal S1x704x1024 .bf16) (x2 x3 : Vec Ideal S1x1024x704 .bf16) (i : Fin 1024) (d : Fin 704) :
    k0_pay5 x0 x1 x2 x3 (ix3 0 i d)
      = k0_pay2 x0 x1 (ix2 i d) * x3 (ix3 0 i d) * (sg (x2 (ix3 0 i d)) * (1 + x2 (ix3 0 i d) * (1 - sg (x2 (ix3 0 i d))))) := by
  unfold k0_pay5
  simp only [pointwise]
  rw [pay3_apply, pay4_apply]

theorem pay6_apply (x0 : Vec Ideal S1024x1024 .f32) (x1 : Vec Ideal S1x704x1024 .bf16) (x2 : Vec Ideal S1x1024x704 .bf16) (i : Fin 1024) (d : Fin 704) :
    k0_pay1 (k0_pay6 x0 x1 x2) (ix3 0 i d) = k0_pay2 x0 x1 (ix2 i d) * x2 (ix3 0 i d) * sg (x2 (ix3 0 i d)) := by
  unfold k0_pay1 k0_pay6
  simp only [pointwise]
  rw [pay3_apply, pay4_apply]

/-- The product of a point, entry by entry. -/
theorem prod (t : Fin cfg0.N) (s r : Fin 4) (i : Fin 1024) (h0 : cc0_transform_0 (grid0.coords t) = ![r.val, 0])
    (h1 : cc0_transform_1 (grid0.coords t) = ![s.val, 0, 0]) (d : Fin 704) :
    k0_pay2 (iblk m c 0 t) (iblk m c 1 t) (ix2 i d) = df (G m c) (W m c) s (at4 r i) d :=
  (pay2_apply _ _ _ _).trans (Finset.sum_congr rfl fun k _ => congrArg₂ (· * ·) ((read0 m c t r i h0 k).trans (cots m c (at4 r i) k)) ((read1 m c t s h1 d k).trans (wts m c s d k)))

/-- The first cotangent as the kernel forms it. -/
abbrev da (f a b : EReal) : EReal := f * b * (sg a * (1 + a * (1 - sg a)))

/-- The second. -/
abbrev db (f a : EReal) : EReal := f * a * sg a

/-- The first cotangent, entry by entry. -/
theorem kernel4 (s r : Fin 4) (i : Fin 1024) (d : Fin 704) :
    (dats m 0 c).arrAt 4 cfg0.N (ix3 s (at4 r i) d) = da (df (G m c) (W m c) s (at4 r i) d) (A m c (ix3 (row (at4 r i)) (place (at4 r i)) (col s d))) (B m c (ix3 (row (at4 r i)) (place (at4 r i)) (col s d))) := by
  obtain ⟨t, h0, h1, h2, h3, h4, -⟩ := point s r
  have h := congrFun (Value.blocks4 m c t (flush0_4 t)) (ix3 0 i d)
  rw [Value.flushed4] at h
  refine (read4 t s r i h4 _ d).symm.trans (h.trans ?_)
  show out0_4 (iblk m c 0 t) (iblk m c 1 t) (iblk m c 2 t) (iblk m c 3 t) (ix3 0 i d) = _
  unfold out0_4
  rw [View.canon_unit_zero zero3]
  simp only [View.ld_unit_zero (S := S1024x1024) zero2, View.ld_unit_zero (S := S1x704x1024) zero3, View.ld_unit_zero (S := S1x1024x704) zero3]
  rw [pay5_apply, prod m c t s r i h0 h1 d, (read2 m c t s r i h2 d).trans (halfA m c s _ d), (read3 m c t s r i h3 d).trans (halfB m c s _ d)]

/-- The second. -/
theorem kernel5 (s r : Fin 4) (i : Fin 1024) (d : Fin 704) :
    (dats m 0 c).arrAt 5 cfg0.N (ix3 s (at4 r i) d) = db (df (G m c) (W m c) s (at4 r i) d) (A m c (ix3 (row (at4 r i)) (place (at4 r i)) (col s d))) := by
  obtain ⟨t, h0, h1, h2, -, -, h5⟩ := point s r
  have h := congrFun (Value.blocks5 m c t (flush0_5 t)) (ix3 0 i d)
  rw [Value.flushed5] at h
  refine (read5 t s r i h5 _ d).symm.trans (h.trans ?_)
  show out0_5 (iblk m c 0 t) (iblk m c 1 t) (iblk m c 2 t) (iblk m c 3 t) (ix3 0 i d) = _
  unfold out0_5
  rw [View.canon_unit_zero zero3]
  simp only [View.ld_unit_zero (S := S1024x1024) zero2, View.ld_unit_zero (S := S1x704x1024) zero3, View.ld_unit_zero (S := S1x1024x704) zero3]
  rw [pay6_apply, prod m c t s r i h0 h1 d, (read2 m c t s r i h2 d).trans (halfA m c s _ d)]

/-- The reference's product. -/
def dot (g : FVec Ideal Cert.ReferenceGateIdeal.S2x2048x1024 .f32) (w : FVec Ideal Cert.ReferenceGateIdeal.S2816x1024 .f32) : FVec Ideal Cert.ReferenceGateIdeal.S2x2048x2816 .f32 :=
  Host.dotGeneral (F := Ideal) Cert.ReferenceGateIdeal.dot_S2x2048x1024_S2816x1024_S2x2048x2816_2_1_01_0_n_n none g w

theorem dot_apply (g : FVec Ideal Cert.ReferenceGateIdeal.S2x2048x1024 .f32) (w : FVec Ideal Cert.ReferenceGateIdeal.S2816x1024 .f32) (s : Fin 4) (n : Fin 4096) (d : Fin 704) :
    dot g w (ix3 (row n) (place n) (col s d)) = df g w s n d := by
  unfold dot
  simp only [pointwise]
  rw [zero_add]

/-- The array of ones. -/
def ones : FVec Ideal Cert.ReferenceGateIdeal.S2x2048x2816 .f32 :=
  broadcastInDim Cert.ReferenceGateIdeal.S2x2048x2816 ![] Cert.ReferenceGateIdeal.Gen.bcast_S_S2x2048x2816 (constant (F := Ideal) Cert.ReferenceGateIdeal.S_ .f32 0x3F800000#32)

/-- The logistic function, entry by entry. -/
def logistic (a : FVec Ideal Cert.ReferenceGateIdeal.S2x2048x2816 .f32) : FVec Ideal Cert.ReferenceGateIdeal.S2x2048x2816 .f32 :=
  Host.divf (F := Ideal) ones (addf (F := Ideal) ones (Host.exp (F := Ideal) (Host.negf (F := Ideal) a)))

/-- The reference's first cotangent. -/
def refA (g : FVec Ideal Cert.ReferenceGateIdeal.S2x2048x1024 .f32) (w : FVec Ideal Cert.ReferenceGateIdeal.S2816x1024 .f32) (a b : FVec Ideal Cert.ReferenceGateIdeal.S2x2048x2816 .f32) :
    FVec Ideal Cert.ReferenceGateIdeal.S2x2048x2816 .f32 :=
  addf (F := Ideal) (mulf (F := Ideal) (mulf (F := Ideal) (dot g w) b) (logistic a)) (mulf (F := Ideal) (mulf (F := Ideal) a (mulf (F := Ideal) (dot g w) b)) (mulf (F := Ideal) (logistic a) (subf (F := Ideal) ones (logistic a))))

/-- And its second. -/
def refB (g : FVec Ideal Cert.ReferenceGateIdeal.S2x2048x1024 .f32) (w : FVec Ideal Cert.ReferenceGateIdeal.S2816x1024 .f32) (a : FVec Ideal Cert.ReferenceGateIdeal.S2x2048x2816 .f32) :
    FVec Ideal Cert.ReferenceGateIdeal.S2x2048x2816 .f32 :=
  mulf (F := Ideal) (mulf (F := Ideal) a (logistic a)) (dot g w)

theorem refA_apply (g : FVec Ideal Cert.ReferenceGateIdeal.S2x2048x1024 .f32) (w : FVec Ideal Cert.ReferenceGateIdeal.S2816x1024 .f32) (a b : FVec Ideal Cert.ReferenceGateIdeal.S2x2048x2816 .f32)
    (y : Cert.ReferenceGateIdeal.S2x2048x2816.Idx) :
    refA g w a b y = dot g w y * b y * sg (a y) + a y * (dot g w y * b y) * (sg (a y) * (1 - sg (a y))) := by
  unfold refA logistic ones
  simp only [pointwise]

theorem refB_apply (g : FVec Ideal Cert.ReferenceGateIdeal.S2x2048x1024 .f32) (w : FVec Ideal Cert.ReferenceGateIdeal.S2816x1024 .f32) (a : FVec Ideal Cert.ReferenceGateIdeal.S2x2048x2816 .f32)
    (y : Cert.ReferenceGateIdeal.S2x2048x2816.Idx) : refB g w a y = a y * sg (a y) * dot g w y := by
  unfold refB logistic ones
  simp only [pointwise]

/-- The reference's result, of an array of the feed-forward's width. -/
def ref (x : FVec Ideal Cert.ReferenceGateIdeal.S2x2048x2816 .f32) : FVec Ideal Cert.ReferenceGateIdeal.S4x4096x704 .bf16 :=
  truncf (F := Ideal) .bf16 (transpose Cert.ReferenceGateIdeal.S4x4096x704 [1, 0, 2] (shapeCast Cert.ReferenceGateIdeal.S4096x4x704 x Cert.ReferenceGateIdeal.Gen.shapeCasts_S2x2048x2816_S4096x4x704) Cert.ReferenceGateIdeal.Gen.transposes_S4096x4x704_S4x4096x704_1_0_2) Cert.ReferenceGateIdeal.Gen.bitsLt_bf16_f32

theorem ref_apply (x : FVec Ideal Cert.ReferenceGateIdeal.S2x2048x2816 .f32) (s : Fin 4) (n : Fin 4096) (d : Fin 704) :
    ref x (ix3 s n d) = x (ix3 (row n) (place n) (col s d)) := cut x _ _ _ s n d

/-- A sum of products of real numbers is a real number. -/
theorem df_real (g : (⟨3, ![2, 2048, 1024]⟩ : Shape).Idx → EReal) (w : (⟨2, ![2816, 1024]⟩ : Shape).Idx → EReal)
    (hg : ∀ i, g i = ((g i).toReal : EReal)) (hw : ∀ i, w i = ((w i).toReal : EReal)) (s : Fin 4) (n : Fin 4096) (d : Fin 704) :
    ∃ f : ℝ, df g w s n d = f :=
  ⟨∑ k, (g (ix3 (row n) (place n) k)).toReal * (w (ix2 (col s d) k)).toReal,
    (Finset.sum_congr rfl fun k _ => (congrArg₂ (· * ·) (hg _) (hw _)).trans (EReal.coe_mul _ _).symm).trans (coe_sum _ _)⟩

/-- The kernel and the reference hold the same arrays, where the precondition holds. -/
theorem equal4 [Cert.Pre_finite_gate.Facts] (hp : Cert.Pre_finite_gate.fn (F := Ideal) (A m c) (B m c) (W m c) (G m c) = fun _ => 1#1) :
    ref (refA (G m c) (W m c) (A m c) (B m c)) = (dats m 0 c).arrAt 4 cfg0.N := by
  have h := congrFun hp ix0
  unfold Cert.Pre_finite_gate.fn at h
  obtain ⟨h, hg⟩ := both h
  obtain ⟨hb, hw⟩ := both h
  have rb : ∀ i, B m c i = ((B m c i).toReal : EReal) := fun i => real_of (B m c) _ _ _ _ hb i
  have rwt : ∀ i, W m c i = ((W m c i).toReal : EReal) := fun i => real_of (W m c) _ _ _ _ hw i
  have rg : ∀ i, G m c i = ((G m c i).toReal : EReal) := fun i => real_of (G m c) _ _ _ _ hg i
  funext y
  obtain ⟨s, n, d, rfl⟩ : ∃ s n d, y = ix3 s n d := ⟨y 0, y 1, y 2, eq_ix3 y⟩
  obtain ⟨r, i, rfl⟩ := eq_at4 n
  refine (ref_apply _ s _ d).trans ((refA_apply _ _ _ _ _).trans (Eq.trans ?_ (kernel4 m c s r i d).symm))
  obtain ⟨f, hf⟩ := df_real (G m c) (W m c) rg rwt s (at4 r i) d
  rw [dot_apply, hf, rb]
  exact (da_eq _ f _).symm

theorem equal5 : ref (refB (G m c) (W m c) (A m c)) = (dats m 0 c).arrAt 5 cfg0.N := by
  funext y
  obtain ⟨s, n, d, rfl⟩ : ∃ s n d, y = ix3 s n d := ⟨y 0, y 1, y 2, eq_ix3 y⟩
  obtain ⟨r, i, rfl⟩ := eq_at4 n
  refine (ref_apply _ s _ d).trans ((refB_apply _ _ _ _).trans (Eq.trans ?_ (kernel5 m c s r i d).symm))
  rw [dot_apply]
  exact (db_eq _ _).symm

end Cert.Gate

end
-- ==== Proof.Up.lean ====
/- The feed-forward's first half: each chip's columns of the two products of the normalised activations, and the gated product
   of them. -/
module

public import proofs.«01_k».proof.Proof.Gen.KernelUpIdeal.Value
public import proofs.«01_k».proof.Proof.Gen.ReferenceUpIdeal.Run
public import proofs.«01_k».proof.Proof.Tokens
public import Idealize.ShloMosaic.Lib.Tactic

@[expose] public section

noncomputable section

namespace Cert.Up

open Cert.KernelUpIdeal Cert.KernelUpIdeal.Gen Idealize.ShloMosaic Idealize.ShloMosaic.TcCoe Idealize.SL.Sem
open Cert.Tok (zero2 zero3 col row place at4 eq_at4 cut flat)

variable (m : (ℓ : Loc nD τ sig) → Buf (Elt Ideal) ℓ) (c : Dev nD)

/-- The normalised activations. -/
abbrev X : (⟨3, ![2, 2048, 1024]⟩ : Shape).Idx → EReal := m ((c : Thread nD τ).loc main_arg0)

/-- The gate's weights. -/
abbrev A : (⟨2, ![1024, 2816]⟩ : Shape).Idx → EReal := m ((c : Thread nD τ).loc main_arg1)

/-- The other weights. -/
abbrev B : (⟨2, ![1024, 2816]⟩ : Shape).Idx → EReal := m ((c : Thread nD τ).loc main_arg2)

/-- The point of a chip and a tile of tokens. -/
theorem point : ∀ s r : Fin 4, ∃ t : Fin grid0.N, cc0_transform_0 (grid0.coords t) = ![r.val, 0]
    ∧ cc0_transform_1 (grid0.coords t) = ![s.val, 0, 0] ∧ cc0_transform_2 (grid0.coords t) = ![s.val, 0, 0]
    ∧ cc0_transform_3 (grid0.coords t) = ![s.val, r.val, 0] ∧ cc0_transform_4 (grid0.coords t) = ![s.val, r.val, 0]
    ∧ cc0_transform_5 (grid0.coords t) = ![s.val, r.val, 0] := by
  decide +kernel

theorem read0 (t : Fin cfg0.N) (r : Fin 4) (i : Fin 1024) (h : cc0_transform_0 (grid0.coords t) = ![r.val, 0]) (k : Fin 1024) :
    iblk m c 0 t (ix2 i k) = V m c main_v7 (ix2 (at4 r i) k) := by
  refine congrArg (V m c main_v7) (funext fun a => ?_)
  have h := congrFun h a
  match a with
  | ⟨0, _⟩ => exact Fin.ext (show cc0_transform_0 (grid0.coords t) 0 * 1024 + 1 * i.val = r.val * 1024 + i.val from by rw [show cc0_transform_0 (grid0.coords t) 0 = r.val from h]; omega)
  | ⟨1, _⟩ => exact Fin.ext (show cc0_transform_0 (grid0.coords t) 1 * 1024 + 1 * k.val = k.val from by rw [show cc0_transform_0 (grid0.coords t) 1 = 0 from h]; omega)

theorem read1 (t : Fin cfg0.N) (s : Fin 4) (h : cc0_transform_1 (grid0.coords t) = ![s.val, 0, 0]) (d : Fin 704) (j : Fin 1024) :
    iblk m c 1 t (ix3 0 d j) = V m c main_v2 (ix3 s d j) := by
  refine congrArg (V m c main_v2) (funext fun a => ?_)
  have h := congrFun h a
  match a with
  | ⟨0, _⟩ => exact Fin.ext (show cc0_transform_1 (grid0.coords t) 0 * 1 + 1 * 0 = s.val from by rw [show cc0_transform_1 (grid0.coords t) 0 = s.val from h]; omega)
  | ⟨1, _⟩ => exact Fin.ext (show cc0_transform_1 (grid0.coords t) 1 * 704 + 1 * d.val = d.val from by rw [show cc0_transform_1 (grid0.coords t) 1 = 0 from h]; omega)
  | ⟨2, _⟩ => exact Fin.ext (show cc0_transform_1 (grid0.coords t) 2 * 1024 + 1 * j.val = j.val from by rw [show cc0_transform_1 (grid0.coords t) 2 = 0 from h]; omega)

theorem read2 (t : Fin cfg0.N) (s : Fin 4) (h : cc0_transform_2 (grid0.coords t) = ![s.val, 0, 0]) (d : Fin 704) (j : Fin 1024) :
    iblk m c 2 t (ix3 0 d j) = V m c main_v5 (ix3 s d j) := by
  refine congrArg (V m c main_v5) (funext fun a => ?_)
  have h := congrFun h a
  match a with
  | ⟨0, _⟩ => exact Fin.ext (show cc0_transform_2 (grid0.coords t) 0 * 1 + 1 * 0 = s.val from by rw [show cc0_transform_2 (grid0.coords t) 0 = s.val from h]; omega)
  | ⟨1, _⟩ => exact Fin.ext (show cc0_transform_2 (grid0.coords t) 1 * 704 + 1 * d.val = d.val from by rw [show cc0_transform_2 (grid0.coords t) 1 = 0 from h]; omega)
  | ⟨2, _⟩ => exact Fin.ext (show cc0_transform_2 (grid0.coords t) 2 * 1024 + 1 * j.val = j.val from by rw [show cc0_transform_2 (grid0.coords t) 2 = 0 from h]; omega)

theorem read3 (t : Fin cfg0.N) (s : Fin 4) (r : Fin 4) (i : Fin 1024) (h : cc0_transform_3 (grid0.coords t) = ![s.val, r.val, 0])
    (A : (⟨3, ![4, 4096, 704]⟩ : Shape).Idx → EReal) (d : Fin 704) :
    ((cfg0.win 3).blk t).view.read (Elt Ideal) A (ix3 0 i d) = A (ix3 s (at4 r i) d) := by
  refine congrArg A (funext fun a => ?_)
  have h := congrFun h a
  match a with
  | ⟨0, _⟩ => exact Fin.ext (show cc0_transform_3 (grid0.coords t) 0 * 1 + 1 * 0 = s.val from by rw [show cc0_transform_3 (grid0.coords t) 0 = s.val from h]; omega)
  | ⟨1, _⟩ => exact Fin.ext (show cc0_transform_3 (grid0.coords t) 1 * 1024 + 1 * i.val = r.val * 1024 + i.val from by rw [show cc0_transform_3 (grid0.coords t) 1 = r.val from h]; omega)
  | ⟨2, _⟩ => exact Fin.ext (show cc0_transform_3 (grid0.coords t) 2 * 704 + 1 * d.val = d.val from by rw [show cc0_transform_3 (grid0.coords t) 2 = 0 from h]; omega)

theorem read4 (t : Fin cfg0.N) (s : Fin 4) (r : Fin 4) (i : Fin 1024) (h : cc0_transform_4 (grid0.coords t) = ![s.val, r.val, 0])
    (A : (⟨3, ![4, 4096, 704]⟩ : Shape).Idx → EReal) (d : Fin 704) :
    ((cfg0.win 4).blk t).view.read (Elt Ideal) A (ix3 0 i d) = A (ix3 s (at4 r i) d) := by
  refine congrArg A (funext fun a => ?_)
  have h := congrFun h a
  match a with
  | ⟨0, _⟩ => exact Fin.ext (show cc0_transform_4 (grid0.coords t) 0 * 1 + 1 * 0 = s.val from by rw [show cc0_transform_4 (grid0.coords t) 0 = s.val from h]; omega)
  | ⟨1, _⟩ => exact Fin.ext (show cc0_transform_4 (grid0.coords t) 1 * 1024 + 1 * i.val = r.val * 1024 + i.val from by rw [show cc0_transform_4 (grid0.coords t) 1 = r.val from h]; omega)
  | ⟨2, _⟩ => exact Fin.ext (show cc0_transform_4 (grid0.coords t) 2 * 704 + 1 * d.val = d.val from by rw [show cc0_transform_4 (grid0.coords t) 2 = 0 from h]; omega)

theorem read5 (t : Fin cfg0.N) (s : Fin 4) (r : Fin 4) (i : Fin 1024) (h : cc0_transform_5 (grid0.coords t) = ![s.val, r.val, 0])
    (A : (⟨3, ![4, 4096, 704]⟩ : Shape).Idx → EReal) (d : Fin 704) :
    ((cfg0.win 5).blk t).view.read (Elt Ideal) A (ix3 0 i d) = A (ix3 s (at4 r i) d) := by
  refine congrArg A (funext fun a => ?_)
  have h := congrFun h a
  match a with
  | ⟨0, _⟩ => exact Fin.ext (show cc0_transform_5 (grid0.coords t) 0 * 1 + 1 * 0 = s.val from by rw [show cc0_transform_5 (grid0.coords t) 0 = s.val from h]; omega)
  | ⟨1, _⟩ => exact Fin.ext (show cc0_transform_5 (grid0.coords t) 1 * 1024 + 1 * i.val = r.val * 1024 + i.val from by rw [show cc0_transform_5 (grid0.coords t) 1 = r.val from h]; omega)
  | ⟨2, _⟩ => exact Fin.ext (show cc0_transform_5 (grid0.coords t) 2 * 704 + 1 * d.val = d.val from by rw [show cc0_transform_5 (grid0.coords t) 2 = 0 from h]; omega)

/-- The activations as the region reads them. -/
theorem acts (n : Fin 4096) (j : Fin 1024) : V m c main_v7 (ix2 n j) = X m c (ix3 (row n) (place n) j) := by
  refine (congrFun (?_ : V m c main_v7 = truncf (F := Ideal) .bf16 (shapeCast S4096x1024 (X m c) shapeCasts_S2x2048x1024_S4096x1024) bitsLt_bf16_f32) _).trans
    (flat (X m c) shapeCasts_S2x2048x1024_S4096x1024 n j)
  show StableHlo.after hostOps0 (fun b => m (c, b)) main_v7 = _
  after_results <;> rfl

/-- Weights cut by chip. -/
theorem rows (Z : FVec Ideal S1024x2816 .f32) (s : Fin 4) (d : Fin 704) (j : Fin 1024) :
    truncf (F := Ideal) .bf16 (shapeCast S4x704x1024 (transpose S2816x1024 [1, 0] Z transposes_S1024x2816_S2816x1024_1_0) shapeCasts_S2816x1024_S4x704x1024) bitsLt_bf16_f32 (ix3 s d j)
      = Z (ix2 j (col s d)) := by
  simp only [pointwise]
  rfl

/-- The gate's weights as the region reads them. -/
theorem wA (s : Fin 4) (d : Fin 704) (j : Fin 1024) : V m c main_v2 (ix3 s d j) = A m c (ix2 j (col s d)) := by
  refine (congrFun (?_ : V m c main_v2 = _) _).trans (rows (A m c) s d j)
  show StableHlo.after hostOps0 (fun b => m (c, b)) main_v2 = _
  after_results <;> rfl

/-- And the other weights. -/
theorem wB (s : Fin 4) (d : Fin 704) (j : Fin 1024) : V m c main_v5 (ix3 s d j) = B m c (ix2 j (col s d)) := by
  refine (congrFun (?_ : V m c main_v5 = _) _).trans (rows (B m c) s d j)
  show StableHlo.after hostOps0 (fun b => m (c, b)) main_v5 = _
  after_results <;> rfl

/-- A product's entry. -/
abbrev dot (X : (⟨3, ![2, 2048, 1024]⟩ : Shape).Idx → EReal) (A : (⟨2, ![1024, 2816]⟩ : Shape).Idx → EReal) (s : Fin 4) (n : Fin 4096) (d : Fin 704) : EReal :=
  ∑ k, X (ix3 (row n) (place n) k) * A (ix2 k (col s d))

/-- The gate. -/
abbrev gate (a b : EReal) : EReal := a * Ideal.div 1 (1 + Ideal.exp (-a)) * b

theorem pay2_apply (x0 : Vec Ideal S1024x1024 .bf16) (x1 : Vec Ideal S1x704x1024 .bf16) (i : Fin 1024) (d : Fin 704) :
    k0_pay2 x0 x1 (ix2 i d) = ∑ k, x0 (ix2 i k) * x1 (ix3 0 d k) := by
  unfold k0_pay2 k0_pay1
  simp only [shapeCast_self, pointwise]
  rw [zero_add]

theorem pay4_apply (x0 : Vec Ideal S1024x1024 .bf16) (x1 : Vec Ideal S1x704x1024 .bf16) (i : Fin 1024) (d : Fin 704) :
    k0_pay4 x0 x1 (ix3 0 i d) = ∑ k, x0 (ix2 i k) * x1 (ix3 0 d k) := by
  unfold k0_pay4
  simp only [pointwise]
  exact pay2_apply x0 x1 i d

theorem pay6_apply (x0 : Vec Ideal S1024x1024 .bf16) (x1 x2 : Vec Ideal S1x704x1024 .bf16) (i : Fin 1024) (d : Fin 704) :
    k0_pay6 x0 x1 x2 (ix3 0 i d) = gate (k0_pay2 x0 x1 (ix2 i d)) (k0_pay2 x0 x2 (ix2 i d)) := by
  unfold k0_pay6
  simp only [pointwise]
  rw [zero_sub]
  rfl

/-- The products of a point, entry by entry. -/
theorem prodA (t : Fin cfg0.N) (s : Fin 4) (r : Fin 4) (i : Fin 1024) (h0 : cc0_transform_0 (grid0.coords t) = ![r.val, 0])
    (h1 : cc0_transform_1 (grid0.coords t) = ![s.val, 0, 0]) (d : Fin 704) :
    k0_pay2 (iblk m c 0 t) (iblk m c 1 t) (ix2 i d) = dot (X m c) (A m c) s (at4 r i) d :=
  (pay2_apply _ _ _ _).trans (Finset.sum_congr rfl fun k _ => congrArg₂ (· * ·) ((read0 m c t r i h0 k).trans (acts m c (at4 r i) k)) ((read1 m c t s h1 d k).trans (wA m c s d k)))

theorem prodB (t : Fin cfg0.N) (s : Fin 4) (r : Fin 4) (i : Fin 1024) (h0 : cc0_transform_0 (grid0.coords t) = ![r.val, 0])
    (h2 : cc0_transform_2 (grid0.coords t) = ![s.val, 0, 0]) (d : Fin 704) :
    k0_pay2 (iblk m c 0 t) (iblk m c 2 t) (ix2 i d) = dot (X m c) (B m c) s (at4 r i) d :=
  (pay2_apply _ _ _ _).trans (Finset.sum_congr rfl fun k _ => congrArg₂ (· * ·) ((read0 m c t r i h0 k).trans (acts m c (at4 r i) k)) ((read2 m c t s h2 d k).trans (wB m c s d k)))

/-- The first product, entry by entry. -/
theorem kernel3 (s : Fin 4) (r : Fin 4) (i : Fin 1024) (d : Fin 704) : (dats m 0 c).arrAt 3 cfg0.N (ix3 s (at4 r i) d) = dot (X m c) (A m c) s (at4 r i) d := by
  obtain ⟨t, h0, h1, -, h3, -, -⟩ := point s r
  have h := congrFun (Value.blocks3 m c t (flush0_3 t)) (ix3 0 i d)
  rw [Value.flushed3] at h
  refine (read3 t s r i h3 _ d).symm.trans (h.trans ?_)
  show out0_3 (iblk m c 0 t) (iblk m c 1 t) (iblk m c 2 t) (ix3 0 i d) = _
  unfold out0_3
  rw [View.canon_unit_zero zero3]
  simp only [View.ld_unit_zero (S := S1024x1024) zero2, View.ld_unit_zero (S := S1x704x1024) zero3]
  exact (pay4_apply _ _ _ _).trans ((pay2_apply _ _ _ _).symm.trans (prodA m c t s r i h0 h1 d))

/-- The second. -/
theorem kernel4 (s : Fin 4) (r : Fin 4) (i : Fin 1024) (d : Fin 704) : (dats m 0 c).arrAt 4 cfg0.N (ix3 s (at4 r i) d) = dot (X m c) (B m c) s (at4 r i) d := by
  obtain ⟨t, h0, -, h2, -, h4, -⟩ := point s r
  have h := congrFun (Value.blocks4 m c t (flush0_4 t)) (ix3 0 i d)
  rw [Value.flushed4] at h
  refine (read4 t s r i h4 _ d).symm.trans (h.trans ?_)
  show out0_4 (iblk m c 0 t) (iblk m c 1 t) (iblk m c 2 t) (ix3 0 i d) = _
  unfold out0_4
  rw [View.canon_unit_zero zero3]
  simp only [View.ld_unit_zero (S := S1024x1024) zero2, View.ld_unit_zero (S := S1x704x1024) zero3]
  exact (pay4_apply _ _ _ _).trans ((pay2_apply _ _ _ _).symm.trans (prodB m c t s r i h0 h2 d))

/-- The gated product. -/
theorem kernel5 (s : Fin 4) (r : Fin 4) (i : Fin 1024) (d : Fin 704) :
    (dats m 0 c).arrAt 5 cfg0.N (ix3 s (at4 r i) d) = gate (dot (X m c) (A m c) s (at4 r i) d) (dot (X m c) (B m c) s (at4 r i) d) := by
  obtain ⟨t, h0, h1, h2, -, -, h5⟩ := point s r
  have h := congrFun (Value.blocks5 m c t (flush0_5 t)) (ix3 0 i d)
  rw [Value.flushed5] at h
  refine (read5 t s r i h5 _ d).symm.trans (h.trans ?_)
  show out0_5 (iblk m c 0 t) (iblk m c 1 t) (iblk m c 2 t) (ix3 0 i d) = _
  unfold out0_5
  rw [View.canon_unit_zero zero3]
  simp only [View.ld_unit_zero (S := S1024x1024) zero2, View.ld_unit_zero (S := S1x704x1024) zero3]
  exact (pay6_apply _ _ _ _ _).trans (congrArg₂ gate (prodA m c t s r i h0 h1 d) (prodB m c t s r i h0 h2 d))

/-- The reference's product. -/
def prod (x0 : FVec Ideal Cert.ReferenceUpIdeal.S2x2048x1024 .f32) (x1 : FVec Ideal Cert.ReferenceUpIdeal.S1024x2816 .f32) : FVec Ideal Cert.ReferenceUpIdeal.S2x2048x2816 .f32 :=
  Host.dotGeneral (F := Ideal) Cert.ReferenceUpIdeal.dot_S2x2048x1024_S1024x2816_S2x2048x2816_2_0_01_1_n_n none x0 x1

theorem prod_apply (x0 : FVec Ideal Cert.ReferenceUpIdeal.S2x2048x1024 .f32) (x1 : FVec Ideal Cert.ReferenceUpIdeal.S1024x2816 .f32) (s : Fin 4) (n : Fin 4096) (d : Fin 704) :
    prod x0 x1 (ix3 (row n) (place n) (col s d)) = dot x0 x1 s n d := by
  unfold prod
  simp only [pointwise]
  rw [zero_add]

/-- The reference's gated product. -/
def gated (a b : FVec Ideal Cert.ReferenceUpIdeal.S2x2048x2816 .f32) : FVec Ideal Cert.ReferenceUpIdeal.S2x2048x2816 .f32 :=
  mulf (F := Ideal) (mulf (F := Ideal) a (Host.divf (broadcastInDim Cert.ReferenceUpIdeal.S2x2048x2816 ![] Cert.ReferenceUpIdeal.Gen.bcast_S_S2x2048x2816 (constant (F := Ideal) Cert.ReferenceUpIdeal.S_ .f32 0x3F800000#32)) (addf (F := Ideal) (broadcastInDim Cert.ReferenceUpIdeal.S2x2048x2816 ![] Cert.ReferenceUpIdeal.Gen.bcast_S_S2x2048x2816 (constant (F := Ideal) Cert.ReferenceUpIdeal.S_ .f32 0x3F800000#32)) (Host.exp (F := Ideal) (Host.negf (F := Ideal) a))))) b

theorem gated_apply (a b : FVec Ideal Cert.ReferenceUpIdeal.S2x2048x2816 .f32) (i : Cert.ReferenceUpIdeal.S2x2048x2816.Idx) : gated a b i = gate (a i) (b i) := by
  unfold gated
  simp only [pointwise]

/-- The reference's result, of an array of the feed-forward's width. -/
def ref (x : FVec Ideal Cert.ReferenceUpIdeal.S2x2048x2816 .f32) : FVec Ideal Cert.ReferenceUpIdeal.S4x4096x704 .bf16 :=
  truncf (F := Ideal) .bf16 (transpose Cert.ReferenceUpIdeal.S4x4096x704 [1, 0, 2] (shapeCast Cert.ReferenceUpIdeal.S4096x4x704 x Cert.ReferenceUpIdeal.Gen.shapeCasts_S2x2048x2816_S4096x4x704) Cert.ReferenceUpIdeal.Gen.transposes_S4096x4x704_S4x4096x704_1_0_2) Cert.ReferenceUpIdeal.Gen.bitsLt_bf16_f32

theorem ref_apply (x : FVec Ideal Cert.ReferenceUpIdeal.S2x2048x2816 .f32) (s : Fin 4) (n : Fin 4096) (d : Fin 704) :
    ref x (ix3 s n d) = x (ix3 (row n) (place n) (col s d)) := cut x _ _ _ s n d

/-- The kernel and the reference hold the same arrays. -/
theorem equal3 : ref (prod (X m c) (A m c)) = (dats m 0 c).arrAt 3 cfg0.N := by
  funext y
  obtain ⟨s, n, d, rfl⟩ : ∃ s n d, y = ix3 s n d := ⟨y 0, y 1, y 2, eq_ix3 y⟩
  obtain ⟨r, i, rfl⟩ := eq_at4 n
  exact (ref_apply _ s _ d).trans ((prod_apply _ _ s _ d).trans (kernel3 m c s r i d).symm)

theorem equal4 : ref (prod (X m c) (B m c)) = (dats m 0 c).arrAt 4 cfg0.N := by
  funext y
  obtain ⟨s, n, d, rfl⟩ : ∃ s n d, y = ix3 s n d := ⟨y 0, y 1, y 2, eq_ix3 y⟩
  obtain ⟨r, i, rfl⟩ := eq_at4 n
  exact (ref_apply _ s _ d).trans ((prod_apply _ _ s _ d).trans (kernel4 m c s r i d).symm)

theorem equal5 : ref (gated (prod (X m c) (A m c)) (prod (X m c) (B m c))) = (dats m 0 c).arrAt 5 cfg0.N := by
  funext y
  obtain ⟨s, n, d, rfl⟩ : ∃ s n d, y = ix3 s n d := ⟨y 0, y 1, y 2, eq_ix3 y⟩
  obtain ⟨r, i, rfl⟩ := eq_at4 n
  exact (ref_apply _ s _ d).trans ((gated_apply _ _ _).trans ((congrArg₂ gate (prod_apply _ _ s _ d) (prod_apply _ _ s _ d)).trans (kernel5 m c s r i d).symm))

end Cert.Up

end
-- ==== Proof.Merged.lean ====
/- The gradient of the merged branches: the product of the cotangent and the transposed output weights, token by token. -/
module

public import proofs.«01_k».proof.Proof.Gen.KernelMergedIdeal.Value
public import proofs.«01_k».proof.Proof.Gen.ReferenceMergedIdeal.Run
public import proofs.«01_k».proof.Proof.Tokens
public import Idealize.ShloMosaic.Lib.Tactic

@[expose] public section

noncomputable section

namespace Cert.Merged

open Cert.KernelMergedIdeal Cert.KernelMergedIdeal.Gen Idealize.ShloMosaic Idealize.ShloMosaic.TcCoe Idealize.SL.Sem
open Cert.Tok (zero2 row place at4 eq_at4 flat)

variable (m : (ℓ : Loc nD τ sig) → Buf (Elt Ideal) ℓ) (c : Dev nD)

/-- The cotangent. -/
abbrev G : (⟨3, ![2, 2048, 1024]⟩ : Shape).Idx → EReal := m ((c : Thread nD τ).loc main_arg0)

/-- The output weights. -/
abbrev W : (⟨2, ![1024, 1024]⟩ : Shape).Idx → EReal := m ((c : Thread nD τ).loc main_arg1)

/-- The point of a tile of tokens. -/
theorem point : ∀ r : Fin 4, ∃ t : Fin grid0.N, cc0_transform_0 (grid0.coords t) = ![r.val, 0]
    ∧ cc0_transform_1 (grid0.coords t) = ![0, 0] ∧ cc0_transform_2 (grid0.coords t) = ![r.val, 0] := by
  decide +kernel

theorem read0 (t : Fin cfg0.N) (r : Fin 4) (i : Fin 1024) (h : cc0_transform_0 (grid0.coords t) = ![r.val, 0]) (k : Fin 1024) :
    iblk m c 0 t (ix2 i k) = V m c main_v0 (ix2 (at4 r i) k) := by
  refine congrArg (V m c main_v0) (funext fun a => ?_)
  have h := congrFun h a
  match a with
  | ⟨0, _⟩ => exact Fin.ext (show cc0_transform_0 (grid0.coords t) 0 * 1024 + 1 * i.val = r.val * 1024 + i.val from by rw [show cc0_transform_0 (grid0.coords t) 0 = r.val from h]; omega)
  | ⟨1, _⟩ => exact Fin.ext (show cc0_transform_0 (grid0.coords t) 1 * 1024 + 1 * k.val = k.val from by rw [show cc0_transform_0 (grid0.coords t) 1 = 0 from h]; omega)

theorem read1 (t : Fin cfg0.N) (h : cc0_transform_1 (grid0.coords t) = ![0, 0]) (j k : Fin 1024) :
    iblk m c 1 t (ix2 j k) = V m c main_v1 (ix2 j k) := by
  refine congrArg (V m c main_v1) (funext fun a => ?_)
  have h := congrFun h a
  match a with
  | ⟨0, _⟩ => exact Fin.ext (show cc0_transform_1 (grid0.coords t) 0 * 1024 + 1 * j.val = j.val from by rw [show cc0_transform_1 (grid0.coords t) 0 = 0 from h]; omega)
  | ⟨1, _⟩ => exact Fin.ext (show cc0_transform_1 (grid0.coords t) 1 * 1024 + 1 * k.val = k.val from by rw [show cc0_transform_1 (grid0.coords t) 1 = 0 from h]; omega)

theorem read2 (t : Fin cfg0.N) (r : Fin 4) (i : Fin 1024) (h : cc0_transform_2 (grid0.coords t) = ![r.val, 0])
    (A : (⟨2, ![4096, 1024]⟩ : Shape).Idx → EReal) (j : Fin 1024) :
    ((cfg0.win 2).blk t).view.read (Elt Ideal) A (ix2 i j) = A (ix2 (at4 r i) j) := by
  refine congrArg A (funext fun a => ?_)
  have h := congrFun h a
  match a with
  | ⟨0, _⟩ => exact Fin.ext (show cc0_transform_2 (grid0.coords t) 0 * 1024 + 1 * i.val = r.val * 1024 + i.val from by rw [show cc0_transform_2 (grid0.coords t) 0 = r.val from h]; omega)
  | ⟨1, _⟩ => exact Fin.ext (show cc0_transform_2 (grid0.coords t) 1 * 1024 + 1 * j.val = j.val from by rw [show cc0_transform_2 (grid0.coords t) 1 = 0 from h]; omega)

/-- The cotangent as the region reads it. -/
theorem cots (n : Fin 4096) (j : Fin 1024) : V m c main_v0 (ix2 n j) = G m c (ix3 (row n) (place n) j) := by
  refine (congrFun (?_ : V m c main_v0 = shapeCast S4096x1024 (G m c) shapeCasts_S2x2048x1024_S4096x1024) _).trans
    (flat (G m c) shapeCasts_S2x2048x1024_S4096x1024 n j)
  show StableHlo.after hostOps0 (fun b => m (c, b)) main_v0 = _
  after_results <;> rfl

/-- The weights as the region reads them. -/
theorem weights (j k : Fin 1024) : V m c main_v1 (ix2 j k) = W m c (ix2 j k) := by
  refine congrFun (?_ : V m c main_v1 = truncf (F := Ideal) .bf16 (W m c) bitsLt_bf16_f32) _
  show StableHlo.after hostOps0 (fun b => m (c, b)) main_v1 = _
  after_results <;> rfl

theorem pay1_apply (x0 : Vec Ideal S1024x1024 .f32) (x1 : Vec Ideal S1024x1024 .bf16) (i j : Fin 1024) :
    k0_pay1 x0 x1 (ix2 i j) = ∑ k, x0 (ix2 i k) * x1 (ix2 j k) := by
  unfold k0_pay1
  simp only [shapeCast_self, pointwise]
  rw [zero_add]

/-- The kernel's result, entry by entry. -/
theorem kernel (r : Fin 4) (i : Fin 1024) (j : Fin 1024) :
    (dats m 0 c).arrAt 2 cfg0.N (ix2 (at4 r i) j) = ∑ k, G m c (ix3 (row (at4 r i)) (place (at4 r i)) k) * W m c (ix2 j k) := by
  obtain ⟨t, h0, h1, h2⟩ := point r
  have h := congrFun (Value.blocks2 m c t (flush0_2 t)) (ix2 i j)
  rw [Value.flushed2] at h
  refine (read2 t r i h2 _ j).symm.trans (h.trans ?_)
  show out0_2 (iblk m c 0 t) (iblk m c 1 t) (ix2 i j) = _
  unfold out0_2
  rw [View.canon_unit_zero zero2]
  simp only [View.ld_unit_zero (S := S1024x1024) zero2]
  exact (pay1_apply _ _ _ _).trans (Finset.sum_congr rfl fun k _ => congrArg₂ (· * ·) ((read0 m c t r i h0 k).trans (cots m c (at4 r i) k)) ((read1 m c t h1 j k).trans (weights m c j k)))

/-- The reference's product. -/
def prod (x0 : FVec Ideal Cert.ReferenceMergedIdeal.S2x2048x1024 .f32) (x1 : FVec Ideal Cert.ReferenceMergedIdeal.S1024x1024 .f32) : FVec Ideal Cert.ReferenceMergedIdeal.S2x2048x1024 .f32 :=
  Host.dotGeneral (F := Ideal) Cert.ReferenceMergedIdeal.dot_S2x2048x1024_S1024x1024_S2x2048x1024_2_1_01_0_n_n none x0 x1

theorem prod_apply (x0 : FVec Ideal Cert.ReferenceMergedIdeal.S2x2048x1024 .f32) (x1 : FVec Ideal Cert.ReferenceMergedIdeal.S1024x1024 .f32) (b : Fin 2) (x : Fin 2048) (j : Fin 1024) :
    prod x0 x1 (ix3 b x j) = ∑ k, x0 (ix3 b x k) * x1 (ix2 j k) := by
  unfold prod
  simp only [pointwise]
  rw [zero_add]

/-- The reference's result. -/
def ref (x0 : FVec Ideal Cert.ReferenceMergedIdeal.S2x2048x1024 .f32) (x1 : FVec Ideal Cert.ReferenceMergedIdeal.S1024x1024 .f32) : FVec Ideal Cert.ReferenceMergedIdeal.S4096x1024 .bf16 :=
  truncf (F := Ideal) .bf16 (shapeCast Cert.ReferenceMergedIdeal.S4096x1024 (prod x0 x1) Cert.ReferenceMergedIdeal.Gen.shapeCasts_S2x2048x1024_S4096x1024) Cert.ReferenceMergedIdeal.Gen.bitsLt_bf16_f32

theorem ref_apply (x0 : FVec Ideal Cert.ReferenceMergedIdeal.S2x2048x1024 .f32) (x1 : FVec Ideal Cert.ReferenceMergedIdeal.S1024x1024 .f32) (n : Fin 4096) (j : Fin 1024) :
    ref x0 x1 (ix2 n j) = prod x0 x1 (ix3 (row n) (place n) j) := flat (prod x0 x1) _ n j

/-- The kernel and the reference hold the same array. -/
theorem equal : ref (G m c) (W m c) = (dats m 0 c).arrAt 2 cfg0.N := by
  funext y
  obtain ⟨n, j, rfl⟩ : ∃ n j, y = ix2 n j := ⟨y 0, y 1, eq_ix2 y⟩
  obtain ⟨r, i, rfl⟩ := eq_at4 n
  exact (ref_apply _ _ _ j).trans ((prod_apply _ _ _ _ j).trans (kernel m c r i j).symm)

end Cert.Merged

end
-- ==== Proof.O.lean ====
/- The gradient of the output weights: the product of the transposed merged branches and the cotangent, added up over four
   tiles of tokens. -/
module

public import proofs.«01_k».proof.Proof.Gen.KernelOIdeal.Value
public import proofs.«01_k».proof.Proof.Gen.ReferenceOIdeal.Run
public import proofs.«01_k».proof.Proof.Tokens
public import Idealize.ShloMosaic.Lib.Tactic

@[expose] public section

noncomputable section

namespace Cert.Tiles

open Idealize.ShloMosaic Cert.Tok

/-- A sum over the tokens, tile by tile. -/
theorem sum_tiles {M : Type} [AddCommMonoid M] (f : Fin 4096 → M) : ∑ n, f n = ∑ r : Fin 4, ∑ i : Fin 1024, f (at4 r i) := by
  rw [← Fintype.sum_prod_type' (f := fun r i => f (at4 r i))]
  refine (Fintype.sum_equiv (finProdFinEquiv (m := 4) (n := 1024)) _ _ fun p => congrArg f (Fin.ext ?_)).symm
  show p.1.val * 1024 + p.2.val = p.2.val + 1024 * p.1.val
  omega

/-- The same, batch row by batch row. -/
theorem sum_rows {M : Type} [AddCommMonoid M] (f : Fin 4096 → M) : ∑ n, f n = ∑ b : Fin 2, ∑ x : Fin 2048, f (tok b x) := by
  rw [← Fintype.sum_prod_type' (f := fun b x => f (tok b x))]
  refine (Fintype.sum_equiv (finProdFinEquiv (m := 2) (n := 2048)) _ _ fun p => congrArg f (Fin.ext ?_)).symm
  show p.1.val * 2048 + p.2.val = p.2.val + 2048 * p.1.val
  omega

/-- Four tiles added up make the sum over both rows. -/
theorem tiles_rows {M : Type} [AddCommMonoid M] (f : Fin 2 → Fin 2048 → M) :
    (∑ i, f (row (at4 0 i)) (place (at4 0 i))) + (∑ i, f (row (at4 1 i)) (place (at4 1 i)))
      + (∑ i, f (row (at4 2 i)) (place (at4 2 i))) + (∑ i, f (row (at4 3 i)) (place (at4 3 i)))
      = ∑ b, ∑ x, f b x := by
  rw [← Fin.sum_univ_four (fun r => ∑ i, f (row (at4 r i)) (place (at4 r i))), ← sum_tiles (fun n => f (row n) (place n)),
    sum_rows (fun n => f (row n) (place n))]
  exact Finset.sum_congr rfl fun b _ => Finset.sum_congr rfl fun x _ => congrArg₂ f (row_tok b x _) (place_tok b x _)

end Cert.Tiles

namespace Cert.O

open Cert.KernelOIdeal Cert.KernelOIdeal.Gen Idealize.ShloMosaic Idealize.ShloMosaic.TcCoe Idealize.SL.Sem
open Cert.Tok (zero2 row place at4 flat)

section Points

variable {F : FTy → Type} [FloatOps F]
variable (c : Dev nD) (i : grid0.Coords) (arg1 : Memref sig .tc .vmem S1024x1024 .bf16) (harg1 : arg1.IsWhole)
  (arg2 : Memref sig .tc .vmem S1024x1024 .f32) (harg2 : arg2.IsWhole) (arg3 : Memref sig .tc .vmem S1024x1024 .bf16) (harg3 : arg3.IsWhole)
  (arg4 : Memref sig .tc .vmem S1024x1024 .f32) (harg4 : arg4.IsWhole) (x0 : Vec F S1024x1024 .bf16) (x1 : Vec F S1024x1024 .f32)

/-- The first point leaves the first tile's product. -/
theorem first (hc0 : cond0_0 i) (hc1 : ¬cond0_1 i) (hc2 : ¬cond0_2 i) :
    sout0_A_0 c i arg1 harg1 arg2 harg2 arg3 harg3 arg4 harg4 hc0 hc1 hc2 x0 x1 = k0_pay2 x0 x1 := by
  unfold sout0_A_0
  rw [View.read_writes_eq_canon _ _ _ (scover0_A_0 c i arg1 harg1 arg2 harg2 arg3 harg3 arg4 harg4 hc0 hc1 hc2 x0 x1)]
  unfold kernelRun0_A
  dsimp only
  sl_unfold_words
  rw [View.canon_unit_zero zero2]
  simp only [View.readAt_eq_ld, harg1.read_unread, harg2.read_unread, View.ld_unit_zero (S := S1024x1024) zero2]

/-- A point between adds its own. -/
theorem next (hc0 : ¬cond0_0 i) (hc1 : cond0_1 i) (hc2 : ¬cond0_2 i) (acc : Vec F S1024x1024 .f32) :
    sout0_B_0 c i arg1 harg1 arg2 harg2 arg3 harg3 arg4 harg4 hc0 hc1 hc2 x0 x1 acc = k0_pay3 x0 x1 acc := by
  unfold sout0_B_0
  rw [View.read_writes_eq_canon _ _ _ (scover0_B_0 c i arg1 harg1 arg2 harg2 arg3 harg3 arg4 harg4 hc0 hc1 hc2 x0 x1 acc)]
  unfold kernelRun0_B
  dsimp only
  sl_unfold_words
  rw [View.canon_unit_zero zero2]
  simp only [View.readAt_eq_ld, harg1.read_unread, harg2.read_unread, harg4.read_unread, View.ld_unit_zero (S := S1024x1024) zero2]

/-- The last adds its own and writes the sum. -/
theorem last (hc0 : ¬cond0_0 i) (hc1 : cond0_1 i) (hc2 : cond0_2 i) (acc : Vec F S1024x1024 .f32) :
    out0_C_2 c i arg1 harg1 arg2 harg2 arg3 harg3 arg4 harg4 hc0 hc1 hc2 x0 x1 acc = k0_pay4 (k0_pay3 x0 x1 acc) := by
  unfold out0_C_2
  rw [View.read_writes_eq_canon _ _ _ (cover0_C_2 c i arg1 harg1 arg2 harg2 arg3 harg3 arg4 harg4 hc0 hc1 hc2 x0 x1 acc)]
  unfold kernelRun0_C
  dsimp only
  sl_unfold_words
  rw [View.canon_unit_zero zero2]
  simp only [View.readCov_unit_zero (S := S1024x1024) _ zero2, View.readAt_eq_ld, harg1.read_unread, harg2.read_unread, harg4.read_unread,
    View.ld_unit_zero (S := S1024x1024) zero2]

end Points

variable (m : (ℓ : Loc nD τ sig) → Buf (Elt Ideal) ℓ) (c : Dev nD)

/-- The merged branches. -/
abbrev X : (⟨3, ![2, 2048, 1024]⟩ : Shape).Idx → EReal := m ((c : Thread nD τ).loc main_arg0)

/-- The cotangent. -/
abbrev G : (⟨3, ![2, 2048, 1024]⟩ : Shape).Idx → EReal := m ((c : Thread nD τ).loc main_arg1)

/-- The point of a tile. -/
theorem point : ∀ r : Fin 4, ∃ t : Fin grid0.N, t.val = r.val
    ∧ cc0_transform_0 (grid0.coords t) = ![r.val, 0] ∧ cc0_transform_1 (grid0.coords t) = ![r.val, 0] := by
  decide +kernel

theorem read0 (t : Fin cfg0.N) (r : Fin 4) (h : cc0_transform_0 (grid0.coords t) = ![r.val, 0]) (x i : Fin 1024) :
    iblk m c 0 t (ix2 x i) = V m c main_v2 (ix2 (at4 r x) i) := by
  refine congrArg (V m c main_v2) (funext fun a => ?_)
  have h := congrFun h a
  match a with
  | ⟨0, _⟩ => exact Fin.ext (show cc0_transform_0 (grid0.coords t) 0 * 1024 + 1 * x.val = r.val * 1024 + x.val from by rw [show cc0_transform_0 (grid0.coords t) 0 = r.val from h]; omega)
  | ⟨1, _⟩ => exact Fin.ext (show cc0_transform_0 (grid0.coords t) 1 * 1024 + 1 * i.val = i.val from by rw [show cc0_transform_0 (grid0.coords t) 1 = 0 from h]; omega)

theorem read1 (t : Fin cfg0.N) (r : Fin 4) (h : cc0_transform_1 (grid0.coords t) = ![r.val, 0]) (x j : Fin 1024) :
    iblk m c 1 t (ix2 x j) = V m c main_v1 (ix2 (at4 r x) j) := by
  refine congrArg (V m c main_v1) (funext fun a => ?_)
  have h := congrFun h a
  match a with
  | ⟨0, _⟩ => exact Fin.ext (show cc0_transform_1 (grid0.coords t) 0 * 1024 + 1 * x.val = r.val * 1024 + x.val from by rw [show cc0_transform_1 (grid0.coords t) 0 = r.val from h]; omega)
  | ⟨1, _⟩ => exact Fin.ext (show cc0_transform_1 (grid0.coords t) 1 * 1024 + 1 * j.val = j.val from by rw [show cc0_transform_1 (grid0.coords t) 1 = 0 from h]; omega)

/-- The merged branches as the region reads them. -/
theorem acts (n : Fin 4096) (j : Fin 1024) : V m c main_v2 (ix2 n j) = X m c (ix3 (row n) (place n) j) := by
  refine (congrFun (?_ : V m c main_v2 = truncf (F := Ideal) .bf16 (shapeCast S4096x1024 (X m c) shapeCasts_S2x2048x1024_S4096x1024) bitsLt_bf16_f32) _).trans
    (flat (X m c) shapeCasts_S2x2048x1024_S4096x1024 n j)
  show StableHlo.after hostOps0 (fun b => m (c, b)) main_v2 = _
  after_results <;> rfl

/-- The cotangent as the region reads it. -/
theorem cots (n : Fin 4096) (j : Fin 1024) : V m c main_v1 (ix2 n j) = G m c (ix3 (row n) (place n) j) := by
  refine (congrFun (?_ : V m c main_v1 = shapeCast S4096x1024 (G m c) shapeCasts_S2x2048x1024_S4096x1024) _).trans
    (flat (G m c) shapeCasts_S2x2048x1024_S4096x1024 n j)
  show StableHlo.after hostOps0 (fun b => m (c, b)) main_v1 = _
  after_results <;> rfl

theorem pay1_apply (x0 : Vec Ideal S1024x1024 .bf16) (x1 : Vec Ideal S1024x1024 .f32) (i j : Fin 1024) :
    k0_pay1 x0 x1 (ix2 i j) = ∑ x, x0 (ix2 x i) * x1 (ix2 x j) := by
  unfold k0_pay1
  simp only [shapeCast_self, pointwise]
  rw [zero_add]

/-- A tile's product, entry by entry. -/
theorem tile (t : Fin cfg0.N) (r : Fin 4) (h0 : cc0_transform_0 (grid0.coords t) = ![r.val, 0]) (h1 : cc0_transform_1 (grid0.coords t) = ![r.val, 0]) (i j : Fin 1024) :
    k0_pay1 (iblk m c 0 t) (iblk m c 1 t) (ix2 i j) = ∑ x, X m c (ix3 (row (at4 r x)) (place (at4 r x)) i) * G m c (ix3 (row (at4 r x)) (place (at4 r x)) j) :=
  (pay1_apply _ _ i j).trans (Finset.sum_congr rfl fun x _ => congrArg₂ (· * ·) ((read0 m c t r h0 x i).trans (acts m c _ i)) ((read1 m c t r h1 x j).trans (cots m c _ j)))

/-- The kernel's result, entry by entry. -/
theorem kernel (i j : Fin 1024) : Value.G2 m c (ix2 i j) = ∑ b, ∑ x, X m c (ix3 b x i) * G m c (ix3 b x j) := by
  obtain ⟨t0, e0, p0, q0⟩ := point 0
  obtain ⟨t1, e1, p1, q1⟩ := point 1
  obtain ⟨t2, e2, p2, q2⟩ := point 2
  obtain ⟨t3, e3, p3, q3⟩ := point 3
  simp only [Fin.val_zero, Fin.val_one, Fin.val_two, show ((3 : Fin 4) : ℕ) = 3 from rfl] at e0 e1 e2 e3
  have back : ∀ t t' : Fin cfg0.N, t'.val = t.val + 1 → outsAt0 m c (t'.val - 1) (Nat.lt_of_le_of_lt (Nat.sub_le _ _) t'.isLt) = outsAt0 m c t.val t.isLt :=
    fun t t' h => by congr 1; omega
  have g : Value.G2 m c = (outsAt0 m c t3.val t3.isLt).1 := by
    rw [Value.G2_last, Value.outsAt0_sweep m c t3.val t3.isLt]
    simp only [e3]
  rw [g, outsAt0_C m c t3 (by omega) (by omega) (by omega)]
  dsimp only
  rw [last, back t2 t3 (by omega), outsAt0_B m c t2 (by omega) (by omega) (by omega)]
  dsimp only
  rw [next, back t1 t2 (by omega), outsAt0_B m c t1 (by omega) (by omega) (by omega)]
  dsimp only
  rw [next, back t0 t1 (by omega), outsAt0_A m c t0 (by omega) (by omega) (by omega)]
  dsimp only
  rw [first]
  unfold k0_pay4 k0_pay3 k0_pay2
  simp only [shapeCast_self, pointwise]
  refine Eq.trans ?_ (Cert.Tiles.tiles_rows fun b x => X m c (ix3 b x i) * G m c (ix3 b x j))
  exact congrArg₂ (· + ·) (congrArg₂ (· + ·) (congrArg₂ (· + ·) (tile m c t0 0 p0 q0 i j) (tile m c t1 1 p1 q1 i j)) (tile m c t2 2 p2 q2 i j)) (tile m c t3 3 p3 q3 i j)

/-- The reference's result. -/
def ref (x0 x1 : FVec Ideal Cert.ReferenceOIdeal.S2x2048x1024 .f32) : FVec Ideal Cert.ReferenceOIdeal.S1024x1024 .bf16 :=
  truncf (F := Ideal) .bf16 (transpose Cert.ReferenceOIdeal.S1024x1024 [1, 0] (Host.dotGeneral Cert.ReferenceOIdeal.dot_S2x2048x1024_S2x2048x1024_S1024x1024_01_01_2_2_n_n none x1 x0) Cert.ReferenceOIdeal.Gen.transposes_S1024x1024_S1024x1024_1_0) bitsLt_bf16_f32

/-- The reference's result, entry by entry. -/
theorem reference (x0 x1 : FVec Ideal Cert.ReferenceOIdeal.S2x2048x1024 .f32) (i j : Fin 1024) :
    ref x0 x1 (ix2 i j) = ∑ b, ∑ x, x0 (ix3 b x i) * x1 (ix3 b x j) := by
  unfold ref
  simp only [pointwise]
  rw [zero_add]
  exact Finset.sum_congr rfl fun b _ => Finset.sum_congr rfl fun x _ => mul_comm _ _

/-- The kernel and the reference hold the same array. -/
theorem equal : ref (X m c) (G m c) = Value.G2 m c := by
  funext y
  obtain ⟨i, j, rfl⟩ : ∃ i j, y = ix2 i j := ⟨y 0, y 1, eq_ix2 y⟩
  exact (reference (X m c) (G m c) i j).trans (kernel m c i j).symm

end Cert.O

end
-- ==== Proof.AO.lean ====
/- The gradient of the attention's output weights: the product of the transposed mixed values and the cotangent, added up over
   four tiles of tokens, and cut by chip at the end. -/
module

public import proofs.«01_k».proof.Proof.Gen.KernelAOIdeal.Value
public import proofs.«01_k».proof.Proof.Gen.ReferenceAOIdeal.Run
public import proofs.«01_k».proof.Proof.O
public import Idealize.ShloMosaic.Lib.Tactic

@[expose] public section

noncomputable section

namespace Cert.Tiles

open Idealize.ShloMosaic Cert.Tok

/-- Column `l` of chip `s` of the model's width. -/
def part (s : Fin 4) (l : Fin 256) : Fin 1024 := ⟨s.val * 256 + l.val, by omega⟩

/-- Every column is one of a chip. -/
theorem eq_part (j : Fin 1024) : ∃ s l, j = part s l :=
  ⟨⟨j.val / 256, by omega⟩, ⟨j.val % 256, by omega⟩, Fin.ext (show j.val = j.val / 256 * 256 + j.val % 256 by omega)⟩

/-- The mixed values, row under row. -/
theorem flat512 (Z : FVec Ideal ⟨3, ![2, 2048, 512]⟩ .f32) (hs : Shape.ShapeCasts ⟨3, ![2, 2048, 512]⟩ ⟨2, ![4096, 512]⟩) (n : Fin 4096) (j : Fin 512) :
    shapeCast (⟨2, ![4096, 512]⟩ : Shape) Z hs (ix2 n j) = Z (ix3 (row n) (place n) j) := by
  simp only [pointwise]
  rfl

/-- A matrix of the model's width, cut by chip. -/
theorem parts (Z : FVec Ideal ⟨2, ![512, 1024]⟩ .f32) (hs : Shape.ShapeCasts ⟨2, ![512, 1024]⟩ ⟨3, ![512, 4, 256]⟩)
    (ht : Shape.Transposes ⟨3, ![512, 4, 256]⟩ [1, 0, 2] ⟨3, ![4, 512, 256]⟩) (s : Fin 4) (a : Fin 512) (l : Fin 256) :
    transpose ⟨3, ![4, 512, 256]⟩ [1, 0, 2] (shapeCast ⟨3, ![512, 4, 256]⟩ Z hs) ht (ix3 s a l) = Z (ix2 a (part s l)) := by
  simp only [pointwise]
  rfl

end Cert.Tiles

namespace Cert.AO

open Cert.KernelAOIdeal Cert.KernelAOIdeal.Gen Idealize.ShloMosaic Idealize.ShloMosaic.TcCoe Idealize.SL.Sem
open Cert.Tok (zero2 row place at4 flat)
open Cert.Tiles (part eq_part flat512 parts)

section Pieces

variable {Val : EltTy → Type} [∀ e, Nonempty (Val e)] {sg : RefSig} {kd : Kind} {sp : Space} {e : EltTy}

/-- A chip's part reads what was stored there last. -/
theorem hit (k : Fin 4) (h) (w : (Rect.unit (s := S4x512x256) ![k.val, 0, 0] S1x512x256.size h).shape.Idx → Val e) (L : List (View.Piece Val S4x512x256 e))
    (a : Fin 512) (l : Fin 256) :
    View.canon ((⟨Rect.unit (s := S4x512x256) ![k.val, 0, 0] S1x512x256.size h, w⟩ : View.Piece Val S4x512x256 e) :: L) (ix3 k a l) = w (ix3 (0 : Fin 1) a l) := by
  refine (congrArg (View.canon _) (funext fun d => ?_)).trans (View.canon_cons_emb _ w L (ix3 (0 : Fin 1) a l))
  match d with
  | ⟨0, _⟩ => exact Fin.ext (show k.val = k.val + 1 * 0 by omega)
  | ⟨1, _⟩ => exact Fin.ext (show a.val = 0 + 1 * a.val by omega)
  | ⟨2, _⟩ => exact Fin.ext (show l.val = 0 + 1 * l.val by omega)

/-- It does not see a store to another chip's part. -/
theorem miss (k s : Fin 4) (h) (hk : s ≠ k) (w : (Rect.unit (s := S4x512x256) ![k.val, 0, 0] S1x512x256.size h).shape.Idx → Val e) (L : List (View.Piece Val S4x512x256 e))
    (a : Fin 512) (l : Fin 256) :
    View.canon ((⟨Rect.unit (s := S4x512x256) ![k.val, 0, 0] S1x512x256.size h, w⟩ : View.Piece Val S4x512x256 e) :: L) (ix3 s a l) = View.canon L (ix3 s a l) := by
  refine View.canon_cons_of_not_mem _ _ fun hm => hk (Fin.ext ?_)
  have hm' : _ ∈ (Rect.unit (s := S4x512x256) ![k.val, 0, 0] S1x512x256.size h).set := hm
  have h0 : k.val ≤ s.val ∧ s.val < k.val + 1 := Rect.mem_set_unit.mp hm' 0
  omega

/-- The columns of a chip, read from the whole accumulator. -/
theorem slice (v : View sg kd sp S512x1024 e) (k : Fin 4) (h₁ h₂) (w : S512x1024.Idx → Val e) (a : Fin 512) (l : Fin 256) :
    v.readCov [(⟨Rect.unit (s := S512x1024) ![0, 0] S512x1024.size h₁, w⟩ : View.Piece Val S512x1024 e)]
      (Rect.unit (s := S512x1024) ![0, k.val * 256] S512x256.size h₂).toLoadRect (ix2 a l) = w (ix2 a (part k l)) := by
  rw [View.readCov_eq_canon', View.canon_unit_zero zero2]
  refine congrArg w (funext fun d => ?_)
  match d with
  | ⟨0, _⟩ => exact Fin.ext (show 0 + 1 * a.val = a.val by omega)
  | ⟨1, _⟩ => exact Fin.ext (show k.val * 256 + 1 * l.val = k.val * 256 + l.val by omega)

end Pieces

theorem pay4_apply (v : Vec Ideal S512x256 .f32) (a : Fin 512) (l : Fin 256) : k0_pay4 v (ix3 (0 : Fin 1) a l) = v (ix2 a l) := by
  unfold k0_pay4
  simp only [pointwise]

section Points

variable {F : FTy → Type} [FloatOps F]
variable (c : Dev nD) (i : grid0.Coords) (arg1 : Memref sig .tc .vmem S1024x512 .bf16) (harg1 : arg1.IsWhole)
  (arg2 : Memref sig .tc .vmem S1024x1024 .bf16) (harg2 : arg2.IsWhole) (arg3 : Memref sig .tc .vmem S4x512x256 .bf16) (harg3 : arg3.IsWhole)
  (arg4 : Memref sig .tc .vmem S512x1024 .f32) (harg4 : arg4.IsWhole) (x0 : Vec F S1024x512 .bf16) (x1 : Vec F S1024x1024 .bf16)

/-- The first point leaves the first tile's product. -/
theorem first (hc0 : cond0_0 i) (hc1 : ¬cond0_1 i) (hc2 : ¬cond0_2 i) :
    sout0_A_0 c i arg1 harg1 arg2 harg2 arg3 harg3 arg4 harg4 hc0 hc1 hc2 x0 x1 = k0_pay2 x0 x1 := by
  unfold sout0_A_0
  rw [View.read_writes_eq_canon _ _ _ (scover0_A_0 c i arg1 harg1 arg2 harg2 arg3 harg3 arg4 harg4 hc0 hc1 hc2 x0 x1)]
  unfold kernelRun0_A
  dsimp only
  sl_unfold_words
  rw [View.canon_unit_zero zero2]
  simp only [View.readAt_eq_ld, harg1.read_unread, harg2.read_unread, View.ld_unit_zero (S := S1024x512) zero2, View.ld_unit_zero (S := S1024x1024) zero2, View.ld_unit_zero (S := S512x1024) zero2]

/-- A point between adds its own. -/
theorem next (hc0 : ¬cond0_0 i) (hc1 : cond0_1 i) (hc2 : ¬cond0_2 i) (acc : Vec F S512x1024 .f32) :
    sout0_B_0 c i arg1 harg1 arg2 harg2 arg3 harg3 arg4 harg4 hc0 hc1 hc2 x0 x1 acc = k0_pay3 x0 x1 acc := by
  unfold sout0_B_0
  rw [View.read_writes_eq_canon _ _ _ (scover0_B_0 c i arg1 harg1 arg2 harg2 arg3 harg3 arg4 harg4 hc0 hc1 hc2 x0 x1 acc)]
  unfold kernelRun0_B
  dsimp only
  sl_unfold_words
  rw [View.canon_unit_zero zero2]
  simp only [View.readAt_eq_ld, harg1.read_unread, harg2.read_unread, harg4.read_unread, View.ld_unit_zero (S := S1024x512) zero2, View.ld_unit_zero (S := S1024x1024) zero2, View.ld_unit_zero (S := S512x1024) zero2]

end Points

/-- The last adds its own and writes the sum, chip by chip. -/
theorem last (c : Dev nD) (i : grid0.Coords) (arg1 : Memref sig .tc .vmem S1024x512 .bf16) (harg1 : arg1.IsWhole)
    (arg2 : Memref sig .tc .vmem S1024x1024 .bf16) (harg2 : arg2.IsWhole) (arg3 : Memref sig .tc .vmem S4x512x256 .bf16) (harg3 : arg3.IsWhole)
    (arg4 : Memref sig .tc .vmem S512x1024 .f32) (harg4 : arg4.IsWhole) (x0 : Vec Ideal S1024x512 .bf16) (x1 : Vec Ideal S1024x1024 .bf16)
    (hc0 : ¬cond0_0 i) (hc1 : cond0_1 i) (hc2 : cond0_2 i) (acc : Vec Ideal S512x1024 .f32) (s : Fin 4) (a : Fin 512) (l : Fin 256) :
    out0_C_2 c i arg1 harg1 arg2 harg2 arg3 harg3 arg4 harg4 hc0 hc1 hc2 x0 x1 acc (ix3 s a l) = k0_pay3 x0 x1 acc (ix2 a (part s l)) := by
  unfold out0_C_2
  rw [View.read_writes_eq_canon _ _ _ (cover0_C_2 c i arg1 harg1 arg2 harg2 arg3 harg3 arg4 harg4 hc0 hc1 hc2 x0 x1 acc)]
  unfold kernelRun0_C
  dsimp only
  sl_unfold_words
  simp only [View.readAt_eq_ld, harg1.read_unread, harg2.read_unread, harg4.read_unread,
    View.ld_unit_zero (S := S1024x512) zero2, View.ld_unit_zero (S := S1024x1024) zero2, View.ld_unit_zero (S := S512x1024) zero2]
  match s with
  | ⟨3, _⟩ => exact (hit 3 _ _ _ a l).trans ((pay4_apply _ a l).trans (slice _ 3 _ _ _ a l))
  | ⟨2, _⟩ => exact (miss 3 2 _ (by decide) _ _ a l).trans ((hit 2 _ _ _ a l).trans ((pay4_apply _ a l).trans (slice _ 2 _ _ _ a l)))
  | ⟨1, _⟩ => exact (miss 3 1 _ (by decide) _ _ a l).trans ((miss 2 1 _ (by decide) _ _ a l).trans ((hit 1 _ _ _ a l).trans ((pay4_apply _ a l).trans (slice _ 1 _ _ _ a l))))
  | ⟨0, _⟩ => exact (miss 3 0 _ (by decide) _ _ a l).trans ((miss 2 0 _ (by decide) _ _ a l).trans ((miss 1 0 _ (by decide) _ _ a l).trans ((hit 0 _ _ _ a l).trans ((pay4_apply _ a l).trans (slice _ 0 _ _ _ a l)))))

variable (m : (ℓ : Loc nD τ sig) → Buf (Elt Ideal) ℓ) (c : Dev nD)

/-- The mixed values. -/
abbrev X : (⟨3, ![2, 2048, 512]⟩ : Shape).Idx → EReal := m ((c : Thread nD τ).loc main_arg0)

/-- The cotangent. -/
abbrev G : (⟨3, ![2, 2048, 1024]⟩ : Shape).Idx → EReal := m ((c : Thread nD τ).loc main_arg1)

/-- The point of a tile. -/
theorem point : ∀ r : Fin 4, ∃ t : Fin grid0.N, t.val = r.val
    ∧ cc0_transform_0 (grid0.coords t) = ![r.val, 0] ∧ cc0_transform_1 (grid0.coords t) = ![r.val, 0] := by
  decide +kernel

theorem read0 (t : Fin cfg0.N) (r : Fin 4) (h : cc0_transform_0 (grid0.coords t) = ![r.val, 0]) (x : Fin 1024) (i : Fin 512) :
    iblk m c 0 t (ix2 x i) = V m c main_v1 (ix2 (at4 r x) i) := by
  refine congrArg (V m c main_v1) (funext fun a => ?_)
  have h := congrFun h a
  match a with
  | ⟨0, _⟩ => exact Fin.ext (show cc0_transform_0 (grid0.coords t) 0 * 1024 + 1 * x.val = r.val * 1024 + x.val from by rw [show cc0_transform_0 (grid0.coords t) 0 = r.val from h]; omega)
  | ⟨1, _⟩ => exact Fin.ext (show cc0_transform_0 (grid0.coords t) 1 * 512 + 1 * i.val = i.val from by rw [show cc0_transform_0 (grid0.coords t) 1 = 0 from h]; omega)

theorem read1 (t : Fin cfg0.N) (r : Fin 4) (h : cc0_transform_1 (grid0.coords t) = ![r.val, 0]) (x j : Fin 1024) :
    iblk m c 1 t (ix2 x j) = V m c main_v3 (ix2 (at4 r x) j) := by
  refine congrArg (V m c main_v3) (funext fun a => ?_)
  have h := congrFun h a
  match a with
  | ⟨0, _⟩ => exact Fin.ext (show cc0_transform_1 (grid0.coords t) 0 * 1024 + 1 * x.val = r.val * 1024 + x.val from by rw [show cc0_transform_1 (grid0.coords t) 0 = r.val from h]; omega)
  | ⟨1, _⟩ => exact Fin.ext (show cc0_transform_1 (grid0.coords t) 1 * 1024 + 1 * j.val = j.val from by rw [show cc0_transform_1 (grid0.coords t) 1 = 0 from h]; omega)

/-- The mixed values as the region reads them. -/
theorem acts (n : Fin 4096) (j : Fin 512) : V m c main_v1 (ix2 n j) = X m c (ix3 (row n) (place n) j) := by
  refine (congrFun (?_ : V m c main_v1 = truncf (F := Ideal) .bf16 (shapeCast S4096x512 (X m c) shapeCasts_S2x2048x512_S4096x512) bitsLt_bf16_f32) _).trans
    (flat512 (X m c) shapeCasts_S2x2048x512_S4096x512 n j)
  show StableHlo.after hostOps0 (fun b => m (c, b)) main_v1 = _
  after_results <;> rfl

/-- The cotangent as the region reads it. -/
theorem cots (n : Fin 4096) (j : Fin 1024) : V m c main_v3 (ix2 n j) = G m c (ix3 (row n) (place n) j) := by
  refine (congrFun (?_ : V m c main_v3 = truncf (F := Ideal) .bf16 (shapeCast S4096x1024 (G m c) shapeCasts_S2x2048x1024_S4096x1024) bitsLt_bf16_f32) _).trans
    (flat (G m c) shapeCasts_S2x2048x1024_S4096x1024 n j)
  show StableHlo.after hostOps0 (fun b => m (c, b)) main_v3 = _
  after_results <;> rfl

theorem pay1_apply (x0 : Vec Ideal S1024x512 .bf16) (x1 : Vec Ideal S1024x1024 .bf16) (i : Fin 512) (j : Fin 1024) :
    k0_pay1 x0 x1 (ix2 i j) = ∑ x, x0 (ix2 x i) * x1 (ix2 x j) := by
  unfold k0_pay1
  simp only [shapeCast_self, pointwise]
  rw [zero_add]

/-- A tile's product, entry by entry. -/
theorem tile (t : Fin cfg0.N) (r : Fin 4) (h0 : cc0_transform_0 (grid0.coords t) = ![r.val, 0]) (h1 : cc0_transform_1 (grid0.coords t) = ![r.val, 0]) (i : Fin 512) (j : Fin 1024) :
    k0_pay1 (iblk m c 0 t) (iblk m c 1 t) (ix2 i j) = ∑ x, X m c (ix3 (row (at4 r x)) (place (at4 r x)) i) * G m c (ix3 (row (at4 r x)) (place (at4 r x)) j) :=
  (pay1_apply _ _ i j).trans (Finset.sum_congr rfl fun x _ => congrArg₂ (· * ·) ((read0 m c t r h0 x i).trans (acts m c _ i)) ((read1 m c t r h1 x j).trans (cots m c _ j)))

/-- The kernel's result, entry by entry. -/
theorem kernel (s : Fin 4) (i : Fin 512) (l : Fin 256) : Value.G2 m c (ix3 s i l) = ∑ b, ∑ x, X m c (ix3 b x i) * G m c (ix3 b x (part s l)) := by
  obtain ⟨t0, e0, p0, q0⟩ := point 0
  obtain ⟨t1, e1, p1, q1⟩ := point 1
  obtain ⟨t2, e2, p2, q2⟩ := point 2
  obtain ⟨t3, e3, p3, q3⟩ := point 3
  simp only [Fin.val_zero, Fin.val_one, Fin.val_two, show ((3 : Fin 4) : ℕ) = 3 from rfl] at e0 e1 e2 e3
  have back : ∀ t t' : Fin cfg0.N, t'.val = t.val + 1 → outsAt0 m c (t'.val - 1) (Nat.lt_of_le_of_lt (Nat.sub_le _ _) t'.isLt) = outsAt0 m c t.val t.isLt :=
    fun t t' h => by congr 1; omega
  have g : Value.G2 m c = (outsAt0 m c t3.val t3.isLt).1 := by
    rw [Value.G2_last, Value.outsAt0_sweep m c t3.val t3.isLt]
    simp only [e3]
  rw [g, outsAt0_C m c t3 (by omega) (by omega) (by omega)]
  dsimp only
  rw [last, back t2 t3 (by omega), outsAt0_B m c t2 (by omega) (by omega) (by omega)]
  dsimp only
  rw [next, back t1 t2 (by omega), outsAt0_B m c t1 (by omega) (by omega) (by omega)]
  dsimp only
  rw [next, back t0 t1 (by omega), outsAt0_A m c t0 (by omega) (by omega) (by omega)]
  dsimp only
  rw [first]
  unfold k0_pay3 k0_pay2
  simp only [shapeCast_self, pointwise]
  refine Eq.trans ?_ (Cert.Tiles.tiles_rows fun b x => X m c (ix3 b x i) * G m c (ix3 b x (part s l)))
  exact congrArg₂ (· + ·) (congrArg₂ (· + ·) (congrArg₂ (· + ·) (tile m c t0 0 p0 q0 i (part s l)) (tile m c t1 1 p1 q1 i (part s l))) (tile m c t2 2 p2 q2 i (part s l))) (tile m c t3 3 p3 q3 i (part s l))

/-- The reference's product, transposed. -/
def prod (x0 : FVec Ideal Cert.ReferenceAOIdeal.S2x2048x512 .f32) (x1 : FVec Ideal Cert.ReferenceAOIdeal.S2x2048x1024 .f32) : FVec Ideal Cert.ReferenceAOIdeal.S512x1024 .f32 :=
  transpose Cert.ReferenceAOIdeal.S512x1024 [1, 0] (Host.dotGeneral Cert.ReferenceAOIdeal.dot_S2x2048x1024_S2x2048x512_S1024x512_01_01_2_2_n_n none x1 x0) Cert.ReferenceAOIdeal.Gen.transposes_S1024x512_S512x1024_1_0

theorem prod_apply (x0 : FVec Ideal Cert.ReferenceAOIdeal.S2x2048x512 .f32) (x1 : FVec Ideal Cert.ReferenceAOIdeal.S2x2048x1024 .f32) (i : Fin 512) (j : Fin 1024) :
    prod x0 x1 (ix2 i j) = ∑ b, ∑ x, x0 (ix3 b x i) * x1 (ix3 b x j) := by
  unfold prod
  simp only [pointwise]
  rw [zero_add]
  exact Finset.sum_congr rfl fun b _ => Finset.sum_congr rfl fun x _ => mul_comm _ _

/-- The reference's result. -/
def ref (x0 : FVec Ideal Cert.ReferenceAOIdeal.S2x2048x512 .f32) (x1 : FVec Ideal Cert.ReferenceAOIdeal.S2x2048x1024 .f32) : FVec Ideal Cert.ReferenceAOIdeal.S4x512x256 .bf16 :=
  truncf (F := Ideal) .bf16 (transpose Cert.ReferenceAOIdeal.S4x512x256 [1, 0, 2] (shapeCast Cert.ReferenceAOIdeal.S512x4x256 (prod x0 x1) Cert.ReferenceAOIdeal.Gen.shapeCasts_S512x1024_S512x4x256) Cert.ReferenceAOIdeal.Gen.transposes_S512x4x256_S4x512x256_1_0_2) Cert.ReferenceAOIdeal.Gen.bitsLt_bf16_f32

/-- The kernel and the reference hold the same array. -/
theorem equal : ref (X m c) (G m c) = Value.G2 m c := by
  funext y
  obtain ⟨s, i, l, rfl⟩ : ∃ s i l, y = ix3 s i l := ⟨y 0, y 1, y 2, eq_ix3 y⟩
  exact (parts (prod (X m c) (G m c)) _ _ s i l).trans ((prod_apply _ _ i (part s l)).trans (kernel m c s i l).symm)

end Cert.AO

end
-- ==== Proof.CO.lean ====
/- The gradient of the convolution's output weights: the product of the transposed activations and the cotangent, added up over
   four tiles of tokens. -/
module

public import proofs.«01_k».proof.Proof.Gen.KernelCOIdeal.Value
public import proofs.«01_k».proof.Proof.Gen.ReferenceCOIdeal.Run
public import proofs.«01_k».proof.Proof.O
public import Idealize.ShloMosaic.Lib.Tactic

@[expose] public section

noncomputable section

namespace Cert.CO

open Cert.KernelCOIdeal Cert.KernelCOIdeal.Gen Idealize.ShloMosaic Idealize.ShloMosaic.TcCoe Idealize.SL.Sem
open Cert.Tok (zero2 row place at4 flat)

section Points

variable {F : FTy → Type} [FloatOps F]
variable (c : Dev nD) (i : grid0.Coords) (arg1 : Memref sig .tc .vmem S1024x1024 .bf16) (harg1 : arg1.IsWhole)
  (arg2 : Memref sig .tc .vmem S1024x1024 .bf16) (harg2 : arg2.IsWhole) (arg3 : Memref sig .tc .vmem S1024x1024 .bf16) (harg3 : arg3.IsWhole)
  (arg4 : Memref sig .tc .vmem S1024x1024 .f32) (harg4 : arg4.IsWhole) (x0 : Vec F S1024x1024 .bf16) (x1 : Vec F S1024x1024 .bf16)

/-- The first point leaves the first tile's product. -/
theorem first (hc0 : cond0_0 i) (hc1 : ¬cond0_1 i) (hc2 : ¬cond0_2 i) :
    sout0_A_0 c i arg1 harg1 arg2 harg2 arg3 harg3 arg4 harg4 hc0 hc1 hc2 x0 x1 = k0_pay2 x0 x1 := by
  unfold sout0_A_0
  rw [View.read_writes_eq_canon _ _ _ (scover0_A_0 c i arg1 harg1 arg2 harg2 arg3 harg3 arg4 harg4 hc0 hc1 hc2 x0 x1)]
  unfold kernelRun0_A
  dsimp only
  sl_unfold_words
  rw [View.canon_unit_zero zero2]
  simp only [View.readAt_eq_ld, harg1.read_unread, harg2.read_unread, View.ld_unit_zero (S := S1024x1024) zero2]

/-- A point between adds its own. -/
theorem next (hc0 : ¬cond0_0 i) (hc1 : cond0_1 i) (hc2 : ¬cond0_2 i) (acc : Vec F S1024x1024 .f32) :
    sout0_B_0 c i arg1 harg1 arg2 harg2 arg3 harg3 arg4 harg4 hc0 hc1 hc2 x0 x1 acc = k0_pay3 x0 x1 acc := by
  unfold sout0_B_0
  rw [View.read_writes_eq_canon _ _ _ (scover0_B_0 c i arg1 harg1 arg2 harg2 arg3 harg3 arg4 harg4 hc0 hc1 hc2 x0 x1 acc)]
  unfold kernelRun0_B
  dsimp only
  sl_unfold_words
  rw [View.canon_unit_zero zero2]
  simp only [View.readAt_eq_ld, harg1.read_unread, harg2.read_unread, harg4.read_unread, View.ld_unit_zero (S := S1024x1024) zero2]

/-- The last adds its own and writes the sum. -/
theorem last (hc0 : ¬cond0_0 i) (hc1 : cond0_1 i) (hc2 : cond0_2 i) (acc : Vec F S1024x1024 .f32) :
    out0_C_2 c i arg1 harg1 arg2 harg2 arg3 harg3 arg4 harg4 hc0 hc1 hc2 x0 x1 acc = k0_pay4 (k0_pay3 x0 x1 acc) := by
  unfold out0_C_2
  rw [View.read_writes_eq_canon _ _ _ (cover0_C_2 c i arg1 harg1 arg2 harg2 arg3 harg3 arg4 harg4 hc0 hc1 hc2 x0 x1 acc)]
  unfold kernelRun0_C
  dsimp only
  sl_unfold_words
  rw [View.canon_unit_zero zero2]
  simp only [View.readCov_unit_zero (S := S1024x1024) _ zero2, View.readAt_eq_ld, harg1.read_unread, harg2.read_unread, harg4.read_unread,
    View.ld_unit_zero (S := S1024x1024) zero2]

end Points

variable (m : (ℓ : Loc nD τ sig) → Buf (Elt Ideal) ℓ) (c : Dev nD)

/-- The convolution's activations. -/
abbrev X : (⟨3, ![2, 2048, 1024]⟩ : Shape).Idx → EReal := m ((c : Thread nD τ).loc main_arg0)

/-- The cotangent. -/
abbrev G : (⟨3, ![2, 2048, 1024]⟩ : Shape).Idx → EReal := m ((c : Thread nD τ).loc main_arg1)

/-- The point of a tile. -/
theorem point : ∀ r : Fin 4, ∃ t : Fin grid0.N, t.val = r.val
    ∧ cc0_transform_0 (grid0.coords t) = ![r.val, 0] ∧ cc0_transform_1 (grid0.coords t) = ![r.val, 0] := by
  decide +kernel

theorem read0 (t : Fin cfg0.N) (r : Fin 4) (h : cc0_transform_0 (grid0.coords t) = ![r.val, 0]) (x i : Fin 1024) :
    iblk m c 0 t (ix2 x i) = V m c main_v1 (ix2 (at4 r x) i) := by
  refine congrArg (V m c main_v1) (funext fun a => ?_)
  have h := congrFun h a
  match a with
  | ⟨0, _⟩ => exact Fin.ext (show cc0_transform_0 (grid0.coords t) 0 * 1024 + 1 * x.val = r.val * 1024 + x.val from by rw [show cc0_transform_0 (grid0.coords t) 0 = r.val from h]; omega)
  | ⟨1, _⟩ => exact Fin.ext (show cc0_transform_0 (grid0.coords t) 1 * 1024 + 1 * i.val = i.val from by rw [show cc0_transform_0 (grid0.coords t) 1 = 0 from h]; omega)

theorem read1 (t : Fin cfg0.N) (r : Fin 4) (h : cc0_transform_1 (grid0.coords t) = ![r.val, 0]) (x j : Fin 1024) :
    iblk m c 1 t (ix2 x j) = V m c main_v3 (ix2 (at4 r x) j) := by
  refine congrArg (V m c main_v3) (funext fun a => ?_)
  have h := congrFun h a
  match a with
  | ⟨0, _⟩ => exact Fin.ext (show cc0_transform_1 (grid0.coords t) 0 * 1024 + 1 * x.val = r.val * 1024 + x.val from by rw [show cc0_transform_1 (grid0.coords t) 0 = r.val from h]; omega)
  | ⟨1, _⟩ => exact Fin.ext (show cc0_transform_1 (grid0.coords t) 1 * 1024 + 1 * j.val = j.val from by rw [show cc0_transform_1 (grid0.coords t) 1 = 0 from h]; omega)

/-- The activations as the region reads them. -/
theorem acts (n : Fin 4096) (j : Fin 1024) : V m c main_v1 (ix2 n j) = X m c (ix3 (row n) (place n) j) := by
  refine (congrFun (?_ : V m c main_v1 = truncf (F := Ideal) .bf16 (shapeCast S4096x1024 (X m c) shapeCasts_S2x2048x1024_S4096x1024) bitsLt_bf16_f32) _).trans
    (flat (X m c) shapeCasts_S2x2048x1024_S4096x1024 n j)
  show StableHlo.after hostOps0 (fun b => m (c, b)) main_v1 = _
  after_results <;> rfl

/-- The cotangent as the region reads it. -/
theorem cots (n : Fin 4096) (j : Fin 1024) : V m c main_v3 (ix2 n j) = G m c (ix3 (row n) (place n) j) := by
  refine (congrFun (?_ : V m c main_v3 = truncf (F := Ideal) .bf16 (shapeCast S4096x1024 (G m c) shapeCasts_S2x2048x1024_S4096x1024) bitsLt_bf16_f32) _).trans
    (flat (G m c) shapeCasts_S2x2048x1024_S4096x1024 n j)
  show StableHlo.after hostOps0 (fun b => m (c, b)) main_v3 = _
  after_results <;> rfl

theorem pay1_apply (x0 : Vec Ideal S1024x1024 .bf16) (x1 : Vec Ideal S1024x1024 .bf16) (i j : Fin 1024) :
    k0_pay1 x0 x1 (ix2 i j) = ∑ x, x0 (ix2 x i) * x1 (ix2 x j) := by
  unfold k0_pay1
  simp only [shapeCast_self, pointwise]
  rw [zero_add]

/-- A tile's product, entry by entry. -/
theorem tile (t : Fin cfg0.N) (r : Fin 4) (h0 : cc0_transform_0 (grid0.coords t) = ![r.val, 0]) (h1 : cc0_transform_1 (grid0.coords t) = ![r.val, 0]) (i j : Fin 1024) :
    k0_pay1 (iblk m c 0 t) (iblk m c 1 t) (ix2 i j) = ∑ x, X m c (ix3 (row (at4 r x)) (place (at4 r x)) i) * G m c (ix3 (row (at4 r x)) (place (at4 r x)) j) :=
  (pay1_apply _ _ i j).trans (Finset.sum_congr rfl fun x _ => congrArg₂ (· * ·) ((read0 m c t r h0 x i).trans (acts m c _ i)) ((read1 m c t r h1 x j).trans (cots m c _ j)))

/-- The kernel's result, entry by entry. -/
theorem kernel (i j : Fin 1024) : Value.G2 m c (ix2 i j) = ∑ b, ∑ x, X m c (ix3 b x i) * G m c (ix3 b x j) := by
  obtain ⟨t0, e0, p0, q0⟩ := point 0
  obtain ⟨t1, e1, p1, q1⟩ := point 1
  obtain ⟨t2, e2, p2, q2⟩ := point 2
  obtain ⟨t3, e3, p3, q3⟩ := point 3
  simp only [Fin.val_zero, Fin.val_one, Fin.val_two, show ((3 : Fin 4) : ℕ) = 3 from rfl] at e0 e1 e2 e3
  have back : ∀ t t' : Fin cfg0.N, t'.val = t.val + 1 → outsAt0 m c (t'.val - 1) (Nat.lt_of_le_of_lt (Nat.sub_le _ _) t'.isLt) = outsAt0 m c t.val t.isLt :=
    fun t t' h => by congr 1; omega
  have g : Value.G2 m c = (outsAt0 m c t3.val t3.isLt).1 := by
    rw [Value.G2_last, Value.outsAt0_sweep m c t3.val t3.isLt]
    simp only [e3]
  rw [g, outsAt0_C m c t3 (by omega) (by omega) (by omega)]
  dsimp only
  rw [last, back t2 t3 (by omega), outsAt0_B m c t2 (by omega) (by omega) (by omega)]
  dsimp only
  rw [next, back t1 t2 (by omega), outsAt0_B m c t1 (by omega) (by omega) (by omega)]
  dsimp only
  rw [next, back t0 t1 (by omega), outsAt0_A m c t0 (by omega) (by omega) (by omega)]
  dsimp only
  rw [first]
  unfold k0_pay4 k0_pay3 k0_pay2
  simp only [shapeCast_self, pointwise]
  refine Eq.trans ?_ (Cert.Tiles.tiles_rows fun b x => X m c (ix3 b x i) * G m c (ix3 b x j))
  exact congrArg₂ (· + ·) (congrArg₂ (· + ·) (congrArg₂ (· + ·) (tile m c t0 0 p0 q0 i j) (tile m c t1 1 p1 q1 i j)) (tile m c t2 2 p2 q2 i j)) (tile m c t3 3 p3 q3 i j)

/-- The reference's result. -/
def ref (x0 x1 : FVec Ideal Cert.ReferenceCOIdeal.S2x2048x1024 .f32) : FVec Ideal Cert.ReferenceCOIdeal.S1024x1024 .bf16 :=
  truncf (F := Ideal) .bf16 (transpose Cert.ReferenceCOIdeal.S1024x1024 [1, 0] (Host.dotGeneral Cert.ReferenceCOIdeal.dot_S2x2048x1024_S2x2048x1024_S1024x1024_01_01_2_2_n_n none x1 x0) Cert.ReferenceCOIdeal.Gen.transposes_S1024x1024_S1024x1024_1_0) bitsLt_bf16_f32

/-- The reference's result, entry by entry. -/
theorem reference (x0 x1 : FVec Ideal Cert.ReferenceCOIdeal.S2x2048x1024 .f32) (i j : Fin 1024) :
    ref x0 x1 (ix2 i j) = ∑ b, ∑ x, x0 (ix3 b x i) * x1 (ix3 b x j) := by
  unfold ref
  simp only [pointwise]
  rw [zero_add]
  exact Finset.sum_congr rfl fun b _ => Finset.sum_congr rfl fun x _ => mul_comm _ _

/-- The kernel and the reference hold the same array. -/
theorem equal : ref (X m c) (G m c) = Value.G2 m c := by
  funext y
  obtain ⟨i, j, rfl⟩ : ∃ i j, y = ix2 i j := ⟨y 0, y 1, eq_ix2 y⟩
  exact (reference (X m c) (G m c) i j).trans (kernel m c i j).symm

end Cert.CO

end
-- ==== Proof.YA.lean ====
/- The attention's output: the product of the mixed values and the output weights, whose four parts are put side by side. -/
module

public import proofs.«01_k».proof.Proof.Gen.KernelYAIdeal.Value
public import proofs.«01_k».proof.Proof.Gen.ReferenceYAIdeal.Run
public import proofs.«01_k».proof.Proof.AO
public import Idealize.ShloMosaic.Lib.Tactic

@[expose] public section

noncomputable section

namespace Cert.YA

open Cert.KernelYAIdeal Cert.KernelYAIdeal.Gen Idealize.ShloMosaic Idealize.ShloMosaic.TcCoe Idealize.SL.Sem
open Cert.Tok (zero2 row place at4 eq_at4 flat)
open Cert.Tiles (part eq_part flat512 parts)

variable (m : (ℓ : Loc nD τ sig) → Buf (Elt Ideal) ℓ) (c : Dev nD)

/-- The mixed values. -/
abbrev X : (⟨3, ![2, 2048, 512]⟩ : Shape).Idx → EReal := m ((c : Thread nD τ).loc main_arg0)

/-- The output weights. -/
abbrev W : (⟨2, ![512, 1024]⟩ : Shape).Idx → EReal := m ((c : Thread nD τ).loc main_arg1)

/-- The point of a tile of tokens. -/
theorem point : ∀ r : Fin 4, ∃ t : Fin grid0.N, cc0_transform_0 (grid0.coords t) = ![r.val, 0]
    ∧ cc0_transform_1 (grid0.coords t) = ![0, 0, 0] ∧ cc0_transform_2 (grid0.coords t) = ![r.val, 0] := by
  decide +kernel

theorem read0 (t : Fin cfg0.N) (r : Fin 4) (i : Fin 1024) (h : cc0_transform_0 (grid0.coords t) = ![r.val, 0]) (k : Fin 512) :
    iblk m c 0 t (ix2 i k) = V m c main_v4 (ix2 (at4 r i) k) := by
  refine congrArg (V m c main_v4) (funext fun a => ?_)
  have h := congrFun h a
  match a with
  | ⟨0, _⟩ => exact Fin.ext (show cc0_transform_0 (grid0.coords t) 0 * 1024 + 1 * i.val = r.val * 1024 + i.val from by rw [show cc0_transform_0 (grid0.coords t) 0 = r.val from h]; omega)
  | ⟨1, _⟩ => exact Fin.ext (show cc0_transform_0 (grid0.coords t) 1 * 512 + 1 * k.val = k.val from by rw [show cc0_transform_0 (grid0.coords t) 1 = 0 from h]; omega)

theorem inb (s : Fin 4) (a : Fin S4x512x256.rank) : (![s.val, 0, 0] : Fin 3 → ℕ) a + S1x512x256.size a ≤ S4x512x256.size a := by
  match a with
  | ⟨0, _⟩ => exact show s.val + 1 ≤ 4 by omega
  | ⟨1, _⟩ => exact show 0 + 512 ≤ 512 by omega
  | ⟨2, _⟩ => exact show 0 + 256 ≤ 256 by omega

/-- The part of chip `s` among the four. -/
abbrev pick (x1 : Vec Ideal S4x512x256 .bf16) (s : Fin 4) : Vec Ideal S1x512x256 .bf16 := View.ld x1 (Rect.unit (s := S4x512x256) ![s.val, 0, 0] S1x512x256.size (inb s))

/-- A chip's part of the weights, as a point reads it. -/
theorem read1 (t : Fin cfg0.N) (h : cc0_transform_1 (grid0.coords t) = ![0, 0, 0]) (s : Fin 4) (a : Fin 512) (l : Fin 256) :
    pick (iblk m c 1 t) s (ix3 0 a l) = V m c main_v2 (ix3 s a l) := by
  refine congrArg (V m c main_v2) (funext fun d => ?_)
  have h := congrFun h d
  match d with
  | ⟨0, _⟩ => exact Fin.ext (show cc0_transform_1 (grid0.coords t) 0 * 4 + 1 * (s.val + 1 * 0) = s.val from by rw [show cc0_transform_1 (grid0.coords t) 0 = 0 from h]; omega)
  | ⟨1, _⟩ => exact Fin.ext (show cc0_transform_1 (grid0.coords t) 1 * 512 + 1 * (0 + 1 * a.val) = a.val from by rw [show cc0_transform_1 (grid0.coords t) 1 = 0 from h]; omega)
  | ⟨2, _⟩ => exact Fin.ext (show cc0_transform_1 (grid0.coords t) 2 * 256 + 1 * (0 + 1 * l.val) = l.val from by rw [show cc0_transform_1 (grid0.coords t) 2 = 0 from h]; omega)

theorem read2 (t : Fin cfg0.N) (r : Fin 4) (i : Fin 1024) (h : cc0_transform_2 (grid0.coords t) = ![r.val, 0])
    (A : (⟨2, ![4096, 1024]⟩ : Shape).Idx → EReal) (j : Fin 1024) :
    ((cfg0.win 2).blk t).view.read (Elt Ideal) A (ix2 i j) = A (ix2 (at4 r i) j) := by
  refine congrArg A (funext fun a => ?_)
  have h := congrFun h a
  match a with
  | ⟨0, _⟩ => exact Fin.ext (show cc0_transform_2 (grid0.coords t) 0 * 1024 + 1 * i.val = r.val * 1024 + i.val from by rw [show cc0_transform_2 (grid0.coords t) 0 = r.val from h]; omega)
  | ⟨1, _⟩ => exact Fin.ext (show cc0_transform_2 (grid0.coords t) 1 * 1024 + 1 * j.val = j.val from by rw [show cc0_transform_2 (grid0.coords t) 1 = 0 from h]; omega)

/-- The mixed values as the region reads them. -/
theorem acts (n : Fin 4096) (j : Fin 512) : V m c main_v4 (ix2 n j) = X m c (ix3 (row n) (place n) j) := by
  refine (congrFun (?_ : V m c main_v4 = truncf (F := Ideal) .bf16 (shapeCast S4096x512 (X m c) shapeCasts_S2x2048x512_S4096x512) bitsLt_bf16_f32) _).trans
    (flat512 (X m c) shapeCasts_S2x2048x512_S4096x512 n j)
  show StableHlo.after hostOps0 (fun b => m (c, b)) main_v4 = _
  after_results <;> rfl

/-- The weights as the region reads them. -/
theorem weights (s : Fin 4) (a : Fin 512) (l : Fin 256) : V m c main_v2 (ix3 s a l) = W m c (ix2 a (part s l)) := by
  refine (congrFun (?_ : V m c main_v2 = truncf (F := Ideal) .bf16 (transpose S4x512x256 [1, 0, 2] (shapeCast S512x4x256 (W m c) shapeCasts_S512x1024_S512x4x256) transposes_S512x4x256_S4x512x256_1_0_2) bitsLt_bf16_f32) _).trans
    (parts (W m c) shapeCasts_S512x1024_S512x4x256 transposes_S512x4x256_S4x512x256_1_0_2 s a l)
  show StableHlo.after hostOps0 (fun b => m (c, b)) main_v2 = _
  after_results <;> rfl

/-- Four parts put side by side. -/
theorem side (w : Fin 4 → FVec Ideal S512x256 .bf16) (a : Fin 512) (s : Fin 4) (l : Fin 256) :
    concatenate S512x1024 1 [⟨S512x256, w 0⟩, ⟨S512x256, w 1⟩, ⟨S512x256, w 2⟩, ⟨S512x256, w 3⟩] concatenates_S512x256_S512x256_S512x256_S512x256_S512x1024_d1 (ix2 a (part s l))
      = w s (ix2 a l) := by
  simp only [pointwise]
  match s with
  | ⟨0, _⟩ =>
    refine (dif_pos (show 0 * 256 + l.val < 256 by omega)).trans <| ?_
    exact congrArg (w 0) (congrArg₂ ix2 rfl (Fin.ext (show 0 * 256 + l.val = l.val by omega)))
  | ⟨1, _⟩ =>
    refine (dif_neg (show ¬1 * 256 + l.val < 256 by omega)).trans <| (dif_pos (show 1 * 256 + l.val - 256 < 256 by omega)).trans <| ?_
    exact congrArg (w 1) (congrArg₂ ix2 rfl (Fin.ext (show 1 * 256 + l.val - 256 = l.val by omega)))
  | ⟨2, _⟩ =>
    refine (dif_neg (show ¬2 * 256 + l.val < 256 by omega)).trans <| (dif_neg (show ¬2 * 256 + l.val - 256 < 256 by omega)).trans <| (dif_pos (show 2 * 256 + l.val - 256 - 256 < 256 by omega)).trans <| ?_
    exact congrArg (w 2) (congrArg₂ ix2 rfl (Fin.ext (show 2 * 256 + l.val - 256 - 256 = l.val by omega)))
  | ⟨3, _⟩ =>
    refine (dif_neg (show ¬3 * 256 + l.val < 256 by omega)).trans <| (dif_neg (show ¬3 * 256 + l.val - 256 < 256 by omega)).trans <| (dif_neg (show ¬3 * 256 + l.val - 256 - 256 < 256 by omega)).trans <| ?_
    exact congrArg (w 3) (congrArg₂ ix2 rfl (Fin.ext (show 3 * 256 + l.val - 256 - 256 - 256 = l.val by omega)))

theorem pay1_apply (x0 : Vec Ideal S1024x512 .bf16) (w : Fin 4 → Vec Ideal S1x512x256 .bf16) (i : Fin 1024) (s : Fin 4) (l : Fin 256) :
    k0_pay1 x0 (w 0) (w 1) (w 2) (w 3) (ix2 i (part s l)) = ∑ k, x0 (ix2 i k) * w s (ix3 0 k l) := by
  refine Eq.trans (?_ : _ = ∑ k, x0 (ix2 i k) * concatenate S512x1024 1 [⟨S512x256, shapeCast S512x256 (w 0) shapeCasts_S1x512x256_S512x256⟩, ⟨S512x256, shapeCast S512x256 (w 1) shapeCasts_S1x512x256_S512x256⟩,
    ⟨S512x256, shapeCast S512x256 (w 2) shapeCasts_S1x512x256_S512x256⟩, ⟨S512x256, shapeCast S512x256 (w 3) shapeCasts_S1x512x256_S512x256⟩] concatenates_S512x256_S512x256_S512x256_S512x256_S512x1024_d1 (ix2 k (part s l)))
    (Finset.sum_congr rfl fun k _ => congrArg (x0 (ix2 i k) * ·) ((side (fun s => shapeCast S512x256 (w s) shapeCasts_S1x512x256_S512x256) k s l).trans (by simp only [pointwise])))
  unfold k0_pay1
  rw [shapeCast_self, truncf_apply]
  generalize concatenate S512x1024 1 _ _ = y
  simp only [pointwise]
  rw [zero_add]

/-- The kernel's result, entry by entry. -/
theorem kernel (r : Fin 4) (i : Fin 1024) (s : Fin 4) (l : Fin 256) :
    (dats m 0 c).arrAt 2 cfg0.N (ix2 (at4 r i) (part s l)) = ∑ k, X m c (ix3 (row (at4 r i)) (place (at4 r i)) k) * W m c (ix2 k (part s l)) := by
  obtain ⟨t, h0, h1, h2⟩ := point r
  have h := congrFun (Value.blocks2 m c t (flush0_2 t)) (ix2 i (part s l))
  rw [Value.flushed2] at h
  refine (read2 t r i h2 _ (part s l)).symm.trans (h.trans ?_)
  show out0_2 (iblk m c 0 t) (iblk m c 1 t) (ix2 i (part s l)) = _
  unfold out0_2
  rw [View.canon_unit_zero zero2]
  simp only [View.ld_unit_zero (S := S1024x512) zero2]
  exact (pay1_apply (iblk m c 0 t) (pick (iblk m c 1 t)) i s l).trans (Finset.sum_congr rfl fun k _ => congrArg₂ (· * ·) ((read0 m c t r i h0 k).trans (acts m c (at4 r i) k)) ((read1 m c t h1 s k l).trans (weights m c s k l)))

/-- The reference's product. -/
def prod (x0 : FVec Ideal Cert.ReferenceYAIdeal.S2x2048x512 .f32) (x1 : FVec Ideal Cert.ReferenceYAIdeal.S512x1024 .f32) : FVec Ideal Cert.ReferenceYAIdeal.S2x2048x1024 .f32 :=
  Host.dotGeneral (F := Ideal) Cert.ReferenceYAIdeal.dot_S2x2048x512_S512x1024_S2x2048x1024_2_0_01_1_n_n none x0 x1

theorem prod_apply (x0 : FVec Ideal Cert.ReferenceYAIdeal.S2x2048x512 .f32) (x1 : FVec Ideal Cert.ReferenceYAIdeal.S512x1024 .f32) (b : Fin 2) (x : Fin 2048) (j : Fin 1024) :
    prod x0 x1 (ix3 b x j) = ∑ k, x0 (ix3 b x k) * x1 (ix2 k j) := by
  unfold prod
  simp only [pointwise]
  rw [zero_add]

/-- The reference's result. -/
def ref (x0 : FVec Ideal Cert.ReferenceYAIdeal.S2x2048x512 .f32) (x1 : FVec Ideal Cert.ReferenceYAIdeal.S512x1024 .f32) : FVec Ideal Cert.ReferenceYAIdeal.S4096x1024 .bf16 :=
  truncf (F := Ideal) .bf16 (shapeCast Cert.ReferenceYAIdeal.S4096x1024 (prod x0 x1) Cert.ReferenceYAIdeal.Gen.shapeCasts_S2x2048x1024_S4096x1024) Cert.ReferenceYAIdeal.Gen.bitsLt_bf16_f32

theorem ref_apply (x0 : FVec Ideal Cert.ReferenceYAIdeal.S2x2048x512 .f32) (x1 : FVec Ideal Cert.ReferenceYAIdeal.S512x1024 .f32) (n : Fin 4096) (j : Fin 1024) :
    ref x0 x1 (ix2 n j) = prod x0 x1 (ix3 (row n) (place n) j) := flat (prod x0 x1) _ n j

/-- The kernel and the reference hold the same array. -/
theorem equal : ref (X m c) (W m c) = (dats m 0 c).arrAt 2 cfg0.N := by
  funext y
  obtain ⟨n, j, rfl⟩ : ∃ n j, y = ix2 n j := ⟨y 0, y 1, eq_ix2 y⟩
  obtain ⟨r, i, rfl⟩ := eq_at4 n
  obtain ⟨s, l, rfl⟩ := eq_part j
  exact (ref_apply _ _ _ (part s l)).trans ((prod_apply _ _ _ _ (part s l)).trans (kernel m c r i s l).symm)

end Cert.YA

end
-- ==== Proof.Mix.lean ====
/- The merge of the two branches and what follows it: the gated sum, its product with the output weights added to the residual,
   and the normalised rows. -/
module

public import proofs.«01_k».proof.Proof.Gen.KernelMixIdeal.Value
public import proofs.«01_k».proof.Proof.Gen.ReferenceMixIdeal.Run
public import proofs.«01_k».proof.Proof.Tokens
public import Idealize.ShloMosaic.Lib.Tactic

@[expose] public section

noncomputable section

namespace Cert.Mix

open Cert.KernelMixIdeal Cert.KernelMixIdeal.Gen Idealize.ShloMosaic Idealize.ShloMosaic.TcCoe Idealize.SL.Sem
open Cert.Tok (zero2 row place flat)

/-- One over one plus the exponential of minus a number. -/
abbrev sg (a : EReal) : EReal := Ideal.div 1 (1 + Ideal.exp (-a))

/-- One over the root of a row's mean square and the small constant. -/
abbrev scale (x : Fin 1024 → EReal) : EReal :=
  Ideal.rsqrt (Ideal.div (∑ k, x k * x k) (Ideal.ofBits FTy.f32 1149239296#32) + Ideal.ofBits FTy.f32 897988541#32)

/-- Token `i` of one of eight tiles. -/
def at8 (r : Fin 8) (i : Fin 512) : Fin 4096 := ⟨r.val * 512 + i.val, by omega⟩

/-- Every token is one of a tile. -/
theorem eq_at8 (n : Fin 4096) : ∃ r i, n = at8 r i :=
  ⟨⟨n.val / 512, by omega⟩, ⟨n.val % 512, by omega⟩, Fin.ext (show n.val = n.val / 512 * 512 + n.val % 512 by omega)⟩

/-- A gate's column of the projection. -/
def lane (j : Fin 2048) : Fin 8704 := ⟨6656 + j.val, by omega⟩

/-- The attention's gate. -/
def lo (j : Fin 1024) : Fin 2048 := ⟨j.val, by omega⟩

/-- The convolution's gate. -/
def hi (j : Fin 1024) : Fin 2048 := ⟨1024 + j.val, by omega⟩

/-- Column `k` of block `b` of the projection. -/
def blk (b : Fin 17) (k : Fin 512) : Fin 8704 := ⟨b.val * 512 + k.val, by omega⟩

section Entries

variable (p : (⟨3, ![2, 2048, 8704]⟩ : Shape).Idx → EReal) (b : (⟨1, ![2048]⟩ : Shape).Idx → EReal) (ya yc : (⟨3, ![2, 2048, 1024]⟩ : Shape).Idx → EReal)
  (w : (⟨2, ![1024, 1024]⟩ : Shape).Idx → EReal) (x : (⟨3, ![2, 2048, 1024]⟩ : Shape).Idx → EReal) (g : (⟨1, ![1024]⟩ : Shape).Idx → EReal)
  (d : Fin 2) (y : Fin 2048)

/-- A gate. -/
abbrev gate (j : Fin 2048) : EReal := sg (p (ix3 d y (lane j)) + b (ix1 j))

/-- The merged branches. -/
abbrev mg (j : Fin 1024) : EReal := gate p b d y (lo j) * ya (ix3 d y j) + gate p b d y (hi j) * yc (ix3 d y j)

/-- The residual after the merge. -/
abbrev rs (j : Fin 1024) : EReal := (∑ k, mg p b ya yc d y k * w (ix2 k j)) + x (ix3 d y j)

/-- The normalised row, scaled. -/
abbrev nm (j : Fin 1024) : EReal := rs p b ya yc w x d y j * scale (rs p b ya yc w x d y) * g (ix1 j)

end Entries

variable (m : (ℓ : Loc nD τ sig) → Buf (Elt Ideal) ℓ) (c : Dev nD)

/-- The projection. -/
abbrev P : (⟨3, ![2, 2048, 8704]⟩ : Shape).Idx → EReal := m ((c : Thread nD τ).loc main_arg0)

/-- The gates' bias. -/
abbrev B : (⟨1, ![2048]⟩ : Shape).Idx → EReal := m ((c : Thread nD τ).loc main_arg1)

/-- The attention's branch. -/
abbrev Ya : (⟨3, ![2, 2048, 1024]⟩ : Shape).Idx → EReal := m ((c : Thread nD τ).loc main_arg2)

/-- The convolution's branch. -/
abbrev Yc : (⟨3, ![2, 2048, 1024]⟩ : Shape).Idx → EReal := m ((c : Thread nD τ).loc main_arg3)

/-- The output weights. -/
abbrev W : (⟨2, ![1024, 1024]⟩ : Shape).Idx → EReal := m ((c : Thread nD τ).loc main_arg4)

/-- The residual before the merge. -/
abbrev X : (⟨3, ![2, 2048, 1024]⟩ : Shape).Idx → EReal := m ((c : Thread nD τ).loc main_arg5)

/-- The normalisation's weights. -/
abbrev G : (⟨1, ![1024]⟩ : Shape).Idx → EReal := m ((c : Thread nD τ).loc main_arg6)

/-- The blocks of the point of a tile of tokens. -/
abbrev At (t : Fin grid0.N) (r : Fin 8) : Prop := cc0_transform_0 (grid0.coords t) = ![r.val, 13]
    ∧ cc0_transform_1 (grid0.coords t) = ![r.val, 14] ∧ cc0_transform_2 (grid0.coords t) = ![r.val, 15] ∧ cc0_transform_3 (grid0.coords t) = ![r.val, 16]
    ∧ cc0_transform_4 (grid0.coords t) = ![0, 0] ∧ cc0_transform_5 (grid0.coords t) = ![r.val, 0] ∧ cc0_transform_6 (grid0.coords t) = ![r.val, 0]
    ∧ cc0_transform_7 (grid0.coords t) = ![0, 0] ∧ cc0_transform_8 (grid0.coords t) = ![r.val, 0] ∧ cc0_transform_9 (grid0.coords t) = ![0, 0]
    ∧ cc0_transform_10 (grid0.coords t) = ![r.val, 0] ∧ cc0_transform_11 (grid0.coords t) = ![r.val, 0] ∧ cc0_transform_12 (grid0.coords t) = ![r.val, 0]

theorem point : ∀ r : Fin 8, ∃ t : Fin grid0.N, At t r := by
  decide +kernel

theorem read0 (t : Fin cfg0.N) (r : Fin 8) (i : Fin 512) (h : cc0_transform_0 (grid0.coords t) = ![r.val, 13]) (k : Fin 512) :
    iblk m c 0 t (ix2 i k) = V m c main_v5 (ix2 (at8 r i) (blk 13 k)) := by
  refine congrArg (V m c main_v5) (funext fun a => ?_)
  have h := congrFun h a
  match a with
  | ⟨0, _⟩ => exact Fin.ext (show cc0_transform_0 (grid0.coords t) 0 * 512 + 1 * i.val = r.val * 512 + i.val from by rw [show cc0_transform_0 (grid0.coords t) 0 = r.val from h]; omega)
  | ⟨1, _⟩ => exact Fin.ext (show cc0_transform_0 (grid0.coords t) 1 * 512 + 1 * k.val = 13 * 512 + k.val from by rw [show cc0_transform_0 (grid0.coords t) 1 = 13 from h]; omega)

theorem read1 (t : Fin cfg0.N) (r : Fin 8) (i : Fin 512) (h : cc0_transform_1 (grid0.coords t) = ![r.val, 14]) (k : Fin 512) :
    iblk m c 1 t (ix2 i k) = V m c main_v5 (ix2 (at8 r i) (blk 14 k)) := by
  refine congrArg (V m c main_v5) (funext fun a => ?_)
  have h := congrFun h a
  match a with
  | ⟨0, _⟩ => exact Fin.ext (show cc0_transform_1 (grid0.coords t) 0 * 512 + 1 * i.val = r.val * 512 + i.val from by rw [show cc0_transform_1 (grid0.coords t) 0 = r.val from h]; omega)
  | ⟨1, _⟩ => exact Fin.ext (show cc0_transform_1 (grid0.coords t) 1 * 512 + 1 * k.val = 14 * 512 + k.val from by rw [show cc0_transform_1 (grid0.coords t) 1 = 14 from h]; omega)

theorem read2 (t : Fin cfg0.N) (r : Fin 8) (i : Fin 512) (h : cc0_transform_2 (grid0.coords t) = ![r.val, 15]) (k : Fin 512) :
    iblk m c 2 t (ix2 i k) = V m c main_v5 (ix2 (at8 r i) (blk 15 k)) := by
  refine congrArg (V m c main_v5) (funext fun a => ?_)
  have h := congrFun h a
  match a with
  | ⟨0, _⟩ => exact Fin.ext (show cc0_transform_2 (grid0.coords t) 0 * 512 + 1 * i.val = r.val * 512 + i.val from by rw [show cc0_transform_2 (grid0.coords t) 0 = r.val from h]; omega)
  | ⟨1, _⟩ => exact Fin.ext (show cc0_transform_2 (grid0.coords t) 1 * 512 + 1 * k.val = 15 * 512 + k.val from by rw [show cc0_transform_2 (grid0.coords t) 1 = 15 from h]; omega)

theorem read3 (t : Fin cfg0.N) (r : Fin 8) (i : Fin 512) (h : cc0_transform_3 (grid0.coords t) = ![r.val, 16]) (k : Fin 512) :
    iblk m c 3 t (ix2 i k) = V m c main_v5 (ix2 (at8 r i) (blk 16 k)) := by
  refine congrArg (V m c main_v5) (funext fun a => ?_)
  have h := congrFun h a
  match a with
  | ⟨0, _⟩ => exact Fin.ext (show cc0_transform_3 (grid0.coords t) 0 * 512 + 1 * i.val = r.val * 512 + i.val from by rw [show cc0_transform_3 (grid0.coords t) 0 = r.val from h]; omega)
  | ⟨1, _⟩ => exact Fin.ext (show cc0_transform_3 (grid0.coords t) 1 * 512 + 1 * k.val = 16 * 512 + k.val from by rw [show cc0_transform_3 (grid0.coords t) 1 = 16 from h]; omega)

theorem read4 (t : Fin cfg0.N) (h : cc0_transform_4 (grid0.coords t) = ![0, 0]) (k : Fin 2048) :
    iblk m c 4 t (ix2 0 k) = V m c main_v6 (ix2 0 k) := by
  refine congrArg (V m c main_v6) (funext fun a => ?_)
  have h := congrFun h a
  match a with
  | ⟨0, _⟩ => exact Fin.ext (show cc0_transform_4 (grid0.coords t) 0 * 1 + 1 * 0 = 0 from by rw [show cc0_transform_4 (grid0.coords t) 0 = 0 from h])
  | ⟨1, _⟩ => exact Fin.ext (show cc0_transform_4 (grid0.coords t) 1 * 2048 + 1 * k.val = k.val from by rw [show cc0_transform_4 (grid0.coords t) 1 = 0 from h]; omega)

theorem read9 (t : Fin cfg0.N) (h : cc0_transform_9 (grid0.coords t) = ![0, 0]) (k : Fin 1024) :
    iblk m c 9 t (ix2 0 k) = V m c main_v9 (ix2 0 k) := by
  refine congrArg (V m c main_v9) (funext fun a => ?_)
  have h := congrFun h a
  match a with
  | ⟨0, _⟩ => exact Fin.ext (show cc0_transform_9 (grid0.coords t) 0 * 1 + 1 * 0 = 0 from by rw [show cc0_transform_9 (grid0.coords t) 0 = 0 from h])
  | ⟨1, _⟩ => exact Fin.ext (show cc0_transform_9 (grid0.coords t) 1 * 1024 + 1 * k.val = k.val from by rw [show cc0_transform_9 (grid0.coords t) 1 = 0 from h]; omega)

theorem read5 (t : Fin cfg0.N) (r : Fin 8) (i : Fin 512) (h : cc0_transform_5 (grid0.coords t) = ![r.val, 0]) (k : Fin 1024) :
    iblk m c 5 t (ix2 i k) = V m c main_v1 (ix2 (at8 r i) k) := by
  refine congrArg (V m c main_v1) (funext fun a => ?_)
  have h := congrFun h a
  match a with
  | ⟨0, _⟩ => exact Fin.ext (show cc0_transform_5 (grid0.coords t) 0 * 512 + 1 * i.val = r.val * 512 + i.val from by rw [show cc0_transform_5 (grid0.coords t) 0 = r.val from h]; omega)
  | ⟨1, _⟩ => exact Fin.ext (show cc0_transform_5 (grid0.coords t) 1 * 1024 + 1 * k.val = k.val from by rw [show cc0_transform_5 (grid0.coords t) 1 = 0 from h]; omega)

theorem read6 (t : Fin cfg0.N) (r : Fin 8) (i : Fin 512) (h : cc0_transform_6 (grid0.coords t) = ![r.val, 0]) (k : Fin 1024) :
    iblk m c 6 t (ix2 i k) = V m c main_v3 (ix2 (at8 r i) k) := by
  refine congrArg (V m c main_v3) (funext fun a => ?_)
  have h := congrFun h a
  match a with
  | ⟨0, _⟩ => exact Fin.ext (show cc0_transform_6 (grid0.coords t) 0 * 512 + 1 * i.val = r.val * 512 + i.val from by rw [show cc0_transform_6 (grid0.coords t) 0 = r.val from h]; omega)
  | ⟨1, _⟩ => exact Fin.ext (show cc0_transform_6 (grid0.coords t) 1 * 1024 + 1 * k.val = k.val from by rw [show cc0_transform_6 (grid0.coords t) 1 = 0 from h]; omega)

theorem read8 (t : Fin cfg0.N) (r : Fin 8) (i : Fin 512) (h : cc0_transform_8 (grid0.coords t) = ![r.val, 0]) (k : Fin 1024) :
    iblk m c 8 t (ix2 i k) = V m c main_v8 (ix2 (at8 r i) k) := by
  refine congrArg (V m c main_v8) (funext fun a => ?_)
  have h := congrFun h a
  match a with
  | ⟨0, _⟩ => exact Fin.ext (show cc0_transform_8 (grid0.coords t) 0 * 512 + 1 * i.val = r.val * 512 + i.val from by rw [show cc0_transform_8 (grid0.coords t) 0 = r.val from h]; omega)
  | ⟨1, _⟩ => exact Fin.ext (show cc0_transform_8 (grid0.coords t) 1 * 1024 + 1 * k.val = k.val from by rw [show cc0_transform_8 (grid0.coords t) 1 = 0 from h]; omega)

theorem read7 (t : Fin cfg0.N) (h : cc0_transform_7 (grid0.coords t) = ![0, 0]) (k j : Fin 1024) :
    iblk m c 7 t (ix2 k j) = V m c main_v7 (ix2 k j) := by
  refine congrArg (V m c main_v7) (funext fun a => ?_)
  have h := congrFun h a
  match a with
  | ⟨0, _⟩ => exact Fin.ext (show cc0_transform_7 (grid0.coords t) 0 * 1024 + 1 * k.val = k.val from by rw [show cc0_transform_7 (grid0.coords t) 0 = 0 from h]; omega)
  | ⟨1, _⟩ => exact Fin.ext (show cc0_transform_7 (grid0.coords t) 1 * 1024 + 1 * j.val = j.val from by rw [show cc0_transform_7 (grid0.coords t) 1 = 0 from h]; omega)

theorem read10 (t : Fin cfg0.N) (r : Fin 8) (i : Fin 512) (h : cc0_transform_10 (grid0.coords t) = ![r.val, 0])
    (A : (⟨2, ![4096, 1024]⟩ : Shape).Idx → EReal) (j : Fin 1024) :
    ((cfg0.win 10).blk t).view.read (Elt Ideal) A (ix2 i j) = A (ix2 (at8 r i) j) := by
  refine congrArg A (funext fun a => ?_)
  have h := congrFun h a
  match a with
  | ⟨0, _⟩ => exact Fin.ext (show cc0_transform_10 (grid0.coords t) 0 * 512 + 1 * i.val = r.val * 512 + i.val from by rw [show cc0_transform_10 (grid0.coords t) 0 = r.val from h]; omega)
  | ⟨1, _⟩ => exact Fin.ext (show cc0_transform_10 (grid0.coords t) 1 * 1024 + 1 * j.val = j.val from by rw [show cc0_transform_10 (grid0.coords t) 1 = 0 from h]; omega)

theorem read11 (t : Fin cfg0.N) (r : Fin 8) (i : Fin 512) (h : cc0_transform_11 (grid0.coords t) = ![r.val, 0])
    (A : (⟨2, ![4096, 1024]⟩ : Shape).Idx → EReal) (j : Fin 1024) :
    ((cfg0.win 11).blk t).view.read (Elt Ideal) A (ix2 i j) = A (ix2 (at8 r i) j) := by
  refine congrArg A (funext fun a => ?_)
  have h := congrFun h a
  match a with
  | ⟨0, _⟩ => exact Fin.ext (show cc0_transform_11 (grid0.coords t) 0 * 512 + 1 * i.val = r.val * 512 + i.val from by rw [show cc0_transform_11 (grid0.coords t) 0 = r.val from h]; omega)
  | ⟨1, _⟩ => exact Fin.ext (show cc0_transform_11 (grid0.coords t) 1 * 1024 + 1 * j.val = j.val from by rw [show cc0_transform_11 (grid0.coords t) 1 = 0 from h]; omega)

theorem read12 (t : Fin cfg0.N) (r : Fin 8) (i : Fin 512) (h : cc0_transform_12 (grid0.coords t) = ![r.val, 0])
    (A : (⟨2, ![4096, 1024]⟩ : Shape).Idx → EReal) (j : Fin 1024) :
    ((cfg0.win 12).blk t).view.read (Elt Ideal) A (ix2 i j) = A (ix2 (at8 r i) j) := by
  refine congrArg A (funext fun a => ?_)
  have h := congrFun h a
  match a with
  | ⟨0, _⟩ => exact Fin.ext (show cc0_transform_12 (grid0.coords t) 0 * 512 + 1 * i.val = r.val * 512 + i.val from by rw [show cc0_transform_12 (grid0.coords t) 0 = r.val from h]; omega)
  | ⟨1, _⟩ => exact Fin.ext (show cc0_transform_12 (grid0.coords t) 1 * 1024 + 1 * j.val = j.val from by rw [show cc0_transform_12 (grid0.coords t) 1 = 0 from h]; omega)

/-- The projection, row under row. -/
theorem flat8704 (Z : FVec Ideal ⟨3, ![2, 2048, 8704]⟩ .f32) (hs : Shape.ShapeCasts ⟨3, ![2, 2048, 8704]⟩ ⟨2, ![4096, 8704]⟩) (n : Fin 4096) (j : Fin 8704) :
    shapeCast (⟨2, ![4096, 8704]⟩ : Shape) Z hs (ix2 n j) = Z (ix3 (row n) (place n) j) := by
  simp only [pointwise]
  rfl

/-- The projection as the region reads it. -/
theorem projs (n : Fin 4096) (j : Fin 8704) : V m c main_v5 (ix2 n j) = P m c (ix3 (row n) (place n) j) := by
  refine (congrFun (?_ : V m c main_v5 = truncf (F := Ideal) .bf16 (shapeCast S4096x8704 (P m c) shapeCasts_S2x2048x8704_S4096x8704) bitsLt_bf16_f32) _).trans
    (flat8704 (P m c) shapeCasts_S2x2048x8704_S4096x8704 n j)
  show StableHlo.after hostOps0 (fun b => m (c, b)) main_v5 = _
  after_results <;> rfl

/-- The bias as the region reads it. -/
theorem biases (j : Fin 2048) : V m c main_v6 (ix2 0 j) = B m c (ix1 j) := by
  rw [show V m c main_v6 = shapeCast S1x2048 (B m c) shapeCasts_S2048_S1x2048 from by
    show StableHlo.after hostOps0 (fun b => m (c, b)) main_v6 = _
    after_results <;> rfl]
  simp only [pointwise]

/-- The normalisation's weights as the region reads them. -/
theorem norms (j : Fin 1024) : V m c main_v9 (ix2 0 j) = G m c (ix1 j) := by
  rw [show V m c main_v9 = shapeCast S1x1024 (G m c) shapeCasts_S1024_S1x1024 from by
    show StableHlo.after hostOps0 (fun b => m (c, b)) main_v9 = _
    after_results <;> rfl]
  simp only [pointwise]

/-- The output weights as the region reads them. -/
theorem weights (k j : Fin 1024) : V m c main_v7 (ix2 k j) = W m c (ix2 k j) := by
  refine congrFun (?_ : V m c main_v7 = truncf (F := Ideal) .bf16 (W m c) bitsLt_bf16_f32) _
  show StableHlo.after hostOps0 (fun b => m (c, b)) main_v7 = _
  after_results <;> rfl

/-- The residual as the region reads it. -/
theorem resid (n : Fin 4096) (j : Fin 1024) : V m c main_v8 (ix2 n j) = X m c (ix3 (row n) (place n) j) := by
  refine (congrFun (?_ : V m c main_v8 = shapeCast S4096x1024 (X m c) shapeCasts_S2x2048x1024_S4096x1024) _).trans
    (flat (X m c) shapeCasts_S2x2048x1024_S4096x1024 n j)
  show StableHlo.after hostOps0 (fun b => m (c, b)) main_v8 = _
  after_results <;> rfl

/-- The attention's branch as the region reads it. -/
theorem attn (n : Fin 4096) (j : Fin 1024) : V m c main_v1 (ix2 n j) = Ya m c (ix3 (row n) (place n) j) := by
  refine (congrFun (?_ : V m c main_v1 = truncf (F := Ideal) .bf16 (shapeCast S4096x1024 (Ya m c) shapeCasts_S2x2048x1024_S4096x1024) bitsLt_bf16_f32) _).trans
    (flat (Ya m c) shapeCasts_S2x2048x1024_S4096x1024 n j)
  show StableHlo.after hostOps0 (fun b => m (c, b)) main_v1 = _
  after_results <;> rfl

/-- The convolution's branch as the region reads it. -/
theorem conv (n : Fin 4096) (j : Fin 1024) : V m c main_v3 (ix2 n j) = Yc m c (ix3 (row n) (place n) j) := by
  refine (congrFun (?_ : V m c main_v3 = truncf (F := Ideal) .bf16 (shapeCast S4096x1024 (Yc m c) shapeCasts_S2x2048x1024_S4096x1024) bitsLt_bf16_f32) _).trans
    (flat (Yc m c) shapeCasts_S2x2048x1024_S4096x1024 n j)
  show StableHlo.after hostOps0 (fun b => m (c, b)) main_v3 = _
  after_results <;> rfl

/-- Two blocks put side by side. -/
theorem side2 (a b : FVec Ideal S512x512 .bf16) (i : Fin 512) (Q : Fin 1024 → EReal) (ha : ∀ k : Fin 512, a (ix2 i k) = Q ⟨k.val, by omega⟩)
    (hb : ∀ k : Fin 512, b (ix2 i k) = Q ⟨512 + k.val, by omega⟩) (j : Fin 1024) :
    concatenate S512x1024 1 [⟨S512x512, a⟩, ⟨S512x512, b⟩] concatenates_S512x512_S512x512_S512x1024_d1 (ix2 i j) = Q j := by
  simp only [pointwise]
  by_cases h : j.val < 512
  · exact (dif_pos (show j.val < 512 from h)).trans (ha ⟨j.val, h⟩)
  · exact (dif_neg (show ¬j.val < 512 from h)).trans ((hb ⟨j.val - 512, by omega⟩).trans (congrArg Q (Fin.ext (show 512 + (j.val - 512) = j.val by omega))))

theorem pay4_apply (v : Vec Ideal S1x2048 .f32) (y : S1x2048.Idx) : k0_pay4 v y = v y := by
  unfold k0_pay4
  rw [shapeCast_self]

theorem pay5_apply (v0 : Vec Ideal S1x2048 .f32) (a b : Vec Ideal S512x512 .bf16) (y : Vec Ideal S512x1024 .bf16) (i : Fin 512) (Q : Fin 1024 → EReal)
    (ha : ∀ k : Fin 512, a (ix2 i k) = Q ⟨k.val, by omega⟩) (hb : ∀ k : Fin 512, b (ix2 i k) = Q ⟨512 + k.val, by omega⟩) (j : Fin 1024) :
    k0_pay5 v0 a b y (ix2 i j) = sg (Q j + v0 (ix2 0 (lo j))) * y (ix2 i j) := by
  have hc := side2 a b i Q ha hb j
  unfold k0_pay5
  rw [shapeCast_self, shapeCast_self]
  revert hc
  generalize concatenate S512x1024 1 _ _ = z
  intro hc
  simp only [shapeCast_self, pointwise]
  rw [zero_sub, hc, pay4_apply]
  exact congrArg (fun u => sg (Q j + v0 (ix2 0 u)) * y (ix2 i j)) (Fin.ext (show 0 + j.val = j.val by omega))

theorem pay6_apply (v0 : Vec Ideal S1x2048 .f32) (a b : Vec Ideal S512x512 .bf16) (i : Fin 512) (Q : Fin 1024 → EReal)
    (ha : ∀ k : Fin 512, a (ix2 i k) = Q ⟨k.val, by omega⟩) (hb : ∀ k : Fin 512, b (ix2 i k) = Q ⟨512 + k.val, by omega⟩) (j : Fin 1024) :
    k0_pay6 v0 a b (ix2 i j) = sg (Q j + v0 (ix2 0 (hi j))) := by
  have hc := side2 a b i Q ha hb j
  unfold k0_pay6
  rw [shapeCast_self, shapeCast_self]
  revert hc
  generalize concatenate S512x1024 1 _ _ = z
  intro hc
  simp only [pointwise]
  rw [zero_sub, hc, pay4_apply]
  rfl

theorem pay1_apply (u v : Vec Ideal S512x1024 .f32) (y : Vec Ideal S512x1024 .bf16) (i : Fin 512) (j : Fin 1024) :
    k0_pay1 u v y (ix2 i j) = u (ix2 i j) + v (ix2 i j) * y (ix2 i j) := by
  unfold k0_pay1
  simp only [shapeCast_self, pointwise]

theorem pay2_apply (u v : Vec Ideal S512x1024 .f32) (y : Vec Ideal S512x1024 .bf16) (w : Vec Ideal S1024x1024 .bf16) (x : Vec Ideal S512x1024 .f32) (i : Fin 512) (j : Fin 1024) :
    k0_pay2 u v y w x (ix2 i j) = (∑ k, k0_pay1 u v y (ix2 i k) * w (ix2 k j)) + x (ix2 i j) := by
  unfold k0_pay2
  simp only [shapeCast_self, pointwise]
  rw [zero_add]

theorem pay3_apply (u v : Vec Ideal S512x1024 .f32) (y : Vec Ideal S512x1024 .bf16) (w : Vec Ideal S1024x1024 .bf16) (x : Vec Ideal S512x1024 .f32) (g : Vec Ideal S1x1024 .f32)
    (i : Fin 512) (j : Fin 1024) :
    k0_pay3 u v y w x g (ix2 i j) = k0_pay2 u v y w x (ix2 i j) * scale (fun k => k0_pay2 u v y w x (ix2 i k)) * g (ix2 0 j) := by
  unfold k0_pay3
  simp only [shapeCast_self, pointwise]
  rfl

/-- A point's merged branches, entry by entry. -/
theorem merged (t : Fin cfg0.N) (r : Fin 8) (h : At t r) (i : Fin 512) (j : Fin 1024) :
    k0_pay1 (k0_pay5 (iblk m c 4 t) (iblk m c 0 t) (iblk m c 1 t) (iblk m c 5 t)) (k0_pay6 (iblk m c 4 t) (iblk m c 2 t) (iblk m c 3 t)) (iblk m c 6 t) (ix2 i j)
      = mg (P m c) (B m c) (Ya m c) (Yc m c) (row (at8 r i)) (place (at8 r i)) j := by
  obtain ⟨h0, h1, h2, h3, h4, h5, h6, -⟩ := h
  have a := pay5_apply (iblk m c 4 t) (iblk m c 0 t) (iblk m c 1 t) (iblk m c 5 t) i (fun j => P m c (ix3 (row (at8 r i)) (place (at8 r i)) (lane (lo j))))
    (fun k => (read0 m c t r i h0 k).trans ((projs m c _ _).trans (congrArg (fun z => P m c (ix3 (row (at8 r i)) (place (at8 r i)) z)) (Fin.ext (show 13 * 512 + k.val = 6656 + k.val by omega)))))
    (fun k => (read1 m c t r i h1 k).trans ((projs m c _ _).trans (congrArg (fun z => P m c (ix3 (row (at8 r i)) (place (at8 r i)) z)) (Fin.ext (show 14 * 512 + k.val = 6656 + (512 + k.val) by omega))))) j
  have b := pay6_apply (iblk m c 4 t) (iblk m c 2 t) (iblk m c 3 t) i (fun j => P m c (ix3 (row (at8 r i)) (place (at8 r i)) (lane (hi j))))
    (fun k => (read2 m c t r i h2 k).trans ((projs m c _ _).trans (congrArg (fun z => P m c (ix3 (row (at8 r i)) (place (at8 r i)) z)) (Fin.ext (show 15 * 512 + k.val = 6656 + (1024 + k.val) by omega)))))
    (fun k => (read3 m c t r i h3 k).trans ((projs m c _ _).trans (congrArg (fun z => P m c (ix3 (row (at8 r i)) (place (at8 r i)) z)) (Fin.ext (show 16 * 512 + k.val = 6656 + (1024 + (512 + k.val)) by omega))))) j
  exact (pay1_apply _ _ _ i j).trans (congrArg₂ (· + ·)
    (a.trans (congrArg₂ (fun u v => sg (P m c (ix3 (row (at8 r i)) (place (at8 r i)) (lane (lo j))) + u) * v) ((read4 m c t h4 (lo j)).trans (biases m c (lo j))) ((read5 m c t r i h5 j).trans (attn m c _ j))))
    (congrArg₂ (· * ·) (b.trans (congrArg (fun u => sg (P m c (ix3 (row (at8 r i)) (place (at8 r i)) (lane (hi j))) + u)) ((read4 m c t h4 (hi j)).trans (biases m c (hi j))))) ((read6 m c t r i h6 j).trans (conv m c _ j))))

/-- A point's residual, entry by entry. -/
theorem added (t : Fin cfg0.N) (r : Fin 8) (h : At t r) (i : Fin 512) (j : Fin 1024) :
    k0_pay2 (k0_pay5 (iblk m c 4 t) (iblk m c 0 t) (iblk m c 1 t) (iblk m c 5 t)) (k0_pay6 (iblk m c 4 t) (iblk m c 2 t) (iblk m c 3 t)) (iblk m c 6 t) (iblk m c 7 t) (iblk m c 8 t) (ix2 i j)
      = rs (P m c) (B m c) (Ya m c) (Yc m c) (W m c) (X m c) (row (at8 r i)) (place (at8 r i)) j :=
  (pay2_apply _ _ _ _ _ i j).trans (congrArg₂ (· + ·)
    (Finset.sum_congr rfl fun k _ => congrArg₂ (· * ·) (merged m c t r h i k) ((read7 m c t h.2.2.2.2.2.2.2.1 k j).trans (weights m c k j)))
    ((read8 m c t r i h.2.2.2.2.2.2.2.2.1 j).trans (resid m c _ j)))

/-- The first result, entry by entry. -/
theorem kernel10 (r : Fin 8) (i : Fin 512) (j : Fin 1024) :
    (dats m 0 c).arrAt 10 cfg0.N (ix2 (at8 r i) j) = mg (P m c) (B m c) (Ya m c) (Yc m c) (row (at8 r i)) (place (at8 r i)) j := by
  obtain ⟨t, h⟩ := point r
  have e := congrFun (Value.blocks10 m c t (flush0_10 t)) (ix2 i j)
  rw [Value.flushed10] at e
  refine (read10 t r i h.2.2.2.2.2.2.2.2.2.2.1 _ j).symm.trans (e.trans ?_)
  show out0_10 (iblk m c 0 t) (iblk m c 1 t) (iblk m c 2 t) (iblk m c 3 t) (iblk m c 4 t) (iblk m c 5 t) (iblk m c 6 t) (iblk m c 7 t) (iblk m c 8 t) (iblk m c 9 t) (ix2 i j) = _
  unfold out0_10 k0_pay7 k0_pay8
  rw [View.canon_unit_zero zero2]
  simp only [View.ld_unit_zero (S := S512x512) zero2, View.ld_unit_zero (S := S1x2048) zero2, View.ld_unit_zero (S := S512x1024) zero2, View.ld_unit_zero (S := S1024x1024) zero2,
    View.ld_unit_zero (S := S1x1024) zero2]
  exact merged m c t r h i j

/-- The second. -/
theorem kernel11 (r : Fin 8) (i : Fin 512) (j : Fin 1024) :
    (dats m 0 c).arrAt 11 cfg0.N (ix2 (at8 r i) j) = rs (P m c) (B m c) (Ya m c) (Yc m c) (W m c) (X m c) (row (at8 r i)) (place (at8 r i)) j := by
  obtain ⟨t, h⟩ := point r
  have e := congrFun (Value.blocks11 m c t (flush0_11 t)) (ix2 i j)
  rw [Value.flushed11] at e
  refine (read11 t r i h.2.2.2.2.2.2.2.2.2.2.2.1 _ j).symm.trans (e.trans ?_)
  show out0_11 (iblk m c 0 t) (iblk m c 1 t) (iblk m c 2 t) (iblk m c 3 t) (iblk m c 4 t) (iblk m c 5 t) (iblk m c 6 t) (iblk m c 7 t) (iblk m c 8 t) (iblk m c 9 t) (ix2 i j) = _
  unfold out0_11 k0_pay7 k0_pay8
  rw [View.canon_unit_zero zero2]
  simp only [View.ld_unit_zero (S := S512x512) zero2, View.ld_unit_zero (S := S1x2048) zero2, View.ld_unit_zero (S := S512x1024) zero2, View.ld_unit_zero (S := S1024x1024) zero2,
    View.ld_unit_zero (S := S1x1024) zero2]
  exact added m c t r h i j

/-- The third. -/
theorem kernel12 (r : Fin 8) (i : Fin 512) (j : Fin 1024) :
    (dats m 0 c).arrAt 12 cfg0.N (ix2 (at8 r i) j) = nm (P m c) (B m c) (Ya m c) (Yc m c) (W m c) (X m c) (G m c) (row (at8 r i)) (place (at8 r i)) j := by
  obtain ⟨t, h⟩ := point r
  have e := congrFun (Value.blocks12 m c t (flush0_12 t)) (ix2 i j)
  rw [Value.flushed12] at e
  refine (read12 t r i h.2.2.2.2.2.2.2.2.2.2.2.2 _ j).symm.trans (e.trans ?_)
  show out0_12 (iblk m c 0 t) (iblk m c 1 t) (iblk m c 2 t) (iblk m c 3 t) (iblk m c 4 t) (iblk m c 5 t) (iblk m c 6 t) (iblk m c 7 t) (iblk m c 8 t) (iblk m c 9 t) (ix2 i j) = _
  unfold out0_12 k0_pay7 k0_pay8
  rw [View.canon_unit_zero zero2]
  simp only [View.ld_unit_zero (S := S512x512) zero2, View.ld_unit_zero (S := S1x2048) zero2, View.ld_unit_zero (S := S512x1024) zero2, View.ld_unit_zero (S := S1024x1024) zero2,
    View.ld_unit_zero (S := S1x1024) zero2]
  refine (pay3_apply _ _ _ _ _ _ i j).trans ?_
  exact congrArg₂ (· * ·) (congrArg₂ (· * ·) (added m c t r h i j) (congrArg scale (funext fun k => added m c t r h i k))) ((read9 m c t h.2.2.2.2.2.2.2.2.2.1 j).trans (norms m c j))

/-- The reference's gates. -/
def gates (p : FVec Ideal Cert.ReferenceMixIdeal.S2x2048x8704 .f32) (b : FVec Ideal Cert.ReferenceMixIdeal.S2048 .f32) : FVec Ideal Cert.ReferenceMixIdeal.S2x2048x2048 .f32 :=
  Host.divf (F := Ideal) (broadcastInDim Cert.ReferenceMixIdeal.S2x2048x2048 ![] Cert.ReferenceMixIdeal.Gen.bcast_S_S2x2048x2048 (constant (F := Ideal) Cert.ReferenceMixIdeal.S_ .f32 0x3F800000#32))
    (addf (F := Ideal) (broadcastInDim Cert.ReferenceMixIdeal.S2x2048x2048 ![] Cert.ReferenceMixIdeal.Gen.bcast_S_S2x2048x2048 (constant (F := Ideal) Cert.ReferenceMixIdeal.S_ .f32 0x3F800000#32))
      (Host.exp (F := Ideal) (Host.negf (F := Ideal) (addf (F := Ideal) (extractStridedSlice Cert.ReferenceMixIdeal.S2x2048x2048 ![0, 0, 6656] p Cert.ReferenceMixIdeal.Gen.slices_S2x2048x8704_S2x2048x2048_0_0_6656)
        (broadcastInDim Cert.ReferenceMixIdeal.S2x2048x2048 ![0, 1, 2] Cert.ReferenceMixIdeal.Gen.bcast_S1x1x2048_S2x2048x2048_0_1_2 (broadcastInDim Cert.ReferenceMixIdeal.S1x1x2048 ![2] Cert.ReferenceMixIdeal.Gen.bcast_S2048_S1x1x2048_2 b))))))

theorem gates_apply (p : FVec Ideal Cert.ReferenceMixIdeal.S2x2048x8704 .f32) (b : FVec Ideal Cert.ReferenceMixIdeal.S2048 .f32) (d : Fin 2) (y k : Fin 2048) : gates p b (ix3 d y k) = gate p b d y k := by
  unfold gates
  simp only [pointwise]
  refine congrArg (fun z => sg (p z + b (ix1 k))) ?_
  refine funext fun a => ?_
  match a with
  | ⟨0, _⟩ => exact Fin.ext (show 0 + d.val = d.val by omega)
  | ⟨1, _⟩ => exact Fin.ext (show 0 + y.val = y.val by omega)
  | ⟨2, _⟩ => rfl

/-- The reference's merged branches. -/
def mix (p : FVec Ideal Cert.ReferenceMixIdeal.S2x2048x8704 .f32) (b : FVec Ideal Cert.ReferenceMixIdeal.S2048 .f32) (ya yc : FVec Ideal Cert.ReferenceMixIdeal.S2x2048x1024 .f32) : FVec Ideal Cert.ReferenceMixIdeal.S2x2048x1024 .f32 :=
  addf (F := Ideal) (mulf (F := Ideal) (extractStridedSlice Cert.ReferenceMixIdeal.S2x2048x1024 ![0, 0, 0] (gates p b) Cert.ReferenceMixIdeal.Gen.slices_S2x2048x2048_S2x2048x1024_0_0_0) ya)
    (mulf (F := Ideal) (extractStridedSlice Cert.ReferenceMixIdeal.S2x2048x1024 ![0, 0, 1024] (gates p b) Cert.ReferenceMixIdeal.Gen.slices_S2x2048x2048_S2x2048x1024_0_0_1024) yc)

theorem mix_apply (p : FVec Ideal Cert.ReferenceMixIdeal.S2x2048x8704 .f32) (b : FVec Ideal Cert.ReferenceMixIdeal.S2048 .f32) (ya yc : FVec Ideal Cert.ReferenceMixIdeal.S2x2048x1024 .f32) (d : Fin 2) (y : Fin 2048) (k : Fin 1024) :
    mix p b ya yc (ix3 d y k) = mg p b ya yc d y k := by
  unfold mix
  simp only [pointwise]
  refine congrArg₂ (· + ·) (congrArg (· * ya (ix3 d y k)) ((congrArg (gates p b) (funext fun a => ?_)).trans (gates_apply p b d y (lo k))))
    (congrArg (· * yc (ix3 d y k)) ((congrArg (gates p b) (funext fun a => ?_)).trans (gates_apply p b d y (hi k))))
  · match a with
    | ⟨0, _⟩ => exact Fin.ext (show 0 + d.val = d.val by omega)
    | ⟨1, _⟩ => exact Fin.ext (show 0 + y.val = y.val by omega)
    | ⟨2, _⟩ => exact Fin.ext (show 0 + k.val = k.val by omega)
  · match a with
    | ⟨0, _⟩ => exact Fin.ext (show 0 + d.val = d.val by omega)
    | ⟨1, _⟩ => exact Fin.ext (show 0 + y.val = y.val by omega)
    | ⟨2, _⟩ => rfl

/-- The reference's residual. -/
def sum (p : FVec Ideal Cert.ReferenceMixIdeal.S2x2048x8704 .f32) (b : FVec Ideal Cert.ReferenceMixIdeal.S2048 .f32) (ya yc : FVec Ideal Cert.ReferenceMixIdeal.S2x2048x1024 .f32) (w : FVec Ideal Cert.ReferenceMixIdeal.S1024x1024 .f32) (x : FVec Ideal Cert.ReferenceMixIdeal.S2x2048x1024 .f32) : FVec Ideal Cert.ReferenceMixIdeal.S2x2048x1024 .f32 :=
  addf (F := Ideal) x (Host.dotGeneral (F := Ideal) Cert.ReferenceMixIdeal.dot_S2x2048x1024_S1024x1024_S2x2048x1024_2_0_01_1_n_n none (mix p b ya yc) w)

theorem sum_apply (p : FVec Ideal Cert.ReferenceMixIdeal.S2x2048x8704 .f32) (b : FVec Ideal Cert.ReferenceMixIdeal.S2048 .f32) (ya yc : FVec Ideal Cert.ReferenceMixIdeal.S2x2048x1024 .f32) (w : FVec Ideal Cert.ReferenceMixIdeal.S1024x1024 .f32) (x : FVec Ideal Cert.ReferenceMixIdeal.S2x2048x1024 .f32) (d : Fin 2) (y : Fin 2048) (j : Fin 1024) :
    sum p b ya yc w x (ix3 d y j) = rs p b ya yc w x d y j := by
  unfold sum
  simp only [pointwise]
  rw [zero_add, add_comm]
  exact congrArg (· + x (ix3 d y j)) (Finset.sum_congr rfl fun k _ => congrArg (· * w (ix2 k j)) (mix_apply p b ya yc d y k))

/-- The normalised rows, scaled. -/
def norm (x : FVec Ideal Cert.ReferenceMixIdeal.S2x2048x1024 .f32) (g : FVec Ideal Cert.ReferenceMixIdeal.S1024 .f32) : FVec Ideal Cert.ReferenceMixIdeal.S2x2048x1024 .f32 :=
  mulf (F := Ideal) (mulf (F := Ideal) x (broadcastInDim Cert.ReferenceMixIdeal.S2x2048x1024 ![0, 1, 2] Cert.ReferenceMixIdeal.Gen.bcast_S2x2048x1_S2x2048x1024_0_1_2 (Host.rsqrt (F := Ideal) (addf (F := Ideal)
      (Host.divf (F := Ideal) (broadcastInDim Cert.ReferenceMixIdeal.S2x2048x1 ![0, 1] Cert.ReferenceMixIdeal.Gen.bcast_S2x2048_S2x2048x1_0_1
          (Host.reduceAdd (F := Ideal) (mulf (F := Ideal) x x) (constant (F := Ideal) Cert.ReferenceMixIdeal.S_ .f32 0x00000000#32) Cert.ReferenceMixIdeal.Gen.reducesTo_S2x2048x1024_S2x2048_d2 Cert.ReferenceMixIdeal.Gen.h_S_))
        (broadcastInDim Cert.ReferenceMixIdeal.S2x2048x1 ![] Cert.ReferenceMixIdeal.Gen.bcast_S_S2x2048x1 (constant (F := Ideal) Cert.ReferenceMixIdeal.S_ .f32 0x44800000#32)))
      (broadcastInDim Cert.ReferenceMixIdeal.S2x2048x1 ![] Cert.ReferenceMixIdeal.Gen.bcast_S_S2x2048x1 (constant (F := Ideal) Cert.ReferenceMixIdeal.S_ .f32 0x358637BD#32))))))
    (broadcastInDim Cert.ReferenceMixIdeal.S2x2048x1024 ![0, 1, 2] Cert.ReferenceMixIdeal.Gen.bcast_S1x1x1024_S2x2048x1024_0_1_2 (broadcastInDim Cert.ReferenceMixIdeal.S1x1x1024 ![2] Cert.ReferenceMixIdeal.Gen.bcast_S1024_S1x1x1024_2 g))

theorem norm_apply (x : FVec Ideal Cert.ReferenceMixIdeal.S2x2048x1024 .f32) (g : FVec Ideal Cert.ReferenceMixIdeal.S1024 .f32) (d : Fin 2) (y : Fin 2048) (k : Fin 1024) :
    norm x g (ix3 d y k) = x (ix3 d y k) * scale (fun k => x (ix3 d y k)) * g (ix1 k) := by
  unfold norm
  simp only [pointwise]
  rw [zero_add]
  rfl

/-- A result of the reference, row under row. -/
def rows (x : FVec Ideal Cert.ReferenceMixIdeal.S2x2048x1024 .f32) : FVec Ideal Cert.ReferenceMixIdeal.S4096x1024 .f32 :=
  shapeCast Cert.ReferenceMixIdeal.S4096x1024 x Cert.ReferenceMixIdeal.Gen.shapeCasts_S2x2048x1024_S4096x1024

theorem rows_apply (x : FVec Ideal Cert.ReferenceMixIdeal.S2x2048x1024 .f32) (n : Fin 4096) (j : Fin 1024) : rows x (ix2 n j) = x (ix3 (row n) (place n) j) := flat x _ n j

/-- The same, narrowed. -/
def low (x : FVec Ideal Cert.ReferenceMixIdeal.S2x2048x1024 .f32) : FVec Ideal Cert.ReferenceMixIdeal.S4096x1024 .bf16 :=
  truncf (F := Ideal) .bf16 (rows x) Cert.ReferenceMixIdeal.Gen.bitsLt_bf16_f32

theorem low_apply (x : FVec Ideal Cert.ReferenceMixIdeal.S2x2048x1024 .f32) (n : Fin 4096) (j : Fin 1024) : low x (ix2 n j) = x (ix3 (row n) (place n) j) := flat x _ n j

/-- The kernel and the reference hold the same arrays. -/
theorem equal10 : low (mix (P m c) (B m c) (Ya m c) (Yc m c)) = (dats m 0 c).arrAt 10 cfg0.N := by
  funext y
  obtain ⟨n, j, rfl⟩ : ∃ n j, y = ix2 n j := ⟨y 0, y 1, eq_ix2 y⟩
  obtain ⟨r, i, rfl⟩ := eq_at8 n
  exact (low_apply _ _ j).trans ((mix_apply _ _ _ _ _ _ j).trans (kernel10 m c r i j).symm)

theorem equal11 : rows (sum (P m c) (B m c) (Ya m c) (Yc m c) (W m c) (X m c)) = (dats m 0 c).arrAt 11 cfg0.N := by
  funext y
  obtain ⟨n, j, rfl⟩ : ∃ n j, y = ix2 n j := ⟨y 0, y 1, eq_ix2 y⟩
  obtain ⟨r, i, rfl⟩ := eq_at8 n
  exact (rows_apply _ _ j).trans ((sum_apply _ _ _ _ _ _ _ _ j).trans (kernel11 m c r i j).symm)

theorem equal12 : low (norm (sum (P m c) (B m c) (Ya m c) (Yc m c) (W m c) (X m c)) (G m c)) = (dats m 0 c).arrAt 12 cfg0.N := by
  funext y
  obtain ⟨n, j, rfl⟩ : ∃ n j, y = ix2 n j := ⟨y 0, y 1, eq_ix2 y⟩
  obtain ⟨r, i, rfl⟩ := eq_at8 n
  refine (low_apply _ _ j).trans ((norm_apply _ _ _ _ j).trans (Eq.trans ?_ (kernel12 m c r i j).symm))
  exact congrArg₂ (· * ·) (congrArg₂ (· * ·) (sum_apply _ _ _ _ _ _ _ _ j) (congrArg scale (funext fun k => sum_apply _ _ _ _ _ _ _ _ k))) rfl

end Cert.Mix

end
-- ==== Proof.MB.lean ====
/- The gradient through the gated merge: the cotangents of the two branches and of the gates' logits, and the bias's, added up
   over four tiles of tokens. -/
module

public import proofs.«01_k».proof.Proof.Gen.KernelMBIdeal.Value
public import proofs.«01_k».proof.Proof.Gen.ReferenceMBIdeal.Run
public import proofs.«01_k».proof.Proof.Mix
public import proofs.«01_k».proof.Proof.O
public import Idealize.ShloMosaic.Lib.Tactic

@[expose] public section

noncomputable section

namespace Cert.MB

open Cert.KernelMBIdeal Cert.KernelMBIdeal.Gen Idealize.ShloMosaic Idealize.ShloMosaic.TcCoe Idealize.SL.Sem
open Cert.Tok (zero2 row place at4 eq_at4 flat)
open Cert.Mix (sg lane lo hi blk gate flat8704)

/-- Column `k` of half `h` of the branches' columns. -/
def half (h : Fin 2) (k : Fin 512) : Fin 1024 := ⟨h.val * 512 + k.val, by omega⟩

/-- Every column is one of a half. -/
theorem eq_half (j : Fin 1024) : ∃ h k, j = half h k :=
  ⟨⟨j.val / 512, by omega⟩, ⟨j.val % 512, by omega⟩, Fin.ext (show j.val = j.val / 512 * 512 + j.val % 512 by omega)⟩

section Points

variable {F : FTy → Type} [FloatOps F]
variable (c : Dev nD) (i : grid0.Coords) (arg2 : Memref sig .tc .vmem S1024x512 .bf16) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1024x512 .bf16) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x512 .bf16) (harg10 : arg10.IsWhole)
  (arg11 : Memref sig .tc .vmem S1024x512 .bf16) (harg11 : arg11.IsWhole)
  (arg12 : Memref sig .tc .vmem S1024x512 .bf16) (harg12 : arg12.IsWhole)
  (arg13 : Memref sig .tc .vmem S1x512 .f32) (harg13 : arg13.IsWhole)
  (arg14 : Memref sig .tc .vmem S1x512 .f32) (harg14 : arg14.IsWhole)
  (x0 x1 x2 : Vec F S1024x512 .bf16) (x3 x4 : Vec F S1x512 .f32) (x5 x6 : Vec F S1024x512 .bf16)

/-- What the first point of a half leaves for the attention's branch. -/
theorem outA7 (hc0 : cond0_0 i) (hc1 : ¬cond0_1 i) :
    out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay12 x0 x1 x3 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What the first point of a half leaves for the convolution's branch. -/
theorem outA8 (hc0 : cond0_0 i) (hc1 : ¬cond0_1 i) :
    out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay13 x0 x2 x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What the first point of a half leaves for the attention's logits. -/
theorem outA9 (hc0 : cond0_0 i) (hc1 : ¬cond0_1 i) :
    out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay3 (k0_pay9 x0) (k0_pay10 x1 x3) x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What the first point of a half leaves for the convolution's logits. -/
theorem outA10 (hc0 : cond0_0 i) (hc1 : ¬cond0_1 i) :
    out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay4 (k0_pay9 x0) (k0_pay11 x2 x4) x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What the first point of a half leaves for the first half of the bias. -/
theorem outA11 (hc0 : cond0_0 i) (hc1 : ¬cond0_1 i) :
    out0_A_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay5 (k0_pay9 x0) (k0_pay10 x1 x3) x5 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What the first point of a half leaves for the second half of the bias. -/
theorem outA12 (hc0 : cond0_0 i) (hc1 : ¬cond0_1 i) :
    out0_A_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay6 (k0_pay9 x0) (k0_pay11 x2 x4) x6 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What a later point leaves for the attention's branch. -/
theorem outB7 (hc0 : ¬cond0_0 i) (hc1 : cond0_1 i) (a b : Vec F S1x512 .f32) :
    out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b = k0_pay12 x0 x1 x3 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What a later point leaves for the convolution's branch. -/
theorem outB8 (hc0 : ¬cond0_0 i) (hc1 : cond0_1 i) (a b : Vec F S1x512 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b = k0_pay13 x0 x2 x4 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What a later point leaves for the attention's logits. -/
theorem outB9 (hc0 : ¬cond0_0 i) (hc1 : cond0_1 i) (a b : Vec F S1x512 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b = k0_pay3 (k0_pay9 x0) (k0_pay10 x1 x3) x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What a later point leaves for the convolution's logits. -/
theorem outB10 (hc0 : ¬cond0_0 i) (hc1 : cond0_1 i) (a b : Vec F S1x512 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b = k0_pay4 (k0_pay9 x0) (k0_pay11 x2 x4) x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What a later point leaves for the first half of the bias. -/
theorem outB11 (hc0 : ¬cond0_0 i) (hc1 : cond0_1 i) (a b : Vec F S1x512 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b = k0_pay7 (k0_pay9 x0) (k0_pay10 x1 x3) x5 a := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

/-- What a later point leaves for the second half of the bias. -/
theorem outB12 (hc0 : ¬cond0_0 i) (hc1 : cond0_1 i) (a b : Vec F S1x512 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b = k0_pay8 (k0_pay9 x0) (k0_pay11 x2 x4) x6 b := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a b)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread,
    harg13.read_unread, harg14.read_unread, View.ld_unit_zero (S := S1024x512) zero2, View.ld_unit_zero (S := S1x512) zero2]

end Points

variable (m : (ℓ : Loc nD τ sig) → Buf (Elt Ideal) ℓ) (c : Dev nD)

/-- The cotangent of the merged branches. -/
abbrev D : (⟨3, ![2, 2048, 1024]⟩ : Shape).Idx → EReal := m ((c : Thread nD τ).loc main_arg0)

/-- The projection. -/
abbrev P : (⟨3, ![2, 2048, 8704]⟩ : Shape).Idx → EReal := m ((c : Thread nD τ).loc main_arg1)

/-- The gates' bias. -/
abbrev B : (⟨1, ![2048]⟩ : Shape).Idx → EReal := m ((c : Thread nD τ).loc main_arg2)

/-- The attention's branch. -/
abbrev Ya : (⟨3, ![2, 2048, 1024]⟩ : Shape).Idx → EReal := m ((c : Thread nD τ).loc main_arg3)

/-- The convolution's branch. -/
abbrev Yc : (⟨3, ![2, 2048, 1024]⟩ : Shape).Idx → EReal := m ((c : Thread nD τ).loc main_arg4)

/-- The blocks of the point of a half of the columns and a tile of tokens. -/
structure At (t : Fin grid0.N) (h : Fin 2) (r : Fin 4) : Prop where
  pos : t.val = 4 * h.val + r.val
  b0 : cc0_transform_0 (grid0.coords t) = ![r.val, h.val]
  b1 : cc0_transform_1 (grid0.coords t) = ![r.val, 13 + h.val]
  b2 : cc0_transform_2 (grid0.coords t) = ![r.val, 15 + h.val]
  b3 : cc0_transform_3 (grid0.coords t) = ![0, h.val]
  b4 : cc0_transform_4 (grid0.coords t) = ![0, 2 + h.val]
  b5 : cc0_transform_5 (grid0.coords t) = ![r.val, h.val]
  b6 : cc0_transform_6 (grid0.coords t) = ![r.val, h.val]
  b7 : cc0_transform_7 (grid0.coords t) = ![r.val, h.val]
  b8 : cc0_transform_8 (grid0.coords t) = ![r.val, h.val]
  b9 : cc0_transform_9 (grid0.coords t) = ![r.val, h.val]
  b10 : cc0_transform_10 (grid0.coords t) = ![r.val, h.val]
  b11 : cc0_transform_11 (grid0.coords t) = ![0, h.val]
  b12 : cc0_transform_12 (grid0.coords t) = ![0, h.val]

theorem point (h : Fin 2) (r : Fin 4) : ∃ t : Fin grid0.N, At t h r := by
  have all : ∀ (h : Fin 2) (r : Fin 4), ∃ t : Fin grid0.N, t.val = 4 * h.val + r.val
      ∧ cc0_transform_0 (grid0.coords t) = ![r.val, h.val] ∧ cc0_transform_1 (grid0.coords t) = ![r.val, 13 + h.val]
      ∧ cc0_transform_2 (grid0.coords t) = ![r.val, 15 + h.val] ∧ cc0_transform_3 (grid0.coords t) = ![0, h.val]
      ∧ cc0_transform_4 (grid0.coords t) = ![0, 2 + h.val] ∧ cc0_transform_5 (grid0.coords t) = ![r.val, h.val]
      ∧ cc0_transform_6 (grid0.coords t) = ![r.val, h.val] ∧ cc0_transform_7 (grid0.coords t) = ![r.val, h.val]
      ∧ cc0_transform_8 (grid0.coords t) = ![r.val, h.val] ∧ cc0_transform_9 (grid0.coords t) = ![r.val, h.val]
      ∧ cc0_transform_10 (grid0.coords t) = ![r.val, h.val] ∧ cc0_transform_11 (grid0.coords t) = ![0, h.val]
      ∧ cc0_transform_12 (grid0.coords t) = ![0, h.val] := by
    decide +kernel
  obtain ⟨t, p, b0, b1, b2, b3, b4, b5, b6, b7, b8, b9, b10, b11, b12⟩ := all h r
  exact ⟨t, p, b0, b1, b2, b3, b4, b5, b6, b7, b8, b9, b10, b11, b12⟩

theorem read0 (t : Fin cfg0.N) (h : Fin 2) (r : Fin 4) (e : cc0_transform_0 (grid0.coords t) = ![r.val, h.val]) (i : Fin 1024) (k : Fin 512) :
    iblk m c 0 t (ix2 i k) = V m c main_v1 (ix2 (at4 r i) (half h k)) := by
  refine congrArg (V m c main_v1) (funext fun a => ?_)
  have e := congrFun e a
  match a with
  | ⟨0, _⟩ => exact Fin.ext (show cc0_transform_0 (grid0.coords t) 0 * 1024 + 1 * i.val = r.val * 1024 + i.val from by rw [show cc0_transform_0 (grid0.coords t) 0 = r.val from e]; omega)
  | ⟨1, _⟩ => exact Fin.ext (show cc0_transform_0 (grid0.coords t) 1 * 512 + 1 * k.val = h.val * 512 + k.val from by rw [show cc0_transform_0 (grid0.coords t) 1 = h.val from e]; omega)

theorem read1 (t : Fin cfg0.N) (h : Fin 2) (r : Fin 4) (e : cc0_transform_1 (grid0.coords t) = ![r.val, 13 + h.val]) (i : Fin 1024) (k : Fin 512) :
    iblk m c 1 t (ix2 i k) = V m c main_v7 (ix2 (at4 r i) (lane (lo (half h k)))) := by
  refine congrArg (V m c main_v7) (funext fun a => ?_)
  have e := congrFun e a
  match a with
  | ⟨0, _⟩ => exact Fin.ext (show cc0_transform_1 (grid0.coords t) 0 * 1024 + 1 * i.val = r.val * 1024 + i.val from by rw [show cc0_transform_1 (grid0.coords t) 0 = r.val from e]; omega)
  | ⟨1, _⟩ => exact Fin.ext (show cc0_transform_1 (grid0.coords t) 1 * 512 + 1 * k.val = 6656 + (h.val * 512 + k.val) from by rw [show cc0_transform_1 (grid0.coords t) 1 = 13 + h.val from e]; omega)

theorem read2 (t : Fin cfg0.N) (h : Fin 2) (r : Fin 4) (e : cc0_transform_2 (grid0.coords t) = ![r.val, 15 + h.val]) (i : Fin 1024) (k : Fin 512) :
    iblk m c 2 t (ix2 i k) = V m c main_v7 (ix2 (at4 r i) (lane (hi (half h k)))) := by
  refine congrArg (V m c main_v7) (funext fun a => ?_)
  have e := congrFun e a
  match a with
  | ⟨0, _⟩ => exact Fin.ext (show cc0_transform_2 (grid0.coords t) 0 * 1024 + 1 * i.val = r.val * 1024 + i.val from by rw [show cc0_transform_2 (grid0.coords t) 0 = r.val from e]; omega)
  | ⟨1, _⟩ => exact Fin.ext (show cc0_transform_2 (grid0.coords t) 1 * 512 + 1 * k.val = 6656 + (1024 + (h.val * 512 + k.val)) from by rw [show cc0_transform_2 (grid0.coords t) 1 = 15 + h.val from e]; omega)

theorem read5 (t : Fin cfg0.N) (h : Fin 2) (r : Fin 4) (e : cc0_transform_5 (grid0.coords t) = ![r.val, h.val]) (i : Fin 1024) (k : Fin 512) :
    iblk m c 5 t (ix2 i k) = V m c main_v3 (ix2 (at4 r i) (half h k)) := by
  refine congrArg (V m c main_v3) (funext fun a => ?_)
  have e := congrFun e a
  match a with
  | ⟨0, _⟩ => exact Fin.ext (show cc0_transform_5 (grid0.coords t) 0 * 1024 + 1 * i.val = r.val * 1024 + i.val from by rw [show cc0_transform_5 (grid0.coords t) 0 = r.val from e]; omega)
  | ⟨1, _⟩ => exact Fin.ext (show cc0_transform_5 (grid0.coords t) 1 * 512 + 1 * k.val = h.val * 512 + k.val from by rw [show cc0_transform_5 (grid0.coords t) 1 = h.val from e]; omega)

theorem read6 (t : Fin cfg0.N) (h : Fin 2) (r : Fin 4) (e : cc0_transform_6 (grid0.coords t) = ![r.val, h.val]) (i : Fin 1024) (k : Fin 512) :
    iblk m c 6 t (ix2 i k) = V m c main_v5 (ix2 (at4 r i) (half h k)) := by
  refine congrArg (V m c main_v5) (funext fun a => ?_)
  have e := congrFun e a
  match a with
  | ⟨0, _⟩ => exact Fin.ext (show cc0_transform_6 (grid0.coords t) 0 * 1024 + 1 * i.val = r.val * 1024 + i.val from by rw [show cc0_transform_6 (grid0.coords t) 0 = r.val from e]; omega)
  | ⟨1, _⟩ => exact Fin.ext (show cc0_transform_6 (grid0.coords t) 1 * 512 + 1 * k.val = h.val * 512 + k.val from by rw [show cc0_transform_6 (grid0.coords t) 1 = h.val from e]; omega)

theorem read3 (t : Fin cfg0.N) (h : Fin 2) (e : cc0_transform_3 (grid0.coords t) = ![0, h.val]) (k : Fin 512) :
    iblk m c 3 t (ix2 0 k) = V m c main_v8 (ix2 0 (lo (half h k))) := by
  refine congrArg (V m c main_v8) (funext fun a => ?_)
  have e := congrFun e a
  match a with
  | ⟨0, _⟩ => exact Fin.ext (show cc0_transform_3 (grid0.coords t) 0 * 1 + 1 * 0 = 0 from by rw [show cc0_transform_3 (grid0.coords t) 0 = 0 from e])
  | ⟨1, _⟩ => exact Fin.ext (show cc0_transform_3 (grid0.coords t) 1 * 512 + 1 * k.val = h.val * 512 + k.val from by rw [show cc0_transform_3 (grid0.coords t) 1 = h.val from e]; omega)

theorem read4 (t : Fin cfg0.N) (h : Fin 2) (e : cc0_transform_4 (grid0.coords t) = ![0, 2 + h.val]) (k : Fin 512) :
    iblk m c 4 t (ix2 0 k) = V m c main_v8 (ix2 0 (hi (half h k))) := by
  refine congrArg (V m c main_v8) (funext fun a => ?_)
  have e := congrFun e a
  match a with
  | ⟨0, _⟩ => exact Fin.ext (show cc0_transform_4 (grid0.coords t) 0 * 1 + 1 * 0 = 0 from by rw [show cc0_transform_4 (grid0.coords t) 0 = 0 from e])
  | ⟨1, _⟩ => exact Fin.ext (show cc0_transform_4 (grid0.coords t) 1 * 512 + 1 * k.val = 1024 + (h.val * 512 + k.val) from by rw [show cc0_transform_4 (grid0.coords t) 1 = 2 + h.val from e]; omega)

theorem read7 (t : Fin cfg0.N) (h : Fin 2) (r : Fin 4) (e : cc0_transform_7 (grid0.coords t) = ![r.val, h.val])
    (A : (⟨2, ![4096, 1024]⟩ : Shape).Idx → EReal) (i : Fin 1024) (k : Fin 512) :
    ((cfg0.win 7).blk t).view.read (Elt Ideal) A (ix2 i k) = A (ix2 (at4 r i) (half h k)) := by
  refine congrArg A (funext fun a => ?_)
  have e := congrFun e a
  match a with
  | ⟨0, _⟩ => exact Fin.ext (show cc0_transform_7 (grid0.coords t) 0 * 1024 + 1 * i.val = r.val * 1024 + i.val from by rw [show cc0_transform_7 (grid0.coords t) 0 = r.val from e]; omega)
  | ⟨1, _⟩ => exact Fin.ext (show cc0_transform_7 (grid0.coords t) 1 * 512 + 1 * k.val = h.val * 512 + k.val from by rw [show cc0_transform_7 (grid0.coords t) 1 = h.val from e]; omega)

theorem read8 (t : Fin cfg0.N) (h : Fin 2) (r : Fin 4) (e : cc0_transform_8 (grid0.coords t) = ![r.val, h.val])
    (A : (⟨2, ![4096, 1024]⟩ : Shape).Idx → EReal) (i : Fin 1024) (k : Fin 512) :
    ((cfg0.win 8).blk t).view.read (Elt Ideal) A (ix2 i k) = A (ix2 (at4 r i) (half h k)) := by
  refine congrArg A (funext fun a => ?_)
  have e := congrFun e a
  match a with
  | ⟨0, _⟩ => exact Fin.ext (show cc0_transform_8 (grid0.coords t) 0 * 1024 + 1 * i.val = r.val * 1024 + i.val from by rw [show cc0_transform_8 (grid0.coords t) 0 = r.val from e]; omega)
  | ⟨1, _⟩ => exact Fin.ext (show cc0_transform_8 (grid0.coords t) 1 * 512 + 1 * k.val = h.val * 512 + k.val from by rw [show cc0_transform_8 (grid0.coords t) 1 = h.val from e]; omega)

theorem read9 (t : Fin cfg0.N) (h : Fin 2) (r : Fin 4) (e : cc0_transform_9 (grid0.coords t) = ![r.val, h.val])
    (A : (⟨2, ![4096, 1024]⟩ : Shape).Idx → EReal) (i : Fin 1024) (k : Fin 512) :
    ((cfg0.win 9).blk t).view.read (Elt Ideal) A (ix2 i k) = A (ix2 (at4 r i) (half h k)) := by
  refine congrArg A (funext fun a => ?_)
  have e := congrFun e a
  match a with
  | ⟨0, _⟩ => exact Fin.ext (show cc0_transform_9 (grid0.coords t) 0 * 1024 + 1 * i.val = r.val * 1024 + i.val from by rw [show cc0_transform_9 (grid0.coords t) 0 = r.val from e]; omega)
  | ⟨1, _⟩ => exact Fin.ext (show cc0_transform_9 (grid0.coords t) 1 * 512 + 1 * k.val = h.val * 512 + k.val from by rw [show cc0_transform_9 (grid0.coords t) 1 = h.val from e]; omega)

theorem read10 (t : Fin cfg0.N) (h : Fin 2) (r : Fin 4) (e : cc0_transform_10 (grid0.coords t) = ![r.val, h.val])
    (A : (⟨2, ![4096, 1024]⟩ : Shape).Idx → EReal) (i : Fin 1024) (k : Fin 512) :
    ((cfg0.win 10).blk t).view.read (Elt Ideal) A (ix2 i k) = A (ix2 (at4 r i) (half h k)) := by
  refine congrArg A (funext fun a => ?_)
  have e := congrFun e a
  match a with
  | ⟨0, _⟩ => exact Fin.ext (show cc0_transform_10 (grid0.coords t) 0 * 1024 + 1 * i.val = r.val * 1024 + i.val from by rw [show cc0_transform_10 (grid0.coords t) 0 = r.val from e]; omega)
  | ⟨1, _⟩ => exact Fin.ext (show cc0_transform_10 (grid0.coords t) 1 * 512 + 1 * k.val = h.val * 512 + k.val from by rw [show cc0_transform_10 (grid0.coords t) 1 = h.val from e]; omega)

theorem read11 (t : Fin cfg0.N) (h : Fin 2) (e : cc0_transform_11 (grid0.coords t) = ![0, h.val])
    (A : (⟨2, ![1, 1024]⟩ : Shape).Idx → EReal) (k : Fin 512) :
    ((cfg0.win 11).blk t).view.read (Elt Ideal) A (ix2 0 k) = A (ix2 0 (half h k)) := by
  refine congrArg A (funext fun a => ?_)
  have e := congrFun e a
  match a with
  | ⟨0, _⟩ => exact Fin.ext (show cc0_transform_11 (grid0.coords t) 0 * 1 + 1 * 0 = 0 from by rw [show cc0_transform_11 (grid0.coords t) 0 = 0 from e])
  | ⟨1, _⟩ => exact Fin.ext (show cc0_transform_11 (grid0.coords t) 1 * 512 + 1 * k.val = h.val * 512 + k.val from by rw [show cc0_transform_11 (grid0.coords t) 1 = h.val from e]; omega)

/-- The two points that write this result write apart. -/
theorem apart11 : ∀ t t' : Fin cfg0.N, (cfg0.win 11).flush t = true → (cfg0.win 11).flush t' = true → t ≠ t' →
    Disjoint ((cfg0.win 11).blk t).view.set ((cfg0.win 11).blk t').view.set := by
  have inj : ∀ t t' : Fin grid0.N, t.val % 4 = 3 → t'.val % 4 = 3 → win0_11.index t = win0_11.index t' → t = t' := by decide +kernel
  exact fun t t' f f' hne => (cfg0.win 11).disjoint_blk fun h => hne (inj t t' ((flush0_11 t).mp f) ((flush0_11 t').mp f') h)

theorem read12 (t : Fin cfg0.N) (h : Fin 2) (e : cc0_transform_12 (grid0.coords t) = ![0, h.val])
    (A : (⟨2, ![1, 1024]⟩ : Shape).Idx → EReal) (k : Fin 512) :
    ((cfg0.win 12).blk t).view.read (Elt Ideal) A (ix2 0 k) = A (ix2 0 (half h k)) := by
  refine congrArg A (funext fun a => ?_)
  have e := congrFun e a
  match a with
  | ⟨0, _⟩ => exact Fin.ext (show cc0_transform_12 (grid0.coords t) 0 * 1 + 1 * 0 = 0 from by rw [show cc0_transform_12 (grid0.coords t) 0 = 0 from e])
  | ⟨1, _⟩ => exact Fin.ext (show cc0_transform_12 (grid0.coords t) 1 * 512 + 1 * k.val = h.val * 512 + k.val from by rw [show cc0_transform_12 (grid0.coords t) 1 = h.val from e]; omega)

/-- The two points that write this result write apart. -/
theorem apart12 : ∀ t t' : Fin cfg0.N, (cfg0.win 12).flush t = true → (cfg0.win 12).flush t' = true → t ≠ t' →
    Disjoint ((cfg0.win 12).blk t).view.set ((cfg0.win 12).blk t').view.set := by
  have inj : ∀ t t' : Fin grid0.N, t.val % 4 = 3 → t'.val % 4 = 3 → win0_12.index t = win0_12.index t' → t = t' := by decide +kernel
  exact fun t t' f f' hne => (cfg0.win 12).disjoint_blk fun h => hne (inj t t' ((flush0_12 t).mp f) ((flush0_12 t').mp f') h)

/-- The cotangent as the region reads it. -/
theorem cots (n : Fin 4096) (j : Fin 1024) : V m c main_v1 (ix2 n j) = D m c (ix3 (row n) (place n) j) := by
  refine (congrFun (?_ : V m c main_v1 = truncf (F := Ideal) .bf16 (shapeCast S4096x1024 (D m c) shapeCasts_S2x2048x1024_S4096x1024) bitsLt_bf16_f32) _).trans
    (flat (D m c) shapeCasts_S2x2048x1024_S4096x1024 n j)
  show StableHlo.after hostOps0 (fun b => m (c, b)) main_v1 = _
  after_results <;> rfl

/-- The attention's branch as the region reads it. -/
theorem attn (n : Fin 4096) (j : Fin 1024) : V m c main_v3 (ix2 n j) = Ya m c (ix3 (row n) (place n) j) := by
  refine (congrFun (?_ : V m c main_v3 = truncf (F := Ideal) .bf16 (shapeCast S4096x1024 (Ya m c) shapeCasts_S2x2048x1024_S4096x1024) bitsLt_bf16_f32) _).trans
    (flat (Ya m c) shapeCasts_S2x2048x1024_S4096x1024 n j)
  show StableHlo.after hostOps0 (fun b => m (c, b)) main_v3 = _
  after_results <;> rfl

/-- The convolution's branch as the region reads it. -/
theorem conv (n : Fin 4096) (j : Fin 1024) : V m c main_v5 (ix2 n j) = Yc m c (ix3 (row n) (place n) j) := by
  refine (congrFun (?_ : V m c main_v5 = truncf (F := Ideal) .bf16 (shapeCast S4096x1024 (Yc m c) shapeCasts_S2x2048x1024_S4096x1024) bitsLt_bf16_f32) _).trans
    (flat (Yc m c) shapeCasts_S2x2048x1024_S4096x1024 n j)
  show StableHlo.after hostOps0 (fun b => m (c, b)) main_v5 = _
  after_results <;> rfl

/-- The projection as the region reads it. -/
theorem projs (n : Fin 4096) (j : Fin 8704) : V m c main_v7 (ix2 n j) = P m c (ix3 (row n) (place n) j) := by
  refine (congrFun (?_ : V m c main_v7 = truncf (F := Ideal) .bf16 (shapeCast S4096x8704 (P m c) shapeCasts_S2x2048x8704_S4096x8704) bitsLt_bf16_f32) _).trans
    (flat8704 (P m c) shapeCasts_S2x2048x8704_S4096x8704 n j)
  show StableHlo.after hostOps0 (fun b => m (c, b)) main_v7 = _
  after_results <;> rfl

/-- The bias as the region reads it. -/
theorem biases (j : Fin 2048) : V m c main_v8 (ix2 0 j) = B m c (ix1 j) := by
  rw [show V m c main_v8 = shapeCast S1x2048 (B m c) shapeCasts_S2048_S1x2048 from by
    show StableHlo.after hostOps0 (fun b => m (c, b)) main_v8 = _
    after_results <;> rfl]
  simp only [pointwise]

theorem pay9_apply (x : Vec Ideal S1024x512 .bf16) (y : S1024x512.Idx) : k0_pay9 x y = x y := by
  unfold k0_pay9
  simp only [shapeCast_self, pointwise]

theorem pay10_apply (x : Vec Ideal S1024x512 .bf16) (b : Vec Ideal S1x512 .f32) (i : Fin 1024) (k : Fin 512) :
    k0_pay10 x b (ix2 i k) = sg (x (ix2 i k) + b (ix2 0 k)) := by
  unfold k0_pay10
  simp only [shapeCast_self, pointwise]
  rw [zero_sub]
  rfl

theorem pay11_apply (x : Vec Ideal S1024x512 .bf16) (b : Vec Ideal S1x512 .f32) (i : Fin 1024) (k : Fin 512) :
    k0_pay11 x b (ix2 i k) = sg (x (ix2 i k) + b (ix2 0 k)) := by
  unfold k0_pay11
  simp only [shapeCast_self, pointwise]
  rw [zero_sub]
  rfl

theorem pay1_apply (u s : Vec Ideal S1024x512 .f32) (y : Vec Ideal S1024x512 .bf16) (z : S1024x512.Idx) :
    k0_pay1 u s y z = u z * y z * s z * (1 - s z) := by
  unfold k0_pay1
  simp only [shapeCast_self, pointwise]

theorem pay2_apply (u s : Vec Ideal S1024x512 .f32) (y : Vec Ideal S1024x512 .bf16) (z : S1024x512.Idx) :
    k0_pay2 u s y z = u z * y z * s z * (1 - s z) := by
  unfold k0_pay2
  simp only [shapeCast_self, pointwise]

theorem pay5_apply (u s : Vec Ideal S1024x512 .f32) (y : Vec Ideal S1024x512 .bf16) (k : Fin 512) :
    k0_pay5 u s y (ix2 0 k) = ∑ i, k0_pay1 u s y (ix2 i k) := by
  unfold k0_pay5
  simp only [pointwise]

theorem pay6_apply (u s : Vec Ideal S1024x512 .f32) (y : Vec Ideal S1024x512 .bf16) (k : Fin 512) :
    k0_pay6 u s y (ix2 0 k) = ∑ i, k0_pay2 u s y (ix2 i k) := by
  unfold k0_pay6
  simp only [pointwise]

/-- A gate of a point, entry by entry. -/
theorem gateA (t : Fin cfg0.N) (h : Fin 2) (r : Fin 4) (e : At t h r) (i : Fin 1024) (k : Fin 512) :
    k0_pay10 (iblk m c 1 t) (iblk m c 3 t) (ix2 i k) = gate (P m c) (B m c) (row (at4 r i)) (place (at4 r i)) (lo (half h k)) :=
  (pay10_apply _ _ i k).trans (congrArg₂ (fun u v => sg (u + v)) ((read1 m c t h r e.b1 i k).trans (projs m c _ _)) ((read3 m c t h e.b3 k).trans (biases m c _)))

theorem gateC (t : Fin cfg0.N) (h : Fin 2) (r : Fin 4) (e : At t h r) (i : Fin 1024) (k : Fin 512) :
    k0_pay11 (iblk m c 2 t) (iblk m c 4 t) (ix2 i k) = gate (P m c) (B m c) (row (at4 r i)) (place (at4 r i)) (hi (half h k)) :=
  (pay11_apply _ _ i k).trans (congrArg₂ (fun u v => sg (u + v)) ((read2 m c t h r e.b2 i k).trans (projs m c _ _)) ((read4 m c t h e.b4 k).trans (biases m c _)))

/-- The cotangent of a point. -/
theorem cot (t : Fin cfg0.N) (h : Fin 2) (r : Fin 4) (e : At t h r) (i : Fin 1024) (k : Fin 512) :
    k0_pay9 (iblk m c 0 t) (ix2 i k) = D m c (ix3 (row (at4 r i)) (place (at4 r i)) (half h k)) :=
  (pay9_apply _ _).trans ((read0 m c t h r e.b0 i k).trans (cots m c _ _))

section Entries

variable (g : (⟨3, ![2, 2048, 1024]⟩ : Shape).Idx → EReal) (p : (⟨3, ![2, 2048, 8704]⟩ : Shape).Idx → EReal) (b : (⟨1, ![2048]⟩ : Shape).Idx → EReal)
  (y : (⟨3, ![2, 2048, 1024]⟩ : Shape).Idx → EReal) (d : Fin 2) (x : Fin 2048) (j : Fin 1024) (l : Fin 2048)

/-- A branch's cotangent, with the gate of column `l`. -/
abbrev dy : EReal := g (ix3 d x j) * gate p b d x l

/-- A logit's. -/
abbrev dg : EReal := g (ix3 d x j) * y (ix3 d x j) * gate p b d x l * (1 - gate p b d x l)

end Entries

theorem tileA (t : Fin cfg0.N) (h : Fin 2) (r : Fin 4) (e : At t h r) (i : Fin 1024) (k : Fin 512) :
    k0_pay1 (k0_pay9 (iblk m c 0 t)) (k0_pay10 (iblk m c 1 t) (iblk m c 3 t)) (iblk m c 5 t) (ix2 i k)
      = dg (D m c) (P m c) (B m c) (Ya m c) (row (at4 r i)) (place (at4 r i)) (half h k) (lo (half h k)) := by
  rw [pay1_apply, cot m c t h r e, gateA m c t h r e, (read5 m c t h r e.b5 i k).trans (attn m c _ _)]

theorem tileC (t : Fin cfg0.N) (h : Fin 2) (r : Fin 4) (e : At t h r) (i : Fin 1024) (k : Fin 512) :
    k0_pay2 (k0_pay9 (iblk m c 0 t)) (k0_pay11 (iblk m c 2 t) (iblk m c 4 t)) (iblk m c 6 t) (ix2 i k)
      = dg (D m c) (P m c) (B m c) (Yc m c) (row (at4 r i)) (place (at4 r i)) (half h k) (hi (half h k)) := by
  rw [pay2_apply, cot m c t h r e, gateC m c t h r e, (read6 m c t h r e.b6 i k).trans (conv m c _ _)]

/-- What a point leaves for the attention's branch. -/
theorem left7 (t : Fin cfg0.N) : (outsAt0 m c t.val t.isLt).1 = k0_pay12 (iblk m c 0 t) (iblk m c 1 t) (iblk m c 3 t) := by
  by_cases h0 : t.val % 4 = 0
  · rw [outsAt0_A m c t h0 (by omega)]
    dsimp only
    rw [outA7]
  · rw [outsAt0_B m c t h0 (by omega)]
    dsimp only
    rw [outB7]

theorem kernel7 (h : Fin 2) (r : Fin 4) (i : Fin 1024) (k : Fin 512) :
    (dats m 0 c).arrAt 7 cfg0.N (ix2 (at4 r i) (half h k)) = dy (D m c) (P m c) (B m c) (row (at4 r i)) (place (at4 r i)) (half h k) (lo (half h k)) := by
  obtain ⟨t, e⟩ := point h r
  have f := congrFun (Value.blocks7 m c t (flush0_7 t)) (ix2 i k)
  rw [Value.flushed7, left7] at f
  refine (read7 t h r e.b7 _ i k).symm.trans (f.trans ?_)
  show k0_pay12 (iblk m c 0 t) (iblk m c 1 t) (iblk m c 3 t) (ix2 i k) = _
  unfold k0_pay12
  exact congrArg₂ (· * ·) (cot m c t h r e i k) (gateA m c t h r e i k)

/-- What a point leaves for the convolution's branch. -/
theorem left8 (t : Fin cfg0.N) : (outsAt0 m c t.val t.isLt).2.1 = k0_pay13 (iblk m c 0 t) (iblk m c 2 t) (iblk m c 4 t) := by
  by_cases h0 : t.val % 4 = 0
  · rw [outsAt0_A m c t h0 (by omega)]
    dsimp only
    rw [outA8]
  · rw [outsAt0_B m c t h0 (by omega)]
    dsimp only
    rw [outB8]

theorem kernel8 (h : Fin 2) (r : Fin 4) (i : Fin 1024) (k : Fin 512) :
    (dats m 0 c).arrAt 8 cfg0.N (ix2 (at4 r i) (half h k)) = dy (D m c) (P m c) (B m c) (row (at4 r i)) (place (at4 r i)) (half h k) (hi (half h k)) := by
  obtain ⟨t, e⟩ := point h r
  have f := congrFun (Value.blocks8 m c t (flush0_8 t)) (ix2 i k)
  rw [Value.flushed8, left8] at f
  refine (read8 t h r e.b8 _ i k).symm.trans (f.trans ?_)
  show k0_pay13 (iblk m c 0 t) (iblk m c 2 t) (iblk m c 4 t) (ix2 i k) = _
  unfold k0_pay13
  exact congrArg₂ (· * ·) (cot m c t h r e i k) (gateC m c t h r e i k)

/-- What a point leaves for the attention's logits. -/
theorem left9 (t : Fin cfg0.N) : (outsAt0 m c t.val t.isLt).2.2.1 = k0_pay3 (k0_pay9 (iblk m c 0 t)) (k0_pay10 (iblk m c 1 t) (iblk m c 3 t)) (iblk m c 5 t) := by
  by_cases h0 : t.val % 4 = 0
  · rw [outsAt0_A m c t h0 (by omega)]
    dsimp only
    rw [outA9]
  · rw [outsAt0_B m c t h0 (by omega)]
    dsimp only
    rw [outB9]

theorem kernel9 (h : Fin 2) (r : Fin 4) (i : Fin 1024) (k : Fin 512) :
    (dats m 0 c).arrAt 9 cfg0.N (ix2 (at4 r i) (half h k)) = dg (D m c) (P m c) (B m c) (Ya m c) (row (at4 r i)) (place (at4 r i)) (half h k) (lo (half h k)) := by
  obtain ⟨t, e⟩ := point h r
  have f := congrFun (Value.blocks9 m c t (flush0_9 t)) (ix2 i k)
  rw [Value.flushed9, left9] at f
  refine (read9 t h r e.b9 _ i k).symm.trans (f.trans ?_)
  show k0_pay3 (k0_pay9 (iblk m c 0 t)) (k0_pay10 (iblk m c 1 t) (iblk m c 3 t)) (iblk m c 5 t) (ix2 i k) = _
  exact tileA m c t h r e i k

/-- What a point leaves for the convolution's logits. -/
theorem left10 (t : Fin cfg0.N) : (outsAt0 m c t.val t.isLt).2.2.2.1 = k0_pay4 (k0_pay9 (iblk m c 0 t)) (k0_pay11 (iblk m c 2 t) (iblk m c 4 t)) (iblk m c 6 t) := by
  by_cases h0 : t.val % 4 = 0
  · rw [outsAt0_A m c t h0 (by omega)]
    dsimp only
    rw [outA10]
  · rw [outsAt0_B m c t h0 (by omega)]
    dsimp only
    rw [outB10]

theorem kernel10 (h : Fin 2) (r : Fin 4) (i : Fin 1024) (k : Fin 512) :
    (dats m 0 c).arrAt 10 cfg0.N (ix2 (at4 r i) (half h k)) = dg (D m c) (P m c) (B m c) (Yc m c) (row (at4 r i)) (place (at4 r i)) (half h k) (hi (half h k)) := by
  obtain ⟨t, e⟩ := point h r
  have f := congrFun (Value.blocks10 m c t (flush0_10 t)) (ix2 i k)
  rw [Value.flushed10, left10] at f
  refine (read10 t h r e.b10 _ i k).symm.trans (f.trans ?_)
  show k0_pay4 (k0_pay9 (iblk m c 0 t)) (k0_pay11 (iblk m c 2 t) (iblk m c 4 t)) (iblk m c 6 t) (ix2 i k) = _
  exact tileC m c t h r e i k

theorem first11 (t : Fin cfg0.N) (h0 : t.val % 4 = 0) : (outsAt0 m c t.val t.isLt).2.2.2.2.1 = k0_pay5 (k0_pay9 (iblk m c 0 t)) (k0_pay10 (iblk m c 1 t) (iblk m c 3 t)) (iblk m c 5 t) := by
  rw [outsAt0_A m c t h0 (by omega)]
  dsimp only
  rw [outA11]

theorem next11 (u t : Fin cfg0.N) (h : t.val = u.val + 1) (h0 : ¬t.val % 4 = 0) (y : S1x512.Idx) :
    (outsAt0 m c t.val t.isLt).2.2.2.2.1 y = (outsAt0 m c u.val u.isLt).2.2.2.2.1 y + k0_pay5 (k0_pay9 (iblk m c 0 t)) (k0_pay10 (iblk m c 1 t) (iblk m c 3 t)) (iblk m c 5 t) y := by
  have back : outsAt0 m c (t.val - 1) (Nat.lt_of_le_of_lt (Nat.sub_le _ _) t.isLt) = outsAt0 m c u.val u.isLt := by congr 1; omega
  rw [outsAt0_B m c t h0 (by omega), back]
  dsimp only
  rw [outB11]
  unfold k0_pay7
  rw [shapeCast_self]
  rfl

/-- A tile's part of the first half of the bias. -/
theorem part11 (t : Fin cfg0.N) (h : Fin 2) (r : Fin 4) (e : At t h r) (k : Fin 512) :
    k0_pay5 (k0_pay9 (iblk m c 0 t)) (k0_pay10 (iblk m c 1 t) (iblk m c 3 t)) (iblk m c 5 t) (ix2 0 k) = ∑ i, dg (D m c) (P m c) (B m c) (Ya m c) (row (at4 r i)) (place (at4 r i)) (half h k) (lo (half h k)) :=
  (pay5_apply _ _ _ k).trans (Finset.sum_congr rfl fun i _ => tileA m c t h r e i k)

theorem kernel11 (h : Fin 2) (k : Fin 512) :
    (dats m 0 c).arrAt 11 cfg0.N (ix2 0 (half h k)) = ∑ d, ∑ x, dg (D m c) (P m c) (B m c) (Ya m c) d x (half h k) (lo (half h k)) := by
  obtain ⟨t0, e0⟩ := point h 0
  obtain ⟨t1, e1⟩ := point h 1
  obtain ⟨t2, e2⟩ := point h 2
  obtain ⟨t3, e3⟩ := point h 3
  have p0 : t0.val = 4 * h.val + 0 := e0.pos
  have p1 : t1.val = 4 * h.val + 1 := e1.pos
  have p2 : t2.val = 4 * h.val + 2 := e2.pos
  have p3 : t3.val = 4 * h.val + 3 := e3.pos
  have f := congrFun ((dats m 0 c).read_blk_arrAt_eq_flushed 11 apart11 cfg0.N t3 t3.isLt ((flush0_11 t3).mpr (by omega))) (ix2 0 k)
  rw [Value.flushed11] at f
  refine (read11 t3 h e3.b11 _ k).symm.trans (f.trans ?_)
  show (outsAt0 m c t3.val t3.isLt).2.2.2.2.1 (ix2 0 k) = _
  rw [next11 m c t2 t3 (by omega) (by omega), next11 m c t1 t2 (by omega) (by omega), next11 m c t0 t1 (by omega) (by omega), first11 m c t0 (by omega),
    part11 m c t0 h 0 e0, part11 m c t1 h 1 e1, part11 m c t2 h 2 e2, part11 m c t3 h 3 e3]
  exact Cert.Tiles.tiles_rows fun d x => dg (D m c) (P m c) (B m c) (Ya m c) d x (half h k) (lo (half h k))

theorem first12 (t : Fin cfg0.N) (h0 : t.val % 4 = 0) : (outsAt0 m c t.val t.isLt).2.2.2.2.2 = k0_pay6 (k0_pay9 (iblk m c 0 t)) (k0_pay11 (iblk m c 2 t) (iblk m c 4 t)) (iblk m c 6 t) := by
  rw [outsAt0_A m c t h0 (by omega)]
  dsimp only
  rw [outA12]

theorem next12 (u t : Fin cfg0.N) (h : t.val = u.val + 1) (h0 : ¬t.val % 4 = 0) (y : S1x512.Idx) :
    (outsAt0 m c t.val t.isLt).2.2.2.2.2 y = (outsAt0 m c u.val u.isLt).2.2.2.2.2 y + k0_pay6 (k0_pay9 (iblk m c 0 t)) (k0_pay11 (iblk m c 2 t) (iblk m c 4 t)) (iblk m c 6 t) y := by
  have back : outsAt0 m c (t.val - 1) (Nat.lt_of_le_of_lt (Nat.sub_le _ _) t.isLt) = outsAt0 m c u.val u.isLt := by congr 1; omega
  rw [outsAt0_B m c t h0 (by omega), back]
  dsimp only
  rw [outB12]
  unfold k0_pay8
  rw [shapeCast_self]
  rfl

/-- A tile's part of the second half of the bias. -/
theorem part12 (t : Fin cfg0.N) (h : Fin 2) (r : Fin 4) (e : At t h r) (k : Fin 512) :
    k0_pay6 (k0_pay9 (iblk m c 0 t)) (k0_pay11 (iblk m c 2 t) (iblk m c 4 t)) (iblk m c 6 t) (ix2 0 k) = ∑ i, dg (D m c) (P m c) (B m c) (Yc m c) (row (at4 r i)) (place (at4 r i)) (half h k) (hi (half h k)) :=
  (pay6_apply _ _ _ k).trans (Finset.sum_congr rfl fun i _ => tileC m c t h r e i k)

theorem kernel12 (h : Fin 2) (k : Fin 512) :
    (dats m 0 c).arrAt 12 cfg0.N (ix2 0 (half h k)) = ∑ d, ∑ x, dg (D m c) (P m c) (B m c) (Yc m c) d x (half h k) (hi (half h k)) := by
  obtain ⟨t0, e0⟩ := point h 0
  obtain ⟨t1, e1⟩ := point h 1
  obtain ⟨t2, e2⟩ := point h 2
  obtain ⟨t3, e3⟩ := point h 3
  have p0 : t0.val = 4 * h.val + 0 := e0.pos
  have p1 : t1.val = 4 * h.val + 1 := e1.pos
  have p2 : t2.val = 4 * h.val + 2 := e2.pos
  have p3 : t3.val = 4 * h.val + 3 := e3.pos
  have f := congrFun ((dats m 0 c).read_blk_arrAt_eq_flushed 12 apart12 cfg0.N t3 t3.isLt ((flush0_12 t3).mpr (by omega))) (ix2 0 k)
  rw [Value.flushed12] at f
  refine (read12 t3 h e3.b12 _ k).symm.trans (f.trans ?_)
  show (outsAt0 m c t3.val t3.isLt).2.2.2.2.2 (ix2 0 k) = _
  rw [next12 m c t2 t3 (by omega) (by omega), next12 m c t1 t2 (by omega) (by omega), next12 m c t0 t1 (by omega) (by omega), first12 m c t0 (by omega),
    part12 m c t0 h 0 e0, part12 m c t1 h 1 e1, part12 m c t2 h 2 e2, part12 m c t3 h 3 e3]
  exact Cert.Tiles.tiles_rows fun d x => dg (D m c) (P m c) (B m c) (Yc m c) d x (half h k) (hi (half h k))

/-- The reference's gates. -/
def gates (p : FVec Ideal Cert.ReferenceMBIdeal.S2x2048x8704 .f32) (b : FVec Ideal Cert.ReferenceMBIdeal.S2048 .f32) : FVec Ideal Cert.ReferenceMBIdeal.S2x2048x2048 .f32 :=
  Host.divf (F := Ideal) (broadcastInDim Cert.ReferenceMBIdeal.S2x2048x2048 ![] Cert.ReferenceMBIdeal.Gen.bcast_S_S2x2048x2048 (constant (F := Ideal) Cert.ReferenceMBIdeal.S_ .f32 0x3F800000#32))
    (addf (F := Ideal) (broadcastInDim Cert.ReferenceMBIdeal.S2x2048x2048 ![] Cert.ReferenceMBIdeal.Gen.bcast_S_S2x2048x2048 (constant (F := Ideal) Cert.ReferenceMBIdeal.S_ .f32 0x3F800000#32))
      (Host.exp (F := Ideal) (Host.negf (F := Ideal) (addf (F := Ideal) (extractStridedSlice Cert.ReferenceMBIdeal.S2x2048x2048 ![0, 0, 6656] p Cert.ReferenceMBIdeal.Gen.slices_S2x2048x8704_S2x2048x2048_0_0_6656)
        (broadcastInDim Cert.ReferenceMBIdeal.S2x2048x2048 ![0, 1, 2] Cert.ReferenceMBIdeal.Gen.bcast_S1x1x2048_S2x2048x2048_0_1_2 (broadcastInDim Cert.ReferenceMBIdeal.S1x1x2048 ![2] Cert.ReferenceMBIdeal.Gen.bcast_S2048_S1x1x2048_2 b))))))

theorem gates_apply (p : FVec Ideal Cert.ReferenceMBIdeal.S2x2048x8704 .f32) (b : FVec Ideal Cert.ReferenceMBIdeal.S2048 .f32) (d : Fin 2) (y k : Fin 2048) : gates p b (ix3 d y k) = gate p b d y k :=
  Cert.Mix.gates_apply p b d y k

/-- The reference's cotangent of a logit, before it is cut in two. -/
def logits (g : FVec Ideal Cert.ReferenceMBIdeal.S2x2048x1024 .f32) (p : FVec Ideal Cert.ReferenceMBIdeal.S2x2048x8704 .f32) (b : FVec Ideal Cert.ReferenceMBIdeal.S2048 .f32) (ya yc : FVec Ideal Cert.ReferenceMBIdeal.S2x2048x1024 .f32) : FVec Ideal Cert.ReferenceMBIdeal.S2x2048x2048 .f32 :=
  mulf (F := Ideal) (concatenate Cert.ReferenceMBIdeal.S2x2048x2048 2 [⟨Cert.ReferenceMBIdeal.S2x2048x1024, mulf (F := Ideal) (shapeCast Cert.ReferenceMBIdeal.S2x2048x1024 g Cert.ReferenceMBIdeal.Gen.shapeCasts_S2x2048x1024_S2x2048x1024) ya⟩, ⟨Cert.ReferenceMBIdeal.S2x2048x1024, mulf (F := Ideal) (shapeCast Cert.ReferenceMBIdeal.S2x2048x1024 g Cert.ReferenceMBIdeal.Gen.shapeCasts_S2x2048x1024_S2x2048x1024) yc⟩] Cert.ReferenceMBIdeal.Gen.concatenates_S2x2048x1024_S2x2048x1024_S2x2048x2048_d2)
    (mulf (F := Ideal) (gates p b) (subf (F := Ideal) (broadcastInDim Cert.ReferenceMBIdeal.S2x2048x2048 ![] Cert.ReferenceMBIdeal.Gen.bcast_S_S2x2048x2048 (constant (F := Ideal) Cert.ReferenceMBIdeal.S_ .f32 0x3F800000#32)) (gates p b)))

/-- Two arrays put side by side, in the first half. -/
theorem side_lo (a b : FVec Ideal Cert.ReferenceMBIdeal.S2x2048x1024 .f32) (d : Fin 2) (x : Fin 2048) (j : Fin 1024) :
    concatenate Cert.ReferenceMBIdeal.S2x2048x2048 2 [⟨Cert.ReferenceMBIdeal.S2x2048x1024, a⟩, ⟨Cert.ReferenceMBIdeal.S2x2048x1024, b⟩] Cert.ReferenceMBIdeal.Gen.concatenates_S2x2048x1024_S2x2048x1024_S2x2048x2048_d2 (ix3 d x (lo j)) = a (ix3 d x j) := by
  simp only [pointwise]
  exact dif_pos (show j.val < 1024 from j.isLt)

/-- And in the second. -/
theorem side_hi (a b : FVec Ideal Cert.ReferenceMBIdeal.S2x2048x1024 .f32) (d : Fin 2) (x : Fin 2048) (j : Fin 1024) :
    concatenate Cert.ReferenceMBIdeal.S2x2048x2048 2 [⟨Cert.ReferenceMBIdeal.S2x2048x1024, a⟩, ⟨Cert.ReferenceMBIdeal.S2x2048x1024, b⟩] Cert.ReferenceMBIdeal.Gen.concatenates_S2x2048x1024_S2x2048x1024_S2x2048x2048_d2 (ix3 d x (hi j)) = b (ix3 d x j) := by
  simp only [pointwise]
  exact (dif_neg (show ¬1024 + j.val < 1024 by omega)).trans (congrArg (fun z => b (ix3 d x z)) (Fin.ext (show 1024 + j.val - 1024 = j.val by omega)))

/-- A cotangent of the logits, from its two factors. -/
theorem logit_of (z : FVec Ideal Cert.ReferenceMBIdeal.S2x2048x2048 .f32) (p : FVec Ideal Cert.ReferenceMBIdeal.S2x2048x8704 .f32) (b : FVec Ideal Cert.ReferenceMBIdeal.S2048 .f32) (d : Fin 2) (x l : Fin 2048) (u : EReal) (hu : z (ix3 d x l) = u) :
    mulf (F := Ideal) z (mulf (F := Ideal) (gates p b) (subf (F := Ideal) (broadcastInDim Cert.ReferenceMBIdeal.S2x2048x2048 ![] Cert.ReferenceMBIdeal.Gen.bcast_S_S2x2048x2048 (constant (F := Ideal) Cert.ReferenceMBIdeal.S_ .f32 0x3F800000#32)) (gates p b))) (ix3 d x l)
      = u * gate p b d x l * (1 - gate p b d x l) := by
  simp only [pointwise]
  rw [hu, gates_apply, mul_assoc]

theorem logits_lo (g : FVec Ideal Cert.ReferenceMBIdeal.S2x2048x1024 .f32) (p : FVec Ideal Cert.ReferenceMBIdeal.S2x2048x8704 .f32) (b : FVec Ideal Cert.ReferenceMBIdeal.S2048 .f32) (ya yc : FVec Ideal Cert.ReferenceMBIdeal.S2x2048x1024 .f32) (d : Fin 2) (x : Fin 2048) (j : Fin 1024) :
    logits g p b ya yc (ix3 d x (lo j)) = dg g p b ya d x j (lo j) := by
  unfold logits
  rw [shapeCast_self]
  exact logit_of _ p b d x (lo j) _ (side_lo _ _ d x j)

theorem logits_hi (g : FVec Ideal Cert.ReferenceMBIdeal.S2x2048x1024 .f32) (p : FVec Ideal Cert.ReferenceMBIdeal.S2x2048x8704 .f32) (b : FVec Ideal Cert.ReferenceMBIdeal.S2048 .f32) (ya yc : FVec Ideal Cert.ReferenceMBIdeal.S2x2048x1024 .f32) (d : Fin 2) (x : Fin 2048) (j : Fin 1024) :
    logits g p b ya yc (ix3 d x (hi j)) = dg g p b yc d x j (hi j) := by
  unfold logits
  rw [shapeCast_self]
  exact logit_of _ p b d x (hi j) _ (side_hi _ _ d x j)

/-- The first half of an array's columns. -/
def fst (z : FVec Ideal Cert.ReferenceMBIdeal.S2x2048x2048 .f32) : FVec Ideal Cert.ReferenceMBIdeal.S2x2048x1024 .f32 :=
  extractStridedSlice Cert.ReferenceMBIdeal.S2x2048x1024 ![0, 0, 0] z Cert.ReferenceMBIdeal.Gen.slices_S2x2048x2048_S2x2048x1024_0_0_0

/-- The second. -/
def snd (z : FVec Ideal Cert.ReferenceMBIdeal.S2x2048x2048 .f32) : FVec Ideal Cert.ReferenceMBIdeal.S2x2048x1024 .f32 :=
  extractStridedSlice Cert.ReferenceMBIdeal.S2x2048x1024 ![0, 0, 1024] z Cert.ReferenceMBIdeal.Gen.slices_S2x2048x2048_S2x2048x1024_0_0_1024

theorem fst_apply (z : FVec Ideal Cert.ReferenceMBIdeal.S2x2048x2048 .f32) (d : Fin 2) (x : Fin 2048) (j : Fin 1024) : fst z (ix3 d x j) = z (ix3 d x (lo j)) := by
  unfold fst
  simp only [pointwise]
  refine congrArg z (funext fun a => ?_)
  match a with
  | ⟨0, _⟩ => exact Fin.ext (show 0 + d.val = d.val by omega)
  | ⟨1, _⟩ => exact Fin.ext (show 0 + x.val = x.val by omega)
  | ⟨2, _⟩ => exact Fin.ext (show 0 + j.val = j.val by omega)

theorem snd_apply (z : FVec Ideal Cert.ReferenceMBIdeal.S2x2048x2048 .f32) (d : Fin 2) (x : Fin 2048) (j : Fin 1024) : snd z (ix3 d x j) = z (ix3 d x (hi j)) := by
  unfold snd
  simp only [pointwise]
  refine congrArg z (funext fun a => ?_)
  match a with
  | ⟨0, _⟩ => exact Fin.ext (show 0 + d.val = d.val by omega)
  | ⟨1, _⟩ => exact Fin.ext (show 0 + x.val = x.val by omega)
  | ⟨2, _⟩ => rfl

/-- A branch's cotangent, from the gates' half. -/
def branch (g z : FVec Ideal Cert.ReferenceMBIdeal.S2x2048x1024 .f32) : FVec Ideal Cert.ReferenceMBIdeal.S2x2048x1024 .f32 :=
  mulf (F := Ideal) z (shapeCast Cert.ReferenceMBIdeal.S2x2048x1024 g Cert.ReferenceMBIdeal.Gen.shapeCasts_S2x2048x1024_S2x2048x1024)

theorem branch_apply (g z : FVec Ideal Cert.ReferenceMBIdeal.S2x2048x1024 .f32) (y : Cert.ReferenceMBIdeal.S2x2048x1024.Idx) : branch g z y = g y * z y := by
  unfold branch
  rw [shapeCast_self]
  exact mul_comm _ _

/-- A result of the reference, row under row and narrowed. -/
def low (x : FVec Ideal Cert.ReferenceMBIdeal.S2x2048x1024 .f32) : FVec Ideal Cert.ReferenceMBIdeal.S4096x1024 .bf16 :=
  truncf (F := Ideal) .bf16 (shapeCast Cert.ReferenceMBIdeal.S4096x1024 x Cert.ReferenceMBIdeal.Gen.shapeCasts_S2x2048x1024_S4096x1024) Cert.ReferenceMBIdeal.Gen.bitsLt_bf16_f32

theorem low_apply (x : FVec Ideal Cert.ReferenceMBIdeal.S2x2048x1024 .f32) (n : Fin 4096) (j : Fin 1024) : low x (ix2 n j) = x (ix3 (row n) (place n) j) := flat x _ n j

/-- A sum over the two outer axes. -/
theorem outer {n0 n1 n2 : Nat} (h : (⟨3, ![n0, n1, n2]⟩ : Shape).ReducesTo [0, 1] ⟨1, ![n2]⟩) (v : (⟨3, ![n0, n1, n2]⟩ : Shape).Idx → EReal) (a : EReal) (l : Fin n2) :
    Ideal.hostReduceAdd h v a (ix1 l) = a + ∑ d, ∑ x, v (ix3 d x l) := by
  have drop : ∀ d x k, h.drop (ix3 d x k) = ix1 l ↔ k = l := fun d x k =>
    ⟨fun e => Fin.ext (congrArg Fin.val (congrFun e 0)), fun e => funext fun a => match a with | ⟨0, _⟩ => Fin.ext (congrArg Fin.val e)⟩
  refine congrArg (a + ·) ?_
  rw [Finset.sum_filter, sum_idx3]
  refine Finset.sum_congr rfl fun d _ => Finset.sum_congr rfl fun x _ => ?_
  rw [Finset.sum_eq_single l (fun k _ hk => if_neg fun e => hk ((drop d x k).mp e)) (fun e => absurd (Finset.mem_univ l) e)]
  exact if_pos ((drop d x l).mpr rfl)

/-- The bias's cotangent: a sum over both batch rows and all their tokens. -/
def bias (z : FVec Ideal Cert.ReferenceMBIdeal.S2x2048x2048 .f32) : FVec Ideal Cert.ReferenceMBIdeal.S1x2048 .f32 :=
  shapeCast Cert.ReferenceMBIdeal.S1x2048 (Host.reduceAdd (F := Ideal) (shapeCast Cert.ReferenceMBIdeal.S1x1x2048 (Host.reduceAdd (F := Ideal) z (constant (F := Ideal) Cert.ReferenceMBIdeal.S_ .f32 0x00000000#32) Cert.ReferenceMBIdeal.Gen.reducesTo_S2x2048x2048_S2048_d0_1 Cert.ReferenceMBIdeal.Gen.h_S_) Cert.ReferenceMBIdeal.Gen.shapeCasts_S2048_S1x1x2048)
    (constant (F := Ideal) Cert.ReferenceMBIdeal.S_ .f32 0x00000000#32) Cert.ReferenceMBIdeal.Gen.reducesTo_S1x1x2048_S2048_d0_1 Cert.ReferenceMBIdeal.Gen.h_S_) Cert.ReferenceMBIdeal.Gen.shapeCasts_S2048_S1x2048

theorem bias_apply (z : FVec Ideal Cert.ReferenceMBIdeal.S2x2048x2048 .f32) (l : Fin 2048) : bias z (ix2 0 l) = ∑ d, ∑ x, z (ix3 d x l) := by
  unfold bias
  simp only [pointwise]
  rw [outer, Fin.sum_univ_one, Fin.sum_univ_one, zero_add]
  simp only [pointwise]
  rw [outer, zero_add]

/-- The first half of the bias's. -/
def bfst (z : FVec Ideal Cert.ReferenceMBIdeal.S1x2048 .f32) : FVec Ideal Cert.ReferenceMBIdeal.S1x1024 .f32 :=
  extractStridedSlice Cert.ReferenceMBIdeal.S1x1024 ![0, 0] z Cert.ReferenceMBIdeal.Gen.slices_S1x2048_S1x1024_0_0

/-- The second half. -/
def bsnd (z : FVec Ideal Cert.ReferenceMBIdeal.S1x2048 .f32) : FVec Ideal Cert.ReferenceMBIdeal.S1x1024 .f32 :=
  extractStridedSlice Cert.ReferenceMBIdeal.S1x1024 ![0, 1024] z Cert.ReferenceMBIdeal.Gen.slices_S1x2048_S1x1024_0_1024

theorem bfst_apply (z : FVec Ideal Cert.ReferenceMBIdeal.S1x2048 .f32) (j : Fin 1024) : bfst z (ix2 0 j) = z (ix2 0 (lo j)) := by
  unfold bfst
  simp only [pointwise]
  refine congrArg z (funext fun a => ?_)
  match a with
  | ⟨0, _⟩ => rfl
  | ⟨1, _⟩ => exact Fin.ext (show 0 + j.val = j.val by omega)

theorem bsnd_apply (z : FVec Ideal Cert.ReferenceMBIdeal.S1x2048 .f32) (j : Fin 1024) : bsnd z (ix2 0 j) = z (ix2 0 (hi j)) := by
  unfold bsnd
  simp only [pointwise]
  refine congrArg z (funext fun a => ?_)
  match a with
  | ⟨0, _⟩ => rfl
  | ⟨1, _⟩ => rfl

/-- The kernel and the reference hold the same arrays. -/
theorem equal7 : low (branch (D m c) (fst (gates (P m c) (B m c)))) = (dats m 0 c).arrAt 7 cfg0.N := by
  funext y
  obtain ⟨n, j, rfl⟩ : ∃ n j, y = ix2 n j := ⟨y 0, y 1, eq_ix2 y⟩
  obtain ⟨r, i, rfl⟩ := eq_at4 n
  obtain ⟨h, k, rfl⟩ := eq_half j
  refine (low_apply _ _ _).trans ((branch_apply _ _ _).trans (Eq.trans ?_ (kernel7 m c h r i k).symm))
  rw [fst_apply, gates_apply]

theorem equal8 : low (branch (D m c) (snd (gates (P m c) (B m c)))) = (dats m 0 c).arrAt 8 cfg0.N := by
  funext y
  obtain ⟨n, j, rfl⟩ : ∃ n j, y = ix2 n j := ⟨y 0, y 1, eq_ix2 y⟩
  obtain ⟨r, i, rfl⟩ := eq_at4 n
  obtain ⟨h, k, rfl⟩ := eq_half j
  refine (low_apply _ _ _).trans ((branch_apply _ _ _).trans (Eq.trans ?_ (kernel8 m c h r i k).symm))
  rw [snd_apply, gates_apply]

theorem equal9 : low (fst (logits (D m c) (P m c) (B m c) (Ya m c) (Yc m c))) = (dats m 0 c).arrAt 9 cfg0.N := by
  funext y
  obtain ⟨n, j, rfl⟩ : ∃ n j, y = ix2 n j := ⟨y 0, y 1, eq_ix2 y⟩
  obtain ⟨r, i, rfl⟩ := eq_at4 n
  obtain ⟨h, k, rfl⟩ := eq_half j
  exact (low_apply _ _ _).trans ((fst_apply _ _ _ _).trans ((logits_lo _ _ _ _ _ _ _ _).trans (kernel9 m c h r i k).symm))

theorem equal10 : low (snd (logits (D m c) (P m c) (B m c) (Ya m c) (Yc m c))) = (dats m 0 c).arrAt 10 cfg0.N := by
  funext y
  obtain ⟨n, j, rfl⟩ : ∃ n j, y = ix2 n j := ⟨y 0, y 1, eq_ix2 y⟩
  obtain ⟨r, i, rfl⟩ := eq_at4 n
  obtain ⟨h, k, rfl⟩ := eq_half j
  exact (low_apply _ _ _).trans ((snd_apply _ _ _ _).trans ((logits_hi _ _ _ _ _ _ _ _).trans (kernel10 m c h r i k).symm))

theorem equal11 : bfst (bias (logits (D m c) (P m c) (B m c) (Ya m c) (Yc m c))) = (dats m 0 c).arrAt 11 cfg0.N := by
  funext y
  obtain ⟨b, j, rfl⟩ : ∃ b j, y = ix2 b j := ⟨y 0, y 1, eq_ix2 y⟩
  obtain rfl : b = 0 := Subsingleton.elim b 0
  obtain ⟨h, k, rfl⟩ := eq_half j
  exact (bfst_apply _ _).trans ((bias_apply _ _).trans ((Finset.sum_congr rfl fun d _ => Finset.sum_congr rfl fun x _ => logits_lo _ _ _ _ _ d x _).trans (kernel11 m c h k).symm))

theorem equal12 : bsnd (bias (logits (D m c) (P m c) (B m c) (Ya m c) (Yc m c))) = (dats m 0 c).arrAt 12 cfg0.N := by
  funext y
  obtain ⟨b, j, rfl⟩ : ∃ b j, y = ix2 b j := ⟨y 0, y 1, eq_ix2 y⟩
  obtain rfl : b = 0 := Subsingleton.elim b 0
  obtain ⟨h, k, rfl⟩ := eq_half j
  exact (bsnd_apply _ _).trans ((bias_apply _ _).trans ((Finset.sum_congr rfl fun d _ => Finset.sum_congr rfl fun x _ => logits_hi _ _ _ _ _ d x _).trans (kernel12 m c h k).symm))

end Cert.MB

end
-- ==== Proof.lean ====
/- Thirteen calls of the step: each runs, leaves its arguments alone, and computes what its reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import proofs.«01_k».proof.Proof.Finite
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.KernelGU.Frame
public import proofs.«01_k».proof.Proof.Gen.KernelGUIdeal.Value
public import proofs.«01_k».proof.Proof.Gen.ReferenceGUIdeal.Run
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.KernelGate.Frame
public import proofs.«01_k».proof.Proof.Gen.KernelGateIdeal.Value
public import proofs.«01_k».proof.Proof.Gen.ReferenceGateIdeal.Run
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.Pre_finite_gate
public import proofs.«01_k».proof.Proof.In
public import proofs.«01_k».proof.Proof.GateUp
public import proofs.«01_k».proof.Proof.Down
public import proofs.«01_k».proof.Proof.Gate
public import proofs.«01_k».proof.Proof.Up
public import proofs.«01_k».proof.Proof.Gen.KernelMerged.Frame
public import proofs.«01_k».proof.Proof.Gen.KernelMergedIdeal.Value
public import proofs.«01_k».proof.Proof.Gen.ReferenceMergedIdeal.Run
public import proofs.«01_k».proof.Proof.Gen.KernelO.Frame
public import proofs.«01_k».proof.Proof.Gen.KernelOIdeal.Value
public import proofs.«01_k».proof.Proof.Gen.ReferenceOIdeal.Run
public import proofs.«01_k».proof.Proof.Gen.KernelAO.Frame
public import proofs.«01_k».proof.Proof.Gen.KernelAOIdeal.Value
public import proofs.«01_k».proof.Proof.Gen.ReferenceAOIdeal.Run
public import proofs.«01_k».proof.Proof.Gen.KernelCO.Frame
public import proofs.«01_k».proof.Proof.Gen.KernelCOIdeal.Value
public import proofs.«01_k».proof.Proof.Gen.ReferenceCOIdeal.Run
public import proofs.«01_k».proof.Proof.Gen.KernelYA.Frame
public import proofs.«01_k».proof.Proof.Gen.KernelYAIdeal.Value
public import proofs.«01_k».proof.Proof.Gen.ReferenceYAIdeal.Run
public import proofs.«01_k».proof.Proof.Gen.KernelMix.Frame
public import proofs.«01_k».proof.Proof.Gen.KernelMixIdeal.Value
public import proofs.«01_k».proof.Proof.Gen.ReferenceMixIdeal.Run
public import proofs.«01_k».proof.Proof.Gen.KernelMB.Frame
public import proofs.«01_k».proof.Proof.Gen.KernelMBIdeal.Value
public import proofs.«01_k».proof.Proof.Gen.ReferenceMBIdeal.Run
public import proofs.«01_k».proof.Proof.Merged
public import proofs.«01_k».proof.Proof.O
public import proofs.«01_k».proof.Proof.AO
public import proofs.«01_k».proof.Proof.CO
public import proofs.«01_k».proof.Proof.YA
public import proofs.«01_k».proof.Proof.Mix
public import proofs.«01_k».proof.Proof.MB
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments as they were and every counter at zero. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The mask's number is minus infinity in the idealized kernel. -/
theorem preserves : Cert.preserves_Kernel_KernelIdeal :=
  IdealRules.named_const.statement Cert.KernelIdeal.κ "mask" .f32 0xF149F2CA#32 ⊥ rfl

/-- The same under the precondition. -/
theorem frame_pre : Cert.quiescent_ReferenceIdeal_pre_finite (hReferenceIdeal := Cert.ReferenceIdeal.Gen.facts) (hPre_finite := Cert.Attn.pre_facts) :=
  fun m ρ _ => frame_ri m ρ trivial

/-- From equal real arguments the kernel and the reference end with the same three gradients. -/
theorem algebraic : Cert.algebraic_KernelIdeal_ReferenceIdeal_pre_finite (hKernelIdeal := Cert.KernelIdeal.Gen.facts)
    (hReferenceIdeal := Cert.ReferenceIdeal.Gen.facts) (hPre_finite := Cert.Attn.pre_facts) := by
  intro m ρ m' ρ' hpre hagree
  haveI := Cert.Attn.pre_facts
  have I := fun c => Cert.Attn.inputs _ _ _ _ _ _ _ _ (hpre c)
  refine ⟨_, _, _, Cert.KernelIdeal.Value.run_blocks m ρ, ?_⟩
  refine (θ_run Cert.ReferenceIdeal.defs _ _).mono (fun _ h c => ?_) (Cert.ReferenceIdeal.Value.run (F := Ideal) m' ρ')
  obtain ⟨h0, h1, h2, h3, h4, h5, h6, h7⟩ := hagree c
  obtain ⟨rq, rk, rv, rest⟩ := h c
  refine ⟨rq.trans ((Cert.ReferenceIdeal.Read.val_main_v189_eq (F := Ideal) (StableHlo.launchContents m' c)).trans ?_),
    rk.trans ((Cert.ReferenceIdeal.Read.val_main_v193_eq (F := Ideal) (StableHlo.launchContents m' c)).trans ?_),
    rv.trans ((Cert.ReferenceIdeal.Read.val_main_v197_eq (F := Ideal) (StableHlo.launchContents m' c)).trans ?_), rest⟩
  · change Cert.ReferenceIdeal.Read.val_main_v189 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [h0, h1, h2, h3, h4, h5, h6, h7]
    exact (Cert.Attn.equal_dq m c (I c)).symm
  · change Cert.ReferenceIdeal.Read.val_main_v193 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [h0, h1, h2, h3, h4, h5, h6, h7]
    exact (Cert.Attn.equal_dk m c (I c)).symm
  · change Cert.ReferenceIdeal.Read.val_main_v197 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [h0, h1, h5, h6, h7]
    exact (Cert.Attn.equal_dv m c (I c)).symm

/-! The products: no word of theirs is renamed, so nothing is to be shown of the idealization. -/

/-- The reference of the joint projection's weights' gradient leaves its arguments as they were. -/
theorem frame_In : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- Kernel and reference of the joint projection's weights' gradient end with the same arrays. -/
theorem algebraic_In : Cert.algebraic_KernelInIdeal_ReferenceInIdeal := by
  intro m ρ m' ρ' _ hagree
  refine ⟨_, Cert.KernelInIdeal.Value.run (F := Ideal) m ρ, ?_⟩
  refine (θ_run Cert.ReferenceInIdeal.defs _ _).mono (fun _ h c => ?_) (Cert.ReferenceInIdeal.Value.run (F := Ideal) m' ρ')
  obtain ⟨h0, h1⟩ := hagree c
  obtain ⟨r0, rest⟩ := h c
  refine ⟨r0.trans ?_, rest⟩
  · rw [h0, h1]
    exact Cert.In.equal m c

/-- The reference of the feed-forward's first weights' gradients leaves its arguments as they were. -/
theorem frame_GU : Cert.quiescent_ReferenceGUIdeal := fun m ρ _ =>
  (θ_run Cert.ReferenceGUIdeal.defs _ _).mono (fun r h => ⟨fun c => (h c).2.2, sem_eq_zero_of_no_sems (by decide) r.2⟩)
    (Cert.ReferenceGUIdeal.Value.run (F := Ideal) m ρ)

/-- Kernel and reference of the feed-forward's first weights' gradients end with the same arrays. -/
theorem algebraic_GU : Cert.algebraic_KernelGUIdeal_ReferenceGUIdeal := by
  intro m ρ m' ρ' _ hagree
  refine ⟨_, _, Cert.KernelGUIdeal.Value.run (F := Ideal) m ρ, ?_⟩
  refine (θ_run Cert.ReferenceGUIdeal.defs _ _).mono (fun _ h c => ?_) (Cert.ReferenceGUIdeal.Value.run (F := Ideal) m' ρ')
  obtain ⟨h0, h1, h2⟩ := hagree c
  obtain ⟨r0, r1, rest⟩ := h c
  refine ⟨r0.trans ?_, r1.trans ?_, rest⟩
  · rw [h0, h1]
    exact (Cert.GU.equal m c).1
  · rw [h0, h2]
    exact (Cert.GU.equal m c).2

/-- The reference of the feed-forward's second weights' gradient leaves its arguments as they were. -/
theorem frame_Down : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- Kernel and reference of the feed-forward's second weights' gradient end with the same arrays. -/
theorem algebraic_Down : Cert.algebraic_KernelDownIdeal_ReferenceDownIdeal := by
  intro m ρ m' ρ' _ hagree
  refine ⟨_, Cert.KernelDownIdeal.Value.run (F := Ideal) m ρ, ?_⟩
  refine (θ_run Cert.ReferenceDownIdeal.defs _ _).mono (fun _ h c => ?_) (Cert.ReferenceDownIdeal.Value.run (F := Ideal) m' ρ')
  obtain ⟨h0, h1⟩ := hagree c
  obtain ⟨r0, rest⟩ := h c
  refine ⟨r0.trans ?_, rest⟩
  · rw [h0, h1]
    exact Cert.Down.equal m c

/-- The reference of the gradient through the gate leaves its arguments as they were. -/
theorem frame_Gate : Cert.quiescent_ReferenceGateIdeal := fun m ρ _ =>
  (θ_run Cert.ReferenceGateIdeal.defs _ _).mono (fun r h => ⟨fun c => (h c).2.2, sem_eq_zero_of_no_sems (by decide) r.2⟩)
    (Cert.ReferenceGateIdeal.Value.run (F := Ideal) m ρ)

/-- Kernel and reference of the gradient through the gate end with the same arrays. -/
theorem algebraic_Gate : Cert.algebraic_KernelGateIdeal_ReferenceGateIdeal_pre_finite_gate := by
  intro m ρ m' ρ' hpre hagree
  refine ⟨_, _, Cert.KernelGateIdeal.Value.run_blocks (F := Ideal) m ρ, ?_⟩
  refine (θ_run Cert.ReferenceGateIdeal.defs _ _).mono (fun _ h c => ?_) (Cert.ReferenceGateIdeal.Value.run (F := Ideal) m' ρ')
  obtain ⟨h0, h1, h2, h3⟩ := hagree c
  obtain ⟨r0, r1, rest⟩ := h c
  refine ⟨r0.trans ?_, r1.trans ?_, rest⟩
  · rw [h0, h1, h2, h3]
    exact Cert.Gate.equal4 m c (hpre c)
  · rw [h0, h2, h3]
    exact Cert.Gate.equal5 m c

/-- The reference of the feed-forward's first products leaves its arguments as they were. -/
theorem frame_Up : Cert.quiescent_ReferenceUpIdeal := fun m ρ _ =>
  (θ_run Cert.ReferenceUpIdeal.defs _ _).mono (fun r h => ⟨fun c => (h c).2.2.2, sem_eq_zero_of_no_sems (by decide) r.2⟩)
    (Cert.ReferenceUpIdeal.Value.run (F := Ideal) m ρ)

/-- Kernel and reference of the feed-forward's first products end with the same arrays. -/
theorem algebraic_Up : Cert.algebraic_KernelUpIdeal_ReferenceUpIdeal := by
  intro m ρ m' ρ' _ hagree
  refine ⟨_, _, _, Cert.KernelUpIdeal.Value.run_blocks (F := Ideal) m ρ, ?_⟩
  refine (θ_run Cert.ReferenceUpIdeal.defs _ _).mono (fun _ h c => ?_) (Cert.ReferenceUpIdeal.Value.run (F := Ideal) m' ρ')
  obtain ⟨h0, h1, h2⟩ := hagree c
  obtain ⟨r0, r1, r2, rest⟩ := h c
  refine ⟨r0.trans ?_, r1.trans ?_, r2.trans ?_, rest⟩
  · rw [h0, h1]
    exact Cert.Up.equal3 m c
  · rw [h0, h2]
    exact Cert.Up.equal4 m c
  · rw [h0, h1, h2]
    exact Cert.Up.equal5 m c

/-- The reference of the gradient of the merged branches leaves its arguments as they were. -/
theorem frame_Merged : Cert.quiescent_ReferenceMergedIdeal := fun m ρ _ =>
  (θ_run Cert.ReferenceMergedIdeal.defs _ _).mono (fun r h => ⟨fun c => (h c).2, sem_eq_zero_of_no_sems (by decide) r.2⟩)
    (Cert.ReferenceMergedIdeal.Value.run (F := Ideal) m ρ)

/-- Kernel and reference of the gradient of the merged branches end with the same array. -/
theorem algebraic_Merged : Cert.algebraic_KernelMergedIdeal_ReferenceMergedIdeal := by
  intro m ρ m' ρ' _ hagree
  refine ⟨_, Cert.KernelMergedIdeal.Value.run_blocks (F := Ideal) m ρ, ?_⟩
  refine (θ_run Cert.ReferenceMergedIdeal.defs _ _).mono (fun _ h c => ?_) (Cert.ReferenceMergedIdeal.Value.run (F := Ideal) m' ρ')
  obtain ⟨h0, h1⟩ := hagree c
  obtain ⟨r0, rest⟩ := h c
  refine ⟨r0.trans ?_, rest⟩
  · rw [h0, h1]
    exact Cert.Merged.equal m c

/-- The reference of the gradient of the output weights leaves its arguments as they were. -/
theorem frame_O : Cert.quiescent_ReferenceOIdeal := fun m ρ _ =>
  (θ_run Cert.ReferenceOIdeal.defs _ _).mono (fun r h => ⟨fun c => (h c).2, sem_eq_zero_of_no_sems (by decide) r.2⟩)
    (Cert.ReferenceOIdeal.Value.run (F := Ideal) m ρ)

/-- Kernel and reference of the gradient of the output weights end with the same array. -/
theorem algebraic_O : Cert.algebraic_KernelOIdeal_ReferenceOIdeal := by
  intro m ρ m' ρ' _ hagree
  refine ⟨_, Cert.KernelOIdeal.Value.run (F := Ideal) m ρ, ?_⟩
  refine (θ_run Cert.ReferenceOIdeal.defs _ _).mono (fun _ h c => ?_) (Cert.ReferenceOIdeal.Value.run (F := Ideal) m' ρ')
  obtain ⟨h0, h1⟩ := hagree c
  obtain ⟨r0, rest⟩ := h c
  refine ⟨r0.trans ?_, rest⟩
  · rw [h0, h1]
    exact Cert.O.equal m c

/-- The reference of the gradient of the attention's output weights leaves its arguments as they were. -/
theorem frame_AO : Cert.quiescent_ReferenceAOIdeal := fun m ρ _ =>
  (θ_run Cert.ReferenceAOIdeal.defs _ _).mono (fun r h => ⟨fun c => (h c).2, sem_eq_zero_of_no_sems (by decide) r.2⟩)
    (Cert.ReferenceAOIdeal.Value.run (F := Ideal) m ρ)

/-- Kernel and reference of the gradient of the attention's output weights end with the same array. -/
theorem algebraic_AO : Cert.algebraic_KernelAOIdeal_ReferenceAOIdeal := by
  intro m ρ m' ρ' _ hagree
  refine ⟨_, Cert.KernelAOIdeal.Value.run (F := Ideal) m ρ, ?_⟩
  refine (θ_run Cert.ReferenceAOIdeal.defs _ _).mono (fun _ h c => ?_) (Cert.ReferenceAOIdeal.Value.run (F := Ideal) m' ρ')
  obtain ⟨h0, h1⟩ := hagree c
  obtain ⟨r0, rest⟩ := h c
  refine ⟨r0.trans ?_, rest⟩
  · rw [h0, h1]
    exact Cert.AO.equal m c

/-- The reference of the gradient of the convolution's output weights leaves its arguments as they were. -/
theorem frame_CO : Cert.quiescent_ReferenceCOIdeal := fun m ρ _ =>
  (θ_run Cert.ReferenceCOIdeal.defs _ _).mono (fun r h => ⟨fun c => (h c).2, sem_eq_zero_of_no_sems (by decide) r.2⟩)
    (Cert.ReferenceCOIdeal.Value.run (F := Ideal) m ρ)

/-- Kernel and reference of the gradient of the convolution's output weights end with the same array. -/
theorem algebraic_CO : Cert.algebraic_KernelCOIdeal_ReferenceCOIdeal := by
  intro m ρ m' ρ' _ hagree
  refine ⟨_, Cert.KernelCOIdeal.Value.run (F := Ideal) m ρ, ?_⟩
  refine (θ_run Cert.ReferenceCOIdeal.defs _ _).mono (fun _ h c => ?_) (Cert.ReferenceCOIdeal.Value.run (F := Ideal) m' ρ')
  obtain ⟨h0, h1⟩ := hagree c
  obtain ⟨r0, rest⟩ := h c
  refine ⟨r0.trans ?_, rest⟩
  · rw [h0, h1]
    exact Cert.CO.equal m c

/-- The reference of the attention's output leaves its arguments as they were. -/
theorem frame_YA : Cert.quiescent_ReferenceYAIdeal := fun m ρ _ =>
  (θ_run Cert.ReferenceYAIdeal.defs _ _).mono (fun r h => ⟨fun c => (h c).2, sem_eq_zero_of_no_sems (by decide) r.2⟩)
    (Cert.ReferenceYAIdeal.Value.run (F := Ideal) m ρ)

/-- Kernel and reference of the attention's output end with the same array. -/
theorem algebraic_YA : Cert.algebraic_KernelYAIdeal_ReferenceYAIdeal := by
  intro m ρ m' ρ' _ hagree
  refine ⟨_, Cert.KernelYAIdeal.Value.run_blocks (F := Ideal) m ρ, ?_⟩
  refine (θ_run Cert.ReferenceYAIdeal.defs _ _).mono (fun _ h c => ?_) (Cert.ReferenceYAIdeal.Value.run (F := Ideal) m' ρ')
  obtain ⟨h0, h1⟩ := hagree c
  obtain ⟨r0, rest⟩ := h c
  refine ⟨r0.trans ?_, rest⟩
  · rw [h0, h1]
    exact Cert.YA.equal m c

/-- The reference of the merge leaves its arguments as they were. -/
theorem frame_Mix : Cert.quiescent_ReferenceMixIdeal := fun m ρ _ =>
  (θ_run Cert.ReferenceMixIdeal.defs _ _).mono (fun r h => ⟨fun c => (h c).2.2.2, sem_eq_zero_of_no_sems (by decide) r.2⟩)
    (Cert.ReferenceMixIdeal.Value.run (F := Ideal) m ρ)

/-- Kernel and reference of the merge end with the same arrays. -/
theorem algebraic_Mix : Cert.algebraic_KernelMixIdeal_ReferenceMixIdeal := by
  intro m ρ m' ρ' _ hagree
  refine ⟨_, _, _, Cert.KernelMixIdeal.Value.run_blocks (F := Ideal) m ρ, ?_⟩
  refine (θ_run Cert.ReferenceMixIdeal.defs _ _).mono (fun _ h c => ?_) (Cert.ReferenceMixIdeal.Value.run (F := Ideal) m' ρ')
  obtain ⟨h0, h1, h2, h3, h4, h5, h6⟩ := hagree c
  obtain ⟨r0, r1, r2, rest⟩ := h c
  refine ⟨r0.trans ?_, r1.trans ?_, r2.trans ?_, rest⟩
  · rw [h0, h1, h2, h3]
    exact Cert.Mix.equal10 m c
  · rw [h0, h1, h2, h3, h4, h5]
    exact Cert.Mix.equal11 m c
  · unfold Cert.ReferenceMixIdeal.Value.res_main_v34
    rw [h0, h1, h2, h3, h4, h5, h6]
    exact Cert.Mix.equal12 m c

/-- The reference of the merge's gradient leaves its arguments as they were. -/
theorem frame_MB : Cert.quiescent_ReferenceMBIdeal := fun m ρ _ =>
  (θ_run Cert.ReferenceMBIdeal.defs _ _).mono (fun r h => ⟨fun c => (h c).2.2.2.2.2.2, sem_eq_zero_of_no_sems (by decide) r.2⟩)
    (Cert.ReferenceMBIdeal.Value.run (F := Ideal) m ρ)

/-- Kernel and reference of the merge's gradient end with the same arrays. -/
theorem algebraic_MB : Cert.algebraic_KernelMBIdeal_ReferenceMBIdeal := by
  intro m ρ m' ρ' _ hagree
  refine ⟨_, _, _, _, _, _, Cert.KernelMBIdeal.Value.run_blocks (F := Ideal) m ρ, ?_⟩
  refine (θ_run Cert.ReferenceMBIdeal.defs _ _).mono (fun _ h c => ?_) (Cert.ReferenceMBIdeal.Value.run (F := Ideal) m' ρ')
  obtain ⟨h0, h1, h2, h3, h4⟩ := hagree c
  obtain ⟨r0, r1, r2, r3, r4, r5, rest⟩ := h c
  refine ⟨r0.trans ?_, r1.trans ?_, r2.trans ?_, r3.trans ?_, r4.trans ?_, r5.trans ?_, rest⟩
  · rw [h0, h1, h2]
    exact Cert.MB.equal7 m c
  · rw [h0, h1, h2]
    exact Cert.MB.equal8 m c
  · rw [h0, h1, h2, h3, h4]
    exact Cert.MB.equal9 m c
  · rw [h0, h1, h2, h3, h4]
    exact Cert.MB.equal10 m c
  · rw [h0, h1, h2, h3, h4]
    exact Cert.MB.equal11 m c
  · rw [h0, h1, h2, h3, h4]
    exact Cert.MB.equal12 m c

/-- The same frame under the precondition. -/
theorem frame_pre_Gate : Cert.quiescent_ReferenceGateIdeal_pre_finite_gate := fun m ρ _ => frame_Gate m ρ trivial

theorem claim : Cert.Claim := ⟨Cert.Kernel.Gen.facts, Cert.KernelIdeal.Gen.facts, Cert.ReferenceIdeal.Gen.facts, Cert.KernelIn.Gen.facts, Cert.KernelInIdeal.Gen.facts, Cert.ReferenceInIdeal.Gen.facts, Cert.KernelGU.Gen.facts, Cert.KernelGUIdeal.Gen.facts, Cert.ReferenceGUIdeal.Gen.facts, Cert.KernelDown.Gen.facts, Cert.KernelDownIdeal.Gen.facts, Cert.ReferenceDownIdeal.Gen.facts, Cert.KernelGate.Gen.facts, Cert.KernelGateIdeal.Gen.facts, Cert.ReferenceGateIdeal.Gen.facts, Cert.KernelUp.Gen.facts, Cert.KernelUpIdeal.Gen.facts, Cert.ReferenceUpIdeal.Gen.facts, Cert.KernelMerged.Gen.facts, Cert.KernelMergedIdeal.Gen.facts, Cert.ReferenceMergedIdeal.Gen.facts, Cert.KernelO.Gen.facts, Cert.KernelOIdeal.Gen.facts, Cert.ReferenceOIdeal.Gen.facts, Cert.KernelAO.Gen.facts, Cert.KernelAOIdeal.Gen.facts, Cert.ReferenceAOIdeal.Gen.facts, Cert.KernelCO.Gen.facts, Cert.KernelCOIdeal.Gen.facts, Cert.ReferenceCOIdeal.Gen.facts, Cert.KernelYA.Gen.facts, Cert.KernelYAIdeal.Gen.facts, Cert.ReferenceYAIdeal.Gen.facts, Cert.KernelMix.Gen.facts, Cert.KernelMixIdeal.Gen.facts, Cert.ReferenceMixIdeal.Gen.facts, Cert.KernelMB.Gen.facts, Cert.KernelMBIdeal.Gen.facts, Cert.ReferenceMBIdeal.Gen.facts, Cert.Attn.pre_facts, Cert.Pre_finite_gate.Gen.facts,
  fun m ρ _ => Cert.Kernel.Gen.frame m ρ, fun m ρ _ => Cert.KernelIdeal.Gen.frame m ρ, fun m ρ _ => Cert.KernelIdeal.Gen.frame m ρ, frame_ri, frame_pre,
  fun m ρ _ => Cert.KernelIn.Gen.frame m ρ, fun m ρ _ => Cert.KernelInIdeal.Gen.frame m ρ, frame_In,
  fun m ρ _ => Cert.KernelGU.Gen.frame m ρ, fun m ρ _ => Cert.KernelGUIdeal.Gen.frame m ρ, frame_GU,
  fun m ρ _ => Cert.KernelDown.Gen.frame m ρ, fun m ρ _ => Cert.KernelDownIdeal.Gen.frame m ρ, frame_Down,
  fun m ρ _ => Cert.KernelGate.Gen.frame m ρ, fun m ρ _ => Cert.KernelGateIdeal.Gen.frame m ρ, fun m ρ _ => Cert.KernelGateIdeal.Gen.frame m ρ, frame_Gate, frame_pre_Gate,
  fun m ρ _ => Cert.KernelUp.Gen.frame m ρ, fun m ρ _ => Cert.KernelUpIdeal.Gen.frame m ρ, frame_Up,
  fun m ρ _ => Cert.KernelMerged.Gen.frame m ρ, fun m ρ _ => Cert.KernelMergedIdeal.Gen.frame m ρ, frame_Merged,
  fun m ρ _ => Cert.KernelO.Gen.frame m ρ, fun m ρ _ => Cert.KernelOIdeal.Gen.frame m ρ, frame_O,
  fun m ρ _ => Cert.KernelAO.Gen.frame m ρ, fun m ρ _ => Cert.KernelAOIdeal.Gen.frame m ρ, frame_AO,
  fun m ρ _ => Cert.KernelCO.Gen.frame m ρ, fun m ρ _ => Cert.KernelCOIdeal.Gen.frame m ρ, frame_CO,
  fun m ρ _ => Cert.KernelYA.Gen.frame m ρ, fun m ρ _ => Cert.KernelYAIdeal.Gen.frame m ρ, frame_YA,
  fun m ρ _ => Cert.KernelMix.Gen.frame m ρ, fun m ρ _ => Cert.KernelMixIdeal.Gen.frame m ρ, frame_Mix,
  fun m ρ _ => Cert.KernelMB.Gen.frame m ρ, fun m ρ _ => Cert.KernelMBIdeal.Gen.frame m ρ, frame_MB,
  preserves, algebraic,
  (trivial : Cert.preserves_KernelIn_KernelInIdeal), algebraic_In,
  (trivial : Cert.preserves_KernelGU_KernelGUIdeal), algebraic_GU,
  (trivial : Cert.preserves_KernelDown_KernelDownIdeal), algebraic_Down,
  (trivial : Cert.preserves_KernelGate_KernelGateIdeal), algebraic_Gate,
  (trivial : Cert.preserves_KernelUp_KernelUpIdeal), algebraic_Up,
  (trivial : Cert.preserves_KernelMerged_KernelMergedIdeal), algebraic_Merged,
  (trivial : Cert.preserves_KernelO_KernelOIdeal), algebraic_O,
  (trivial : Cert.preserves_KernelAO_KernelAOIdeal), algebraic_AO,
  (trivial : Cert.preserves_KernelCO_KernelCOIdeal), algebraic_CO,
  (trivial : Cert.preserves_KernelYA_KernelYAIdeal), algebraic_YA,
  (trivial : Cert.preserves_KernelMix_KernelMixIdeal), algebraic_Mix,
  (trivial : Cert.preserves_KernelMB_KernelMBIdeal), algebraic_MB⟩

end Cert.Proof

end
